-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  IdealRules.named_const.Statement Cert.Kernel4Ideal.κ "qscale" .f32 0x3E38AA3B#32 (((8 * (Real.log 2))⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v43_0)) (v1 : (c : Dev Cert.Kernel5Ideal.nD) → Buf (Elt Ideal) ((c.tc : Thread Cert.Kernel5Ideal.nD Cert.Kernel5Ideal.τ).loc Cert.Kernel5Ideal.main_v43_1)) (v2 : (c : Dev Cert.Kernel5Ideal.nD) → Buf (Elt Ideal) ((c.tc : Thread Cert.Kernel5Ideal.nD Cert.Kernel5Ideal.τ).loc Cert.Kernel5Ideal.main_v43_2)) (v3 : (c : Dev Cert.Kernel5Ideal.nD) → Buf (Elt Ideal) ((c.tc : Thread Cert.Kernel5Ideal.nD Cert.Kernel5Ideal.τ).loc Cert.Kernel5Ideal.main_v43_3)) (v4 : (c : Dev Cert.Kernel5Ideal.nD) → Buf (Elt Ideal) ((c.tc : Thread Cert.Kernel5Ideal.nD Cert.Kernel5Ideal.τ).loc Cert.Kernel5Ideal.main_v43_4)) (v5 : (c : Dev Cert.Kernel5Ideal.nD) → Buf (Elt Ideal) ((c.tc : Thread Cert.Kernel5Ideal.nD Cert.Kernel5Ideal.τ).loc Cert.Kernel5Ideal.main_v43_5)) (v6 : (c : Dev Cert.Kernel5Ideal.nD) → Buf (Elt Ideal) ((c.tc : Thread Cert.Kernel5Ideal.nD Cert.Kernel5Ideal.τ).loc Cert.Kernel5Ideal.main_v43_6)) (v7 : (c : Dev Cert.Kernel5Ideal.nD) → Buf (Elt Ideal) ((c.tc : Thread Cert.Kernel5Ideal.nD Cert.Kernel5Ideal.τ).loc Cert.Kernel5Ideal.main_v43_7)) (v8 : (c : Dev Cert.Kernel5Ideal.nD) → Buf (Elt Ideal) ((c.tc : Thread Cert.Kernel5Ideal.nD Cert.Kernel5Ideal.τ).loc Cert.Kernel5Ideal.main_v43_8)) (v9 : (c : Dev Cert.Kernel5Ideal.nD) → Buf (Elt Ideal) ((c.tc : Thread Cert.Kernel5Ideal.nD Cert.Kernel5Ideal.τ).loc Cert.Kernel5Ideal.main_v43_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_0) = v0 c
          ∧ r.2.mem ((c.tc : Thread Cert.Kernel5Ideal.nD Cert.Kernel5Ideal.τ).loc Cert.Kernel5Ideal.main_v43_1) = v1 c
          ∧ r.2.mem ((c.tc : Thread Cert.Kernel5Ideal.nD Cert.Kernel5Ideal.τ).loc Cert.Kernel5Ideal.main_v43_2) = v2 c
          ∧ r.2.mem ((c.tc : Thread Cert.Kernel5Ideal.nD Cert.Kernel5Ideal.τ).loc Cert.Kernel5Ideal.main_v43_3) = v3 c
          ∧ r.2.mem ((c.tc : Thread Cert.Kernel5Ideal.nD Cert.Kernel5Ideal.τ).loc Cert.Kernel5Ideal.main_v43_4) = v4 c
          ∧ r.2.mem ((c.tc : Thread Cert.Kernel5Ideal.nD Cert.Kernel5Ideal.τ).loc Cert.Kernel5Ideal.main_v43_5) = v5 c
          ∧ r.2.mem ((c.tc : Thread Cert.Kernel5Ideal.nD Cert.Kernel5Ideal.τ).loc Cert.Kernel5Ideal.main_v43_6) = v6 c
          ∧ r.2.mem ((c.tc : Thread Cert.Kernel5Ideal.nD Cert.Kernel5Ideal.τ).loc Cert.Kernel5Ideal.main_v43_7) = v7 c
          ∧ r.2.mem ((c.tc : Thread Cert.Kernel5Ideal.nD Cert.Kernel5Ideal.τ).loc Cert.Kernel5Ideal.main_v43_8) = v8 c
          ∧ r.2.mem ((c.tc : Thread Cert.Kernel5Ideal.nD Cert.Kernel5Ideal.τ).loc Cert.Kernel5Ideal.main_v43_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v110) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_v113) = v3 c
          ∧ r.2.mem ((c.tc : Thread Cert.Reference5Ideal.nD Cert.Reference5Ideal.τ).loc Cert.Reference5Ideal.main_v139) = v4 c
          ∧ r.2.mem ((c.tc : Thread Cert.Reference5Ideal.nD Cert.Reference5Ideal.τ).loc Cert.Reference5Ideal.main_v165) = v5 c
          ∧ r.2.mem ((c.tc : Thread Cert.Reference5Ideal.nD Cert.Reference5Ideal.τ).loc Cert.Reference5Ideal.main_v167) = v6 c
          ∧ r.2.mem ((c.tc : Thread Cert.Reference5Ideal.nD Cert.Reference5Ideal.τ).loc Cert.Reference5Ideal.main_v169) = v7 c
          ∧ r.2.mem ((c.tc : Thread Cert.Reference5Ideal.nD Cert.Reference5Ideal.τ).loc Cert.Reference5Ideal.main_v171) = v8 c
          ∧ r.2.mem ((c.tc : Thread Cert.Reference5Ideal.nD Cert.Reference5Ideal.τ).loc Cert.Reference5Ideal.main_v173) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x4352x512 : Shape := ⟨3, ![8, 4352, 512]⟩
abbrev S4x64 : Shape := ⟨2, ![4, 64]⟩
abbrev S128 : Shape := ⟨1, ![128]⟩
abbrev S_ : Shape := ⟨0, ![]⟩

class Facts : Prop where
  bcast_S_S8x4352x512 : S_.BroadcastsInDim S8x4352x512 (![] : Fin 0 → Fin S8x4352x512.rank)
  bcast_S_S4x64 : S_.BroadcastsInDim S4x64 (![] : Fin 0 → Fin S4x64.rank)

variable [Facts]

def fn {F : FTy → Type} [FloatOps F] (main_arg0 : FVec F S8x4352x512 .f32) (main_arg1 : FVec F S8x4352x512 .f32) (main_arg2 : FVec F S8x4352x512 .f32) (main_arg3 : FVec F S4x64 .f32) (main_arg4 : FVec F S128 .f32) : IVec S8x4352x512 1 × IVec S8x4352x512 1 × IVec S8x4352x512 1 × IVec S4x64 1 :=
  let main_v0 : FVec F S8x4352x512 .f32 := Host.absf main_arg0
  let main_cst : FVec F S_ .f32 := constant S_ .f32 0x7F800000#32
  let main_v1 : FVec F S8x4352x512 .f32 := broadcastInDim S8x4352x512 ![] bcast_S_S8x4352x512 main_cst
  let main_v2 : IVec S8x4352x512 1 := cmpf .olt main_v0 main_v1
  let main_v3 : FVec F S8x4352x512 .f32 := Host.absf main_arg1
  let main_cst_0 : FVec F S_ .f32 := constant S_ .f32 0x7F800000#32
  let main_v4 : FVec F S8x4352x512 .f32 := broadcastInDim S8x4352x512 ![] bcast_S_S8x4352x512 main_cst_0
  let main_v5 : IVec S8x4352x512 1 := cmpf .olt main_v3 main_v4
  let main_v6 : FVec F S8x4352x512 .f32 := Host.absf main_arg2
  let main_cst_1 : FVec F S_ .f32 := constant S_ .f32 0x7F800000#32
  let main_v7 : FVec F S8x4352x512 .f32 := broadcastInDim S8x4352x512 ![] bcast_S_S8x4352x512 main_cst_1
  let main_v8 : IVec S8x4352x512 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Pre_finite4.lean ====
abbrev S8x4352x256 : Shape := ⟨3, ![8, 4352, 256]⟩
abbrev S8x4352x128 : Shape := ⟨3, ![8, 4352, 128]⟩
abbrev S_ : Shape := ⟨0, ![]⟩

class Facts : Prop where
  bcast_S_S8x4352x256 : S_.BroadcastsInDim S8x4352x256 (![] : Fin 0 → Fin S8x4352x256.rank)
  bcast_S_S8x4352x128 : S_.BroadcastsInDim S8x4352x128 (![] : Fin 0 → Fin S8x4352x128.rank)

variable [Facts]

def fn {F : FTy → Type} [FloatOps F] (main_arg0 : FVec F S8x4352x256 .f32) (main_arg1 : FVec F S8x4352x128 .f32) (main_arg2 : FVec F S8x4352x128 .f32) : IVec S8x4352x256 1 × IVec S8x4352x128 1 :=
  let main_v0 : FVec F S8x4352x256 .f32 := Host.absf main_arg0
  let main_cst : FVec F S_ .f32 := constant S_ .f32 0x7F800000#32
  let main_v1 : FVec F S8x4352x256 .f32 := broadcastInDim S8x4352x256 ![] bcast_S_S8x4352x256 main_cst
  let main_v2 : IVec S8x4352x256 1 := cmpf .olt main_v0 main_v1
  let main_v3 : FVec F S8x4352x128 .f32 := Host.absf main_arg1
  let main_cst_0 : FVec F S_ .f32 := constant S_ .f32 0x7F800000#32
  let main_v4 : FVec F S8x4352x128 .f32 := broadcastInDim S8x4352x128 ![] bcast_S_S8x4352x128 main_cst_0
  let main_v5 : IVec S8x4352x128 1 := cmpf .olt main_v3 main_v4
  (main_v2, main_v5)
-- ==== Pre_finite5.lean ====
abbrev S8x4352x1024 : Shape := ⟨3, ![8, 4352, 1024]⟩
abbrev S8x6144 : Shape := ⟨2, ![8, 6144]⟩
abbrev S6144 : Shape := ⟨1, ![6144]⟩
abbrev S1024x3088 : Shape := ⟨2, ![1024, 3088]⟩
abbrev S4096x64 : Shape := ⟨2, ![4096, 64]⟩
abbrev S64 : Shape := ⟨1, ![64]⟩
abbrev S_ : Shape := ⟨0, ![]⟩
abbrev S8x2048 : Shape := ⟨2, ![8, 2048]⟩
abbrev S2048 : Shape := ⟨1, ![2048]⟩
abbrev S1024x384 : Shape := ⟨2, ![1024, 384]⟩

class Facts : Prop where
  bcast_S_S8x4352x1024 : S_.BroadcastsInDim S8x4352x1024 (![] : Fin 0 → Fin S8x4352x1024.rank)
  slices_S8x6144_S8x2048_0_0 : S8x6144.Slices ![0, 0] S8x2048
  bcast_S_S8x2048 : S_.BroadcastsInDim S8x2048 (![] : Fin 0 → Fin S8x2048.rank)
  slices_S6144_S2048_0 : S6144.Slices ![0] S2048
  bcast_S_S2048 : S_.BroadcastsInDim S2048 (![] : Fin 0 → Fin S2048.rank)
  slices_S1024x3088_S1024x384_0_2576 : S1024x3088.Slices ![0, 2576] S1024x384
  bcast_S_S1024x384 : S_.BroadcastsInDim S1024x384 (![] : Fin 0 → Fin S1024x384.rank)

variable [Facts]

def fn {F : FTy → Type} [FloatOps F] (main_arg0 : FVec F S8x4352x1024 .f32) (main_arg1 : FVec F S8x6144 .f32) (main_arg2 : FVec F S6144 .f32) (main_arg3 : FVec F S1024x3088 .f32) (main_arg4 : FVec F S4096x64 .f32) (main_arg5 : FVec F S4096x64 .f32) (main_arg6 : FVec F S64 .f32) (main_arg7 : FVec F S64 .f32) : IVec S8x4352x1024 1 × IVec S8x2048 1 × IVec S2048 1 × IVec S1024x384 1 :=
  let main_v0 : FVec F S8x4352x1024 .f32 := Host.absf main_arg0
  let main_cst : FVec F S_ .f32 := constant S_ .f32 0x7F800000#32
  let main_v1 : FVec F S8x4352x1024 .f32 := broadcastInDim S8x4352x1024 ![] bcast_S_S8x4352x1024 main_cst
  let main_v2 : IVec S8x4352x1024 1 := cmpf .olt main_v0 main_v1
  let main_v3 : FVec F S8x2048 .f32 := (extractStridedSlice S8x2048 ![0, 0] · slices_S8x6144_S8x2048_0_0) main_arg1
  let main_v4 : FVec F S8x2048 .f32 := Host.absf main_v3
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_v7 : FVec F S2048 .f32 := (extractStridedSlice S2048 ![0] · slices_S6144_S2048_0) main_arg2
  let main_v8 : FVec F S2048 .f32 := Host.absf main_v7
  let main_cst_1 : FVec F S_ .f32 := constant S_ .f32 0x7F800000#32
  let main_v9 : FVec F S2048 .f32 := broadcastInDim S2048 ![] bcast_S_S2048 main_cst_1
  let main_v10 : IVec S2048 1 := cmpf .olt main_v8 main_v9
  let main_v11 : FVec F S1024x384 .f32 := (extractStridedSlice S1024x384 ![0, 2576] · slices_S1024x3088_S1024x384_0_2576) main_arg3
  let main_v12 : FVec F S1024x384 .f32 := Host.absf main_v11
  let main_cst_2 : FVec F S_ .f32 := constant S_ .f32 0x7F800000#32
  let main_v13 : FVec F S1024x384 .f32 := broadcastInDim S1024x384 ![] bcast_S_S1024x384 main_cst_2
  let main_v14 : IVec S1024x384 1 := cmpf .olt main_v12 main_v13
  (main_v2, main_v6, main_v10, main_v14)
-- ==== Kernel.lean ====
abbrev S8x4352x512 : Shape := ⟨3, ![8, 4352, 512]⟩
abbrev S4x64 : Shape := ⟨2, ![4, 64]⟩
abbrev S128 : Shape := ⟨1, ![128]⟩
abbrev S1x4x64 : Shape := ⟨3, ![1, 4, 64]⟩
abbrev S1x128 : Shape := ⟨2, ![1, 128]⟩
abbrev S1x4352x128 : Shape := ⟨3, ![1, 4352, 128]⟩
abbrev S1x64 : Shape := ⟨2, ![1, 64]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S1x1024x128 : Shape := ⟨3, ![1, 1024, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x4352x512, .f32⟩
  | .hbm, ⟨1, _⟩ => ⟨S8x4352x512, .f32⟩
  | .hbm, ⟨2, _⟩ => ⟨S8x4352x512, .f32⟩
  | .hbm, ⟨3, _⟩ => ⟨S4x64, .f32⟩
  | .hbm, ⟨4, _⟩ => ⟨S128, .f32⟩
  | .hbm, ⟨5, _⟩ => ⟨S8x4352x512, .bf16⟩
  | .hbm, ⟨6, _⟩ => ⟨S8x4352x512, .bf16⟩
  | .hbm, ⟨7, _⟩ => ⟨S1x4x64, .f32⟩
  | .hbm, ⟨8, _⟩ => ⟨S1x128, .f32⟩
  | .hbm, ⟨9, _⟩ => ⟨S8x4352x512, .bf16⟩
  | .local _ .vmem, ⟨0, _⟩ => ⟨S1x4352x128, .f32⟩
  | .local _ .vmem, ⟨1, _⟩ => ⟨S1x4352x128, .f32⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4x64, .f32⟩
  | .local _ .vmem, ⟨7, _⟩ => ⟨S1x128, .f32⟩
  | .local _ .vmem, ⟨8, _⟩ => ⟨S1x4352x128, .bf16⟩
  | .local _ .vmem, ⟨9, _⟩ => ⟨S1x4352x128, .bf16⟩
  | _, _ => ⟨S8x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_7 : BitVec 32 := 0#32
  let c8_i32 : BitVec 32 := 8#32
  let v27 : BitVec 32 := Scalar.addi c0_i32_7 c8_i32
  let c1_i32 : BitVec 32 := 1#32
  ⟨c0_i32_7, v27, c1_i32⟩
def k0_mult1 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c512_i32 : BitVec 32 := 512#32
  let v103 : BitVec 32 := Scalar.muli arg8 c512_i32
  v103
def k0_off1 (k0_t1 : Fin k0_t1_loop.trips) : Fin 3 → Nat :=
  let c0_37 : Index := 0#32
  let c0_i32_7 : BitVec 32 := 0#32
  let c1_i32 : BitVec 32 := 1#32
  let arg8 : BitVec 32 := Scf.iv c0_i32_7 c1_i32 k0_t1
  let c512_i32 : BitVec 32 := 512#32
  let v103 : BitVec 32 := Scalar.muli arg8 c512_i32
  let v104 : BitVec 32 := v103
  let v105 : Index := Scalar.indexCast v104
  let c0_38 : Index := 0#32
  ![0, v105.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S8x4352x512 : Shape := ⟨3, ![8, 4352, 512]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4352x4x2x64 : Shape := ⟨5, ![8, 4352, 4, 2, 64]⟩
abbrev S8x4x2x4352x64 : Shape := ⟨5, ![8, 4, 2, 4352, 64]⟩
abbrev S8x4x1x4352x64 : Shape := ⟨5, ![8, 4, 1, 4352, 64]⟩
abbrev S8x4x4352x64 : Shape := ⟨4, ![8, 4, 4352, 64]⟩
abbrev S8x4352x4x128 : Shape := ⟨4, ![8, 4352, 4, 128]⟩
abbrev S8x4x4352x128 : Shape := ⟨4, ![8, 4, 4352, 128]⟩
abbrev S8x4x4096x64 : Shape := ⟨4, ![8, 4, 4096, 64]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x4096x128 : Shape := ⟨4, ![8, 4, 4096, 128]⟩
abbrev S1x1x1x128 : Shape := ⟨4, ![1, 1, 1, 128]⟩
abbrev S8x4096x4x128 : Shape := ⟨4, ![8, 4096, 4, 128]⟩
abbrev S8x4096x512 : Shape := ⟨3, ![8, 4096, 512]⟩
abbrev S8x4x256x64 : Shape := ⟨4, ![8, 4, 256, 64]⟩
abbrev S8x4x256x128 : Shape := ⟨4, ![8, 4, 256, 128]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x256x4x128 : Shape := ⟨4, ![8, 256, 4, 128]⟩
abbrev S8x256x512 : Shape := ⟨3, ![8, 256, 512]⟩

abbrev nBuf : Space → Nat
  | .hbm => 169
  | .vmem => 0
  | .smem => 0
  | _ => 0

abbrev hbmTy0_0 (i : Nat) : BufTy := match i % 128 with
  | 0 => ⟨S8x4352x512, .f32⟩
  | 1 => ⟨S8x4352x512, .f32⟩
  | 2 => ⟨S8x4352x512, .f32⟩
  | 3 => ⟨S4x64, .f32⟩
  | 4 => ⟨S128, .f32⟩
  | 5 => ⟨S1x64, .f32⟩
  | 6 => ⟨S64, .f32⟩
  | 7 => ⟨S1x64, .f32⟩
  | 8 => ⟨S64, .f32⟩
  | 9 => ⟨S64, .f32⟩
  | 10 => ⟨S_, .f32⟩
  | 11 => ⟨S_, .f32⟩
  | 12 => ⟨S_, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S8x4352x4x2x64, .f32⟩
  | 25 => ⟨S8x4x2x4352x64, .f32⟩
  | 26 => ⟨S8x4x1x4352x64, .f32⟩
  | 27 => ⟨S8x4x4352x64, .f32⟩
  | 28 => ⟨S8x4x1x4352x64, .f32⟩
  | 29 => ⟨S8x4x4352x64, .f32⟩
  | 30 => ⟨S8x4352x4x2x64, .f32⟩
  | 31 => ⟨S8x4x2x4352x64, .f32⟩
  | 32 => ⟨S8x4x1x4352x64, .f32⟩
  | 33 => ⟨S8x4x4352x64, .f32⟩
  | 34 => ⟨S8x4x1x4352x64, .f32⟩
  | 35 => ⟨S8x4x4352x64, .f32⟩
  | 36 => ⟨S8x4352x4x128, .f32⟩
  | 37 => ⟨S8x4x4352x128, .f32⟩
  | 38 => ⟨S8x4x4096x64, .f32⟩
  | 39 => ⟨S8x4x4096x64, .f32⟩
  | 40 => ⟨S8x4x4096x4352, .f32⟩
  | 41 => ⟨S_, .f32⟩
  | 42 => ⟨S8x4x4096x4352, .f32⟩
  | 43 => ⟨S8x4x4096x4352, .f32⟩
  | 44 => ⟨S_, .f32⟩
  | 45 => ⟨S8x4x4096, .f32⟩
  | 46 => ⟨S_, .f32⟩
  | 47 => ⟨S8x4x4096, .f32⟩
  | 48 => ⟨S8x4x4096, .f32⟩
  | 49 => ⟨S8x4x4096x1, .f32⟩
  | 50 => ⟨S8x4x4096x4352, .f32⟩
  | 51 => ⟨S8x4x4096x4352, .f32⟩
  | 52 => ⟨S8x4x4096x4352, .f32⟩
  | 53 => ⟨S_, .f32⟩
  | 54 => ⟨S8x4x4096, .f32⟩
  | 55 => ⟨S8x4x4096x1, .f32⟩
  | 56 => ⟨S8x4x4096x4352, .f32⟩
  | 57 => ⟨S8x4x4096x4352, .f32⟩
  | 58 => ⟨S8x4x4096x4352, .f32⟩
  | 59 => ⟨S_, .f32⟩
  | 60 => ⟨S8x4x4096x4352, .f32⟩
  | 61 => ⟨S8x4x4096x4352, .f32⟩
  | 62 => ⟨S_, .f32⟩
  | 63 => ⟨S8x4x4096, .f32⟩
  | 64 => ⟨S_, .f32⟩
  | 65 => ⟨S8x4x4096, .f32⟩
  | 66 => ⟨S8x4x4096, .f32⟩
  | 67 => ⟨S8x4x4096x1, .f32⟩
  | 68 => ⟨S8x4x4096x4352, .f32⟩
  | 69 => ⟨S8x4x4096x4352, .f32⟩
  | 70 => ⟨S8x4x4096x4352, .f32⟩
  | 71 => ⟨S_, .f32⟩
  | 72 => ⟨S8x4x4096, .f32⟩
  | 73 => ⟨S8x4x4096x1, .f32⟩
  | 74 => ⟨S8x4x4096x4352, .f32⟩
  | 75 => ⟨S8x4x4096x4352, .f32⟩
  | 76 => ⟨S8x4x4096x4352, .f32⟩
  | 77 => ⟨S8x4x4096x4352, .f32⟩
  | 78 => ⟨S8x4x4096x4352, .f32⟩
  | 79 => ⟨S8x4x4096x128, .f32⟩
  | 80 => ⟨S8x4x4096x128, .f32⟩
  | 81 => ⟨S_, .f32⟩
  | 82 => ⟨S8x4x4096, .f32⟩
  | 83 => ⟨S8x4x4096x1, .f32⟩
  | 84 => ⟨S_, .f32⟩
  | 85 => ⟨S8x4x4096x1, .f32⟩
  | 86 => ⟨S8x4x4096x1, .f32⟩
  | 87 => ⟨S_, .f32⟩
  | 88 => ⟨S8x4x4096x1, .f32⟩
  | 89 => ⟨S8x4x4096x1, .f32⟩
  | 90 => ⟨S8x4x4096x1, .f32⟩
  | 91 => ⟨S8x4x4096x128, .f32⟩
  | 92 => ⟨S8x4x4096x128, .f32⟩
  | 93 => ⟨S1x1x1x128, .f32⟩
  | 94 => ⟨S8x4x4096x128, .f32⟩
  | 95 => ⟨S8x4x4096x128, .f32⟩
  | 96 => ⟨S_, .f32⟩
  | 97 => ⟨S8x4x4096x128, .f32⟩
  | 98 => ⟨S8x4x4096x128, .f32⟩
  | 99 => ⟨S8x4096x4x128, .f32⟩
  | 100 => ⟨S8x4096x512, .f32⟩
  | 101 => ⟨S8x4x256x64, .f32⟩
  | 102 => ⟨S8x4x256x64, .f32⟩
  | 103 => ⟨S8x4x256x64, .f32⟩
  | 104 => ⟨S8x4x256x64, .f32⟩
  | 105 => ⟨S8x4x256x128, .f32⟩
  | 106 => ⟨S8x4x256x256, .f32⟩
  | 107 => ⟨S_, .f32⟩
  | 108 => ⟨S8x4x256x256, .f32⟩
  | 109 => ⟨S8x4x256x256, .f32⟩
  | 110 => ⟨S_, .f32⟩
  | 111 => ⟨S8x4x256, .f32⟩
  | 112 => ⟨S_, .f32⟩
  | 113 => ⟨S8x4x256, .f32⟩
  | 114 => ⟨S8x4x256, .f32⟩
  | 115 => ⟨S8x4x256x1, .f32⟩
  | 116 => ⟨S8x4x256x256, .f32⟩
  | 117 => ⟨S8x4x256x256, .f32⟩
  | 118 => ⟨S8x4x256x256, .f32⟩
  | 119 => ⟨S_, .f32⟩
  | 120 => ⟨S8x4x256, .f32⟩
  | 121 => ⟨S8x4x256x1, .f32⟩
  | 122 => ⟨S8x4x256x256, .f32⟩
  | 123 => ⟨S8x4x256x256, .f32⟩
  | 124 => ⟨S8x4x256x256, .f32⟩
  | 125 => ⟨S_, .f32⟩
  | 126 => ⟨S8x4x256x256, .f32⟩
  | 127 => ⟨S8x4x256x256, .f32⟩
  | _ => ⟨S8x4352x512, .f32⟩

abbrev hbmTy0_1 (i : Nat) : BufTy := match i % 128 with
  | 0 => ⟨S_, .f32⟩
  | 1 => ⟨S8x4x256, .f32⟩
  | 2 => ⟨S_, .f32⟩
  | 3 => ⟨S8x4x256, .f32⟩
  | 4 => ⟨S8x4x256, .f32⟩
  | 5 => ⟨S8x4x256x1, .f32⟩
  | 6 => ⟨S8x4x256x256, .f32⟩
  | 7 => ⟨S8x4x256x256, .f32⟩
  | 8 => ⟨S8x4x256x256, .f32⟩
  | 9 => ⟨S_, .f32⟩
  | 10 => ⟨S8x4x256, .f32⟩
  | 11 => ⟨S8x4x256x1, .f32⟩
  | 12 => ⟨S8x4x256x256, .f32⟩
  | 13 => ⟨S8x4x256x256, .f32⟩
  | 14 => ⟨S8x4x256x256, .f32⟩
  | 15 => ⟨S8x4x256x256, .f32⟩
  | 16 => ⟨S8x4x256x256, .f32⟩
  | 17 => ⟨S8x4x256x128, .f32⟩
  | 18 => ⟨S8x4x256x128, .f32⟩
  | 19 => ⟨S_, .f32⟩
  | 20 => ⟨S8x4x256, .f32⟩
  | 21 => ⟨S8x4x256x1, .f32⟩
  | 22 => ⟨S_, .f32⟩
  | 23 => ⟨S8x4x256x1, .f32⟩
  | 24 => ⟨S8x4x256x1, .f32⟩
  | 25 => ⟨S_, .f32⟩
  | 26 => ⟨S8x4x256x1, .f32⟩
  | 27 => ⟨S8x4x256x1, .f32⟩
  | 28 => ⟨S8x4x256x1, .f32⟩
  | 29 => ⟨S8x4x256x128, .f32⟩
  | 30 => ⟨S8x4x256x128, .f32⟩
  | 31 => ⟨S1x1x1x128, .f32⟩
  | 32 => ⟨S8x4x256x128, .f32⟩
  | 33 => ⟨S8x4x256x128, .f32⟩
  | 34 => ⟨S_, .f32⟩
  | 35 => ⟨S8x4x256x128, .f32⟩
  | 36 => ⟨S8x4x256x128, .f32⟩
  | 37 => ⟨S8x256x4x128, .f32⟩
  | 38 => ⟨S8x256x512, .f32⟩
  | 39 => ⟨S8x4352x512, .f32⟩
  | 40 => ⟨S8x4352x512, .bf16⟩
  | _ => ⟨S8x4352x512, .f32⟩

abbrev hbmTy (i : Nat) : BufTy := match i / 128 with
  | 0 => hbmTy0_0 i
  | 1 => hbmTy0_1 i
  | _ => ⟨S8x4352x512, .f32⟩

abbrev bufTy : (tb : Table) → Fin (tcTables nBuf tb) → BufTy
  | .hbm, ⟨i, _⟩ => hbmTy i
  | _, _ => ⟨S8x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_14 : Ref sig .tc := ⟨.hbm, 107, rfl⟩
abbrev main_v87 : Ref sig .tc := ⟨.hbm, 108, rfl⟩
abbrev main_v88 : Ref sig .tc := ⟨.hbm, 109, rfl⟩
abbrev main_cst_15 : Ref sig .tc := ⟨.hbm, 110, rfl⟩
abbrev main_v89 : Ref sig .tc := ⟨.hbm, 111, rfl⟩
abbrev main_cst_16 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_17 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_18 : Ref sig .tc := ⟨.hbm, 125, rfl⟩
abbrev main_v101 : Ref sig .tc := ⟨.hbm, 126, rfl⟩
abbrev main_v102 : Ref sig .tc := ⟨.hbm, 127, rfl⟩
abbrev main_cst_19 : Ref sig .tc := ⟨.hbm, 128, rfl⟩
abbrev main_v103 : Ref sig .tc := ⟨.hbm, 129, rfl⟩
abbrev main_cst_20 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_21 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_22 : Ref sig .tc := ⟨.hbm, 147, rfl⟩
abbrev main_v119 : Ref sig .tc := ⟨.hbm, 148, rfl⟩
abbrev main_v120 : Ref sig .tc := ⟨.hbm, 149, rfl⟩
abbrev main_cst_23 : Ref sig .tc := ⟨.hbm, 150, rfl⟩
abbrev main_v121 : Ref sig .tc := ⟨.hbm, 151, rfl⟩
abbrev main_v122 : Ref sig .tc := ⟨.hbm, 152, rfl⟩
abbrev main_cst_24 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_25 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩

abbrev nD : Nat := 1
abbrev τ : Topo := Topo.v7x

variable {F : FTy → Type} [FloatOps F]
-- ==== Kernel2.lean ====
abbrev S8x4352x256 : Shape := ⟨3, ![8, 4352, 256]⟩
abbrev S8x4352x512 : Shape := ⟨3, ![8, 4352, 512]⟩
abbrev S8x4352x1024 : Shape := ⟨3, ![8, 4352, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x4352x2x2x64 : Shape := ⟨5, ![8, 4352, 2, 2, 64]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S256x1024 : Shape := ⟨2, ![256, 1024]⟩
abbrev S2x2x64x1024 : Shape := ⟨4, ![2, 2, 64, 1024]⟩
abbrev S768x1024 : Shape := ⟨2, ![768, 1024]⟩
abbrev S1x1024 : Shape := ⟨2, ![1, 1024]⟩
abbrev S8x4096x1024 : Shape := ⟨3, ![8, 4096, 1024]⟩
abbrev S1x512x256 : Shape := ⟨3, ![1, 512, 256]⟩
abbrev S1x512x512 : Shape := ⟨3, ![1, 512, 512]⟩
abbrev S1x512x1024 : Shape := ⟨3, ![1, 512, 1024]⟩
abbrev S6x1024 : Shape := ⟨2, ![6, 1024]⟩
abbrev S512x256 : Shape := ⟨2, ![512, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩

abbrev nBuf : Space → Nat
  | .hbm => 37
  | .vmem => 21
  | .smem => 0
  | _ => 0

abbrev bufTy : (tb : Table) → Fin (tcTables nBuf tb) → BufTy
  | .hbm, ⟨0, _⟩ => ⟨S8x4352x256, .f32⟩
  | .hbm, ⟨1, _⟩ => ⟨S8x4352x512, .f32⟩
  | .hbm, ⟨2, _⟩ => ⟨S8x4352x256, .f32⟩
  | .hbm, ⟨3, _⟩ => ⟨S8x4352x1024, .f32⟩
  | .hbm, ⟨4, _⟩ => ⟨S8x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S8x4352x2x2x64, .f32⟩
  | .hbm, ⟨14, _⟩ => ⟨S8x4352x2x2x64, .f32⟩
  | .hbm, ⟨15, _⟩ => ⟨S8x4352x256, .f32⟩
  | .hbm, ⟨16, _⟩ => ⟨S8x1x6x1024, .f32⟩
  | .hbm, ⟨17, _⟩ => ⟨S1x1x6x1024, .f32⟩
  | .hbm, ⟨18, _⟩ => ⟨S8x1x6x1024, .f32⟩
  | .hbm, ⟨19, _⟩ => ⟨S8x2x6x1024, .f32⟩
  | .hbm, ⟨20, _⟩ => ⟨S8x4352x256, .bf16⟩
  | .hbm, ⟨21, _⟩ => ⟨S8x4352x512, .bf16⟩
  | .hbm, ⟨22, _⟩ => ⟨S8x4352x256, .bf16⟩
  | .hbm, ⟨23, _⟩ => ⟨S256x1024, .f32⟩
  | .hbm, ⟨24, _⟩ => ⟨S2x2x64x1024, .f32⟩
  | .hbm, ⟨25, _⟩ => ⟨S2x2x64x1024, .f32⟩
  | .hbm, ⟨26, _⟩ => ⟨S256x1024, .f32⟩
  | .hbm, ⟨27, _⟩ => ⟨S768x1024, .f32⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S1024x5632, .bf16⟩
  | .hbm, ⟨33, _⟩ => ⟨S2816x1024, .bf16⟩
  | .hbm, ⟨34, _⟩ => ⟨S1x1024, .f32⟩
  | .hbm, ⟨35, _⟩ => ⟨S1x1024, .f32⟩
  | .hbm, ⟨36, _⟩ => ⟨S8x4096x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4352x256 : Shape := ⟨3, ![8, 4352, 256]⟩
abbrev S8x4352x512 : Shape := ⟨3, ![8, 4352, 512]⟩
abbrev S8x4352x1024 : Shape := ⟨3, ![8, 4352, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x4096x1024 : Shape := ⟨3, ![8, 4096, 1024]⟩
abbrev S8x4096x256 : Shape := ⟨3, ![8, 4096, 256]⟩
abbrev S8x4096x512 : Shape := ⟨3, ![8, 4096, 512]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 117
  | .vmem => 0
  | .smem => 0
  | _ => 0

abbrev bufTy : (tb : Table) → Fin (tcTables nBuf tb) → BufTy
  | .hbm, ⟨0, _⟩ => ⟨S8x4352x256, .f32⟩
  | .hbm, ⟨1, _⟩ => ⟨S8x4352x512, .f32⟩
  | .hbm, ⟨2, _⟩ => ⟨S8x4352x256, .f32⟩
  | .hbm, ⟨3, _⟩ => ⟨S8x4352x1024, .f32⟩
  | .hbm, ⟨4, _⟩ => ⟨S8x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S8x4096x1024, .f32⟩
  | .hbm, ⟨14, _⟩ => ⟨S8x4096x256, .f32⟩
  | .hbm, ⟨15, _⟩ => ⟨S8x4096x512, .f32⟩
  | .hbm, ⟨16, _⟩ => ⟨S8x4096x256, .f32⟩
  | .hbm, ⟨17, _⟩ => ⟨S8x4096x1024, .f32⟩
  | .hbm, ⟨18, _⟩ => ⟨S8x1x6144, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x5632, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S_, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S_, .f32⟩
  | .hbm, ⟨89, _⟩ => ⟨S8x4096, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S8x4096x1024, .f32⟩
  | .hbm, ⟨104, _⟩ => ⟨S8x4096x1024, .f32⟩
  | .hbm, ⟨105, _⟩ => ⟨S_, .f32⟩
  | .hbm, ⟨106, _⟩ => ⟨S8x4096x1, .f32⟩
  | .hbm, ⟨107, _⟩ => ⟨S8x4096x1, .f32⟩
  | .hbm, ⟨108, _⟩ => ⟨S8x4096x1, .f32⟩
  | .hbm, ⟨109, _⟩ => ⟨S8x4096x1024, .f32⟩
  | .hbm, ⟨110, _⟩ => ⟨S8x4096x1024, .f32⟩
  | .hbm, ⟨111, _⟩ => ⟨S1x1x1024, .f32⟩
  | .hbm, ⟨112, _⟩ => ⟨S8x4096x1024, .f32⟩
  | .hbm, ⟨113, _⟩ => ⟨S8x4096x1024, .f32⟩
  | .hbm, ⟨114, _⟩ => ⟨S1x1x1024, .f32⟩
  | .hbm, ⟨115, _⟩ => ⟨S8x4096x1024, .f32⟩
  | .hbm, ⟨116, _⟩ => ⟨S8x4096x1024, .f32⟩
  | _, _ => ⟨S8x4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]
-- ==== Kernel3.lean ====
abbrev S8x4352x256 : Shape := ⟨3, ![8, 4352, 256]⟩
abbrev S8x4352x512 : Shape := ⟨3, ![8, 4352, 512]⟩
abbrev S8x4352x1024 : Shape := ⟨3, ![8, 4352, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x4352x2x2x64 : Shape := ⟨5, ![8, 4352, 2, 2, 64]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S256x1024 : Shape := ⟨2, ![256, 1024]⟩
abbrev S2x2x64x1024 : Shape := ⟨4, ![2, 2, 64, 1024]⟩
abbrev S768x1024 : Shape := ⟨2, ![768, 1024]⟩
abbrev S1x1024 : Shape := ⟨2, ![1, 1024]⟩
abbrev S1x34816x256 : Shape := ⟨3, ![1, 34816, 256]⟩
abbrev S1x34816x512 : Shape := ⟨3, ![1, 34816, 512]⟩
abbrev S1x34816x1024 : Shape := ⟨3, ![1, 34816, 1024]⟩
abbrev S1x512x256 : Shape := ⟨3, ![1, 512, 256]⟩
abbrev S1x512x512 : Shape := ⟨3, ![1, 512, 512]⟩
abbrev S1x512x1024 : Shape := ⟨3, ![1, 512, 1024]⟩
abbrev S6x1024 : Shape := ⟨2, ![6, 1024]⟩
abbrev S512x256 : Shape := ⟨2, ![512, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩

abbrev nBuf : Space → Nat
  | .hbm => 41
  | .vmem => 21
  | .smem => 0
  | _ => 0

abbrev bufTy : (tb : Table) → Fin (tcTables nBuf tb) → BufTy
  | .hbm, ⟨0, _⟩ => ⟨S8x4352x256, .f32⟩
  | .hbm, ⟨1, _⟩ => ⟨S8x4352x512, .f32⟩
  | .hbm, ⟨2, _⟩ => ⟨S8x4352x256, .f32⟩
  | .hbm, ⟨3, _⟩ => ⟨S8x4352x1024, .f32⟩
  | .hbm, ⟨4, _⟩ => ⟨S8x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S8x4352x2x2x64, .f32⟩
  | .hbm, ⟨14, _⟩ => ⟨S8x4352x2x2x64, .f32⟩
  | .hbm, ⟨15, _⟩ => ⟨S8x4352x256, .f32⟩
  | .hbm, ⟨16, _⟩ => ⟨S8x1x6x1024, .f32⟩
  | .hbm, ⟨17, _⟩ => ⟨S1x1x6x1024, .f32⟩
  | .hbm, ⟨18, _⟩ => ⟨S8x1x6x1024, .f32⟩
  | .hbm, ⟨19, _⟩ => ⟨S8x2x6x1024, .f32⟩
  | .hbm, ⟨20, _⟩ => ⟨S8x4352x256, .bf16⟩
  | .hbm, ⟨21, _⟩ => ⟨S8x4352x512, .bf16⟩
  | .hbm, ⟨22, _⟩ => ⟨S8x4352x256, .bf16⟩
  | .hbm, ⟨23, _⟩ => ⟨S256x1024, .f32⟩
  | .hbm, ⟨24, _⟩ => ⟨S2x2x64x1024, .f32⟩
  | .hbm, ⟨25, _⟩ => ⟨S2x2x64x1024, .f32⟩
  | .hbm, ⟨26, _⟩ => ⟨S256x1024, .f32⟩
  | .hbm, ⟨27, _⟩ => ⟨S768x1024, .f32⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S1024x5632, .bf16⟩
  | .hbm, ⟨33, _⟩ => ⟨S2816x1024, .bf16⟩
  | .hbm, ⟨34, _⟩ => ⟨S1x1024, .f32⟩
  | .hbm, ⟨35, _⟩ => ⟨S1x1024, .f32⟩
  | .hbm, ⟨36, _⟩ => ⟨S1x34816x256, .bf16⟩
  | .hbm, ⟨37, _⟩ => ⟨S1x34816x512, .bf16⟩
  | .hbm, ⟨38, _⟩ => ⟨S1x34816x256, .bf16⟩
  | .hbm, ⟨39, _⟩ => ⟨S1x34816x1024, .f32⟩
  | .hbm, ⟨40, _⟩ => ⟨S1x34816x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c16_i32 : BitVec 32 := 16#32
  let v31 : BitVec 32 := Scalar.divsi v30 c16_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c16_i32 c0_i32_15
  let v38 : BitVec 32 := Scalar.extui v37
  let c0_i32_16 : BitVec 32 := 0#32
  let v39 : BitVec 1 := Scalar.cmpi .slt c16_i32 c0_i32_16
  let v40 : BitVec 32 := Scalar.extui v39
  let v41 : BitVec 32 := Scalar.subi v38 v40
  let v42 : BitVec 1 := Scalar.cmpi .ne v36 v41
  let v43 : BitVec 32 := Scalar.remsi v30 c16_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.minsi v47 c1_i32_19
  let c0_i32_20 : BitVec 32 := 0#32
  let c0_i32_21 : BitVec 32 := 0#32
  let c0_i32_22 : BitVec 32 := 0#32
  ![v18.toNat, v48.toNat, c0_i32_20.toNat, c0_i32_21.toNat]

def cc0_transform_5 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c16_i32 : BitVec 32 := 16#32
  let v31 : BitVec 32 := Scalar.divsi v30 c16_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c16_i32 c0_i32_15
  let v38 : BitVec 32 := Scalar.extui v37
  let c0_i32_16 : BitVec 32 := 0#32
  let v39 : BitVec 1 := Scalar.cmpi .slt c16_i32 c0_i32_16
  let v40 : BitVec 32 := Scalar.extui v39
  let v41 : BitVec 32 := Scalar.subi v38 v40
  let v42 : BitVec 1 := Scalar.cmpi .ne v36 v41
  let v43 : BitVec 32 := Scalar.remsi v30 c16_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.minsi v47 c1_i32_19
  let c0_i32_20 : BitVec 32 := 0#32
  let c0_i32_21 : BitVec 32 := 0#32
  let c0_i32_22 : BitVec 32 := 0#32
  ![v18.toNat, v48.toNat, c0_i32_20.toNat, c0_i32_21.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x4352x256 : Shape := ⟨3, ![8, 4352, 256]⟩
abbrev S8x4352x512 : Shape := ⟨3, ![8, 4352, 512]⟩
abbrev S8x4352x1024 : Shape := ⟨3, ![8, 4352, 1024]⟩
abbrev S8x6144 : Shape := ⟨2, ![8, 6144]⟩
abbrev S6144 : Shape := ⟨1, ![6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x5632 : Shape := ⟨3, ![8, 4352, 5632]⟩
abbrev S8x4352x2816 : Shape := ⟨3, ![8, 4352, 2816]⟩
abbrev S1x34816x1024 : Shape := ⟨3, ![1, 34816, 1024]⟩

abbrev nBuf : Space → Nat
  | .hbm => 113
  | .vmem => 0
  | .smem => 0
  | _ => 0

abbrev bufTy : (tb : Table) → Fin (tcTables nBuf tb) → BufTy
  | .hbm, ⟨0, _⟩ => ⟨S8x4352x256, .f32⟩
  | .hbm, ⟨1, _⟩ => ⟨S8x4352x512, .f32⟩
  | .hbm, ⟨2, _⟩ => ⟨S8x4352x256, .f32⟩
  | .hbm, ⟨3, _⟩ => ⟨S8x4352x1024, .f32⟩
  | .hbm, ⟨4, _⟩ => ⟨S8x6144, .f32⟩
  | .hbm, ⟨5, _⟩ => ⟨S6144, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024, .f32⟩
  | .hbm, ⟨13, _⟩ => ⟨S8x4352x1024, .f32⟩
  | .hbm, ⟨14, _⟩ => ⟨S8x1x6144, .f32⟩
  | .hbm, ⟨15, _⟩ => ⟨S8x4096x6144, .f32⟩
  | .hbm, ⟨16, _⟩ => ⟨S8x256x6144, .f32⟩
  | .hbm, ⟨17, _⟩ => ⟨S8x4352x6144, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S8x4352x1024, .f32⟩
  | .hbm, ⟨22, _⟩ => ⟨S8x4352x1024, .f32⟩
  | .hbm, ⟨23, _⟩ => ⟨S8x4352x1024, .f32⟩
  | .hbm, ⟨24, _⟩ => ⟨S_, .f32⟩
  | .hbm, ⟨25, _⟩ => ⟨S8x4352x1024, .f32⟩
  | .hbm, ⟨26, _⟩ => ⟨S8x4352x1024, .f32⟩
  | .hbm, ⟨27, _⟩ => ⟨S8x4352x1024, .f32⟩
  | .hbm, ⟨28, _⟩ => ⟨S8x4352x1024, .f32⟩
  | .hbm, ⟨29, _⟩ => ⟨S8x4352x1024, .f32⟩
  | .hbm, ⟨30, _⟩ => ⟨S_, .f32⟩
  | .hbm, ⟨31, _⟩ => ⟨S8x4352, .f32⟩
  | .hbm, ⟨32, _⟩ => ⟨S8x4352x1, .f32⟩
  | .hbm, ⟨33, _⟩ => ⟨S_, .f32⟩
  | .hbm, ⟨34, _⟩ => ⟨S8x4352x1, .f32⟩
  | .hbm, ⟨35, _⟩ => ⟨S8x4352x1, .f32⟩
  | .hbm, ⟨36, _⟩ => ⟨S8x4352x1024, .f32⟩
  | .hbm, ⟨37, _⟩ => ⟨S8x4352x1024, .f32⟩
  | .hbm, ⟨38, _⟩ => ⟨S8x4352x1024, .f32⟩
  | .hbm, ⟨39, _⟩ => ⟨S_, .f32⟩
  | .hbm, ⟨40, _⟩ => ⟨S8x4352, .f32⟩
  | .hbm, ⟨41, _⟩ => ⟨S8x4352x1, .f32⟩
  | .hbm, ⟨42, _⟩ => ⟨S_, .f32⟩
  | .hbm, ⟨43, _⟩ => ⟨S8x4352x1, .f32⟩
  | .hbm, ⟨44, _⟩ => ⟨S8x4352x1, .f32⟩
  | .hbm, ⟨45, _⟩ => ⟨S8x4352x1024, .f32⟩
  | .hbm, ⟨46, _⟩ => ⟨S8x4352x1024, .f32⟩
  | .hbm, ⟨47, _⟩ => ⟨S_, .f32⟩
  | .hbm, ⟨48, _⟩ => ⟨S8x4352x1, .f32⟩
  | .hbm, ⟨49, _⟩ => ⟨S8x4352x1, .f32⟩
  | .hbm, ⟨50, _⟩ => ⟨S8x4352x1, .f32⟩
  | .hbm, ⟨51, _⟩ => ⟨S8x4352x1024, .f32⟩
  | .hbm, ⟨52, _⟩ => ⟨S8x4352x1024, .f32⟩
  | .hbm, ⟨53, _⟩ => ⟨S1x1x1024, .f32⟩
  | .hbm, ⟨54, _⟩ => ⟨S8x4352x1024, .f32⟩
  | .hbm, ⟨55, _⟩ => ⟨S8x4352x1024, .f32⟩
  | .hbm, ⟨56, _⟩ => ⟨S1x1x1024, .f32⟩
  | .hbm, ⟨57, _⟩ => ⟨S8x4352x1024, .f32⟩
  | .hbm, ⟨58, _⟩ => ⟨S8x4352x1024, .f32⟩
  | .hbm, ⟨59, _⟩ => ⟨S_, .f32⟩
  | .hbm, ⟨60, _⟩ => ⟨S8x4352x1024, .f32⟩
  | .hbm, ⟨61, _⟩ => ⟨S8x4352x1024, .f32⟩
  | .hbm, ⟨62, _⟩ => ⟨S_, .f32⟩
  | .hbm, ⟨63, _⟩ => ⟨S8x4352x1024, .f32⟩
  | .hbm, ⟨64, _⟩ => ⟨S8x4352x1024, .f32⟩
  | .hbm, ⟨65, _⟩ => ⟨S8x4352x1024, .f32⟩
  | .hbm, ⟨66, _⟩ => ⟨S8x4352x1024, .f32⟩
  | .hbm, ⟨67, _⟩ => ⟨S8x4352x5632, .f32⟩
  | .hbm, ⟨68, _⟩ => ⟨S8x4352x2816, .f32⟩
  | .hbm, ⟨69, _⟩ => ⟨S8x4352x2816, .f32⟩
  | .hbm, ⟨70, _⟩ => ⟨S8x4352x2816, .f32⟩
  | .hbm, ⟨71, _⟩ => ⟨S8x4352x2816, .f32⟩
  | .hbm, ⟨72, _⟩ => ⟨S_, .f32⟩
  | .hbm, ⟨73, _⟩ => ⟨S8x4352x2816, .f32⟩
  | .hbm, ⟨74, _⟩ => ⟨S8x4352x2816, .f32⟩
  | .hbm, ⟨75, _⟩ => ⟨S_, .f32⟩
  | .hbm, ⟨76, _⟩ => ⟨S8x4352x2816, .f32⟩
  | .hbm, ⟨77, _⟩ => ⟨S8x4352x2816, .f32⟩
  | .hbm, ⟨78, _⟩ => ⟨S8x4352x2816, .f32⟩
  | .hbm, ⟨79, _⟩ => ⟨S8x4352x2816, .f32⟩
  | .hbm, ⟨80, _⟩ => ⟨S8x4352x1024, .f32⟩
  | .hbm, ⟨81, _⟩ => ⟨S8x4352x1024, .f32⟩
  | .hbm, ⟨82, _⟩ => ⟨S8x4352x1024, .f32⟩
  | .hbm, ⟨83, _⟩ => ⟨S_, .f32⟩
  | .hbm, ⟨84, _⟩ => ⟨S8x4352, .f32⟩
  | .hbm, ⟨85, _⟩ => ⟨S8x4352x1, .f32⟩
  | .hbm, ⟨86, _⟩ => ⟨S_, .f32⟩
  | .hbm, ⟨87, _⟩ => ⟨S8x4352x1, .f32⟩
  | .hbm, ⟨88, _⟩ => ⟨S8x4352x1, .f32⟩
  | .hbm, ⟨89, _⟩ => ⟨S8x4352x1024, .f32⟩
  | .hbm, ⟨90, _⟩ => ⟨S8x4352x1024, .f32⟩
  | .hbm, ⟨91, _⟩ => ⟨S8x4352x1024, .f32⟩
  | .hbm, ⟨92, _⟩ => ⟨S_, .f32⟩
  | .hbm, ⟨93, _⟩ => ⟨S8x4352, .f32⟩
  | .hbm, ⟨94, _⟩ => ⟨S8x4352x1, .f32⟩
  | .hbm, ⟨95, _⟩ => ⟨S_, .f32⟩
  | .hbm, ⟨96, _⟩ => ⟨S8x4352x1, .f32⟩
  | .hbm, ⟨97, _⟩ => ⟨S8x4352x1, .f32⟩
  | .hbm, ⟨98, _⟩ => ⟨S8x4352x1024, .f32⟩
  | .hbm, ⟨99, _⟩ => ⟨S8x4352x1024, .f32⟩
  | .hbm, ⟨100, _⟩ => ⟨S_, .f32⟩
  | .hbm, ⟨101, _⟩ => ⟨S8x4352x1, .f32⟩
  | .hbm, ⟨102, _⟩ => ⟨S8x4352x1, .f32⟩
  | .hbm, ⟨103, _⟩ => ⟨S8x4352x1, .f32⟩
  | .hbm, ⟨104, _⟩ => ⟨S8x4352x1024, .f32⟩
  | .hbm, ⟨105, _⟩ => ⟨S8x4352x1024, .f32⟩
  | .hbm, ⟨106, _⟩ => ⟨S1x1x1024, .f32⟩
  | .hbm, ⟨107, _⟩ => ⟨S8x4352x1024, .f32⟩
  | .hbm, ⟨108, _⟩ => ⟨S8x4352x1024, .f32⟩
  | .hbm, ⟨109, _⟩ => ⟨S1x1x1024, .f32⟩
  | .hbm, ⟨110, _⟩ => ⟨S8x4352x1024, .f32⟩
  | .hbm, ⟨111, _⟩ => ⟨S8x4352x1024, .f32⟩
  | .hbm, ⟨112, _⟩ => ⟨S1x34816x1024, .f32⟩
  | _, _ => ⟨S8x4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Kernel4.lean ====
abbrev S8x4352x256 : Shape := ⟨3, ![8, 4352, 256]⟩
abbrev S8x4352x128 : Shape := ⟨3, ![8, 4352, 128]⟩
abbrev S8x4352x2x2x64 : Shape := ⟨5, ![8, 4352, 2, 2, 64]⟩
abbrev S1x256 : Shape := ⟨2, ![1, 256]⟩
abbrev S_ : Shape := ⟨0, ![]⟩
abbrev S8x4352x64 : Shape := ⟨3, ![8, 4352, 64]⟩
abbrev S1x1x256 : Shape := ⟨3, ![1, 1, 256]⟩
abbrev S1x4352x128 : Shape := ⟨3, ![1, 4352, 128]⟩
abbrev S1x4352x256 : Shape := ⟨3, ![1, 4352, 256]⟩
abbrev S1x128 : Shape := ⟨2, ![1, 128]⟩
abbrev S1x256x128 : Shape := ⟨3, ![1, 256, 128]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩

abbrev nBuf : Space → Nat
  | .hbm => 26
  | .vmem => 8
  | .smem => 0
  | _ => 0

abbrev bufTy : (tb : Table) → Fin (tcTables nBuf tb) → BufTy
  | .hbm, ⟨0, _⟩ => ⟨S8x4352x256, .f32⟩
  | .hbm, ⟨1, _⟩ => ⟨S8x4352x128, .f32⟩
  | .hbm, ⟨2, _⟩ => ⟨S8x4352x128, .f32⟩
  | .hbm, ⟨3, _⟩ => ⟨S8x4352x2x2x64, .f32⟩
  | .hbm, ⟨4, _⟩ => ⟨S8x4352x2x2x64, .f32⟩
  | .hbm, ⟨5, _⟩ => ⟨S8x4352x256, .f32⟩
  | .hbm, ⟨6, _⟩ => ⟨S1x256, .i32⟩
  | .hbm, ⟨7, _⟩ => ⟨S_, .i32⟩
  | .hbm, ⟨8, _⟩ => ⟨S1x256, .i32⟩
  | .hbm, ⟨9, _⟩ => ⟨S1x256, .i1⟩
  | .hbm, ⟨10, _⟩ => ⟨S_, .i32⟩
  | .hbm, ⟨11, _⟩ => ⟨S1x256, .i32⟩
  | .hbm, ⟨12, _⟩ => ⟨S1x256, .i1⟩
  | .hbm, ⟨13, _⟩ => ⟨S1x256, .i1⟩
  | .hbm, ⟨14, _⟩ => ⟨S1x256, .f32⟩
  | .hbm, ⟨15, _⟩ => ⟨S8x4352x64, .f32⟩
  | .hbm, ⟨16, _⟩ => ⟨S_, .f32⟩
  | .hbm, ⟨17, _⟩ => ⟨S8x4352x128, .f32⟩
  | .hbm, ⟨18, _⟩ => ⟨S8x4352x64, .f32⟩
  | .hbm, ⟨19, _⟩ => ⟨S8x4352x256, .f32⟩
  | .hbm, ⟨20, _⟩ => ⟨S8x4352x128, .bf16⟩
  | .hbm, ⟨21, _⟩ => ⟨S1x1x256, .f32⟩
  | .hbm, ⟨22, _⟩ => ⟨S8x4352x256, .f32⟩
  | .hbm, ⟨23, _⟩ => ⟨S8x4352x256, .f32⟩
  | .hbm, ⟨24, _⟩ => ⟨S8x4352x256, .bf16⟩
  | .hbm, ⟨25, _⟩ => ⟨S8x4352x256, .bf16⟩
  | .local _ .vmem, ⟨0, _⟩ => ⟨S1x4352x128, .f32⟩
  | .local _ .vmem, ⟨1, _⟩ => ⟨S1x4352x128, .f32⟩
  | .local _ .vmem, ⟨2, _⟩ => ⟨S1x4352x128, .bf16⟩
  | .local _ .vmem, ⟨3, _⟩ => ⟨S1x4352x128, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x4352x128, .bf16⟩
  | .local _ .vmem, ⟨7, _⟩ => ⟨S1x4352x128, .bf16⟩
  | _, _ => ⟨S8x4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v55 : BitVec 32 := Scalar.muli arg6 c256_i32
  v55
def k0_off1 (k0_t1 : Fin k0_t1_loop.trips) : Fin 3 → Nat :=
  let c0_22 : Index := 0#32
  let c0_i32 : BitVec 32 := 0#32
  let c1_i32 : BitVec 32 := 1#32
  let arg6 : BitVec 32 := Scf.iv c0_i32 c1_i32 k0_t1
  let c256_i32 : BitVec 32 := 256#32
  let v55 : BitVec 32 := Scalar.muli arg6 c256_i32
  let v56 : BitVec 32 := v55
  let v57 : Index := Scalar.indexCast v56
  let c0_23 : Index := 0#32
  ![0, v57.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "qscale" => some (((8 * (Real.log 2))⁻¹ : ℝ) : EReal)
  | _ => none
-- ==== Reference4Ideal.lean ====
abbrev S8x4352x256 : Shape := ⟨3, ![8, 4352, 256]⟩
abbrev S8x4352x128 : Shape := ⟨3, ![8, 4352, 128]⟩
abbrev S8x4352x4x64 : Shape := ⟨4, ![8, 4352, 4, 64]⟩
abbrev S8x4x4352x64 : Shape := ⟨4, ![8, 4, 4352, 64]⟩
abbrev S8x4352x2x64 : Shape := ⟨4, ![8, 4352, 2, 64]⟩
abbrev S8x2x4352x64 : Shape := ⟨4, ![8, 2, 4352, 64]⟩
abbrev S8x2x2x4352x64 : Shape := ⟨5, ![8, 2, 2, 4352, 64]⟩
abbrev S8x4x4096x64 : Shape := ⟨4, ![8, 4, 4096, 64]⟩
abbrev S8x4x4096x4352 : Shape := ⟨4, ![8, 4, 4096, 4352]⟩
abbrev S_ : Shape := ⟨0, ![]⟩
abbrev S8x4x4096 : Shape := ⟨3, ![8, 4, 4096]⟩
abbrev S8x4x4096x1 : Shape := ⟨4, ![8, 4, 4096, 1]⟩
abbrev S8x4x256x64 : Shape := ⟨4, ![8, 4, 256, 64]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4352x2x2x64 : Shape := ⟨5, ![8, 4352, 2, 2, 64]⟩

abbrev nBuf : Space → Nat
  | .hbm => 60
  | .vmem => 0
  | .smem => 0
  | _ => 0

abbrev bufTy : (tb : Table) → Fin (tcTables nBuf tb) → BufTy
  | .hbm, ⟨0, _⟩ => ⟨S8x4352x256, .f32⟩
  | .hbm, ⟨1, _⟩ => ⟨S8x4352x128, .f32⟩
  | .hbm, ⟨2, _⟩ => ⟨S8x4352x128, .f32⟩
  | .hbm, ⟨3, _⟩ => ⟨S8x4352x4x64, .f32⟩
  | .hbm, ⟨4, _⟩ => ⟨S8x4x4352x64, .f32⟩
  | .hbm, ⟨5, _⟩ => ⟨S8x4352x2x64, .f32⟩
  | .hbm, ⟨6, _⟩ => ⟨S8x2x4352x64, .f32⟩
  | .hbm, ⟨7, _⟩ => ⟨S8x2x2x4352x64, .f32⟩
  | .hbm, ⟨8, _⟩ => ⟨S8x4x4352x64, .f32⟩
  | .hbm, ⟨9, _⟩ => ⟨S8x4352x2x64, .f32⟩
  | .hbm, ⟨10, _⟩ => ⟨S8x2x4352x64, .f32⟩
  | .hbm, ⟨11, _⟩ => ⟨S8x2x2x4352x64, .f32⟩
  | .hbm, ⟨12, _⟩ => ⟨S8x4x4352x64, .f32⟩
  | .hbm, ⟨13, _⟩ => ⟨S8x4x4096x64, .f32⟩
  | .hbm, ⟨14, _⟩ => ⟨S8x4x4096x4352, .f32⟩
  | .hbm, ⟨15, _⟩ => ⟨S_, .f32⟩
  | .hbm, ⟨16, _⟩ => ⟨S8x4x4096x4352, .f32⟩
  | .hbm, ⟨17, _⟩ => ⟨S8x4x4096x4352, .f32⟩
  | .hbm, ⟨18, _⟩ => ⟨S_, .f32⟩
  | .hbm, ⟨19, _⟩ => ⟨S8x4x4096, .f32⟩
  | .hbm, ⟨20, _⟩ => ⟨S_, .f32⟩
  | .hbm, ⟨21, _⟩ => ⟨S8x4x4096, .f32⟩
  | .hbm, ⟨22, _⟩ => ⟨S8x4x4096, .f32⟩
  | .hbm, ⟨23, _⟩ => ⟨S8x4x4096x1, .f32⟩
  | .hbm, ⟨24, _⟩ => ⟨S8x4x4096x4352, .f32⟩
  | .hbm, ⟨25, _⟩ => ⟨S8x4x4096x4352, .f32⟩
  | .hbm, ⟨26, _⟩ => ⟨S8x4x4096x4352, .f32⟩
  | .hbm, ⟨27, _⟩ => ⟨S_, .f32⟩
  | .hbm, ⟨28, _⟩ => ⟨S8x4x4096, .f32⟩
  | .hbm, ⟨29, _⟩ => ⟨S8x4x4096x1, .f32⟩
  | .hbm, ⟨30, _⟩ => ⟨S8x4x4096x4352, .f32⟩
  | .hbm, ⟨31, _⟩ => ⟨S8x4x4096x4352, .f32⟩
  | .hbm, ⟨32, _⟩ => ⟨S8x4x4096x64, .f32⟩
  | .hbm, ⟨33, _⟩ => ⟨S8x4x256x64, .f32⟩
  | .hbm, ⟨34, _⟩ => ⟨S8x4x256x64, .f32⟩
  | .hbm, ⟨35, _⟩ => ⟨S8x4x256x64, .f32⟩
  | .hbm, ⟨36, _⟩ => ⟨S8x4x256x256, .f32⟩
  | .hbm, ⟨37, _⟩ => ⟨S_, .f32⟩
  | .hbm, ⟨38, _⟩ => ⟨S8x4x256x256, .f32⟩
  | .hbm, ⟨39, _⟩ => ⟨S8x4x256x256, .f32⟩
  | .hbm, ⟨40, _⟩ => ⟨S_, .f32⟩
  | .hbm, ⟨41, _⟩ => ⟨S8x4x256, .f32⟩
  | .hbm, ⟨42, _⟩ => ⟨S_, .f32⟩
  | .hbm, ⟨43, _⟩ => ⟨S8x4x256, .f32⟩
  | .hbm, ⟨44, _⟩ => ⟨S8x4x256, .f32⟩
  | .hbm, ⟨45, _⟩ => ⟨S8x4x256x1, .f32⟩
  | .hbm, ⟨46, _⟩ => ⟨S8x4x256x256, .f32⟩
  | .hbm, ⟨47, _⟩ => ⟨S8x4x256x256, .f32⟩
  | .hbm, ⟨48, _⟩ => ⟨S8x4x256x256, .f32⟩
  | .hbm, ⟨49, _⟩ => ⟨S_, .f32⟩
  | .hbm, ⟨50, _⟩ => ⟨S8x4x256, .f32⟩
  | .hbm, ⟨51, _⟩ => ⟨S8x4x256x1, .f32⟩
  | .hbm, ⟨52, _⟩ => ⟨S8x4x256x256, .f32⟩
  | .hbm, ⟨53, _⟩ => ⟨S8x4x256x256, .f32⟩
  | .hbm, ⟨54, _⟩ => ⟨S8x4x256x64, .f32⟩
  | .hbm, ⟨55, _⟩ => ⟨S8x4x4352x64, .f32⟩
  | .hbm, ⟨56, _⟩ => ⟨S8x2x2x4352x64, .f32⟩
  | .hbm, ⟨57, _⟩ => ⟨S8x4352x2x2x64, .f32⟩
  | .hbm, ⟨58, _⟩ => ⟨S8x4352x256, .f32⟩
  | .hbm, ⟨59, _⟩ => ⟨S8x4352x256, .bf16⟩
  | _, _ => ⟨S8x4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel5.lean ====
abbrev S8x4352x1024 : Shape := ⟨3, ![8, 4352, 1024]⟩
abbrev S8x6144 : Shape := ⟨2, ![8, 6144]⟩
abbrev S6144 : Shape := ⟨1, ![6144]⟩
abbrev S1024x3088 : Shape := ⟨2, ![1024, 3088]⟩
abbrev S4096x64 : Shape := ⟨2, ![4096, 64]⟩
abbrev S64 : Shape := ⟨1, ![64]⟩
abbrev S8x1x6x1024 : Shape := ⟨4, ![8, 1, 6, 1024]⟩
abbrev S1x1x6x1024 : Shape := ⟨4, ![1, 1, 6, 1024]⟩
abbrev S8x2x6x1024 : Shape := ⟨4, ![8, 2, 6, 1024]⟩
abbrev S4096x128 : Shape := ⟨2, ![4096, 128]⟩
abbrev S128 : Shape := ⟨1, ![128]⟩
abbrev S_ : Shape := ⟨0, ![]⟩
abbrev S1024x256 : Shape := ⟨2, ![1024, 256]⟩
abbrev S1024x2x2x64 : Shape := ⟨4, ![1024, 2, 2, 64]⟩
abbrev S1024x128 : Shape := ⟨2, ![1024, 128]⟩
abbrev S1024x1024 : Shape := ⟨2, ![1024, 1024]⟩
abbrev S1024x1536 : Shape := ⟨2, ![1024, 1536]⟩
abbrev S1024x64 : Shape := ⟨2, ![1024, 64]⟩
abbrev S1024x16 : Shape := ⟨2, ![1024, 16]⟩
abbrev S1024x112 : Shape := ⟨2, ![1024, 112]⟩
abbrev S1024x3328 : Shape := ⟨2, ![1024, 3328]⟩
abbrev S256x128 : Shape := ⟨2, ![256, 128]⟩
abbrev S4352x128 : Shape := ⟨2, ![4352, 128]⟩
abbrev S1x64 : Shape := ⟨2, ![1, 64]⟩
abbrev S2x64 : Shape := ⟨2, ![2, 64]⟩
abbrev S1x128 : Shape := ⟨2, ![1, 128]⟩
abbrev S1x34816x1024 : Shape := ⟨3, ![1, 34816, 1024]⟩
abbrev S1x34816x512 : Shape := ⟨3, ![1, 34816, 512]⟩
abbrev S1x34816x256 : Shape := ⟨3, ![1, 34816, 256]⟩
abbrev S1x34816x128 : Shape := ⟨3, ![1, 34816, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x512x128 : Shape := ⟨3, ![1, 512, 128]⟩
abbrev S6x1024 : Shape := ⟨2, ![6, 1024]⟩
abbrev S512x1024 : Shape := ⟨2, ![512, 1024]⟩
abbrev S256x1024 : Shape := ⟨2, ![256, 1024]⟩
abbrev S1x1024 : Shape := ⟨2, ![1, 1024]⟩
abbrev S512x128 : Shape := ⟨2, ![512, 128]⟩
abbrev S1024x512 : Shape := ⟨2, ![1024, 512]⟩
abbrev S512x512 : Shape := ⟨2, ![512, 512]⟩
abbrev S512x256 : Shape := ⟨2, ![512, 256]⟩
abbrev S128x128 : Shape := ⟨2, ![128, 128]⟩
abbrev S1x256 : Shape := ⟨2, ![1, 256]⟩

abbrev nBuf : Space → Nat
  | .hbm => 96
  | .vmem => 41
  | .smem => 0
  | _ => 0

abbrev bufTy : (tb : Table) → Fin (tcTables nBuf tb) → BufTy
  | .hbm, ⟨0, _⟩ => ⟨S8x4352x1024, .f32⟩
  | .hbm, ⟨1, _⟩ => ⟨S8x6144, .f32⟩
  | .hbm, ⟨2, _⟩ => ⟨S6144, .f32⟩
  | .hbm, ⟨3, _⟩ => ⟨S1024x3088, .f32⟩
  | .hbm, ⟨4, _⟩ => ⟨S4096x64, .f32⟩
  | .hbm, ⟨5, _⟩ => ⟨S4096x64, .f32⟩
  | .hbm, ⟨6, _⟩ => ⟨S64, .f32⟩
  | .hbm, ⟨7, _⟩ => ⟨S64, .f32⟩
  | .hbm, ⟨8, _⟩ => ⟨S8x1x6x1024, .f32⟩
  | .hbm, ⟨9, _⟩ => ⟨S1x1x6x1024, .f32⟩
  | .hbm, ⟨10, _⟩ => ⟨S8x1x6x1024, .f32⟩
  | .hbm, ⟨11, _⟩ => ⟨S8x2x6x1024, .f32⟩
  | .hbm, ⟨12, _⟩ => ⟨S4096x128, .f32⟩
  | .hbm, ⟨13, _⟩ => ⟨S4096x128, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S_, .i1⟩
  | .hbm, ⟨31, _⟩ => ⟨S128, .i1⟩
  | .hbm, ⟨32, _⟩ => ⟨S128, .i1⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S4096x128, .f32⟩
  | .hbm, ⟨41, _⟩ => ⟨S_, .f32⟩
  | .hbm, ⟨42, _⟩ => ⟨S_, .f32⟩
  | .hbm, ⟨43, _⟩ => ⟨S4096x128, .i1⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .i1⟩
  | .hbm, ⟨49, _⟩ => ⟨S4096x128, .f32⟩
  | .hbm, ⟨50, _⟩ => ⟨S4096x128, .f32⟩
  | .hbm, ⟨51, _⟩ => ⟨S1024x256, .f32⟩
  | .hbm, ⟨52, _⟩ => ⟨S1024x2x2x64, .f32⟩
  | .hbm, ⟨53, _⟩ => ⟨S1024x2x2x64, .f32⟩
  | .hbm, ⟨54, _⟩ => ⟨S1024x256, .f32⟩
  | .hbm, ⟨55, _⟩ => ⟨S1024x128, .f32⟩
  | .hbm, ⟨56, _⟩ => ⟨S1024x1024, .f32⟩
  | .hbm, ⟨57, _⟩ => ⟨S1024x1536, .f32⟩
  | .hbm, ⟨58, _⟩ => ⟨S1024x128, .f32⟩
  | .hbm, ⟨59, _⟩ => ⟨S1024x64, .f32⟩
  | .hbm, ⟨60, _⟩ => ⟨S_, .f32⟩
  | .hbm, ⟨61, _⟩ => ⟨S1024x128, .f32⟩
  | .hbm, ⟨62, _⟩ => ⟨S1024x64, .f32⟩
  | .hbm, ⟨63, _⟩ => ⟨S1024x16, .f32⟩
  | .hbm, ⟨64, _⟩ => ⟨S_, .f32⟩
  | .hbm, ⟨65, _⟩ => ⟨S1024x112, .f32⟩
  | .hbm, ⟨66, _⟩ => ⟨S1024x3328, .f32⟩
  | .hbm, ⟨67, _⟩ => ⟨S1024x3328, .bf16⟩
  | .hbm, ⟨68, _⟩ => ⟨S_, .f32⟩
  | .hbm, ⟨69, _⟩ => ⟨S256x128, .f32⟩
  | .hbm, ⟨70, _⟩ => ⟨S4352x128, .f32⟩
  | .hbm, ⟨71, _⟩ => ⟨S_, .f32⟩
  | .hbm, ⟨72, _⟩ => ⟨S256x128, .f32⟩
  | .hbm, ⟨73, _⟩ => ⟨S4352x128, .f32⟩
  | .hbm, ⟨74, _⟩ => ⟨S_, .f32⟩
  | .hbm, ⟨75, _⟩ => ⟨S256x128, .f32⟩
  | .hbm, ⟨76, _⟩ => ⟨S4352x128, .f32⟩
  | .hbm, ⟨77, _⟩ => ⟨S1x64, .f32⟩
  | .hbm, ⟨78, _⟩ => ⟨S2x64, .f32⟩
  | .hbm, ⟨79, _⟩ => ⟨S128, .f32⟩
  | .hbm, ⟨80, _⟩ => ⟨S1x128, .f32⟩
  | .hbm, ⟨81, _⟩ => ⟨S1x64, .f32⟩
  | .hbm, ⟨82, _⟩ => ⟨S2x64, .f32⟩
  | .hbm, ⟨83, _⟩ => ⟨S128, .f32⟩
  | .hbm, ⟨84, _⟩ => ⟨S1x128, .f32⟩
  | .hbm, ⟨85, _⟩ => ⟨S1x34816x1024, .f32⟩
  | .hbm, ⟨86, _⟩ => ⟨S1x34816x512, .bf16⟩
  | .hbm, ⟨87, _⟩ => ⟨S1x34816x256, .bf16⟩
  | .hbm, ⟨88, _⟩ => ⟨S1x34816x256, .bf16⟩
  | .hbm, ⟨89, _⟩ => ⟨S1x34816x128, .f32⟩
  | .hbm, ⟨90, _⟩ => ⟨S1x34816x512, .bf16⟩
  | .hbm, ⟨91, _⟩ => ⟨S1x34816x512, .bf16⟩
  | .hbm, ⟨92, _⟩ => ⟨S1x34816x512, .bf16⟩
  | .hbm, ⟨93, _⟩ => ⟨S1x34816x256, .bf16⟩
  | .hbm, ⟨94, _⟩ => ⟨S1x34816x128, .bf16⟩
  | .hbm, ⟨95, _⟩ => ⟨S1x34816x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1024x3328, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S1x128, .f32⟩
  | .local _ .vmem, ⟨20, _⟩ => ⟨S1x128, .f32⟩
  | .local _ .vmem, ⟨21, _⟩ => ⟨S1x512x512, .bf16⟩
  | .local _ .vmem, ⟨22, _⟩ => ⟨S1x512x512, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x128, .f32⟩
  | .local _ .vmem, ⟨28, _⟩ => ⟨S1x512x128, .f32⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x512x256, .bf16⟩
  | .local _ .vmem, ⟨36, _⟩ => ⟨S1x512x256, .bf16⟩
  | .local _ .vmem, ⟨37, _⟩ => ⟨S1x512x128, .bf16⟩
  | .local _ .vmem, ⟨38, _⟩ => ⟨S1x512x128, .bf16⟩
  | .local _ .vmem, ⟨39, _⟩ => ⟨S1x512x256, .bf16⟩
  | .local _ .vmem, ⟨40, _⟩ => ⟨S1x512x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v11 : Ref sig .tc := ⟨.hbm, 45, rfl⟩
abbrev main_cst_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_4 : Ref sig .tc := ⟨.hbm, 68, rfl⟩
abbrev main_v28 : Ref sig .tc := ⟨.hbm, 69, rfl⟩
abbrev main_v29 : Ref sig .tc := ⟨.hbm, 70, rfl⟩
abbrev main_cst_5 : Ref sig .tc := ⟨.hbm, 71, rfl⟩
abbrev main_v30 : Ref sig .tc := ⟨.hbm, 72, rfl⟩
abbrev main_v31 : Ref sig .tc := ⟨.hbm, 73, rfl⟩
abbrev main_cst_6 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43_0 : Ref sig .tc := ⟨.hbm, 86, rfl⟩
abbrev main_v43_1 : Ref sig .tc := ⟨.hbm, 87, rfl⟩
abbrev main_v43_2 : Ref sig .tc := ⟨.hbm, 88, rfl⟩
abbrev main_v43_3 : Ref sig .tc := ⟨.hbm, 89, rfl⟩
abbrev main_v43_4 : Ref sig .tc := ⟨.hbm, 90, rfl⟩
abbrev main_v43_5 : Ref sig .tc := ⟨.hbm, 91, rfl⟩
abbrev main_v43_6 : Ref sig .tc := ⟨.hbm, 92, rfl⟩
abbrev main_v43_7 : Ref sig .tc := ⟨.hbm, 93, rfl⟩
abbrev main_v43_8 : Ref sig .tc := ⟨.hbm, 94, rfl⟩
abbrev main_v43_9 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c16_i32 : BitVec 32 := 16#32
  let v31 : BitVec 32 := Scalar.divsi v30 c16_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c16_i32 c0_i32_15
  let v38 : BitVec 32 := Scalar.extui v37
  let c0_i32_16 : BitVec 32 := 0#32
  let v39 : BitVec 1 := Scalar.cmpi .slt c16_i32 c0_i32_16
  let v40 : BitVec 32 := Scalar.extui v39
  let v41 : BitVec 32 := Scalar.subi v38 v40
  let v42 : BitVec 1 := Scalar.cmpi .ne v36 v41
  let v43 : BitVec 32 := Scalar.remsi v30 c16_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.minsi v47 c1_i32_19
  let c0_i32_20 : BitVec 32 := 0#32
  let c0_i32_21 : BitVec 32 := 0#32
  let c0_i32_22 : BitVec 32 := 0#32
  ![v18.toNat, v48.toNat, c0_i32_20.toNat, c0_i32_21.toNat]

def cc0_transform_2 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c17_i32_7 : BitVec 32 := 17#32
  let c0_i32_8 : BitVec 32 := 0#32
  let v21 : BitVec 1 := Scalar.cmpi .eq c17_i32_7 c0_i32_8
  let c1_i32_9 : BitVec 32 := 1#32
  let v22 : BitVec 32 := Scalar.select v21 c1_i32_9 c17_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c16_i32 : BitVec 32 := 16#32
  let v31 : BitVec 32 := Scalar.divsi v30 c16_i32
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c16_i32 c0_i32_15
  let v38 : BitVec 32 := Scalar.extui v37
  let c0_i32_16 : BitVec 32 := 0#32
  let v39 : BitVec 1 := Scalar.cmpi .slt c16_i32 c0_i32_16
  let v40 : BitVec 32 := Scalar.extui v39
  let v41 : BitVec 32 := Scalar.subi v38 v40
  let v42 : BitVec 1 := Scalar.cmpi .ne v36 v41
  let v43 : BitVec 32 := Scalar.remsi v30 c16_i32
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c1_i32_19 : BitVec 32 := 1#32
  let v48 : BitVec 32 := Scalar.minsi v47 c1_i32_19
  let c0_i32_20 : BitVec 32 := 0#32
  let c0_i32_21 : BitVec 32 := 0#32
  let c0_i32_22 : BitVec 32 := 0#32
  ![v18.toNat, v48.toNat, c0_i32_20.toNat, c0_i32_21.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c17_i32 : BitVec 32 := 17#32
  let c0_i32_0 : BitVec 32 := 0#32
  let v2 : BitVec 1 := Scalar.cmpi .eq c17_i32 c0_i32_0
  let c1_i32 : BitVec 32 := 1#32
  let v3 : BitVec 32 := Scalar.select v2 c1_i32 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c17_i32 : BitVec 32 := 17#32
  let c0_i32 : BitVec 32 := 0#32
  let v2 : BitVec 1 := Scalar.cmpi .eq c17_i32 c0_i32
  let c1_i32_0 : BitVec 32 := 1#32
  let v3 : BitVec 32 := Scalar.select v2 c1_i32_0 c17_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S8x4352x1024 : Shape := ⟨3, ![8, 4352, 1024]⟩
abbrev S8x6144 : Shape := ⟨2, ![8, 6144]⟩
abbrev S6144 : Shape := ⟨1, ![6144]⟩
abbrev S1024x3088 : Shape := ⟨2, ![1024, 3088]⟩
abbrev S4096x64 : Shape := ⟨2, ![4096, 64]⟩
abbrev S64 : Shape := ⟨1, ![64]⟩
abbrev S8x1x6144 : Shape := ⟨3, ![8, 1, 6144]⟩
abbrev S8x4096x6144 : Shape := ⟨3, ![8, 4096, 6144]⟩
abbrev S8x256x6144 : Shape := ⟨3, ![8, 256, 6144]⟩
abbrev S8x4352x6144 : Shape := ⟨3, ![8, 4352, 6144]⟩
abbrev S_ : Shape := ⟨0, ![]⟩
abbrev S8x4352x3088 : Shape := ⟨3, ![8, 4352, 3088]⟩
abbrev S8x4352x512 : Shape := ⟨3, ![8, 4352, 512]⟩
abbrev S8x4352x256 : Shape := ⟨3, ![8, 4352, 256]⟩
abbrev S8x4352x16 : Shape := ⟨3, ![8, 4352, 16]⟩
abbrev S8x4352x128 : Shape := ⟨3, ![8, 4352, 128]⟩
abbrev S8x4352x4x64 : Shape := ⟨4, ![8, 4352, 4, 64]⟩
abbrev S8x4352x4 : Shape := ⟨3, ![8, 4352, 4]⟩
abbrev S8x4352x4x1 : Shape := ⟨4, ![8, 4352, 4, 1]⟩
abbrev S1x1x1x64 : Shape := ⟨4, ![1, 1, 1, 64]⟩
abbrev S8x4096x4x64 : Shape := ⟨4, ![8, 4096, 4, 64]⟩
abbrev S8x4096x4x32 : Shape := ⟨4, ![8, 4096, 4, 32]⟩
abbrev S8x4096x4x16 : Shape := ⟨4, ![8, 4096, 4, 16]⟩
abbrev S4096x1x64 : Shape := ⟨3, ![4096, 1, 64]⟩
abbrev S1x4096x1x64 : Shape := ⟨4, ![1, 4096, 1, 64]⟩
abbrev S8x256x4x64 : Shape := ⟨4, ![8, 256, 4, 64]⟩
abbrev S8x4352x2x2x64 : Shape := ⟨5, ![8, 4352, 2, 2, 64]⟩
abbrev S8x4352x2x64 : Shape := ⟨4, ![8, 4352, 2, 64]⟩
abbrev S8x4352x2 : Shape := ⟨3, ![8, 4352, 2]⟩
abbrev S8x4352x2x1 : Shape := ⟨4, ![8, 4352, 2, 1]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩
abbrev S8x256x2x64 : Shape := ⟨4, ![8, 256, 2, 64]⟩
abbrev S8x4352x1 : Shape := ⟨3, ![8, 4352, 1]⟩
abbrev S8x4352x63 : Shape := ⟨3, ![8, 4352, 63]⟩
abbrev S8x4352x64 : Shape := ⟨3, ![8, 4352, 64]⟩
abbrev S1x34816x512 : Shape := ⟨3, ![1, 34816, 512]⟩
abbrev S1x34816x256 : Shape := ⟨3, ![1, 34816, 256]⟩
abbrev S1x34816x128 : Shape := ⟨3, ![1, 34816, 128]⟩
abbrev S8x4352x8x64 : Shape := ⟨4, ![8, 4352, 8, 64]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S8x256x8x64 : Shape := ⟨4, ![8, 256, 8, 64]⟩

abbrev nBuf : Space → Nat
  | .hbm => 193
  | .vmem => 0
  | .smem => 0
  | _ => 0

abbrev hbmTy0_0 (i : Nat) : BufTy := match i % 128 with
  | 0 => ⟨S8x4352x1024, .f32⟩
  | 1 => ⟨S8x6144, .f32⟩
  | 2 => ⟨S6144, .f32⟩
  | 3 => ⟨S1024x3088, .f32⟩
  | 4 => ⟨S4096x64, .f32⟩
  | 5 => ⟨S4096x64, .f32⟩
  | 6 => ⟨S64, .f32⟩
  | 7 => ⟨S64, .f32⟩
  | 8 => ⟨S8x1x6144, .f32⟩
  | 9 => ⟨S8x4096x6144, .f32⟩
  | 10 => ⟨S8x256x6144, .f32⟩
  | 11 => ⟨S8x4352x6144, .f32⟩
  | 12 => ⟨S8x4352x1024, .f32⟩
  | 13 => ⟨S8x4352x1024, .f32⟩
  | 14 => ⟨S8x4352x1024, .f32⟩
  | 15 => ⟨S8x4352x1024, .f32⟩
  | 16 => ⟨S8x4352x1024, .f32⟩
  | 17 => ⟨S8x4352x1024, .f32⟩
  | 18 => ⟨S_, .f32⟩
  | 19 => ⟨S8x4352x1024, .f32⟩
  | 20 => ⟨S8x4352x1024, .f32⟩
  | 21 => ⟨S8x4352x1024, .f32⟩
  | 22 => ⟨S8x4352x1024, .f32⟩
  | 23 => ⟨S8x4352x3088, .f32⟩
  | 24 => ⟨S8x4352x512, .f32⟩
  | 25 => ⟨S8x4352x256, .f32⟩
  | 26 => ⟨S8x4352x256, .f32⟩
  | 27 => ⟨S8x4352x16, .f32⟩
  | 28 => ⟨S8x4352x512, .f32⟩
  | 29 => ⟨S8x4352x512, .f32⟩
  | 30 => ⟨S8x4352x512, .f32⟩
  | 31 => ⟨S8x4352x256, .f32⟩
  | 32 => ⟨S8x4352x128, .f32⟩
  | 33 => ⟨S8x4352x128, .f32⟩
  | 34 => ⟨S8x4352x4x64, .f32⟩
  | 35 => ⟨S8x4352x4x64, .f32⟩
  | 36 => ⟨S_, .f32⟩
  | 37 => ⟨S8x4352x4, .f32⟩
  | 38 => ⟨S8x4352x4x1, .f32⟩
  | 39 => ⟨S_, .f32⟩
  | 40 => ⟨S8x4352x4x1, .f32⟩
  | 41 => ⟨S8x4352x4x1, .f32⟩
  | 42 => ⟨S_, .f32⟩
  | 43 => ⟨S8x4352x4x1, .f32⟩
  | 44 => ⟨S8x4352x4x1, .f32⟩
  | 45 => ⟨S8x4352x4x1, .f32⟩
  | 46 => ⟨S8x4352x4x64, .f32⟩
  | 47 => ⟨S8x4352x4x64, .f32⟩
  | 48 => ⟨S1x1x1x64, .f32⟩
  | 49 => ⟨S8x4352x4x64, .f32⟩
  | 50 => ⟨S8x4352x4x64, .f32⟩
  | 51 => ⟨S8x4096x4x64, .f32⟩
  | 52 => ⟨S8x4096x4x32, .f32⟩
  | 53 => ⟨S8x4096x4x32, .f32⟩
  | 54 => ⟨S8x4096x4x16, .f32⟩
  | 55 => ⟨S8x4096x4x16, .f32⟩
  | 56 => ⟨S8x4096x4x16, .f32⟩
  | 57 => ⟨S8x4096x4x32, .f32⟩
  | 58 => ⟨S8x4096x4x16, .f32⟩
  | 59 => ⟨S8x4096x4x16, .f32⟩
  | 60 => ⟨S8x4096x4x16, .f32⟩
  | 61 => ⟨S8x4096x4x32, .f32⟩
  | 62 => ⟨S8x4096x4x64, .f32⟩
  | 63 => ⟨S4096x1x64, .f32⟩
  | 64 => ⟨S1x4096x1x64, .f32⟩
  | 65 => ⟨S8x4096x4x64, .f32⟩
  | 66 => ⟨S8x4096x4x64, .f32⟩
  | 67 => ⟨S4096x1x64, .f32⟩
  | 68 => ⟨S1x4096x1x64, .f32⟩
  | 69 => ⟨S8x4096x4x64, .f32⟩
  | 70 => ⟨S8x4096x4x64, .f32⟩
  | 71 => ⟨S8x4096x4x64, .f32⟩
  | 72 => ⟨S8x256x4x64, .f32⟩
  | 73 => ⟨S8x4352x4x64, .f32⟩
  | 74 => ⟨S8x4352x2x2x64, .f32⟩
  | 75 => ⟨S8x4352x2x2x64, .f32⟩
  | 76 => ⟨S8x4352x2x64, .f32⟩
  | 77 => ⟨S8x4352x2x64, .f32⟩
  | 78 => ⟨S_, .f32⟩
  | 79 => ⟨S8x4352x2, .f32⟩
  | 80 => ⟨S8x4352x2x1, .f32⟩
  | 81 => ⟨S_, .f32⟩
  | 82 => ⟨S8x4352x2x1, .f32⟩
  | 83 => ⟨S8x4352x2x1, .f32⟩
  | 84 => ⟨S_, .f32⟩
  | 85 => ⟨S8x4352x2x1, .f32⟩
  | 86 => ⟨S8x4352x2x1, .f32⟩
  | 87 => ⟨S8x4352x2x1, .f32⟩
  | 88 => ⟨S8x4352x2x64, .f32⟩
  | 89 => ⟨S8x4352x2x64, .f32⟩
  | 90 => ⟨S1x1x1x64, .f32⟩
  | 91 => ⟨S8x4352x2x64, .f32⟩
  | 92 => ⟨S8x4352x2x64, .f32⟩
  | 93 => ⟨S8x4096x2x64, .f32⟩
  | 94 => ⟨S8x4096x2x32, .f32⟩
  | 95 => ⟨S8x4096x2x32, .f32⟩
  | 96 => ⟨S8x4096x2x16, .f32⟩
  | 97 => ⟨S8x4096x2x16, .f32⟩
  | 98 => ⟨S8x4096x2x16, .f32⟩
  | 99 => ⟨S8x4096x2x32, .f32⟩
  | 100 => ⟨S8x4096x2x16, .f32⟩
  | 101 => ⟨S8x4096x2x16, .f32⟩
  | 102 => ⟨S8x4096x2x16, .f32⟩
  | 103 => ⟨S8x4096x2x32, .f32⟩
  | 104 => ⟨S8x4096x2x64, .f32⟩
  | 105 => ⟨S4096x1x64, .f32⟩
  | 106 => ⟨S1x4096x1x64, .f32⟩
  | 107 => ⟨S8x4096x2x64, .f32⟩
  | 108 => ⟨S8x4096x2x64, .f32⟩
  | 109 => ⟨S4096x1x64, .f32⟩
  | 110 => ⟨S1x4096x1x64, .f32⟩
  | 111 => ⟨S8x4096x2x64, .f32⟩
  | 112 => ⟨S8x4096x2x64, .f32⟩
  | 113 => ⟨S8x4096x2x64, .f32⟩
  | 114 => ⟨S8x256x2x64, .f32⟩
  | 115 => ⟨S8x4352x2x64, .f32⟩
  | 116 => ⟨S_, .i32⟩
  | 117 => ⟨S_, .f32⟩
  | 118 => ⟨S8x4352x128, .f32⟩
  | 119 => ⟨S_, .f32⟩
  | 120 => ⟨S8x4352x1, .f32⟩
  | 121 => ⟨S_, .f32⟩
  | 122 => ⟨S8x4352x63, .f32⟩
  | 123 => ⟨S8x4352x64, .f32⟩
  | 124 => ⟨S8x4352x64, .f32⟩
  | 125 => ⟨S8x4352x256, .f32⟩
  | 126 => ⟨S1x34816x512, .f32⟩
  | 127 => ⟨S1x34816x512, .bf16⟩
  | _ => ⟨S8x4352x1024, .f32⟩

abbrev hbmTy0_1 (i : Nat) : BufTy := match i % 128 with
  | 0 => ⟨S1x34816x256, .f32⟩
  | 1 => ⟨S1x34816x256, .bf16⟩
  | 2 => ⟨S1x34816x256, .f32⟩
  | 3 => ⟨S1x34816x256, .bf16⟩
  | 4 => ⟨S1x34816x128, .f32⟩
  | 5 => ⟨S8x4352x8x64, .f32⟩
  | 6 => ⟨S8x4096x8x64, .f32⟩
  | 7 => ⟨S8x4096x8x32, .f32⟩
  | 8 => ⟨S8x4096x8x32, .f32⟩
  | 9 => ⟨S8x4096x8x16, .f32⟩
  | 10 => ⟨S8x4096x8x16, .f32⟩
  | 11 => ⟨S8x4096x8x16, .f32⟩
  | 12 => ⟨S8x4096x8x32, .f32⟩
  | 13 => ⟨S8x4096x8x16, .f32⟩
  | 14 => ⟨S8x4096x8x16, .f32⟩
  | 15 => ⟨S8x4096x8x16, .f32⟩
  | 16 => ⟨S8x4096x8x32, .f32⟩
  | 17 => ⟨S8x4096x8x64, .f32⟩
  | 18 => ⟨S4096x1x64, .f32⟩
  | 19 => ⟨S1x4096x1x64, .f32⟩
  | 20 => ⟨S8x4096x8x64, .f32⟩
  | 21 => ⟨S8x4096x8x64, .f32⟩
  | 22 => ⟨S4096x1x64, .f32⟩
  | 23 => ⟨S1x4096x1x64, .f32⟩
  | 24 => ⟨S8x4096x8x64, .f32⟩
  | 25 => ⟨S8x4096x8x64, .f32⟩
  | 26 => ⟨S8x4096x8x64, .f32⟩
  | 27 => ⟨S8x256x8x64, .f32⟩
  | 28 => ⟨S8x4352x8x64, .f32⟩
  | 29 => ⟨S1x34816x512, .f32⟩
  | 30 => ⟨S1x34816x512, .bf16⟩
  | 31 => ⟨S8x4352x8x64, .f32⟩
  | 32 => ⟨S8x4096x8x64, .f32⟩
  | 33 => ⟨S8x4096x8x32, .f32⟩
  | 34 => ⟨S8x4096x8x32, .f32⟩
  | 35 => ⟨S8x4096x8x16, .f32⟩
  | 36 => ⟨S8x4096x8x16, .f32⟩
  | 37 => ⟨S8x4096x8x16, .f32⟩
  | 38 => ⟨S8x4096x8x32, .f32⟩
  | 39 => ⟨S8x4096x8x16, .f32⟩
  | 40 => ⟨S8x4096x8x16, .f32⟩
  | 41 => ⟨S8x4096x8x16, .f32⟩
  | 42 => ⟨S8x4096x8x32, .f32⟩
  | 43 => ⟨S8x4096x8x64, .f32⟩
  | 44 => ⟨S4096x1x64, .f32⟩
  | 45 => ⟨S1x4096x1x64, .f32⟩
  | 46 => ⟨S8x4096x8x64, .f32⟩
  | 47 => ⟨S8x4096x8x64, .f32⟩
  | 48 => ⟨S4096x1x64, .f32⟩
  | 49 => ⟨S1x4096x1x64, .f32⟩
  | 50 => ⟨S8x4096x8x64, .f32⟩
  | 51 => ⟨S8x4096x8x64, .f32⟩
  | 52 => ⟨S8x4096x8x64, .f32⟩
  | 53 => ⟨S8x256x8x64, .f32⟩
  | 54 => ⟨S8x4352x8x64, .f32⟩
  | 55 => ⟨S1x34816x512, .f32⟩
  | 56 => ⟨S1x34816x512, .bf16⟩
  | 57 => ⟨S1x34816x512, .f32⟩
  | 58 => ⟨S1x34816x512, .bf16⟩
  | 59 => ⟨S1x34816x256, .f32⟩
  | 60 => ⟨S1x34816x256, .bf16⟩
  | 61 => ⟨S1x34816x128, .f32⟩
  | 62 => ⟨S1x34816x128, .bf16⟩
  | 63 => ⟨S1x34816x256, .f32⟩
  | 64 => ⟨S1x34816x256, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_3 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_v69 : Ref sig .tc := ⟨.hbm, 83, rfl⟩
abbrev main_cst_5 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_c : Ref sig .tc := ⟨.hbm, 116, rfl⟩
abbrev main_call0_v0 : Ref sig .tc := ⟨.hbm, 117, rfl⟩
abbrev main_v101 : Ref sig .tc := ⟨.hbm, 118, rfl⟩
abbrev main_cst_6 : Ref sig .tc := ⟨.hbm, 119, rfl⟩
abbrev main_v102 : Ref sig .tc := ⟨.hbm, 120, rfl⟩
abbrev main_cst_7 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩

abbrev nD : Nat := 1
abbrev τ : Topo := Topo.v7x

variable {F : FTy → Type} [FloatOps F]
-- ==== Proof.Online.lean ====
/-
The arithmetic of a softmax that is built block of keys after block of keys, over the extended reals at real entries:
the carried pair of a running maximum and of a weighted sum that is scaled by it.
-/
module

public import Idealize.ShloMosaic.PureOps.Ideal
public import Idealize.ShloMosaic.Lib.Pointwise

@[expose] public section

set_option maxRecDepth 16384

noncomputable section

namespace Cert.Online

open Idealize.ShloMosaic

/-- The word of minus infinity denotes it. -/
theorem ofBits_neg_inf : Ideal.ofBits .f32 0xFF800000#32 = ⊥ := by
  simp [Ideal.ofBits, Ideal.ieee]

/-- A finite sum of real numbers, taken over the extended reals, is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- The largest of finitely many real numbers, and minus infinity, is minus infinity or real. -/
theorem fold_max_cases {ι : Type} (s : Finset ι) (f : ι → ℝ) :
    (s = ∅ ∧ s.fold max (⊥ : EReal) (fun k => (f k : EReal)) = ⊥) ∨
      ∃ μ : ℝ, s.fold max (⊥ : EReal) (fun k => (f k : EReal)) = μ := by
  classical
  induction s using Finset.induction_on with
  | empty => exact .inl ⟨rfl, rfl⟩
  | insert a s h ih =>
    refine .inr ?_
    rw [Finset.fold_insert h]
    rcases ih with ⟨-, e⟩ | ⟨μ, e⟩
    · exact ⟨f a, by rw [e]; exact max_bot_right _⟩
    · exact ⟨max (f a) μ, by rw [e]; exact (EReal.coe_strictMono.monotone.map_max).symm⟩

/-- The largest of `n + 1` real numbers, computed from minus infinity, is a real number. -/
theorem fold_max (n : ℕ) [NeZero n] (f : Fin n → ℝ) :
    ∃ μ : ℝ, (Finset.univ : Finset (Fin n)).fold max (Ideal.ofBits .f32 0xFF800000#32) (fun k => (f k : EReal)) = μ := by
  rw [ofBits_neg_inf]
  rcases fold_max_cases (Finset.univ : Finset (Fin n)) f with ⟨h, -⟩ | h
  · exact absurd h (Finset.univ_nonempty (α := Fin n)).ne_empty
  · exact h

/-- The power of two, as a real function. -/
def p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

theorem p2_sub_mul (s μ : ℝ) : p2 (s - μ) = p2 (-μ) * p2 s := by
  rw [← p2_add]; congr 1; ring

theorem exp2_sub (s μ : ℝ) : Ideal.exp2 ((s : EReal) - (μ : EReal)) = ((p2 (s - μ) : ℝ) : EReal) := by
  rw [← EReal.coe_sub]; rfl

/-- What is carried between two blocks of keys: a real number `m`, and at every lane `l` the sum `Z l` over the keys
    seen, scaled by `2 ^ (-m)`. -/
def Held {L : Type} (m : EReal) (a : L → EReal) (Z : L → ℝ) : Prop :=
  ∃ μ : ℝ, m = μ ∧ ∀ l, a l = ((p2 (-μ) * Z l : ℝ) : EReal)

/-- One block's weighted sum at a real number `μ`. -/
theorem block_sum {n : ℕ} {L : Type} (e : Fin n → EReal) (w : Fin n → L → EReal) (s : Fin n → ℝ) (v : Fin n → L → ℝ)
    (he : ∀ k, e k = (s k : EReal)) (hw : ∀ k l, w k l = (v k l : EReal)) (μ : ℝ) (l : L) :
    (∑ k, Ideal.exp2 (e k - (μ : EReal)) * w k l) = ((p2 (-μ) * ∑ k, p2 (s k) * v k l : ℝ) : EReal) := by
  rw [Finset.mul_sum, ← coe_sum]
  refine Finset.sum_congr rfl fun k _ => ?_
  rw [he, hw, exp2_sub, p2_sub_mul, ← EReal.coe_mul, mul_assoc]

/-- The first block. -/
theorem Held.first {n : ℕ} [NeZero n] {L : Type} {e : Fin n → EReal} {w : Fin n → L → EReal} {s : Fin n → ℝ}
    {v : Fin n → L → ℝ} (he : ∀ k, e k = (s k : EReal)) (hw : ∀ k l, w k l = (v k l : EReal)) :
    Held (Finset.univ.fold max (Ideal.ofBits .f32 0xFF800000#32) e)
      (fun l => ∑ k, Ideal.exp2 (e k - Finset.univ.fold max (Ideal.ofBits .f32 0xFF800000#32) e) * w k l)
      (fun l => ∑ k, p2 (s k) * v k l) := by
  obtain ⟨μ, hμ⟩ := fold_max n s
  have h : Finset.univ.fold max (Ideal.ofBits .f32 0xFF800000#32) e = (μ : EReal) := by
    rw [← hμ]; exact congrArg (fun f => Finset.fold max _ f _) (funext he)
  exact ⟨μ, h, fun l => by rw [h]; exact block_sum e w s v he hw μ l⟩

/-- A further block. -/
theorem Held.step {n : ℕ} [NeZero n] {L : Type} {m : EReal} {a : L → EReal} {Z : L → ℝ} (H : Held m a Z)
    {e : Fin n → EReal} {w : Fin n → L → EReal} {s : Fin n → ℝ} {v : Fin n → L → ℝ}
    (he : ∀ k, e k = (s k : EReal)) (hw : ∀ k l, w k l = (v k l : EReal)) :
    Held (max m (Finset.univ.fold max (Ideal.ofBits .f32 0xFF800000#32) e))
      (fun l => Ideal.exp2 (m - max m (Finset.univ.fold max (Ideal.ofBits .f32 0xFF800000#32) e)) * a l
        + ∑ k, Ideal.exp2 (e k - max m (Finset.univ.fold max (Ideal.ofBits .f32 0xFF800000#32) e)) * w k l)
      (fun l => Z l + ∑ k, p2 (s k) * v k l) := by
  obtain ⟨μ, rfl, ha⟩ := H
  obtain ⟨ν, hν⟩ := fold_max n s
  have h : Finset.univ.fold max (Ideal.ofBits .f32 0xFF800000#32) e = (ν : EReal) := by
    rw [← hν]; exact congrArg (fun f => Finset.fold max _ f _) (funext he)
  have h' : max (μ : EReal) (ν : EReal) = ((max μ ν : ℝ) : EReal) := (EReal.coe_strictMono.monotone.map_max).symm
  refine ⟨max μ ν, by rw [h, h'], fun l => ?_⟩
  beta_reduce
  rw [h, h', block_sum e w s v he hw, exp2_sub, ha, ← EReal.coe_mul, ← EReal.coe_add]
  refine congrArg _ ?_
  rw [mul_add, ← mul_assoc, ← p2_add]
  congr 3; ring

/-- The carried pair at another description of the sums. -/
theorem Held.congr {L : Type} {m : EReal} {a : L → EReal} {Z Z' : L → ℝ} (H : Held m a Z) (h : ∀ l, Z l = Z' l) :
    Held m a Z' := by
  rwa [show Z' = Z from funext fun l => (h l).symm]

/-- The end: a lane over the lane that sums the weights. -/
theorem Held.ratio {L : Type} {m : EReal} {a : L → EReal} {Z : L → ℝ} (H : Held m a Z) (l l₀ : L) (h0 : Z l₀ ≠ 0) :
    a l * Ideal.div 1 (a l₀) = ((Z l / Z l₀ : ℝ) : EReal) := by
  obtain ⟨μ, -, ha⟩ := H
  have hp := (p2_pos (-μ)).ne'
  rw [ha, ha, Ideal.div_coe (mul_ne_zero hp h0), one_mul, ← EReal.coe_mul]
  refine congrArg _ ?_
  field_simp

/-- The plain softmax of real scores, as the reference computes it: the weight of key `j`. -/
theorem softmax_entry {n : ℕ} [NeZero n] (e : Fin n → EReal) (s : Fin n → ℝ) (he : ∀ k, e k = (s k : EReal))
    (j : Fin n) :
    Ideal.div (Ideal.exp (e j - max (Ideal.ofBits .f32 0xFF800000#32)
        (Finset.univ.fold max (Ideal.ofBits .f32 0xFF800000#32) e)))
      (∑ k, Ideal.exp (e k - max (Ideal.ofBits .f32 0xFF800000#32)
        (Finset.univ.fold max (Ideal.ofBits .f32 0xFF800000#32) e)))
      = ((Real.exp (s j) / ∑ k, Real.exp (s k) : ℝ) : EReal) := by
  obtain ⟨μ, hμ⟩ := fold_max n s
  have h : max (Ideal.ofBits .f32 0xFF800000#32) (Finset.univ.fold max (Ideal.ofBits .f32 0xFF800000#32) e) = (μ : EReal) := by
    rw [show Finset.univ.fold max (Ideal.ofBits .f32 0xFF800000#32) e = (μ : EReal) by
      rw [← hμ]; exact congrArg (fun f => Finset.fold max _ f _) (funext he), ofBits_neg_inf]
    exact max_bot_left _
  have hx : ∀ k, Ideal.exp (e k - (μ : EReal)) = ((Real.exp (-μ) * Real.exp (s k) : ℝ) : EReal) := fun k => by
    rw [he, ← EReal.coe_sub, Ideal.exp_coe, sub_eq_add_neg, add_comm, Real.exp_add]
  have hpos : 0 < ∑ k, Real.exp (s k) := Finset.sum_pos (fun k _ => Real.exp_pos _) ⟨j, Finset.mem_univ _⟩
  rw [h]
  simp only [hx]
  rw [coe_sum, ← Finset.mul_sum, Ideal.div_coe (mul_ne_zero (Real.exp_ne_zero _) hpos.ne'), ← EReal.coe_mul]
  refine congrArg _ ?_
  have := Real.exp_ne_zero (-μ)
  field_simp

/-- The scaled score of the kernel as an exponent of two is the reference's as an exponent of `e`. -/
theorem p2_score (x : ℝ) : p2 (x * (8 * Real.log 2)⁻¹) = Real.exp (x * (1 / 8)) := by
  have hl : Real.log 2 ≠ 0 := (Real.log_pos (by norm_num)).ne'
  rw [p2, Real.rpow_eq_pow, Real.rpow_def_of_pos (by norm_num)]
  congr 1
  field_simp

end Cert.Online

end
-- ==== Proof.Rows.lean ====
/-
The mathematics of one output row: two softmax averages of the values, their difference, normalised and gained.
-/
module

public import proofs.«01_k».proof.Proof.Online

@[expose] public section

set_option maxRecDepth 16384

noncomputable section

namespace Cert.Online

open Idealize.ShloMosaic

/-- Column `d` of half `e` of a head. -/
def half (e : Fin 2) (d : Fin 64) : Fin 128 := ⟨e * 64 + d, by omega⟩

/-- The score of a query row and a key row in half `e`. -/
def dotH (e : Fin 2) (q k : Fin 128 → ℝ) : ℝ := ∑ d, q (half e d) * k (half e d)

/-- The softmax weight, without its denominator. -/
def wgt (e : Fin 2) (q k : Fin 128 → ℝ) : ℝ := Real.exp (dotH e q k * (1 / 8))

/-- The softmax average of the values under map `e`. -/
def av {n : ℕ} (e : Fin 2) (q : Fin 128 → ℝ) (K V : Fin n → Fin 128 → ℝ) (l : Fin 128) : ℝ :=
  (∑ j, wgt e q (K j) * V j l) / ∑ j, wgt e q (K j)

/-- The difference of the two maps. -/
def outv {n : ℕ} (lam : ℝ) (q : Fin 128 → ℝ) (K V : Fin n → Fin 128 → ℝ) (l : Fin 128) : ℝ :=
  av 0 q K V l - lam * av 1 q K V l

/-- A row normalised by its root mean square and gained. -/
def gained (o : Fin 128 → ℝ) (g : Fin 128 → EReal) (l : Fin 128) : EReal :=
  (o l : EReal) * Ideal.rsqrt (Ideal.div (∑ x, (o x : EReal) * (o x : EReal)) (Ideal.ofBits .f32 0x43000000#32)
    + Ideal.ofBits .f32 0x3727C5AC#32) * (g l * Ideal.ofBits .f32 0x3F4CCCCD#32)

/-- The query row of map `e`, scaled, with zeros in the other half. -/
def masked (e : Fin 2) (q : Fin 128 → ℝ) (d : Fin 128) : ℝ :=
  if (d : ℕ) / 64 = e then q d * (8 * Real.log 2)⁻¹ else 0

theorem dot_masked (e : Fin 2) (q k : Fin 128 → ℝ) : ∑ d, masked e q d * k d = dotH e q k * (8 * Real.log 2)⁻¹ := by
  rw [Fin.sum_univ_two_halves 64 64 rfl (fun d => masked e q d * k d), dotH, Finset.sum_mul, ← Finset.sum_add_distrib]
  refine Finset.sum_congr rfl fun d _ => ?_
  have h0 : (d : ℕ) / 64 = 0 := by omega
  have h1 : (64 + (d : ℕ)) / 64 = 1 := by omega
  have h2 : half 0 d = ⟨d, by omega⟩ := Fin.ext (by simp [half])
  have h3 : half 1 d = ⟨64 + d, by omega⟩ := Fin.ext (by simp [half])
  match e with
  | 0 => rw [h2]; simp only [masked, h0, h1]; simp; ring
  | 1 => rw [h3]; simp only [masked, h0, h1]; simp; ring

theorem p2_masked (e : Fin 2) (q k : Fin 128 → ℝ) : p2 (∑ d, masked e q d * k d) = wgt e q k := by
  rw [dot_masked, p2_score, wgt]

theorem wgt_pos (e : Fin 2) (q k : Fin 128 → ℝ) : 0 < wgt e q k := Real.exp_pos _

theorem wgt_sum_ne {n : ℕ} [NeZero n] (e : Fin 2) (q : Fin 128 → ℝ) (K : Fin n → Fin 128 → ℝ) : ∑ j, wgt e q (K j) ≠ 0 :=
  (Finset.sum_pos (fun _ _ => wgt_pos _ _ _) ⟨0, Finset.mem_univ _⟩).ne'

/-- A sum over all the keys, block after block. -/
theorem sum_blocks (f : Fin 4352 → ℝ) :
    ∑ j, f j = ∑ k : Fin 1024, f ⟨k, by omega⟩ + ∑ k : Fin 1024, f ⟨1024 + k, by omega⟩
      + ∑ k : Fin 1024, f ⟨2048 + k, by omega⟩ + ∑ k : Fin 1024, f ⟨3072 + k, by omega⟩
      + ∑ k : Fin 256, f ⟨4096 + k, by omega⟩ := by
  rw [show (∑ j, f j) = _ from Fin.sum_univ_add (a := 4096) (b := 256) f,
    show (∑ j : Fin 4096, f (Fin.castAdd 256 j)) = _ from Fin.sum_univ_add (a := 3072) (b := 1024) _,
    show (∑ j : Fin 3072, f (Fin.castAdd 256 (Fin.castAdd 1024 j))) = _ from Fin.sum_univ_add (a := 2048) (b := 1024) _,
    show (∑ j : Fin 2048, f (Fin.castAdd 256 (Fin.castAdd 1024 (Fin.castAdd 1024 j)))) = _ from
      Fin.sum_univ_add (a := 1024) (b := 1024) _]
  rfl

/-- Output row `t` of one head, from the head's query, key and value rows: a row before row 4096 sees every key, a later
    row the keys from 4096 on. -/
def headRow (lam : ℝ) (g : Fin 128 → EReal) (Q K V : Fin 4352 → Fin 128 → ℝ) (t : Fin 4352) (l : Fin 128) : EReal :=
  if (t : ℕ) < 4096 then gained (outv lam (Q t) K V) g l
  else gained (outv lam (Q t) (fun j : Fin 256 => K ⟨4096 + j, by omega⟩) (fun j : Fin 256 => V ⟨4096 + j, by omega⟩)) g l

end Cert.Online

end
-- ==== Proof.RefStages.lean ====
/-
The reference's operations in named stages, and each stage at an index.
-/
module

public import proofs.«01_k».proof.Proof.Gen.ReferenceIdeal.Run
public import proofs.«01_k».proof.Proof.Rows
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Online

/-- The first halves of the heads. -/
def first (x : FVec Ideal S8x4352x512 .f32) : FVec Ideal S8x4x4352x64 .f32 :=
  shapeCast S8x4x4352x64 (extractStridedSlice S8x4x1x4352x64 ![0, 0, 0, 0, 0] (transpose S8x4x2x4352x64 [0, 2, 3, 1, 4]
    (shapeCast S8x4352x4x2x64 x shapeCasts_S8x4352x512_S8x4352x4x2x64) transposes_S8x4352x4x2x64_S8x4x2x4352x64_0_2_3_1_4)
    slices_S8x4x2x4352x64_S8x4x1x4352x64_0_0_0_0_0) shapeCasts_S8x4x1x4352x64_S8x4x4352x64

/-- The second halves of the heads. -/
def second (x : FVec Ideal S8x4352x512 .f32) : FVec Ideal S8x4x4352x64 .f32 :=
  shapeCast S8x4x4352x64 (extractStridedSlice S8x4x1x4352x64 ![0, 0, 1, 0, 0] (transpose S8x4x2x4352x64 [0, 2, 3, 1, 4]
    (shapeCast S8x4352x4x2x64 x shapeCasts_S8x4352x512_S8x4352x4x2x64) transposes_S8x4352x4x2x64_S8x4x2x4352x64_0_2_3_1_4)
    slices_S8x4x2x4352x64_S8x4x1x4352x64_0_0_1_0_0) shapeCasts_S8x4x1x4352x64_S8x4x4352x64

/-- The heads of the values. -/
def heads (x : FVec Ideal S8x4352x512 .f32) : FVec Ideal S8x4x4352x128 .f32 :=
  transpose S8x4x4352x128 [0, 2, 1, 3] (shapeCast S8x4352x4x128 x shapeCasts_S8x4352x512_S8x4352x4x128)
    transposes_S8x4352x4x128_S8x4x4352x128_0_2_1_3

/-- The second map's weight. -/
def lam (x : FVec Ideal S4x64 .f32) : FVec Ideal S_ .f32 :=
  addf (subf
    (Host.exp (Host.reduceAdd (mulf (shapeCast S64 (extractStridedSlice S1x64 ![0, 0] x slices_S4x64_S1x64_0_0) shapeCasts_S1x64_S64)
      (shapeCast S64 (extractStridedSlice S1x64 ![1, 0] x slices_S4x64_S1x64_1_0) shapeCasts_S1x64_S64))
      (constant S_ .f32 0x00000000#32) reducesTo_S64_S_d0 h_S_))
    (Host.exp (Host.reduceAdd (mulf (shapeCast S64 (extractStridedSlice S1x64 ![2, 0] x slices_S4x64_S1x64_2_0) shapeCasts_S1x64_S64)
      (shapeCast S64 (extractStridedSlice S1x64 ![3, 0] x slices_S4x64_S1x64_3_0) shapeCasts_S1x64_S64))
      (constant S_ .f32 0x00000000#32) reducesTo_S64_S_d0 h_S_)))
    (constant S_ .f32 0x3E4CCCCD#32)

/-- Scores of the first 4096 queries. -/
def score (q : FVec Ideal S8x4x4352x64 .f32) (k : FVec Ideal S8x4x4352x64 .f32) : FVec Ideal S8x4x4096x4352 .f32 :=
  mulf (Host.dotGeneral dot_S8x4x4096x64_S8x4x4352x64_S8x4x4096x4352_3_3_2_2_01_01 none
    (extractStridedSlice S8x4x4096x64 ![0, 0, 0, 0] q slices_S8x4x4352x64_S8x4x4096x64_0_0_0_0) k)
    (broadcastInDim S8x4x4096x4352 ![] bcast_S_S8x4x4096x4352 (constant S_ .f32 0x3E000000#32))

/-- Scores of the last 256 queries against the last 256 keys. -/
def scoreC (q : FVec Ideal S8x4x4352x64 .f32) (k : FVec Ideal S8x4x4352x64 .f32) : FVec Ideal S8x4x256x256 .f32 :=
  mulf (Host.dotGeneral dot_S8x4x256x64_S8x4x256x64_S8x4x256x256_3_3_2_2_01_01 none
    (extractStridedSlice S8x4x256x64 ![0, 0, 4096, 0] q slices_S8x4x4352x64_S8x4x256x64_0_0_4096_0)
    (extractStridedSlice S8x4x256x64 ![0, 0, 4096, 0] k slices_S8x4x4352x64_S8x4x256x64_0_0_4096_0))
    (broadcastInDim S8x4x256x256 ![] bcast_S_S8x4x256x256 (constant S_ .f32 0x3E000000#32))

/-- The softmax of the first queries' scores: its numerator. -/
def num (s : FVec Ideal S8x4x4096x4352 .f32) : FVec Ideal S8x4x4096x4352 .f32 :=
  Host.exp (subf s (broadcastInDim S8x4x4096x4352 ![0, 1, 2, 3] bcast_S8x4x4096x1_S8x4x4096x4352_0_1_2_3
    (broadcastInDim S8x4x4096x1 ![0, 1, 2] bcast_S8x4x4096_S8x4x4096x1_0_1_2
      (maximumf (broadcastInDim S8x4x4096 ![] bcast_S_S8x4x4096 (constant S_ .f32 0xFF800000#32))
        (Host.reduce FloatOps.maximumf s (constant S_ .f32 0xFF800000#32) reducesTo_S8x4x4096x4352_S8x4x4096_d3 h_S_)))))

/-- The softmax of the first queries' scores. -/
def soft (s : FVec Ideal S8x4x4096x4352 .f32) : FVec Ideal S8x4x4096x4352 .f32 :=
  Host.divf (num s) (broadcastInDim S8x4x4096x4352 ![0, 1, 2, 3] bcast_S8x4x4096x1_S8x4x4096x4352_0_1_2_3
    (broadcastInDim S8x4x4096x1 ![0, 1, 2] bcast_S8x4x4096_S8x4x4096x1_0_1_2
      (Host.reduceAdd (num s) (constant S_ .f32 0x00000000#32) reducesTo_S8x4x4096x4352_S8x4x4096_d3 h_S_)))

/-- The softmax of the last queries' scores: its numerator. -/
def numC (s : FVec Ideal S8x4x256x256 .f32) : FVec Ideal S8x4x256x256 .f32 :=
  Host.exp (subf s (broadcastInDim S8x4x256x256 ![0, 1, 2, 3] bcast_S8x4x256x1_S8x4x256x256_0_1_2_3
    (broadcastInDim S8x4x256x1 ![0, 1, 2] bcast_S8x4x256_S8x4x256x1_0_1_2
      (maximumf (broadcastInDim S8x4x256 ![] bcast_S_S8x4x256 (constant S_ .f32 0xFF800000#32))
        (Host.reduce FloatOps.maximumf s (constant S_ .f32 0xFF800000#32) reducesTo_S8x4x256x256_S8x4x256_d3 h_S_)))))

/-- The softmax of the last queries' scores. -/
def softC (s : FVec Ideal S8x4x256x256 .f32) : FVec Ideal S8x4x256x256 .f32 :=
  Host.divf (numC s) (broadcastInDim S8x4x256x256 ![0, 1, 2, 3] bcast_S8x4x256x1_S8x4x256x256_0_1_2_3
    (broadcastInDim S8x4x256x1 ![0, 1, 2] bcast_S8x4x256_S8x4x256x1_0_1_2
      (Host.reduceAdd (numC s) (constant S_ .f32 0x00000000#32) reducesTo_S8x4x256x256_S8x4x256_d3 h_S_)))

/-- The first queries' attention. -/
def attn (s1 s2 : FVec Ideal S8x4x4096x4352 .f32) (v : FVec Ideal S8x4x4352x128 .f32) (w : FVec Ideal S_ .f32) :
    FVec Ideal S8x4x4096x128 .f32 :=
  Host.dotGeneral dot_S8x4x4096x4352_S8x4x4352x128_S8x4x4096x128_3_2_2_3_01_01 none
    (subf (soft s1) (mulf (broadcastInDim S8x4x4096x4352 ![] bcast_S_S8x4x4096x4352 w) (soft s2))) v

/-- The last queries' attention. -/
def attnC (s1 s2 : FVec Ideal S8x4x256x256 .f32) (v : FVec Ideal S8x4x4352x128 .f32) (w : FVec Ideal S_ .f32) :
    FVec Ideal S8x4x256x128 .f32 :=
  Host.dotGeneral dot_S8x4x256x256_S8x4x256x128_S8x4x256x128_3_2_2_3_01_01 none
    (subf (softC s1) (mulf (broadcastInDim S8x4x256x256 ![] bcast_S_S8x4x256x256 w) (softC s2)))
    (extractStridedSlice S8x4x256x128 ![0, 0, 4096, 0] v slices_S8x4x4352x128_S8x4x256x128_0_0_4096_0)

/-- The first rows normalised and merged. -/
def out (o : FVec Ideal S8x4x4096x128 .f32) (g : FVec Ideal S128 .f32) : FVec Ideal S8x4096x512 .f32 :=
  shapeCast S8x4096x512 (transpose S8x4096x4x128 [0, 2, 1, 3]
    (mulf (mulf (mulf o (broadcastInDim S8x4x4096x128 ![0, 1, 2, 3] bcast_S8x4x4096x1_S8x4x4096x128_0_1_2_3
      (Host.rsqrt (addf (Host.divf (broadcastInDim S8x4x4096x1 ![0, 1, 2] bcast_S8x4x4096_S8x4x4096x1_0_1_2
          (Host.reduceAdd (mulf o o) (constant S_ .f32 0x00000000#32) reducesTo_S8x4x4096x128_S8x4x4096_d3 h_S_))
          (broadcastInDim S8x4x4096x1 ![] bcast_S_S8x4x4096x1 (constant S_ .f32 0x43000000#32)))
        (broadcastInDim S8x4x4096x1 ![] bcast_S_S8x4x4096x1 (constant S_ .f32 0x3727C5AC#32))))))
      (broadcastInDim S8x4x4096x128 ![0, 1, 2, 3] bcast_S1x1x1x128_S8x4x4096x128_0_1_2_3
        (broadcastInDim S1x1x1x128 ![3] bcast_S128_S1x1x1x128_3 g)))
      (broadcastInDim S8x4x4096x128 ![] bcast_S_S8x4x4096x128 (constant S_ .f32 0x3F4CCCCD#32)))
    transposes_S8x4x4096x128_S8x4096x4x128_0_2_1_3) shapeCasts_S8x4096x4x128_S8x4096x512

/-- The last rows normalised and merged. -/
def outC (o : FVec Ideal S8x4x256x128 .f32) (g : FVec Ideal S128 .f32) : FVec Ideal S8x256x512 .f32 :=
  shapeCast S8x256x512 (transpose S8x256x4x128 [0, 2, 1, 3]
    (mulf (mulf (mulf o (broadcastInDim S8x4x256x128 ![0, 1, 2, 3] bcast_S8x4x256x1_S8x4x256x128_0_1_2_3
      (Host.rsqrt (addf (Host.divf (broadcastInDim S8x4x256x1 ![0, 1, 2] bcast_S8x4x256_S8x4x256x1_0_1_2
          (Host.reduceAdd (mulf o o) (constant S_ .f32 0x00000000#32) reducesTo_S8x4x256x128_S8x4x256_d3 h_S_))
          (broadcastInDim S8x4x256x1 ![] bcast_S_S8x4x256x1 (constant S_ .f32 0x43000000#32)))
        (broadcastInDim S8x4x256x1 ![] bcast_S_S8x4x256x1 (constant S_ .f32 0x3727C5AC#32))))))
      (broadcastInDim S8x4x256x128 ![0, 1, 2, 3] bcast_S1x1x1x128_S8x4x256x128_0_1_2_3
        (broadcastInDim S1x1x1x128 ![3] bcast_S128_S1x1x1x128_3 g)))
      (broadcastInDim S8x4x256x128 ![] bcast_S_S8x4x256x128 (constant S_ .f32 0x3F4CCCCD#32)))
    transposes_S8x4x256x128_S8x256x4x128_0_2_1_3) shapeCasts_S8x256x4x128_S8x256x512

/-- The result. -/
def result (dq dk dv : FVec Ideal S8x4352x512 .f32) (lv : FVec Ideal S4x64 .f32) (g : FVec Ideal S128 .f32) :
    FVec Ideal S8x4352x512 .bf16 :=
  truncf .bf16 (concatenate S8x4352x512 1
    [⟨S8x4096x512, out (attn (score (first dq) (first dk)) (score (second dq) (second dk)) (heads dv) (lam lv)) g⟩,
     ⟨S8x256x512, outC (attnC (scoreC (first dq) (first dk)) (scoreC (second dq) (second dk)) (heads dv) (lam lv)) g⟩]
    concatenates_S8x4096x512_S8x256x512_S8x4352x512_d1) bitsLt_bf16_f32

theorem res_eq (m : (ℓ : Loc nD τ sig) → Buf (Elt Ideal) ℓ) (c : Dev nD) :
    Value.res_main_v136 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Hand

end
-- ==== Proof.RefValue.lean ====
/-
The reference's stages at an index.
-/
module

public import proofs.«01_k».proof.Proof.RefStages

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.Online

theorem first_apply (x : FVec Ideal S8x4352x512 .f32) (b : Fin 8) (h : Fin 4) (t : Fin 4352) (d : Fin 64) :
    first x (ix4 b h t d) = x (ix3 b t ⟨h * 128 + d, by omega⟩) := by
  pointwise [first]

theorem second_apply (x : FVec Ideal S8x4352x512 .f32) (b : Fin 8) (h : Fin 4) (t : Fin 4352) (d : Fin 64) :
    second x (ix4 b h t d) = x (ix3 b t ⟨h * 128 + 64 + d, by omega⟩) := by
  pointwise [second]

theorem heads_apply (x : FVec Ideal S8x4352x512 .f32) (b : Fin 8) (h : Fin 4) (t : Fin 4352) (d : Fin 128) :
    heads x (ix4 b h t d) = x (ix3 b t ⟨h * 128 + d, by omega⟩) := by
  pointwise [heads]

theorem lam_apply (x : FVec Ideal S4x64 .f32) (i : S_.Idx) :
    lam x i = Ideal.exp (∑ d, x (ix2 0 d) * x (ix2 1 d)) - Ideal.exp (∑ d, x (ix2 2 d) * x (ix2 3 d))
      + Ideal.ofBits .f32 0x3E4CCCCD#32 := by
  pointwise [lam]

theorem score_apply (q k : FVec Ideal S8x4x4352x64 .f32) (b : Fin 8) (h : Fin 4) (t : Fin 4096) (j : Fin 4352) :
    score q k (ix4 b h t j) = (∑ d, q (ix4 b h ⟨t, by omega⟩ d) * k (ix4 b h j d)) * Ideal.ofBits .f32 0x3E000000#32 := by
  pointwise [score]

theorem scoreC_apply (q k : FVec Ideal S8x4x4352x64 .f32) (b : Fin 8) (h : Fin 4) (t : Fin 256) (j : Fin 256) :
    scoreC q k (ix4 b h t j) = (∑ d, q (ix4 b h ⟨4096 + t, by omega⟩ d) * k (ix4 b h ⟨4096 + j, by omega⟩ d)) * Ideal.ofBits .f32 0x3E000000#32 := by
  pointwise [scoreC]

theorem max_apply (s : FVec Ideal S8x4x4096x4352 .f32) (b : Fin 8) (h : Fin 4) (t : Fin 4096) :
    Host.reduce FloatOps.maximumf s (constant (F := Ideal) S_ .f32 0xFF800000#32) reducesTo_S8x4x4096x4352_S8x4x4096_d3 h_S_ (ix3 b h t)
      = Finset.univ.fold max (Ideal.ofBits .f32 0xFF800000#32) fun x => s (ix4 b h t x) := by
  pointwise

theorem floor_apply (z : FVec Ideal S8x4x4096 .f32) (b : Fin 8) (h : Fin 4) (t : Fin 4096) :
    maximumf (broadcastInDim S8x4x4096 ![] bcast_S_S8x4x4096 (constant (F := Ideal) S_ .f32 0xFF800000#32)) z (ix3 b h t)
      = max (Ideal.ofBits .f32 0xFF800000#32) (z (ix3 b h t)) := by
  pointwise

theorem total_apply (s : FVec Ideal S8x4x4096x4352 .f32) (b : Fin 8) (h : Fin 4) (t : Fin 4096) :
    Host.reduceAdd s (constant (F := Ideal) S_ .f32 0x00000000#32) reducesTo_S8x4x4096x4352_S8x4x4096_d3 h_S_ (ix3 b h t)
      = ∑ x, s (ix4 b h t x) := by
  pointwise

theorem wide_apply (z : FVec Ideal S8x4x4096 .f32) (b : Fin 8) (h : Fin 4) (t : Fin 4096) (j : Fin 4352) :
    broadcastInDim S8x4x4096x4352 ![0, 1, 2, 3] bcast_S8x4x4096x1_S8x4x4096x4352_0_1_2_3
      (broadcastInDim S8x4x4096x1 ![0, 1, 2] bcast_S8x4x4096_S8x4x4096x1_0_1_2 z) (ix4 b h t j) = z (ix3 b h t) := by
  pointwise

theorem exp_apply (s z : FVec Ideal S8x4x4096x4352 .f32) (i : S8x4x4096x4352.Idx) :
    Host.exp (subf s z) i = Ideal.exp (s i - z i) := rfl

theorem div_apply (s z : FVec Ideal S8x4x4096x4352 .f32) (i : S8x4x4096x4352.Idx) : Host.divf s z i = Ideal.div (s i) (z i) := rfl

theorem num_apply (s : FVec Ideal S8x4x4096x4352 .f32) (b : Fin 8) (h : Fin 4) (t : Fin 4096) (j : Fin 4352) :
    num s (ix4 b h t j) = Ideal.exp (s (ix4 b h t j) - max (Ideal.ofBits .f32 0xFF800000#32)
      (Finset.univ.fold max (Ideal.ofBits .f32 0xFF800000#32) fun x => s (ix4 b h t x))) := by
  rw [num, exp_apply, wide_apply, floor_apply, max_apply]

/-- A softmax weight, over real scores. -/
theorem soft_apply (s : FVec Ideal S8x4x4096x4352 .f32) (b : Fin 8) (h : Fin 4) (t : Fin 4096) (S : Fin 4352 → ℝ)
    (hs : ∀ j, s (ix4 b h t j) = (S j : EReal)) (j : Fin 4352) :
    soft s (ix4 b h t j) = ((Real.exp (S j) / ∑ x, Real.exp (S x) : ℝ) : EReal) := by
  rw [soft, div_apply, wide_apply, total_apply]
  simp only [num_apply]
  exact softmax_entry _ S hs j

theorem maxC_apply (s : FVec Ideal S8x4x256x256 .f32) (b : Fin 8) (h : Fin 4) (t : Fin 256) :
    Host.reduce FloatOps.maximumf s (constant (F := Ideal) S_ .f32 0xFF800000#32) reducesTo_S8x4x256x256_S8x4x256_d3 h_S_ (ix3 b h t)
      = Finset.univ.fold max (Ideal.ofBits .f32 0xFF800000#32) fun x => s (ix4 b h t x) := by
  pointwise

theorem floorC_apply (z : FVec Ideal S8x4x256 .f32) (b : Fin 8) (h : Fin 4) (t : Fin 256) :
    maximumf (broadcastInDim S8x4x256 ![] bcast_S_S8x4x256 (constant (F := Ideal) S_ .f32 0xFF800000#32)) z (ix3 b h t)
      = max (Ideal.ofBits .f32 0xFF800000#32) (z (ix3 b h t)) := by
  pointwise

theorem totalC_apply (s : FVec Ideal S8x4x256x256 .f32) (b : Fin 8) (h : Fin 4) (t : Fin 256) :
    Host.reduceAdd s (constant (F := Ideal) S_ .f32 0x00000000#32) reducesTo_S8x4x256x256_S8x4x256_d3 h_S_ (ix3 b h t)
      = ∑ x, s (ix4 b h t x) := by
  pointwise

theorem wideC_apply (z : FVec Ideal S8x4x256 .f32) (b : Fin 8) (h : Fin 4) (t : Fin 256) (j : Fin 256) :
    broadcastInDim S8x4x256x256 ![0, 1, 2, 3] bcast_S8x4x256x1_S8x4x256x256_0_1_2_3
      (broadcastInDim S8x4x256x1 ![0, 1, 2] bcast_S8x4x256_S8x4x256x1_0_1_2 z) (ix4 b h t j) = z (ix3 b h t) := by
  pointwise

theorem expC_apply (s z : FVec Ideal S8x4x256x256 .f32) (i : S8x4x256x256.Idx) :
    Host.exp (subf s z) i = Ideal.exp (s i - z i) := rfl

theorem divC_apply (s z : FVec Ideal S8x4x256x256 .f32) (i : S8x4x256x256.Idx) : Host.divf s z i = Ideal.div (s i) (z i) := rfl

theorem numC_apply (s : FVec Ideal S8x4x256x256 .f32) (b : Fin 8) (h : Fin 4) (t : Fin 256) (j : Fin 256) :
    numC s (ix4 b h t j) = Ideal.exp (s (ix4 b h t j) - max (Ideal.ofBits .f32 0xFF800000#32)
      (Finset.univ.fold max (Ideal.ofBits .f32 0xFF800000#32) fun x => s (ix4 b h t x))) := by
  rw [numC, expC_apply, wideC_apply, floorC_apply, maxC_apply]

/-- A softmax weight, over real scores. -/
theorem softC_apply (s : FVec Ideal S8x4x256x256 .f32) (b : Fin 8) (h : Fin 4) (t : Fin 256) (S : Fin 256 → ℝ)
    (hs : ∀ j, s (ix4 b h t j) = (S j : EReal)) (j : Fin 256) :
    softC s (ix4 b h t j) = ((Real.exp (S j) / ∑ x, Real.exp (S x) : ℝ) : EReal) := by
  rw [softC, divC_apply, wideC_apply, totalC_apply]
  simp only [numC_apply]
  exact softmax_entry _ S hs j

theorem attn_apply (s1 s2 : FVec Ideal S8x4x4096x4352 .f32) (v : FVec Ideal S8x4x4352x128 .f32) (w : FVec Ideal S_ .f32)
    (b : Fin 8) (h : Fin 4) (t : Fin 4096) (l : Fin 128) :
    attn s1 s2 v w (ix4 b h t l)
      = ∑ x, (soft s1 (ix4 b h t x) - w ix0 * soft s2 (ix4 b h t x)) * v (ix4 b h x l) := by
  pointwise [attn]

theorem attnC_apply (s1 s2 : FVec Ideal S8x4x256x256 .f32) (v : FVec Ideal S8x4x4352x128 .f32) (w : FVec Ideal S_ .f32)
    (b : Fin 8) (h : Fin 4) (t : Fin 256) (l : Fin 128) :
    attnC s1 s2 v w (ix4 b h t l)
      = ∑ x, (softC s1 (ix4 b h t x) - w ix0 * softC s2 (ix4 b h t x)) * v (ix4 b h ⟨4096 + x, by omega⟩ l) := by
  pointwise [attnC]

theorem out_apply (o : FVec Ideal S8x4x4096x128 .f32) (g : FVec Ideal S128 .f32) (b : Fin 8) (t : Fin 4096) (l : Fin 512)
    (O : Fin 128 → ℝ) (hO : ∀ x, o (ix4 b ⟨l / 128, by omega⟩ t x) = (O x : EReal)) :
    out o g (ix3 b t l) = gained O (fun x => g (ix1 x)) ⟨l % 128, Nat.mod_lt _ (by norm_num)⟩ := by
  pointwise [out]
  simp only [hO]
  exact mul_assoc _ _ _

theorem outC_apply (o : FVec Ideal S8x4x256x128 .f32) (g : FVec Ideal S128 .f32) (b : Fin 8) (t : Fin 256) (l : Fin 512)
    (O : Fin 128 → ℝ) (hO : ∀ x, o (ix4 b ⟨l / 128, by omega⟩ t x) = (O x : EReal)) :
    outC o g (ix3 b t l) = gained O (fun x => g (ix1 x)) ⟨l % 128, Nat.mod_lt _ (by norm_num)⟩ := by
  pointwise [outC]
  simp only [hO]
  exact mul_assoc _ _ _

theorem result_split (dq dk dv : FVec Ideal S8x4352x512 .f32) (lv : FVec Ideal S4x64 .f32) (g : FVec Ideal S128 .f32)
    (b : Fin 8) (t : Fin 4352) (l : Fin 512) :
    result dq dk dv lv g (ix3 b t l) =
      if h : (t : ℕ) < 4096 then
        out (attn (score (first dq) (first dk)) (score (second dq) (second dk)) (heads dv) (lam lv)) g (ix3 b ⟨t, h⟩ l)
      else
        outC (attnC (scoreC (first dq) (first dk)) (scoreC (second dq) (second dk)) (heads dv) (lam lv)) g
          (ix3 b ⟨t - 4096, by omega⟩ l) := by
  pointwise [result]

end Cert.ReferenceIdeal.Hand

end
-- ==== Proof.Pieces.lean ====
/-
What one grid point of the attention kernel writes, as named functions of the vectors it loads: `tile` for a tile of 512
query rows against all the keys, `ctxTile` for the tile of the 256 last rows against the 256 last keys.
-/
module

public import proofs.«01_k».proof.Proof.Gen.KernelIdeal.Value
import all proofs.«01_k».proof.Proof.Gen.KernelIdeal.Loops
import all proofs.«01_k».proof.Proof.Gen.KernelIdeal.Frame.RunA

@[expose] public section

set_option maxRecDepth 16384

noncomputable section

namespace Cert.KernelIdeal.Hand

open Idealize.ShloMosaic Idealize.ShloMosaic.TcCoe Idealize.SL.Sem
open Cert.KernelIdeal Cert.KernelIdeal.Gen

/-- A tile of 512 query rows `q` against five blocks of keys `kI` and values `wI`. -/
def tile (v0 : IVec S1x128 32) (v6 : Vec Ideal S1x4x64 .f32) (v23 : Vec Ideal S1x128 .f32) (q : Vec Ideal S1x512x128 .f32)
    (k0 w0 k1 w1 k2 w2 k3 w3 : Vec Ideal S1x1024x128 .bf16) (k4 w4 : Vec Ideal S1x256x128 .bf16) :
    FVec Ideal S1x512x128 .bf16 :=
  k0_pay43 v6 v23
    (k0_pay37 (k0_pay40 (F := Ideal)) (k0_pay4 v0 q)
      (k0_pay16 (k0_pay4 v0 q) (k0_pay16 (k0_pay4 v0 q) (k0_pay16 (k0_pay4 v0 q) (k0_pay8 v0 q k0) k1) k2) k3)
      (k0_pay17 (k0_pay40 (F := Ideal)) (k0_pay4 v0 q) (k0_pay16 (k0_pay4 v0 q) (k0_pay16 (k0_pay4 v0 q) (k0_pay8 v0 q k0) k1) k2)
        (k0_pay17 (k0_pay40 (F := Ideal)) (k0_pay4 v0 q) (k0_pay16 (k0_pay4 v0 q) (k0_pay8 v0 q k0) k1)
          (k0_pay17 (k0_pay40 (F := Ideal)) (k0_pay4 v0 q) (k0_pay8 v0 q k0) (k0_pay9 v0 (k0_pay40 (F := Ideal)) q k0 w0) k1 w1)
          k2 w2) k3 w3)
      (k0_pay35 k4) w4)
    (k0_pay38 (k0_pay40 (F := Ideal)) (k0_pay5 v0 q)
      (k0_pay16 (k0_pay5 v0 q) (k0_pay16 (k0_pay5 v0 q) (k0_pay16 (k0_pay5 v0 q) (k0_pay11 v0 q k0) k1) k2) k3)
      (k0_pay17 (k0_pay40 (F := Ideal)) (k0_pay5 v0 q) (k0_pay16 (k0_pay5 v0 q) (k0_pay16 (k0_pay5 v0 q) (k0_pay11 v0 q k0) k1) k2)
        (k0_pay17 (k0_pay40 (F := Ideal)) (k0_pay5 v0 q) (k0_pay16 (k0_pay5 v0 q) (k0_pay11 v0 q k0) k1)
          (k0_pay17 (k0_pay40 (F := Ideal)) (k0_pay5 v0 q) (k0_pay11 v0 q k0)
            (k0_pay13 (k0_pay40 (F := Ideal)) (k0_pay12 v0 q k0) w0) k1 w1)
          k2 w2) k3 w3)
      (k0_pay35 k4) w4)
    (k0_pay39 (k0_pay40 (F := Ideal)) (k0_pay5 v0 q)
      (k0_pay16 (k0_pay5 v0 q) (k0_pay16 (k0_pay5 v0 q) (k0_pay16 (k0_pay5 v0 q) (k0_pay11 v0 q k0) k1) k2) k3)
      (k0_pay17 (k0_pay40 (F := Ideal)) (k0_pay5 v0 q) (k0_pay16 (k0_pay5 v0 q) (k0_pay16 (k0_pay5 v0 q) (k0_pay11 v0 q k0) k1) k2)
        (k0_pay17 (k0_pay40 (F := Ideal)) (k0_pay5 v0 q) (k0_pay16 (k0_pay5 v0 q) (k0_pay11 v0 q k0) k1)
          (k0_pay17 (k0_pay40 (F := Ideal)) (k0_pay5 v0 q) (k0_pay11 v0 q k0)
            (k0_pay13 (k0_pay40 (F := Ideal)) (k0_pay12 v0 q k0) w0) k1 w1)
          k2 w2) k3 w3)
      (k0_pay35 k4) w4)
    (FloatOps.ofBits (F := Ideal) .f32 0x3F800000#32)

/-- The tile of the 256 last rows `q` against the 256 last keys `k` and values `w`. -/
def ctxTile (v0 : IVec S1x128 32) (v6 : Vec Ideal S1x4x64 .f32) (v23 : Vec Ideal S1x128 .f32)
    (q : Vec Ideal S1x256x128 .f32) (k w : Vec Ideal S1x256x128 .bf16) : FVec Ideal S1x256x128 .bf16 :=
  k0_pay1 (k0_pay41 v6) (k0_pay42 v23)
    (k0_pay49 (k0_pay40 (F := Ideal)) (k0_pay44 q) (k0_pay45 (F := Ideal)) k0_pay46 k w)
    (k0_pay50 v0 (k0_pay40 (F := Ideal)) (k0_pay44 q) (k0_pay45 (F := Ideal)) k w)
    (k0_pay51 v0 (k0_pay40 (F := Ideal)) (k0_pay44 q) (k0_pay45 (F := Ideal)) k w)

variable (c : Dev nD) (i : grid0.Coords) (arg2 : Memref sig .tc .vmem S1x4352x128 .f32) (harg2 : arg2.IsWhole)
  (arg3 : Memref sig .tc .vmem S1x4352x128 .bf16) (harg3 : arg3.IsWhole) (arg4 : Memref sig .tc .vmem S1x4352x128 .bf16)
  (harg4 : arg4.IsWhole) (arg5 : Memref sig .tc .vmem S1x4x64 .f32) (harg5 : arg5.IsWhole)
  (arg6 : Memref sig .tc .vmem S1x128 .f32) (harg6 : arg6.IsWhole) (arg7 : Memref sig .tc .vmem S1x4352x128 .bf16)
  (harg7 : arg7.IsWhole)

section Trip
variable (𝒱 : Variants) (bd : Option 𝒱.V) (v0 : IVec S1x128 32) (v6 : Vec Ideal S1x4x64 .f32) (v23 : Vec Ideal S1x128 .f32)
  (X2 : BufTy.Contents (Elt Ideal) arg2.view.ty) (X3 : BufTy.Contents (Elt Ideal) arg3.view.ty)
  (X4 : BufTy.Contents (Elt Ideal) arg4.view.ty) (k : Fin k0_t1_loop.trips)

/-- Trip `k` of the loop writes one piece. -/
theorem trip_pieces :
    tripL_k0_t1 (F := Ideal) 𝒱 c bd i arg2 harg2 arg3 harg3 arg4 harg4 arg5 harg5 arg6 harg6 arg7 harg7 v0 v6 v23 X2 X3 X4 k
      = [⟨Rect.unit (s := S1x4352x128) (k0_off1 k) S1x512x128.size (k0_off1_inb k),
          tile v0 v6 v23
            (View.readAt (Elt Ideal) arg2.view (Rect.unit (s := S1x4352x128) (k0_off1 k) S1x512x128.size (k0_off1_inb k)).toLoadRect X2)
            (View.readAt (Elt Ideal) arg3.view (Rect.unit (s := S1x4352x128) ![0, 0, 0] S1x1024x128.size inb_S1x4352x128_S1x1024x128_0_0_0).toLoadRect X3)
            (View.readAt (Elt Ideal) arg4.view (Rect.unit (s := S1x4352x128) ![0, 0, 0] S1x1024x128.size inb_S1x4352x128_S1x1024x128_0_0_0).toLoadRect X4)
            (View.readAt (Elt Ideal) arg3.view (Rect.unit (s := S1x4352x128) ![0, 1024, 0] S1x1024x128.size inb_S1x4352x128_S1x1024x128_0_1024_0).toLoadRect X3)
            (View.readAt (Elt Ideal) arg4.view (Rect.unit (s := S1x4352x128) ![0, 1024, 0] S1x1024x128.size inb_S1x4352x128_S1x1024x128_0_1024_0).toLoadRect X4)
            (View.readAt (Elt Ideal) arg3.view (Rect.unit (s := S1x4352x128) ![0, 2048, 0] S1x1024x128.size inb_S1x4352x128_S1x1024x128_0_2048_0).toLoadRect X3)
            (View.readAt (Elt Ideal) arg4.view (Rect.unit (s := S1x4352x128) ![0, 2048, 0] S1x1024x128.size inb_S1x4352x128_S1x1024x128_0_2048_0).toLoadRect X4)
            (View.readAt (Elt Ideal) arg3.view (Rect.unit (s := S1x4352x128) ![0, 3072, 0] S1x1024x128.size inb_S1x4352x128_S1x1024x128_0_3072_0).toLoadRect X3)
            (View.readAt (Elt Ideal) arg4.view (Rect.unit (s := S1x4352x128) ![0, 3072, 0] S1x1024x128.size inb_S1x4352x128_S1x1024x128_0_3072_0).toLoadRect X4)
            (View.readAt (Elt Ideal) arg3.view (Rect.unit (s := S1x4352x128) ![0, 4096, 0] S1x256x128.size inb_S1x4352x128_S1x256x128_0_4096_0).toLoadRect X3)
            (View.readAt (Elt Ideal) arg4.view (Rect.unit (s := S1x4352x128) ![0, 4096, 0] S1x256x128.size inb_S1x4352x128_S1x256x128_0_4096_0).toLoadRect X4)⟩] := by
  unfold tripL_k0_t1 trip_k0_t1
  rfl

end Trip

section Run
variable (x0 : Vec Ideal S1x4352x128 .f32) (x1 : Vec Ideal S1x4352x128 .bf16) (x2 : Vec Ideal S1x4352x128 .bf16)
  (x3 : Vec Ideal S1x4x64 .f32) (x4 : Vec Ideal S1x128 .f32)

/-- One grid point writes the last tile's piece over the loop's. -/
theorem run_pieces :
    (kernelRun0_A c i arg2 harg2 arg3 harg3 arg4 harg4 arg5 harg5 arg6 harg6 arg7 harg7 x0 x1 x2 x3 x4).1
      = ⟨Rect.unit (s := S1x4352x128) ![0, 4096, 0] S1x256x128.size inb_S1x4352x128_S1x256x128_0_4096_0,
          ctxTile (iota .tc S1x128 32 [1] iota_S1x128_d1_w32)
            (View.readAt (Elt Ideal) arg5.view (Rect.unit (s := S1x4x64) ![0, 0, 0] S1x4x64.size inb_S1x4x64_S1x4x64_0_0_0).toLoadRect (harg5.unread x3))
            (View.readAt (Elt Ideal) arg6.view (Rect.unit (s := S1x128) ![0, 0] S1x128.size inb_S1x128_S1x128_0_0).toLoadRect (harg6.unread x4))
            (View.readAt (Elt Ideal) arg2.view (Rect.unit (s := S1x4352x128) ![0, 4096, 0] S1x256x128.size inb_S1x4352x128_S1x256x128_0_4096_0).toLoadRect (harg2.unread x0))
            (View.readAt (Elt Ideal) arg3.view (Rect.unit (s := S1x4352x128) ![0, 4096, 0] S1x256x128.size inb_S1x4352x128_S1x256x128_0_4096_0).toLoadRect (harg3.unread x1))
            (View.readAt (Elt Ideal) arg4.view (Rect.unit (s := S1x4352x128) ![0, 4096, 0] S1x256x128.size inb_S1x4352x128_S1x256x128_0_4096_0).toLoadRect (harg4.unread x2))⟩ ::
        pb_k0_t1 (F := Ideal) Variants.none c none i arg2 harg2 arg3 harg3 arg4 harg4 arg5 harg5 arg6 harg6 arg7 harg7
          (iota .tc S1x128 32 [1] iota_S1x128_d1_w32)
          (View.readAt (Elt Ideal) arg5.view (Rect.unit (s := S1x4x64) ![0, 0, 0] S1x4x64.size inb_S1x4x64_S1x4x64_0_0_0).toLoadRect (harg5.unread x3))
          (View.readAt (Elt Ideal) arg6.view (Rect.unit (s := S1x128) ![0, 0] S1x128.size inb_S1x128_S1x128_0_0).toLoadRect (harg6.unread x4))
          (harg2.unread x0) (harg3.unread x1) (harg4.unread x2) 8 := by
  unfold kernelRun0_A
  rfl

end Run

end Cert.KernelIdeal.Hand

end
-- ==== Proof.Tile.lean ====
/-
The values of the attention kernel's tiles at an index, over the extended reals at real entries.
-/
module

public import proofs.«01_k».proof.Proof.Pieces
public import proofs.«01_k».proof.Proof.Online

@[expose] public section

set_option maxRecDepth 16384

noncomputable section

namespace Cert.KernelIdeal.Hand

open Idealize.ShloMosaic Idealize.ShloMosaic.TcCoe Idealize.SL.Sem
open Cert.KernelIdeal Cert.KernelIdeal.Gen Cert.Online

/-- The row that selects the lane which sums the weights. -/
theorem ones_row (l : Fin 128) : k0_pay40 (F := Ideal) (ix2 0 l) = (((if l = 0 then 1 else 0 : ℝ)) : EReal) := by
  have h : ∀ l : Fin 128, (BitVec.setWidth 32 (IntOp.cmpi CmpIPredicate.eq (BitVec.ofNat 32 ↑l) 0#32)).toInt
      = if l = 0 then 1 else 0 := by decide
  pointwise [k0_pay40]
  refine (show _ = (((BitVec.setWidth 32 (IntOp.cmpi CmpIPredicate.eq (BitVec.ofNat 32 ↑l) 0#32)).toInt : ℝ) : EReal) from rfl).trans ?_
  rw [h]
  split <;> simp

/-- The values of a block, with the row of `ones_row` beside them. -/
def hatV {n : ℕ} (V : Fin n → Fin 128 → ℝ) (k : Fin n) (l : Fin 256) : ℝ :=
  if h : (l : ℕ) < 128 then V k ⟨l, h⟩ else if (l : ℕ) = 128 then 1 else 0

/-- The scale's named constant. -/
theorem qscale_eq : (Named.named κ "qscale" (0x3E38AA3B#32 : BitVec FTy.f32.bits) : Ideal .f32) = (((8 * Real.log 2)⁻¹ : ℝ) : EReal) :=
  IdealRules.named_const.ideal_named_scalar _ _ _ _ rfl

section Step
variable (q : FVec Ideal S512x128 .bf16) (m : FVec Ideal S512x1 .f32) (a : FVec Ideal S512x256 .f32)
  (kb wb : Vec Ideal S1x1024x128 .bf16) (r : Fin 512) (Q : Fin 128 → ℝ) (K V : Fin 1024 → Fin 128 → ℝ) (Z : Fin 256 → ℝ)
  (kt wt : Vec Ideal S1x256x128 .bf16) (Kt Vt : Fin 256 → Fin 128 → ℝ)

theorem score_real {n : ℕ} (f : Fin 128 → EReal) (g : Fin n → Fin 128 → EReal) (F : Fin 128 → ℝ) (G : Fin n → Fin 128 → ℝ)
    (hf : ∀ d, f d = (F d : EReal)) (hg : ∀ k d, g k d = (G k d : EReal)) (k : Fin n) :
    ∑ d, f d * g k d = ((∑ d, F d * G k d : ℝ) : EReal) := by
  rw [← coe_sum]
  exact Finset.sum_congr rfl fun d _ => by rw [hf, hg, EReal.coe_mul]

theorem hat_real {n : ℕ} (g : Fin n → Fin 128 → EReal) (G : Fin n → Fin 128 → ℝ) (hg : ∀ k d, g k d = (G k d : EReal))
    (k : Fin n) (l : Fin 256) :
    (if h : (l : ℕ) < 128 then g k ⟨l, h⟩ else k0_pay40 (F := Ideal) (ix2 0 ⟨(l : ℕ) - 128, by omega⟩)) = (hatV G k l : EReal) := by
  unfold hatV
  split
  · exact hg _ _
  · rw [ones_row]
    refine congrArg _ (if_congr ?_ rfl rfl)
    rw [Fin.ext_iff]; show (l : ℕ) - 128 = 0 ↔ _; omega

/-- A block of 1024 keys after others. -/
theorem step_held (hq : ∀ d, q (ix2 r d) = (Q d : EReal)) (hk : ∀ k d, kb (ix3 0 k d) = (K k d : EReal))
    (hw : ∀ k d, wb (ix3 0 k d) = (V k d : EReal)) (H : Held (m (ix2 r 0)) (fun l => a (ix2 r l)) Z) :
    Held (k0_pay16 q m kb (ix2 r 0)) (fun l => k0_pay17 (k0_pay40 (F := Ideal)) q m a kb wb (ix2 r l))
      (fun l => Z l + ∑ k, p2 (∑ d, Q d * K k d) * hatV V k l) := by
  have h := H.step (score_real (fun d => q (ix2 r d)) (fun k d => kb (ix3 0 k d)) Q K hq hk)
    (hat_real (fun k d => wb (ix3 0 k d)) V hw)
  have e1 : k0_pay16 q m kb (ix2 r 0) = max (m (ix2 r 0)) (Finset.univ.fold max (Ideal.ofBits .f32 0xFF800000#32)
      (fun k => ∑ d, q (ix2 r d) * kb (ix3 0 k d))) := by
    pointwise [k0_pay16, k0_pay15, k0_pay14]
  rw [e1]
  refine cast (congrArg (fun f => Held _ f _) (funext fun l => ?_)) h
  pointwise [k0_pay17, k0_pay16, k0_pay15, k0_pay14]
  rfl

/-- The first block of 1024 keys, first map. -/
theorem first_held (v0 : IVec S1x128 32) (qv : Vec Ideal S1x512x128 .f32) (hq : ∀ d, k0_pay4 v0 qv (ix2 r d) = (Q d : EReal))
    (hk : ∀ k d, kb (ix3 0 k d) = (K k d : EReal)) (hw : ∀ k d, wb (ix3 0 k d) = (V k d : EReal)) :
    Held (k0_pay8 v0 qv kb (ix2 r 0)) (fun l => k0_pay9 v0 (k0_pay40 (F := Ideal)) qv kb wb (ix2 r l))
      (fun l => ∑ k, p2 (∑ d, Q d * K k d) * hatV V k l) := by
  have h := Held.first (score_real (fun d => k0_pay4 v0 qv (ix2 r d)) (fun k d => kb (ix3 0 k d)) Q K hq hk)
    (hat_real (fun k d => wb (ix3 0 k d)) V hw)
  have e1 : k0_pay8 v0 qv kb (ix2 r 0) = Finset.univ.fold max (Ideal.ofBits .f32 0xFF800000#32)
      (fun k => ∑ d, k0_pay4 v0 qv (ix2 r d) * kb (ix3 0 k d)) := by
    pointwise [k0_pay8, k0_pay7, k0_pay6]
  rw [e1]
  refine cast (congrArg (fun f => Held _ f _) (funext fun l => ?_)) h
  pointwise [k0_pay9, k0_pay8, k0_pay7, k0_pay6]
  rfl

/-- The first block of 1024 keys, second map. -/
theorem first_held' (v0 : IVec S1x128 32) (qv : Vec Ideal S1x512x128 .f32) (hq : ∀ d, k0_pay5 v0 qv (ix2 r d) = (Q d : EReal))
    (hk : ∀ k d, kb (ix3 0 k d) = (K k d : EReal)) (hw : ∀ k d, wb (ix3 0 k d) = (V k d : EReal)) :
    Held (k0_pay11 v0 qv kb (ix2 r 0))
      (fun l => k0_pay13 (k0_pay40 (F := Ideal)) (k0_pay12 v0 qv kb) wb (ix2 r l))
      (fun l => ∑ k, p2 (∑ d, Q d * K k d) * hatV V k l) := by
  have h := Held.first (score_real (fun d => k0_pay5 v0 qv (ix2 r d)) (fun k d => kb (ix3 0 k d)) Q K hq hk)
    (hat_real (fun k d => wb (ix3 0 k d)) V hw)
  have e1 : k0_pay11 v0 qv kb (ix2 r 0) = Finset.univ.fold max (Ideal.ofBits .f32 0xFF800000#32)
      (fun k => ∑ d, k0_pay5 v0 qv (ix2 r d) * kb (ix3 0 k d)) := by
    pointwise [k0_pay11, k0_pay10, k0_pay6]
  rw [e1]
  refine cast (congrArg (fun f => Held _ f _) (funext fun l => ?_)) h
  pointwise [k0_pay13, k0_pay12, k0_pay11, k0_pay10, k0_pay6]
  rfl

/-- The last block, of 256 keys: a lane over the lane that sums the weights, first map. -/
theorem last_ratio (hq : ∀ d, q (ix2 r d) = (Q d : EReal)) (hk : ∀ k d, kt (ix3 0 k d) = (Kt k d : EReal))
    (hw : ∀ k d, wt (ix3 0 k d) = (Vt k d : EReal)) (H : Held (m (ix2 r 0)) (fun l => a (ix2 r l)) Z)
    (h0 : Z 128 + ∑ k, p2 (∑ d, Q d * Kt k d) * hatV Vt k 128 ≠ 0) (l : Fin 128) :
    k0_pay37 (k0_pay40 (F := Ideal)) q m a (k0_pay35 kt) wt (ix2 r l)
      = (((Z ⟨l, by omega⟩ + ∑ k, p2 (∑ d, Q d * Kt k d) * hatV Vt k ⟨l, by omega⟩)
          / (Z 128 + ∑ k, p2 (∑ d, Q d * Kt k d) * hatV Vt k 128) : ℝ) : EReal) := by
  have h := (H.step (score_real (fun d => q (ix2 r d)) (fun k d => kt (ix3 0 k d)) Q Kt hq hk)
    (hat_real (fun k d => wt (ix3 0 k d)) Vt hw)).ratio ⟨l, by omega⟩ 128 h0
  rw [← h]
  pointwise [k0_pay37, k0_pay35]
  rfl

/-- The last block, of 256 keys: a lane over the lane that sums the weights, second map. -/
theorem last_ratio' (hq : ∀ d, q (ix2 r d) = (Q d : EReal)) (hk : ∀ k d, kt (ix3 0 k d) = (Kt k d : EReal))
    (hw : ∀ k d, wt (ix3 0 k d) = (Vt k d : EReal)) (H : Held (m (ix2 r 0)) (fun l => a (ix2 r l)) Z)
    (h0 : Z 128 + ∑ k, p2 (∑ d, Q d * Kt k d) * hatV Vt k 128 ≠ 0) (l : Fin 128) :
    k0_pay38 (k0_pay40 (F := Ideal)) q m a (k0_pay35 kt) wt (ix2 r l)
        * Ideal.div 1 (k0_pay39 (k0_pay40 (F := Ideal)) q m a (k0_pay35 kt) wt (ix2 r 0))
      = (((Z ⟨l, by omega⟩ + ∑ k, p2 (∑ d, Q d * Kt k d) * hatV Vt k ⟨l, by omega⟩)
          / (Z 128 + ∑ k, p2 (∑ d, Q d * Kt k d) * hatV Vt k 128) : ℝ) : EReal) := by
  have h := (H.step (score_real (fun d => q (ix2 r d)) (fun k d => kt (ix3 0 k d)) Q Kt hq hk)
    (hat_real (fun k d => wt (ix3 0 k d)) Vt hw)).ratio ⟨l, by omega⟩ 128 h0
  rw [← h]
  pointwise [k0_pay38, k0_pay39, k0_pay36, k0_pay35]
  rfl

end Step

end Cert.KernelIdeal.Hand

end
-- ==== Proof.TileValue.lean ====
/-
The kernel's tile of 512 query rows at an index: the normalised difference of the two softmax averages over all the keys.
-/
module

public import proofs.«01_k».proof.Proof.Tile
public import proofs.«01_k».proof.Proof.Rows

@[expose] public section

set_option maxRecDepth 16384

noncomputable section

namespace Cert.KernelIdeal.Hand

open Idealize.ShloMosaic Idealize.ShloMosaic.TcCoe Idealize.SL.Sem
open Cert.KernelIdeal Cert.KernelIdeal.Gen Cert.Online

/-- The lane numbers. -/
def lanes : IVec S1x128 32 := iota .tc S1x128 32 [1] iota_S1x128_d1_w32

theorem lane_lt (d : Fin 128) : IntOp.cmpi CmpIPredicate.slt (BitVec.ofNat 32 (d : ℕ)) 64#32 = if (d : ℕ) / 64 = 0 then 1#1 else 0#1 := by
  revert d; decide

theorem lane_ge (d : Fin 128) : IntOp.cmpi CmpIPredicate.sge (BitVec.ofNat 32 (d : ℕ)) 64#32 = if (d : ℕ) / 64 = 1 then 1#1 else 0#1 := by
  revert d; decide

theorem masked0 (q : Vec Ideal S1x512x128 .f32) (r : Fin 512) (Q : Fin 128 → ℝ) (hq : ∀ d, q (ix3 0 r d) = (Q d : EReal))
    (d : Fin 128) : k0_pay4 lanes q (ix2 r d) = (masked 0 Q d : EReal) := by
  pointwise [k0_pay4, k0_pay2, k0_pay3, lanes]
  rw [lane_lt, qscale_eq, hq]
  by_cases h : (d : ℕ) / 64 = 0
  · simp [masked, h, Scalar.select]
  · simp [masked, h, Scalar.select]

theorem masked1 (q : Vec Ideal S1x512x128 .f32) (r : Fin 512) (Q : Fin 128 → ℝ) (hq : ∀ d, q (ix3 0 r d) = (Q d : EReal))
    (d : Fin 128) : k0_pay5 lanes q (ix2 r d) = (masked 1 Q d : EReal) := by
  pointwise [k0_pay5, k0_pay2, k0_pay3, lanes]
  rw [lane_ge, qscale_eq, hq]
  by_cases h : (d : ℕ) / 64 = 1
  · simp [masked, h, Scalar.select]
  · simp [masked, h, Scalar.select]

/-- The blocks' sums, a lane over the lane that sums the weights. -/
theorem blocks_av (e : Fin 2) (Q : Fin 128 → ℝ) (K V : Fin 4352 → Fin 128 → ℝ) (Z : Fin 256 → ℝ)
    (hZ : ∀ l, Z l = ∑ j, wgt e Q (K j) * hatV V j l) :
    Z 128 ≠ 0 ∧ ∀ l : Fin 128, Z ⟨l, by omega⟩ / Z 128 = av e Q K V l := by
  have h1 : Z 128 = ∑ j, wgt e Q (K j) := by
    rw [hZ]
    refine Finset.sum_congr rfl fun j _ => ?_
    rw [show hatV V j 128 = 1 from rfl, mul_one]
  refine ⟨h1 ▸ wgt_sum_ne e Q K, fun l => ?_⟩
  rw [h1, hZ, av]
  refine congrArg (· / _) (Finset.sum_congr rfl fun j _ => ?_)
  rw [hatV, dif_pos l.isLt]

/-- The sums of the five blocks. -/
def blocksZ (e : Fin 2) (Q : Fin 128 → ℝ) (K V : Fin 4352 → Fin 128 → ℝ) (l : Fin 256) : ℝ :=
  ∑ k : Fin 1024, p2 (∑ d, masked e Q d * K ⟨k, by omega⟩ d) * hatV (fun k : Fin 1024 => V ⟨k, by omega⟩) k l
    + ∑ k : Fin 1024, p2 (∑ d, masked e Q d * K ⟨1024 + k, by omega⟩ d) * hatV (fun k : Fin 1024 => V ⟨1024 + k, by omega⟩) k l
    + ∑ k : Fin 1024, p2 (∑ d, masked e Q d * K ⟨2048 + k, by omega⟩ d) * hatV (fun k : Fin 1024 => V ⟨2048 + k, by omega⟩) k l
    + ∑ k : Fin 1024, p2 (∑ d, masked e Q d * K ⟨3072 + k, by omega⟩ d) * hatV (fun k : Fin 1024 => V ⟨3072 + k, by omega⟩) k l
    + ∑ k : Fin 256, p2 (∑ d, masked e Q d * K ⟨4096 + k, by omega⟩ d) * hatV (fun k : Fin 256 => V ⟨4096 + k, by omega⟩) k l

theorem blocksZ_eq (e : Fin 2) (Q : Fin 128 → ℝ) (K V : Fin 4352 → Fin 128 → ℝ) (l : Fin 256) :
    blocksZ e Q K V l = ∑ j, wgt e Q (K j) * hatV V j l := by
  rw [sum_blocks]
  simp only [blocksZ, p2_masked]
  rfl

/-- The second map's weight. -/
def lamR (L : Fin 4 → Fin 64 → ℝ) : ℝ :=
  Real.exp (∑ d, L 0 d * L 1 d) - Real.exp (∑ d, L 2 d * L 3 d) + (Ideal.ofBits .f32 0x3E4CCCCD#32).toReal

theorem lamc_real : Ideal.ofBits .f32 0x3E4CCCCD#32 = ((Ideal.ofBits .f32 0x3E4CCCCD#32).toReal : EReal) := by
  refine (EReal.coe_toReal ?_ ?_).symm
  · simp [Ideal.ofBits, Ideal.ieee]
    exact EReal.coe_ne_top _
  · simp [Ideal.ofBits, Ideal.ieee]
    exact EReal.coe_ne_bot _

/-- The second map's weight, over reals. -/
theorem lam_real (v6 : Vec Ideal S1x4x64 .f32) (L : Fin 4 → Fin 64 → ℝ) (hl : ∀ a d, v6 (ix3 0 a d) = (L a d : EReal)) :
    Ideal.exp (∑ x, v6 (ix3 0 0 x) * v6 (ix3 0 1 x)) - Ideal.exp (∑ x, v6 (ix3 0 2 x) * v6 (ix3 0 3 x))
        + Ideal.ofBits .f32 0x3E4CCCCD#32
      = ((lamR L : ℝ) : EReal) := by
  have h : ∀ a b, ∑ x, v6 (ix3 0 a x) * v6 (ix3 0 b x) = ((∑ x, L a x * L b x : ℝ) : EReal) := fun a b => by
    rw [← coe_sum]
    exact Finset.sum_congr rfl fun x _ => by rw [hl, hl, EReal.coe_mul]
  rw [h, h, lamc_real, lamR, EReal.coe_add, EReal.coe_sub]
  rfl

section
variable (v6 : Vec Ideal S1x4x64 .f32) (L : Fin 4 → Fin 64 → ℝ) (hl : ∀ a d, v6 (ix3 0 a d) = (L a d : EReal))
  (v23 : Vec Ideal S1x128 .f32)
  (q : Vec Ideal S1x512x128 .f32) (k0 w0 k1 w1 k2 w2 k3 w3 : Vec Ideal S1x1024x128 .bf16) (k4 w4 : Vec Ideal S1x256x128 .bf16)
  (r : Fin 512) (Q : Fin 128 → ℝ) (K V : Fin 4352 → Fin 128 → ℝ) (hq : ∀ d, q (ix3 0 r d) = (Q d : EReal))
  (hk0 : ∀ j d, k0 (ix3 0 j d) = (K ⟨j, by omega⟩ d : EReal)) (hw0 : ∀ j d, w0 (ix3 0 j d) = (V ⟨j, by omega⟩ d : EReal))
  (hk1 : ∀ j d, k1 (ix3 0 j d) = (K ⟨1024 + j, by omega⟩ d : EReal)) (hw1 : ∀ j d, w1 (ix3 0 j d) = (V ⟨1024 + j, by omega⟩ d : EReal))
  (hk2 : ∀ j d, k2 (ix3 0 j d) = (K ⟨2048 + j, by omega⟩ d : EReal)) (hw2 : ∀ j d, w2 (ix3 0 j d) = (V ⟨2048 + j, by omega⟩ d : EReal))
  (hk3 : ∀ j d, k3 (ix3 0 j d) = (K ⟨3072 + j, by omega⟩ d : EReal)) (hw3 : ∀ j d, w3 (ix3 0 j d) = (V ⟨3072 + j, by omega⟩ d : EReal))
  (hk4 : ∀ j d, k4 (ix3 0 j d) = (K ⟨4096 + j, by omega⟩ d : EReal)) (hw4 : ∀ j d, w4 (ix3 0 j d) = (V ⟨4096 + j, by omega⟩ d : EReal))

include hl in
theorem pay43_apply (o1 o2 : FVec Ideal S512x128 .f32) (z : FVec Ideal S512x1 .f32) (A B : Fin 128 → ℝ)
    (h1 : ∀ l, o1 (ix2 r l) = (A l : EReal)) (h2 : ∀ l, o2 (ix2 r l) * Ideal.div 1 (z (ix2 r 0)) = (B l : EReal)) (l : Fin 128) :
    k0_pay43 v6 v23 o1 o2 z (FloatOps.ofBits (F := Ideal) .f32 0x3F800000#32) (ix3 0 r l)
      = gained (fun l => A l - lamR L * B l) (fun l => v23 (ix2 0 l)) l := by
  pointwise [k0_pay43, k0_pay41, k0_pay42]
  simp only [lam_real v6 L hl, h1, h2, ← EReal.coe_mul, ← EReal.coe_sub]
  rfl

include hl hq hk0 hw0 hk1 hw1 hk2 hw2 hk3 hw3 hk4 hw4 in
/-- The tile at an index. -/
theorem tile_apply (l : Fin 128) :
    tile lanes v6 v23 q k0 w0 k1 w1 k2 w2 k3 w3 k4 w4 (ix3 0 r l)
      = gained (outv (lamR L) Q K V) (fun l => v23 (ix2 0 l)) l := by
  have H0 := step_held _ _ _ _ _ r (masked 0 Q) _ _ _ (masked0 q r Q hq) hk3 hw3
    (step_held _ _ _ _ _ r (masked 0 Q) _ _ _ (masked0 q r Q hq) hk2 hw2
    (step_held _ _ _ _ _ r (masked 0 Q) _ _ _ (masked0 q r Q hq) hk1 hw1
      (first_held _ _ r (masked 0 Q) _ _ lanes q (masked0 q r Q hq) hk0 hw0)))
  have H1 := step_held _ _ _ _ _ r (masked 1 Q) _ _ _ (masked1 q r Q hq) hk3 hw3
    (step_held _ _ _ _ _ r (masked 1 Q) _ _ _ (masked1 q r Q hq) hk2 hw2
    (step_held _ _ _ _ _ r (masked 1 Q) _ _ _ (masked1 q r Q hq) hk1 hw1
      (first_held' _ _ r (masked 1 Q) _ _ lanes q (masked1 q r Q hq) hk0 hw0)))
  have B0 := blocks_av 0 Q K V _ (blocksZ_eq 0 Q K V)
  have B1 := blocks_av 1 Q K V _ (blocksZ_eq 1 Q K V)
  exact pay43_apply v6 L hl v23 r _ _ _ (av 0 Q K V) (av 1 Q K V)
    (fun l => (last_ratio _ _ _ r (masked 0 Q) _ _ _ (fun k => K ⟨4096 + k, by omega⟩) (fun k => V ⟨4096 + k, by omega⟩) (masked0 q r Q hq) hk4 hw4 H0 B0.1 l).trans (congrArg _ (B0.2 l)))
    (fun l => (last_ratio' _ _ _ r (masked 1 Q) _ _ _ (fun k => K ⟨4096 + k, by omega⟩) (fun k => V ⟨4096 + k, by omega⟩) (masked1 q r Q hq) hk4 hw4 H1 B1.1 l).trans (congrArg _ (B1.2 l))) l

end

end Cert.KernelIdeal.Hand

end
-- ==== Proof.CtxValue.lean ====
/-
The kernel's tile of the 256 last query rows at an index: the normalised difference of the two softmax averages over the
256 last keys.
-/
module

public import proofs.«01_k».proof.Proof.TileValue

@[expose] public section

set_option maxRecDepth 16384

noncomputable section

namespace Cert.KernelIdeal.Hand

open Idealize.ShloMosaic Idealize.ShloMosaic.TcCoe Idealize.SL.Sem
open Cert.KernelIdeal Cert.KernelIdeal.Gen Cert.Online

section
variable (q : Vec Ideal S1x256x128 .f32) (k w : Vec Ideal S1x256x128 .bf16) (r : Fin 256) (Q : Fin 128 → ℝ)
  (K V : Fin 256 → Fin 128 → ℝ) (hq : ∀ d, q (ix3 0 r d) = (Q d : EReal)) (hk : ∀ j d, k (ix3 0 j d) = (K j d : EReal))
  (hw : ∀ j d, w (ix3 0 j d) = (V j d : EReal))

include hk hw in
/-- One block alone: a lane over the lane that sums the weights. -/
theorem one_block (e : Fin 2) (s : Fin 256 → EReal) (hs : ∀ j, s j = ((∑ d, masked e Q d * K j d : ℝ) : EReal)) (l : Fin 128) :
    (∑ j, Ideal.exp2 (s j - Finset.univ.fold max (Ideal.ofBits .f32 0xFF800000#32) s) * w (ix3 0 j l))
      * Ideal.div 1 (∑ j, Ideal.exp2 (s j - Finset.univ.fold max (Ideal.ofBits .f32 0xFF800000#32) s) * k0_pay40 (F := Ideal) (ix2 0 0))
      = (av e Q K V l : EReal) := by
  have h := Held.first (L := Option (Fin 128)) (w := fun j l => l.elim (k0_pay40 (F := Ideal) (ix2 0 0)) fun l => w (ix3 0 j l))
    (v := fun j l => l.elim 1 fun l => V j l) hs (fun j l => by
      match l with
      | none => exact (ones_row 0).trans (by simp)
      | some l => exact hw j l)
  have hZ : ∀ l : Option (Fin 128), (∑ j, p2 (∑ d, masked e Q d * K j d) * l.elim 1 fun l => V j l)
      = ∑ j, wgt e Q (K j) * l.elim 1 fun l => V j l := fun l => Finset.sum_congr rfl fun j _ => by rw [p2_masked]
  have hn : (∑ j, wgt e Q (K j) * (none : Option (Fin 128)).elim 1 fun l => V j l) = ∑ j, wgt e Q (K j) :=
    Finset.sum_congr rfl fun j _ => mul_one _
  refine ((h.congr hZ).ratio (some l) none (hn ▸ wgt_sum_ne e Q K)).trans ?_
  rw [hn]
  rfl

include hq hk in
theorem score0 (j : Fin 256) :
    (∑ d : Fin 128, Scalar.select (IntOp.cmpi CmpIPredicate.slt (BitVec.ofNat 32 (d : ℕ)) 64#32)
      (q (ix3 0 r d) * (Named.named κ "qscale" (0x3E38AA3B#32 : BitVec FTy.f32.bits) : Ideal .f32) * k (ix3 0 j d)) 0)
      = ((∑ d, masked 0 Q d * K j d : ℝ) : EReal) := by
  rw [← coe_sum]
  refine Finset.sum_congr rfl fun d _ => ?_
  rw [lane_lt, qscale_eq, hq, hk]
  by_cases h : (d : ℕ) / 64 = 0 <;> simp [masked, h, Scalar.select]

include hq hk in
theorem score1 (j : Fin 256) :
    (∑ d : Fin 128, Scalar.select (IntOp.cmpi CmpIPredicate.sge (BitVec.ofNat 32 (d : ℕ)) 64#32)
      (q (ix3 0 r d) * (Named.named κ "qscale" (0x3E38AA3B#32 : BitVec FTy.f32.bits) : Ideal .f32) * k (ix3 0 j d)) 0)
      = ((∑ d, masked 1 Q d * K j d : ℝ) : EReal) := by
  rw [← coe_sum]
  refine Finset.sum_congr rfl fun d _ => ?_
  rw [lane_ge, qscale_eq, hq, hk]
  by_cases h : (d : ℕ) / 64 = 1 <;> simp [masked, h, Scalar.select]

include hq hk hw in
theorem ctx_map0 (l : Fin 128) :
    k0_pay49 (k0_pay40 (F := Ideal)) (k0_pay44 q) (k0_pay45 (F := Ideal)) k0_pay46 k w (ix2 r l) = (av 0 Q K V l : EReal) := by
  pointwise [k0_pay49, k0_pay47, k0_pay46, k0_pay45, k0_pay44]
  exact one_block k w Q K V hk hw 0 _ (score0 q k r Q K hq hk) l

include hq hk hw in
theorem ctx_map1 (l : Fin 128) :
    k0_pay50 lanes (k0_pay40 (F := Ideal)) (k0_pay44 q) (k0_pay45 (F := Ideal)) k w (ix2 r l)
      * Ideal.div 1 (k0_pay51 lanes (k0_pay40 (F := Ideal)) (k0_pay44 q) (k0_pay45 (F := Ideal)) k w (ix2 r 0)) = (av 1 Q K V l : EReal) := by
  pointwise [k0_pay50, k0_pay51, k0_pay48, k0_pay47, k0_pay46, k0_pay45, k0_pay44, lanes]
  exact one_block k w Q K V hk hw 1 _ (score1 q k r Q K hq hk) l

variable (v6 : Vec Ideal S1x4x64 .f32) (L : Fin 4 → Fin 64 → ℝ) (hl : ∀ a d, v6 (ix3 0 a d) = (L a d : EReal))
  (v23 : Vec Ideal S1x128 .f32)

include hq hk hw hl in
/-- The last tile at an index. -/
theorem ctxTile_apply (l : Fin 128) :
    ctxTile lanes v6 v23 q k w (ix3 0 r l) = gained (outv (lamR L) Q K V) (fun l => v23 (ix2 0 l)) l := by
  have h1 := ctx_map0 q k w r Q K V hq hk hw
  have h2 := ctx_map1 q k w r Q K V hq hk hw
  unfold ctxTile
  generalize k0_pay49 (k0_pay40 (F := Ideal)) (k0_pay44 q) (k0_pay45 (F := Ideal)) k0_pay46 k w = o1 at h1 ⊢
  generalize k0_pay50 lanes (k0_pay40 (F := Ideal)) (k0_pay44 q) (k0_pay45 (F := Ideal)) k w = o2 at h2 ⊢
  generalize k0_pay51 lanes (k0_pay40 (F := Ideal)) (k0_pay44 q) (k0_pay45 (F := Ideal)) k w = z at h2 ⊢
  pointwise [k0_pay1, k0_pay41, k0_pay42]
  simp only [lam_real v6 L hl, h1, h2, ← EReal.coe_mul, ← EReal.coe_sub]
  rfl

end

end Cert.KernelIdeal.Hand

end
-- ==== Proof.Block.lean ====
/-
What one grid point leaves in the output's block: every row of one head.
-/
module

public import proofs.«01_k».proof.Proof.CtxValue
public import Idealize.ShloMosaic.Lib.WholeRead

@[expose] public section

set_option maxRecDepth 16384

noncomputable section

namespace Cert.KernelIdeal.Hand

open Idealize.ShloMosaic Idealize.ShloMosaic.TcCoe Idealize.SL.Sem
open Cert.KernelIdeal Cert.KernelIdeal.Gen Cert.Online

theorem off1_eq : ∀ k : Fin k0_t1_loop.trips, k0_off1 k = ![0, 512 * k.val, 0] := by decide +kernel

section Loads
variable {e : EltTy}

/-- A load of `n` rows from row `o` on. -/
theorem load_rows (a : Memref sig .tc .vmem S1x4352x128 e) (h : a.IsWhole) (X : Vec Ideal S1x4352x128 e) (n o : ℕ)
    (inb : ∀ x, ![0, o, 0] x + (⟨3, ![1, n, 128]⟩ : Shape).size x ≤ S1x4352x128.size x) (j : Fin n) (d : Fin 128) (hj : o + j < 4352) :
    View.readAt (Elt Ideal) a.view (Rect.unit (s := S1x4352x128) ![0, o, 0] (⟨3, ![1, n, 128]⟩ : Shape).size inb).toLoadRect (h.unread X) (ix3 0 j d)
      = X (ix3 0 ⟨o + j, hj⟩ d) := by
  rw [h.readAt_unread]
  refine congrArg X (funext fun x => ?_)
  fin_cases x <;> refine Fin.ext ?_ <;> simp [LoadRect.idx, Rect.toLoadRect, Rect.unit]

/-- Where a piece of `n` rows from row `o` on lies. -/
theorem emb_rows (n o : ℕ) (inb : ∀ x, ![0, o, 0] x + (⟨3, ![1, n, 128]⟩ : Shape).size x ≤ S1x4352x128.size x) (j : Fin n)
    (d : Fin 128) (hj : o + j < 4352) :
    (Rect.unit (s := S1x4352x128) ![0, o, 0] (⟨3, ![1, n, 128]⟩ : Shape).size inb).emb (ix3 0 j d) = ix3 0 ⟨o + j, hj⟩ d := by
  refine funext fun x => ?_
  fin_cases x <;> refine Fin.ext ?_ <;> simp [Rect.unit, Rect.emb]

end Loads

variable (c : Dev nD) (i : grid0.Coords) (arg2 : Memref sig .tc .vmem S1x4352x128 .f32) (harg2 : arg2.IsWhole)
  (arg3 : Memref sig .tc .vmem S1x4352x128 .bf16) (harg3 : arg3.IsWhole) (arg4 : Memref sig .tc .vmem S1x4352x128 .bf16)
  (harg4 : arg4.IsWhole) (arg5 : Memref sig .tc .vmem S1x4x64 .f32) (harg5 : arg5.IsWhole)
  (arg6 : Memref sig .tc .vmem S1x128 .f32) (harg6 : arg6.IsWhole) (arg7 : Memref sig .tc .vmem S1x4352x128 .bf16)
  (harg7 : arg7.IsWhole)
  (x0 : Vec Ideal S1x4352x128 .f32) (x1 : Vec Ideal S1x4352x128 .bf16) (x2 : Vec Ideal S1x4352x128 .bf16)
  (x3 : Vec Ideal S1x4x64 .f32) (x4 : Vec Ideal S1x128 .f32)
  (L : Fin 4 → Fin 64 → ℝ) (Q K V : Fin 4352 → Fin 128 → ℝ)
  (hq : ∀ t d, x0 (ix3 0 t d) = (Q t d : EReal)) (hk : ∀ t d, x1 (ix3 0 t d) = (K t d : EReal))
  (hv : ∀ t d, x2 (ix3 0 t d) = (V t d : EReal)) (hl : ∀ a d, x3 (ix3 0 a d) = (L a d : EReal))

/-- The block's rows as one function of the index. -/
def blockG (y : S1x4352x128.Idx) : EReal := headRow (lamR L) (fun l => x4 (ix2 0 l)) Q K V (y 1) (y 2)

theorem load_lam : View.readAt (Elt Ideal) arg5.view (Rect.unit (s := S1x4x64) ![0, 0, 0] S1x4x64.size inb_S1x4x64_S1x4x64_0_0_0).toLoadRect (harg5.unread x3) = x3 := by
  funext j
  rw [harg5.readAt_unread]
  refine congrArg x3 (funext fun x => ?_)
  fin_cases x <;> refine Fin.ext ?_ <;> simp [LoadRect.idx, Rect.toLoadRect, Rect.unit]

theorem load_gain : View.readAt (Elt Ideal) arg6.view (Rect.unit (s := S1x128) ![0, 0] S1x128.size inb_S1x128_S1x128_0_0).toLoadRect (harg6.unread x4) = x4 := by
  funext j
  rw [harg6.readAt_unread]
  refine congrArg x4 (funext fun x => ?_)
  fin_cases x <;> refine Fin.ext ?_ <;> simp [LoadRect.idx, Rect.toLoadRect, Rect.unit]

include hq hk hv hl in
/-- Trip `k`'s piece agrees with the block's rows. -/
theorem trip_agrees (k : Fin k0_t1_loop.trips) :
    ∀ p ∈ tripL_k0_t1 (F := Ideal) Variants.none c none i arg2 harg2 arg3 harg3 arg4 harg4 arg5 harg5 arg6 harg6 arg7 harg7
        lanes x3 x4 (harg2.unread x0) (harg3.unread x1) (harg4.unread x2) k,
      ∀ x : p.1.shape.Idx, p.2 x = blockG x4 L Q K V (p.1.emb x) := by
  rw [trip_pieces]
  intro p hp
  rw [List.mem_singleton] at hp
  subst hp
  intro x
  have hk8 : k.val < 8 := k.isLt
  have hrow : ∀ r : Fin 512, 512 * k.val + r.val < 4352 := fun r => by omega
  have hoff := off1_eq k
  revert x
  generalize_proofs pf1 pf2 pf3 pf4 pf5 pf6
  revert pf1
  rw [hoff]
  intro pf1 x
  change (⟨3, ![1, 512, 128]⟩ : Shape).Idx at x
  obtain ⟨r, l, rfl⟩ : ∃ (r : Fin 512) (l : Fin 128), x = ix3 0 r l := ⟨x 1, x 2, by idx_ext⟩
  refine Eq.trans (tile_apply x3 L hl x4 _ _ _ _ _ _ _ _ _ _ _ r (Q ⟨512 * k.val + r, hrow r⟩) K V
    (fun d => (load_rows arg2 harg2 x0 512 (512 * k.val) _ r d (hrow r)).trans (hq _ _))
    (fun j d => (load_rows arg3 harg3 x1 1024 0 _ j d (by omega)).trans ((hk _ _).trans (by simp)))
    (fun j d => (load_rows arg4 harg4 x2 1024 0 _ j d (by omega)).trans ((hv _ _).trans (by simp)))
    (fun j d => (load_rows arg3 harg3 x1 1024 1024 _ j d (by omega)).trans (hk _ _))
    (fun j d => (load_rows arg4 harg4 x2 1024 1024 _ j d (by omega)).trans (hv _ _))
    (fun j d => (load_rows arg3 harg3 x1 1024 2048 _ j d (by omega)).trans (hk _ _))
    (fun j d => (load_rows arg4 harg4 x2 1024 2048 _ j d (by omega)).trans (hv _ _))
    (fun j d => (load_rows arg3 harg3 x1 1024 3072 _ j d (by omega)).trans (hk _ _))
    (fun j d => (load_rows arg4 harg4 x2 1024 3072 _ j d (by omega)).trans (hv _ _))
    (fun j d => (load_rows arg3 harg3 x1 256 4096 _ j d (by omega)).trans (hk _ _))
    (fun j d => (load_rows arg4 harg4 x2 256 4096 _ j d (by omega)).trans (hv _ _)) l) ?_
  refine Eq.symm ((congrArg (blockG x4 L Q K V) (emb_rows 512 (512 * k.val) pf1 r l (hrow r))).trans ?_)
  exact if_pos (show 512 * k.val + r.val < 4096 by omega)

include hq hk hv hl in
/-- Every piece of the loop agrees with the block's rows. -/
theorem loop_agrees (n : ℕ) (hn : n ≤ 8) :
    ∀ p ∈ pb_k0_t1 (F := Ideal) Variants.none c none i arg2 harg2 arg3 harg3 arg4 harg4 arg5 harg5 arg6 harg6 arg7 harg7
        lanes x3 x4 (harg2.unread x0) (harg3.unread x1) (harg4.unread x2) n,
      ∀ x : p.1.shape.Idx, p.2 x = blockG x4 L Q K V (p.1.emb x) := by
  induction n with
  | zero => intro p hp; exact absurd hp List.not_mem_nil
  | succ n ih =>
    intro p hp
    have e := pb_k0_t1_succ (F := Ideal) Variants.none c none i arg2 harg2 arg3 harg3 arg4 harg4 arg5 harg5 arg6 harg6 arg7 harg7
      lanes x3 x4 (harg2.unread x0) (harg3.unread x1) (harg4.unread x2) ⟨n, hn⟩
    rw [show n + 1 = (⟨n, hn⟩ : Fin k0_t1_loop.trips).val + 1 from rfl, e, List.mem_append] at hp
    rcases hp with hp | hp
    · exact trip_agrees c i arg2 harg2 arg3 harg3 arg4 harg4 arg5 harg5 arg6 harg6 arg7 harg7 x0 x1 x2 x3 x4 L Q K V hq hk hv hl _ p hp
    · exact ih (by omega) p hp

include hq hk hv hl in
/-- What one grid point leaves in the output's block. -/
theorem out_block (t : Fin 4352) (l : Fin 128) :
    out0_A_5 c i arg2 harg2 arg3 harg3 arg4 harg4 arg5 harg5 arg6 harg6 arg7 harg7 x0 x1 x2 x3 x4 (ix3 0 t l)
      = headRow (lamR L) (fun l => x4 (ix2 0 l)) Q K V t l := by
  refine View.read_writes_apply_of_pieces _ _ (blockG x4 L Q K V) _ ?_ (ix3 0 t l)
    (cover0_A_5 c i arg2 harg2 arg3 harg3 arg4 harg4 arg5 harg5 arg6 harg6 arg7 harg7 x0 x1 x2 x3 x4 _)
  rw [run_pieces, load_lam, load_gain]
  intro p hp
  rw [List.mem_cons] at hp
  rcases hp with hp | hp
  · subst hp
    intro x
    change (⟨3, ![1, 256, 128]⟩ : Shape).Idx at x
    obtain ⟨r, l, rfl⟩ : ∃ (r : Fin 256) (l : Fin 128), x = ix3 0 r l := ⟨x 1, x 2, by idx_ext⟩
    refine Eq.trans (ctxTile_apply _ _ _ r (Q ⟨4096 + r, by omega⟩) _ _
      (fun d => (load_rows arg2 harg2 x0 256 4096 _ r d (by omega)).trans (hq _ _))
      (fun j d => (load_rows arg3 harg3 x1 256 4096 _ j d (by omega)).trans (hk _ _))
      (fun j d => (load_rows arg4 harg4 x2 256 4096 _ j d (by omega)).trans (hv _ _)) x3 L hl x4 l) ?_
    refine Eq.symm ((congrArg (blockG x4 L Q K V) (emb_rows 256 4096 inb_S1x4352x128_S1x256x128_0_4096_0 r l (by omega))).trans ?_)
    exact if_neg (show ¬ 4096 + r.val < 4096 by omega)
  · exact loop_agrees c i arg2 harg2 arg3 harg3 arg4 harg4 arg5 harg5 arg6 harg6 arg7 harg7 x0 x1 x2 x3 x4 L Q K V hq hk hv hl 8 le_rfl p hp

end Cert.KernelIdeal.Hand

end
-- ==== Proof.Array.lean ====
/-
The kernel's result array: every row of every head of every batch.
-/
module

public import proofs.«01_k».proof.Proof.Block
public import Idealize.ShloMosaic.Lib.Pipeline.ValueKit.Geometry
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal Cert.KernelIdeal.Gen Cert.Online

theorem i0 : ∀ t : Fin cfg0.N, win0_0.index t = ![(grid0.coords t 0).val, 0, (grid0.coords t 1).val] := by decide +kernel
theorem i1 : ∀ t : Fin cfg0.N, win0_1.index t = ![(grid0.coords t 0).val, 0, (grid0.coords t 1).val] := by decide +kernel
theorem i2 : ∀ t : Fin cfg0.N, win0_2.index t = ![(grid0.coords t 0).val, 0, (grid0.coords t 1).val] := by decide +kernel
theorem i3 : ∀ t : Fin cfg0.N, win0_3.index t = ![0, 0, 0] := by decide +kernel
theorem i4 : ∀ t : Fin cfg0.N, win0_4.index t = ![0, 0] := by decide +kernel
theorem i5 : ∀ t : Fin cfg0.N, win0_5.index t = ![(grid0.coords t 0).val, 0, (grid0.coords t 1).val] := by decide +kernel

variable (m : (ℓ : Loc nD τ sig) → Buf (Elt Ideal) ℓ) (c : Dev nD)
  (X Y W : Fin 8 → Fin 4352 → Fin 512 → ℝ) (L : Fin 4 → Fin 64 → ℝ)
  (hX : ∀ b t d, m ((c : Thread nD τ).loc main_arg0) (ix3 b t d) = (X b t d : EReal))
  (hY : ∀ b t d, m ((c : Thread nD τ).loc main_arg1) (ix3 b t d) = (Y b t d : EReal))
  (hW : ∀ b t d, m ((c : Thread nD τ).loc main_arg2) (ix3 b t d) = (W b t d : EReal))
  (hL : ∀ a d, m ((c : Thread nD τ).loc main_arg3) (ix2 a d) = (L a d : EReal))

/-- Head `h`'s rows of batch `b`. -/
def headOf (X : Fin 8 → Fin 4352 → Fin 512 → ℝ) (b : Fin 8) (h : Fin 4) (t : Fin 4352) (d : Fin 128) : ℝ :=
  X b t ⟨h * 128 + d, by omega⟩

/-- The result as one function of the index. -/
def resultG (g : Fin 128 → EReal) (y : S8x4352x512.Idx) : EReal :=
  headRow (lamR L) g (headOf X (y 0) ⟨(y 2).val / 128, by have := (y 2).isLt; change (y 2).val < 512 at this; omega⟩)
    (headOf Y (y 0) ⟨(y 2).val / 128, by have := (y 2).isLt; change (y 2).val < 512 at this; omega⟩)
    (headOf W (y 0) ⟨(y 2).val / 128, by have := (y 2).isLt; change (y 2).val < 512 at this; omega⟩)
    (y 1) ⟨(y 2).val % 128, Nat.mod_lt _ (by norm_num)⟩

section
variable (t : Fin cfg0.N)

/-- The batch of grid point `t`. -/
def bat : Fin 8 := grid0.coords t 0
/-- The head of grid point `t`. -/
def hd : Fin 4 := grid0.coords t 1

theorem emb0 (r : Fin 4352) (d : Fin 128) : (win0_0.blk t).view.emb (ix3 0 r d) = ix3 (bat t) r ⟨hd t * 128 + d, by omega⟩ := by
  blk_ext [i0, bat, hd]
theorem emb1 (r : Fin 4352) (d : Fin 128) : (win0_1.blk t).view.emb (ix3 0 r d) = ix3 (bat t) r ⟨hd t * 128 + d, by omega⟩ := by
  blk_ext [i1, bat, hd]
theorem emb2 (r : Fin 4352) (d : Fin 128) : (win0_2.blk t).view.emb (ix3 0 r d) = ix3 (bat t) r ⟨hd t * 128 + d, by omega⟩ := by
  blk_ext [i2, bat, hd]
theorem emb3 (r : Fin 4) (d : Fin 64) : (win0_3.blk t).view.emb (ix3 0 r d) = ix3 0 r d := by
  blk_ext [i3]
theorem emb4 (d : Fin 128) : (win0_4.blk t).view.emb (ix2 0 d) = ix2 0 d := by
  blk_ext [i4]
theorem emb5 (r : Fin 4352) (d : Fin 128) : (win0_5.blk t).view.emb (ix3 0 r d) = ix3 (bat t) r ⟨hd t * 128 + d, by omega⟩ := by
  blk_ext [i5, bat, hd]

include hX in
theorem blk0 (r : Fin 4352) (d : Fin 128) : iblk m c 0 t (ix3 0 r d) = (headOf X (bat t) (hd t) r d : EReal) := by
  blk_simp [iblk]
  rw [V_main_arg0]
  exact (congrArg _ (emb0 t r d)).trans (hX _ _ _)
include hY in
theorem blk1 (r : Fin 4352) (d : Fin 128) : iblk m c 1 t (ix3 0 r d) = (headOf Y (bat t) (hd t) r d : EReal) := by
  blk_simp [iblk]
  entry_read
  exact (congrArg (m ((c : Thread nD τ).loc main_arg1)) (emb1 t r d)).trans (hY _ _ _)
include hW in
theorem blk2 (r : Fin 4352) (d : Fin 128) : iblk m c 2 t (ix3 0 r d) = (headOf W (bat t) (hd t) r d : EReal) := by
  blk_simp [iblk]
  entry_read
  exact (congrArg (m ((c : Thread nD τ).loc main_arg2)) (emb2 t r d)).trans (hW _ _ _)
include hL in
theorem blk3 (r : Fin 4) (d : Fin 64) : iblk m c 3 t (ix3 0 r d) = (L r d : EReal) := by
  blk_simp [iblk]
  entry_read
  refine (congrArg (broadcastInDim S1x4x64 ![1, 2] bcast_S4x64_S1x4x64_1_2 (m ((c : Thread nD τ).loc main_arg3))) (emb3 t r d)).trans ?_
  pointwise
  exact hL _ _
theorem blk4 (d : Fin 128) : iblk m c 4 t (ix2 0 d) = m ((c : Thread nD τ).loc main_arg4) (ix1 d) := by
  blk_simp [iblk]
  entry_read
  refine (congrArg (shapeCast S1x128 (m ((c : Thread nD τ).loc main_arg4)) shapeCasts_S128_S1x128) (emb4 t d)).trans ?_
  pointwise
end

include hX hY hW hL in
theorem array_eq : (dats m 0 c).arrAt 5 cfg0.N
    = resultG X Y W L (fun l => m ((c : Thread nD τ).loc main_arg4) (ix1 l)) := by
  refine (dats m 0 c).arrAt_eq_of_covers 5 _ (by decide +kernel) fun t hf y => ?_
  blk_simp
  rw [after0_5]
  change S1x4352x128.Idx at y
  obtain ⟨r, l, rfl⟩ : ∃ (r : Fin 4352) (l : Fin 128), y = ix3 0 r l := ⟨y 1, y 2, by idx_ext⟩
  refine Eq.trans (out_block c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t) L
    _ _ _ (blk0 m c X hX t) (blk1 m c Y hY t) (blk2 m c W hW t) (blk3 m c L hL t) r l) ?_
  refine Eq.trans ?_ (congrArg (resultG X Y W L (fun l => m ((c : Thread nD τ).loc main_arg4) (ix1 l))) (emb5 t r l)).symm
  have e1 : ((hd t : ℕ) * 128 + l) / 128 = hd t := by omega
  have e2 : ((hd t : ℕ) * 128 + l) % 128 = l := by omega
  have e3 : (⟨((hd t : ℕ) * 128 + l) / 128, by omega⟩ : Fin 4) = hd t := Fin.ext e1
  have e4 : (⟨((hd t : ℕ) * 128 + l) % 128, by omega⟩ : Fin 128) = l := Fin.ext e2
  refine Eq.trans ?_ (show headRow (lamR L) (fun l => m ((c : Thread nD τ).loc main_arg4) (ix1 l))
    (headOf X (bat t) ⟨((hd t : ℕ) * 128 + l) / 128, by omega⟩) (headOf Y (bat t) ⟨((hd t : ℕ) * 128 + l) / 128, by omega⟩)
    (headOf W (bat t) ⟨((hd t : ℕ) * 128 + l) / 128, by omega⟩) r ⟨((hd t : ℕ) * 128 + l) % 128, by omega⟩ = _ from rfl)
  rw [e3, e4, show (fun l => iblk m c 4 t (ix2 0 l)) = _ from funext (blk4 m c t)]

end Cert.KernelIdeal.Hand

end
-- ==== Proof.RefArray.lean ====
/-
The reference's result at an index, over real entries: the same row of a head that the kernel computes.
-/
module

public import proofs.«01_k».proof.Proof.RefValue
public import proofs.«01_k».proof.Proof.Array

@[expose] public section

set_option maxRecDepth 16384

noncomputable section

namespace Cert.ReferenceIdeal.Hand

open Cert.ReferenceIdeal Cert.ReferenceIdeal.Gen Cert.Online
open Idealize.ShloMosaic Idealize.ShloMosaic.TcCoe Idealize.SL.Sem
open Cert.KernelIdeal.Hand (headOf lamR lamc_real)

/-- The factor of the scores. -/
theorem eighth : Ideal.ofBits .f32 0x3E000000#32 = ((1 / 8 : ℝ) : EReal) := by
  simp [Ideal.ofBits, Ideal.ieee]
  rw [← EReal.coe_mul]
  norm_num

/-- A row of the difference of the two maps against the values. -/
theorem row_real {n : ℕ} (lam : ℝ) (q : Fin 128 → ℝ) (K V : Fin n → Fin 128 → ℝ) (l : Fin 128) :
    (∑ x, (((Real.exp (dotH 0 q (K x) * (1 / 8)) / ∑ y, Real.exp (dotH 0 q (K y) * (1 / 8)) : ℝ) : EReal)
        - (lam : EReal) * ((Real.exp (dotH 1 q (K x) * (1 / 8)) / ∑ y, Real.exp (dotH 1 q (K y) * (1 / 8)) : ℝ) : EReal))
      * (V x l : EReal)) = (outv lam q K V l : EReal) := by
  simp only [← EReal.coe_mul, ← EReal.coe_sub]
  rw [coe_sum]
  refine congrArg _ ?_
  simp only [outv, av, wgt]
  rw [Finset.sum_div, Finset.sum_div, Finset.mul_sum, ← Finset.sum_sub_distrib]
  exact Finset.sum_congr rfl fun x _ => by ring

variable (dq dk dv : FVec Ideal S8x4352x512 .f32) (lv : FVec Ideal S4x64 .f32) (g : FVec Ideal S128 .f32)
  (X Y W : Fin 8 → Fin 4352 → Fin 512 → ℝ) (L : Fin 4 → Fin 64 → ℝ)
  (hX : ∀ b t d, dq (ix3 b t d) = (X b t d : EReal)) (hY : ∀ b t d, dk (ix3 b t d) = (Y b t d : EReal))
  (hW : ∀ b t d, dv (ix3 b t d) = (W b t d : EReal)) (hL : ∀ a d, lv (ix2 a d) = (L a d : EReal))

include hX in
theorem first_real (b : Fin 8) (h : Fin 4) (t : Fin 4352) (d : Fin 64) :
    first dq (ix4 b h t d) = (headOf X b h t (half 0 d) : EReal) := by
  rw [first_apply, hX, headOf]
  refine congrArg (fun i => (X b t i : EReal)) (Fin.ext ?_)
  simp [half]

include hX in
theorem second_real (b : Fin 8) (h : Fin 4) (t : Fin 4352) (d : Fin 64) :
    second dq (ix4 b h t d) = (headOf X b h t (half 1 d) : EReal) := by
  rw [second_apply, hX, headOf]
  refine congrArg (fun i => (X b t i : EReal)) (Fin.ext ?_)
  simp [half]
  omega

include hW in
theorem heads_real (b : Fin 8) (h : Fin 4) (t : Fin 4352) (d : Fin 128) :
    heads dv (ix4 b h t d) = (headOf W b h t d : EReal) := by
  rw [heads_apply, hW, headOf]

include hL in
theorem lam_real (i : S_.Idx) : lam lv i = (lamR L : EReal) := by
  have h : ∀ a b, ∑ x, lv (ix2 a x) * lv (ix2 b x) = ((∑ x, L a x * L b x : ℝ) : EReal) := fun a b => by
    rw [← coe_sum]
    exact Finset.sum_congr rfl fun x _ => by rw [hL, hL, EReal.coe_mul]
  rw [lam_apply, h, h, lamc_real, lamR, EReal.coe_add, EReal.coe_sub]
  rfl

/-- A product of two real rows, scaled. -/
theorem dot_real (e : Fin 2) (q k : Fin 128 → ℝ) :
    (∑ d, (q (half e d) : EReal) * (k (half e d) : EReal)) * Ideal.ofBits .f32 0x3E000000#32
      = ((dotH e q k * (1 / 8) : ℝ) : EReal) := by
  rw [EReal.coe_mul, eighth, dotH, ← coe_sum]
  simp only [EReal.coe_mul]

include hX hY hW hL in
theorem attn_real (b : Fin 8) (h : Fin 4) (t : Fin 4096) (l : Fin 128) :
    attn (score (first dq) (first dk)) (score (second dq) (second dk)) (heads dv) (lam lv) (ix4 b h t l)
      = (outv (lamR L) (headOf X b h ⟨t, by omega⟩) (headOf Y b h) (headOf W b h) l : EReal) := by
  have h0 : ∀ j, score (first dq) (first dk) (ix4 b h t j)
      = ((dotH 0 (headOf X b h ⟨t, by omega⟩) (headOf Y b h j) * (1 / 8) : ℝ) : EReal) := fun j => by
    simp only [score_apply, first_real _ X hX, first_real _ Y hY, dot_real]
  have h1 : ∀ j, score (second dq) (second dk) (ix4 b h t j)
      = ((dotH 1 (headOf X b h ⟨t, by omega⟩) (headOf Y b h j) * (1 / 8) : ℝ) : EReal) := fun j => by
    simp only [score_apply, second_real _ X hX, second_real _ Y hY, dot_real]
  rw [attn_apply, ← row_real]
  refine Finset.sum_congr rfl fun x _ => ?_
  rw [soft_apply _ b h t _ h0, soft_apply _ b h t _ h1, lam_real lv L hL, heads_real dv W hW]

include hX hY hW hL in
theorem attnC_real (b : Fin 8) (h : Fin 4) (t : Fin 256) (l : Fin 128) :
    attnC (scoreC (first dq) (first dk)) (scoreC (second dq) (second dk)) (heads dv) (lam lv) (ix4 b h t l)
      = (outv (lamR L) (headOf X b h ⟨4096 + t, by omega⟩) (fun j : Fin 256 => headOf Y b h ⟨4096 + j, by omega⟩)
          (fun j : Fin 256 => headOf W b h ⟨4096 + j, by omega⟩) l : EReal) := by
  have h0 : ∀ j : Fin 256, scoreC (first dq) (first dk) (ix4 b h t j)
      = ((dotH 0 (headOf X b h ⟨4096 + t, by omega⟩) (headOf Y b h ⟨4096 + j, by omega⟩) * (1 / 8) : ℝ) : EReal) := fun j => by
    simp only [scoreC_apply, first_real _ X hX, first_real _ Y hY, dot_real]
  have h1 : ∀ j : Fin 256, scoreC (second dq) (second dk) (ix4 b h t j)
      = ((dotH 1 (headOf X b h ⟨4096 + t, by omega⟩) (headOf Y b h ⟨4096 + j, by omega⟩) * (1 / 8) : ℝ) : EReal) := fun j => by
    simp only [scoreC_apply, second_real _ X hX, second_real _ Y hY, dot_real]
  rw [attnC_apply, ← row_real]
  refine Finset.sum_congr rfl fun x _ => ?_
  rw [softC_apply _ b h t _ h0, softC_apply _ b h t _ h1, lam_real lv L hL, heads_real dv W hW]

include hX hY hW hL in
/-- The reference at an index. -/
theorem result_real (b : Fin 8) (t : Fin 4352) (l : Fin 512) :
    result dq dk dv lv g (ix3 b t l)
      = headRow (lamR L) (fun x => g (ix1 x)) (headOf X b ⟨l / 128, by omega⟩) (headOf Y b ⟨l / 128, by omega⟩)
          (headOf W b ⟨l / 128, by omega⟩) t ⟨l % 128, Nat.mod_lt _ (by norm_num)⟩ := by
  rw [result_split, headRow]
  by_cases h : (t : ℕ) < 4096
  · rw [dif_pos h, if_pos h]
    exact out_apply _ g b ⟨t, h⟩ l _ fun x => attn_real dq dk dv lv X Y W L hX hY hW hL b _ ⟨t, h⟩ x
  · rw [dif_neg h, if_neg h]
    have e : (⟨4096 + (t - 4096), by omega⟩ : Fin 4352) = t := Fin.ext (by simp only; omega)
    refine outC_apply _ g b ⟨t - 4096, by omega⟩ l _ fun x =>
      (attnC_real dq dk dv lv X Y W L hX hY hW hL b _ ⟨t - 4096, by omega⟩ x).trans ?_
    simp only [e]

end Cert.ReferenceIdeal.Hand

end
-- ==== Proof.Pre.lean ====
/-
What the precondition says: the entries of the queries, keys, values and lambda vectors are real numbers.
-/
module

public import proofs.«01_k».proof.Proof.Gen.Pre_finite
public import proofs.«01_k».proof.Proof.Online
public import Idealize.ShloMosaic.Lib.Claim

@[expose] public section

set_option maxRecDepth 16384

noncomputable section

namespace Cert.Pre_finite.Hand

open Cert.Pre_finite Cert.Pre_finite.Gen Idealize.ShloMosaic

/-- Below infinity in absolute value is real. -/
theorem real_of_lt (x : EReal) (h : BitVec.ofBool (decide (max x (-x) < Ideal.ofBits .f32 0x7F800000#32)) = 1#1) :
    x = (x.toReal : EReal) := by
  have h' : max x (-x) < Ideal.ofBits .f32 0x7F800000#32 := by
    by_contra hn
    simp [hn] at h
  have ht : Ideal.ofBits .f32 0x7F800000#32 = ⊤ := by simp [Ideal.ofBits, Ideal.ieee]
  rw [ht, max_lt_iff] at h'
  refine (EReal.coe_toReal h'.1.ne ?_).symm
  rintro rfl
  simp at h'

theorem real3 (x : FVec Ideal S8x4352x512 .f32)
    (h : cmpf .olt (Host.absf x) (broadcastInDim S8x4352x512 ![] bcast_S_S8x4352x512 (constant (F := Ideal) S_ .f32 0x7F800000#32))
      = fun _ => 1#1) (i : S8x4352x512.Idx) : x i = ((x i).toReal : EReal) :=
  real_of_lt _ (congrFun h i)

theorem real2 (x : FVec Ideal S4x64 .f32)
    (h : cmpf .olt (Host.absf x) (broadcastInDim S4x64 ![] bcast_S_S4x64 (constant (F := Ideal) S_ .f32 0x7F800000#32))
      = fun _ => 1#1) (i : S4x64.Idx) : x i = ((x i).toReal : EReal) :=
  real_of_lt _ (congrFun h i)

end Cert.Pre_finite.Hand

end
-- ==== Proof.PostRow.lean ====
/-
One token's row through the output projection's residual, the two layer norms and the gated feed-forward layer, over the
extended reals.
-/
module

public import Idealize.ShloMosaic.PureOps.Ideal
public import Idealize.ShloMosaic.Lib.Pointwise

@[expose] public section

noncomputable section

namespace Cert.Post

open Idealize.ShloMosaic

/-- A row of the model's width. -/
abbrev Row := Fin 1024 → EReal

/-- The mean of a row. -/
def mean (z : Row) : EReal := Ideal.div (∑ x, z x) (Ideal.ofBits .f32 0x44800000#32)

/-- A row less its mean. -/
def centred (z : Row) : Row := fun d => z d - mean z

/-- The layer norm of a row with gain `g` and shift `b`. -/
def layerNorm (g b z : Row) : Row := fun d =>
  centred z d * Ideal.rsqrt (mean (fun x => centred z x * centred z x) + Ideal.ofBits .f32 0x3727C5AC#32) * g d + b d

/-- The residual with a gated branch `y`. -/
def resid (x gate y : Row) : Row := fun d => Ideal.ofBits .f32 0x3FD744FD#32 * x d + gate d * y d

/-- A row scaled and shifted. -/
def modulate (x shift scale : Row) : Row := fun d => x d * (1 + scale d) + shift d

/-- The gated unit `j`: `u` and `v` are the two halves of the first projection. -/
def unit {ι : Type} (x : Row) (u v : Fin 1024 → ι → EReal) (j : ι) : EReal :=
  (∑ k, x k * u k j) * Ideal.logistic (∑ k, x k * u k j) * ∑ k, x k * v k j

/-- The feed-forward layer. -/
def ffn (wi : Fin 1024 → Fin 5632 → EReal) (wo : Fin 2816 → Row) (x : Row) : Row := fun d =>
  ∑ j : Fin 2816, unit x (fun k (j : Fin 2816) => wi k ⟨j, by omega⟩) (fun k (j : Fin 2816) => wi k ⟨2816 + j, by omega⟩) j * wo j d

/-- A token's row after the block: `x` before it, `y` the mixers' projected output, `md` the six modulation rows. -/
def post (md : Fin 6 → Row) (g1 b1 g2 b2 : Row) (wi : Fin 1024 → Fin 5632 → EReal) (wo : Fin 2816 → Row) (x y : Row) : Row :=
  layerNorm g2 b2 (resid (layerNorm g1 b1 (resid x (md 2) y)) (md 5)
    (ffn wi wo (modulate (layerNorm g1 b1 (resid x (md 2) y)) (md 3) (md 4))))

/-- Unit `i`'s term of the feed-forward layer, zero past the last. -/
def term (wi : Fin 1024 → Fin 5632 → EReal) (wo : Fin 2816 → Row) (x : Row) (d : Fin 1024) (i : ℕ) : EReal :=
  if h : i < 2816 then
    unit x (fun k (j : Fin 2816) => wi k ⟨j, by omega⟩) (fun k (j : Fin 2816) => wi k ⟨2816 + j, by omega⟩) ⟨i, h⟩ * wo ⟨i, h⟩ d
  else 0

/-- The feed-forward layer over the first `n` units. -/
def partialFfn (wi : Fin 1024 → Fin 5632 → EReal) (wo : Fin 2816 → Row) (x : Row) (n : ℕ) (d : Fin 1024) : EReal :=
  ∑ i : Fin n, term wi wo x d i

theorem ffn_eq (wi : Fin 1024 → Fin 5632 → EReal) (wo : Fin 2816 → Row) (x : Row) (d : Fin 1024) :
    ffn wi wo x d = partialFfn wi wo x 2816 d :=
  Finset.sum_congr rfl fun j _ => by rw [term, dif_pos j.isLt]

theorem partialFfn_add (wi : Fin 1024 → Fin 5632 → EReal) (wo : Fin 2816 → Row) (x : Row) (n k : ℕ) (d : Fin 1024) :
    partialFfn wi wo x n d + ∑ i : Fin k, term wi wo x d (n + i) = partialFfn wi wo x (n + k) d := by
  unfold partialFfn; rw [Fin.sum_univ_add]; rfl

/-- A block of 256 units, from the columns and rows loaded for it. -/
theorem block_eq (wi : Fin 1024 → Fin 5632 → EReal) (wo : Fin 2816 → Row) (x : Row) (o : ℕ) (ho : o + 256 ≤ 2816)
    (u v : Fin 1024 → Fin 256 → EReal) (w : Fin 256 → Row) (hu : ∀ k j, u k j = wi k ⟨o + j, by omega⟩)
    (hv : ∀ k j, v k j = wi k ⟨2816 + o + j, by omega⟩) (hw : ∀ j d, w j d = wo ⟨o + j, by omega⟩ d) (d : Fin 1024) :
    ∑ j, unit x u v j * w j d = ∑ j : Fin 256, term wi wo x d (o + j) :=
  Finset.sum_congr rfl fun j _ => by
    rw [term, dif_pos (by omega), hw]
    unfold unit
    simp only [hu, hv, Nat.add_assoc]

/-- The projection of three parts of a row against their rows of the weights is the projection of the whole. -/
theorem projection_split (f : Fin 1024 → EReal) (g : Fin 256 → EReal) (h : Fin 512 → EReal) (k : Fin 256 → EReal)
    (hg : ∀ i, g i = f ⟨i, by omega⟩) (hh : ∀ i, h i = f ⟨256 + i, by omega⟩) (hk : ∀ i, k i = f ⟨768 + i, by omega⟩) :
    (∑ i, g i) + (∑ i, h i) + ∑ i, k i = ∑ i, f i := by
  rw [show (∑ i, f i) = ∑ i : Fin (256 + 512 + 256), f i from rfl, Fin.sum_univ_add, Fin.sum_univ_add]
  exact congrArg₂ _ (congrArg₂ _ (Finset.sum_congr rfl fun i _ => hg i) (Finset.sum_congr rfl fun i _ => hh i))
    (Finset.sum_congr rfl fun i _ => hk i)

/-- The mixers' three outputs of a token, side by side, against the output projection. -/
def proj (w : Fin 1024 → Row) (a : Fin 256 → EReal) (b : Fin 512 → EReal) (c : Fin 256 → EReal) : Row := fun d =>
  (∑ i : Fin 256, a i * w ⟨i, by omega⟩ d) + (∑ i : Fin 512, b i * w ⟨256 + i, by omega⟩ d) + ∑ i : Fin 256, c i * w ⟨768 + i, by omega⟩ d

/-- The heads of a pair exchanged: head `2 p + e` at the place of head `2 e + p`. -/
def swap (i : Fin 256) : Fin 256 := ⟨(i : ℕ) / 64 % 2 * 128 + (i : ℕ) / 128 * 64 + (i : ℕ) % 64, by omega⟩

theorem swap_swap : Function.Involutive swap := by unfold Function.Involutive; decide +kernel

/-- A sum over the lanes is the same in either order of the heads. -/
theorem sum_swap (f : Fin 256 → EReal) : ∑ i, f (swap i) = ∑ i, f i := Equiv.sum_comp swap_swap.toPerm f

/-- With the last lanes' heads exchanged in both factors, the projection is the same. -/
theorem proj_swapped (w w' : Fin 1024 → Row) (a a' : Fin 256 → EReal) (b b' : Fin 512 → EReal) (c c' : Fin 256 → EReal)
    (ha : ∀ i, a' i = a i) (hb : ∀ i, b' i = b i) (hc : ∀ i, c' i = c (swap i))
    (hw : ∀ (i : Fin 1024) d, (i : ℕ) < 768 → w' i d = w i d)
    (hs : ∀ (i : Fin 256) d, w' ⟨768 + i, by omega⟩ d = w ⟨768 + swap i, by omega⟩ d) : proj w' a' b' c' = proj w a b c := by
  funext d
  unfold proj
  refine congrArg₂ _ (congrArg₂ _ (Finset.sum_congr rfl fun i _ => congrArg₂ _ (ha i) (hw _ d (show (i : ℕ) < 768 by omega)))
    (Finset.sum_congr rfl fun i _ => congrArg₂ _ (hb i) (hw _ d (show 256 + (i : ℕ) < 768 by omega)))) ?_
  exact (Finset.sum_congr rfl fun i _ => congrArg₂ _ (hc i) (hs i d)).trans (sum_swap fun i => c i * w ⟨768 + i, by omega⟩ d)

end Cert.Post

end
-- ==== Proof.PostTile.lean ====
/-
The block kernel's values at an index, stage by stage: a row of 512 tokens' block is the row's own function.
-/
module

public import proofs.«01_k».proof.Proof.Gen.Kernel2Ideal.Value
public import proofs.«01_k».proof.Proof.PostRow

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen Cert.Post

/-- Row `r`'s modulation: the first 256 rows of a block take `v1`, the others `v3`. -/
def half (v1 v3 : FVec Ideal S6x1024 .f32) (r : Fin 512) (i : Fin 6) : Row := fun d =>
  if (r : ℕ) < 256 then v1 (ix2 i d) else v3 (ix2 i d)

/-- Row `r` of a matrix of 512 rows. -/
def rowOf {φ : FTy} (z : FVec Ideal S512x1024 φ) (r : Fin 512) : Row := fun d => z (ix2 r d)

/-- The one row of a vector kept as a matrix. -/
def vec (g : Vec Ideal S1x1024 .f32) : Row := fun d => g (ix2 0 d)

theorem back (r : Fin 512) (h : ¬ (r : ℕ) < 256) (p : 256 + ((r : ℕ) - 256) < 512) : (⟨256 + ((r : ℕ) - 256), p⟩ : Fin 512) = r :=
  Fin.ext (show 256 + ((r : ℕ) - 256) = r by omega)

theorem project_apply (a : Vec Ideal S1x512x256 .bf16) (w0 : Vec Ideal S256x1024 .bf16) (b : Vec Ideal S1x512x512 .bf16)
    (w1 : Vec Ideal S512x1024 .bf16) (c : Vec Ideal S1x512x256 .bf16) (w2 : Vec Ideal S256x1024 .bf16) (r : Fin 512) (d : Fin 1024) :
    k0_pay4 a w0 b w1 c w2 (ix2 r d)
      = (∑ i, a (ix3 0 r i) * w0 (ix2 i d)) + (∑ i, b (ix3 0 r i) * w1 (ix2 i d)) + ∑ i, c (ix3 0 r i) * w2 (ix2 i d) := by
  pointwise [k0_pay4]

section Norm
variable (m0 m1 : Vec Ideal S1x1x6x1024 .f32) (a : Vec Ideal S1x512x256 .bf16) (w0 : Vec Ideal S256x1024 .bf16) (b : Vec Ideal S1x512x512 .bf16)
    (w1 : Vec Ideal S512x1024 .bf16) (c : Vec Ideal S1x512x256 .bf16) (w2 : Vec Ideal S256x1024 .bf16) (x : Vec Ideal S1x512x1024 .f32)
    (g s : Vec Ideal S1x1024 .f32)

/-- The first layer norm. -/
theorem norm1_row (r : Fin 512) :
    rowOf (k0_pay9 (k0_pay3 m1) (k0_pay4 a w0 b w1 c w2) (k0_pay5 x) (k0_pay6 a w0 b w1 c w2) (k0_pay7 x) (k0_pay8 m0) g s) r
      = layerNorm (vec g) (vec s) (resid (fun d => x (ix3 0 r d)) (half (k0_pay2 m0) (k0_pay3 m1) r 2) (rowOf (k0_pay4 a w0 b w1 c w2) r)) := by
  funext d
  unfold rowOf
  pointwise [k0_pay9, k0_pay5, k0_pay6, k0_pay7, k0_pay8]
  by_cases h : (r : ℕ) < 256
  · simp only [dif_pos h, layerNorm, centred, mean, resid, half, if_pos h, rowOf, vec]
  · simp only [dif_neg h, layerNorm, centred, mean, resid, half, if_neg h, rowOf, vec, back r h]

end Norm

section Modulate
variable (v1 v3 : FVec Ideal S6x1024 .f32) (v20 v22 : FVec Ideal S512x1024 .f32) (v24 v26 : FVec Ideal S256x1024 .f32)
  (v27 : FVec Ideal S1x1024 .f32) (v40 v42 : Vec Ideal S1x1024 .f32)

/-- The feed-forward layer's input. -/
theorem modulate_row (r : Fin 512) :
    rowOf (k0_pay14 v3 (k0_pay10 v1 v3 v20 v22 v24 v26 v27 v40 v42) (k0_pay11 v3 v20 v22 v24 v26 v27 v40 v42) (k0_pay12 v3) (k0_pay13 (F := Ideal))) r
      = modulate (rowOf (k0_pay9 v3 v20 v22 v24 v26 v27 v40 v42) r) (half v1 v3 r 3) (half v1 v3 r 4) := by
  funext d
  unfold rowOf
  pointwise [k0_pay14, k0_pay10, k0_pay11, k0_pay12, k0_pay13]
  by_cases h : (r : ℕ) < 256
  · simp only [dif_pos h, modulate, half, if_pos h, rowOf]
  · simp only [dif_neg h, modulate, half, if_neg h, rowOf, back r h]

end Modulate

section Ffn
variable (x : FVec Ideal S512x1024 .bf16) (acc : FVec Ideal S512x1024 .f32) (u v u' v' u'' v'' : Vec Ideal S1024x256 .bf16)
  (w w' w'' : Vec Ideal S256x1024 .bf16) (r : Fin 512) (d : Fin 1024)

/-- One block of the feed-forward layer's units. -/
def chunk (z : Row) (u v : Vec Ideal S1024x256 .bf16) (w : Vec Ideal S256x1024 .bf16) (d : Fin 1024) : EReal :=
  ∑ j : Fin 256, unit z (fun k j => u (ix2 k j)) (fun k j => v (ix2 k j)) j * w (ix2 j d)

theorem pay15_apply (v3 : FVec Ideal S6x1024 .f32) (v72 v73 : FVec Ideal S256x1024 .f32) (v74 v75 : FVec Ideal S1x1024 .f32) :
    k0_pay15 v3 v72 v73 v74 v75 u v w u' v' w' (ix2 r d)
      = chunk (rowOf (k0_pay14 v3 v72 v73 v74 v75) r) u v w d + chunk (rowOf (k0_pay14 v3 v72 v73 v74 v75) r) u' v' w' d := by
  pointwise [k0_pay15]
  rfl

theorem pay17_apply : k0_pay17 x acc (k0_pay16 u) v w u' v' w' (ix2 r d)
    = acc (ix2 r d) + chunk (rowOf x r) u v w d + chunk (rowOf x r) u' v' w' d := by
  pointwise [k0_pay17, k0_pay16]
  rfl

theorem pay19_apply : k0_pay19 x acc (k0_pay18 x u v) w u' v' w' u'' v'' w'' (ix2 r d)
    = acc (ix2 r d) + chunk (rowOf x r) u v w d + chunk (rowOf x r) u' v' w' d + chunk (rowOf x r) u'' v'' w'' d := by
  pointwise [k0_pay19, k0_pay18]
  rfl

theorem pay21_apply : k0_pay21 x acc (k0_pay20 x u) v w u' v' w' u'' v'' w'' (ix2 r d)
    = acc (ix2 r d) + chunk (rowOf x r) u v w d + chunk (rowOf x r) u' v' w' d + chunk (rowOf x r) u'' v'' w'' d := by
  pointwise [k0_pay21, k0_pay20]
  rfl

variable (v1 v3 : FVec Ideal S6x1024 .f32) (x1 : FVec Ideal S512x1024 .f32)

set_option maxHeartbeats 2000000 in
/-- The second residual less its mean. -/
theorem centred_row :
    rowOf (k0_pay24 v1 v3 x1 x acc u v w) r
      = centred (resid (rowOf x1 r) (half v1 v3 r 5) (fun d => acc (ix2 r d) + chunk (rowOf x r) u v w d)) := by
  funext d
  unfold rowOf
  pointwise [k0_pay24]
  by_cases h : (r : ℕ) < 256
  · simp only [dif_pos h, centred, mean, resid, half, if_pos h, rowOf, chunk, unit]
  · simp only [dif_neg h, centred, mean, resid, half, if_neg h, rowOf, back r h, chunk, unit]

theorem out_apply (g s : Vec Ideal S1x1024 .f32) :
    k0_pay1 (k0_pay22 g) (k0_pay23 s) (k0_pay24 v1 v3 x1 x acc u v w) (k0_pay25 v1 v3 x1 x acc u v w) (ix3 0 r d)
      = layerNorm (vec g) (vec s) (resid (rowOf x1 r) (half v1 v3 r 5) (fun d => acc (ix2 r d) + chunk (rowOf x r) u v w d)) d := by
  have h : ∀ d, k0_pay24 v1 v3 x1 x acc u v w (ix2 r d) = _ := fun d => congrFun (centred_row x acc u v w r v1 v3 x1) d
  pointwise [k0_pay1, k0_pay22, k0_pay23, k0_pay25]
  simp only [h]
  rfl

end Ffn

section Tile
variable (m0 m1 : Vec Ideal S1x1x6x1024 .f32) (a : Vec Ideal S1x512x256 .bf16) (w0 : Vec Ideal S256x1024 .bf16) (b : Vec Ideal S1x512x512 .bf16)
    (w1 : Vec Ideal S512x1024 .bf16) (c : Vec Ideal S1x512x256 .bf16) (w2 : Vec Ideal S256x1024 .bf16) (x : Vec Ideal S1x512x1024 .f32)
    (g1 s1 g2 s2 : Vec Ideal S1x1024 .f32) (U V : Fin 11 → Vec Ideal S1024x256 .bf16) (W : Fin 11 → Vec Ideal S256x1024 .bf16)

/-- The block after its first layer norm. -/
def first : FVec Ideal S512x1024 .f32 :=
  k0_pay9 (k0_pay3 m1) (k0_pay4 a w0 b w1 c w2) (k0_pay5 x) (k0_pay6 a w0 b w1 c w2) (k0_pay7 x) (k0_pay8 m0) g1 s1

/-- The modulated block. -/
def fed : FVec Ideal S512x1024 .bf16 :=
  k0_pay14 (k0_pay3 m1)
    (k0_pay10 (k0_pay2 m0) (k0_pay3 m1) (k0_pay4 a w0 b w1 c w2) (k0_pay5 x) (k0_pay6 a w0 b w1 c w2) (k0_pay7 x) (k0_pay8 m0) g1 s1)
    (k0_pay11 (k0_pay3 m1) (k0_pay4 a w0 b w1 c w2) (k0_pay5 x) (k0_pay6 a w0 b w1 c w2) (k0_pay7 x) (k0_pay8 m0) g1 s1)
    (k0_pay12 (k0_pay3 m1)) (k0_pay13 (F := Ideal))

/-- The feed-forward layer after two blocks of units. -/
def acc2 : FVec Ideal S512x1024 .f32 :=
  k0_pay15 (k0_pay3 m1)
    (k0_pay10 (k0_pay2 m0) (k0_pay3 m1) (k0_pay4 a w0 b w1 c w2) (k0_pay5 x) (k0_pay6 a w0 b w1 c w2) (k0_pay7 x) (k0_pay8 m0) g1 s1)
    (k0_pay11 (k0_pay3 m1) (k0_pay4 a w0 b w1 c w2) (k0_pay5 x) (k0_pay6 a w0 b w1 c w2) (k0_pay7 x) (k0_pay8 m0) g1 s1)
    (k0_pay12 (k0_pay3 m1)) (k0_pay13 (F := Ideal)) (U 0) (V 0) (W 0) (U 1) (V 1) (W 1)

variable (z : FVec Ideal S512x1024 .bf16) (acc : FVec Ideal S512x1024 .f32)

/-- The feed-forward layer after ten blocks of units, `acc` its sum after two. -/
def acc10 : FVec Ideal S512x1024 .f32 :=
  k0_pay21 z
    (k0_pay19 z (k0_pay17 z acc (k0_pay16 (U 2)) (V 2) (W 2) (U 3) (V 3) (W 3)) (k0_pay18 z (U 4) (V 4)) (W 4)
      (U 5) (V 5) (W 5) (U 6) (V 6) (W 6))
    (k0_pay20 z (U 7)) (V 7) (W 7) (U 8) (V 8) (W 8) (U 9) (V 9) (W 9)

/-- The block after its second layer norm. -/
def second (x1 : FVec Ideal S512x1024 .f32) : FVec Ideal S1x512x1024 .f32 :=
  k0_pay1 (k0_pay22 g2) (k0_pay23 s2)
    (k0_pay24 (k0_pay2 m0) (k0_pay3 m1) x1 z acc (U 10) (V 10) (W 10))
    (k0_pay25 (k0_pay2 m0) (k0_pay3 m1) x1 z acc (U 10) (V 10) (W 10))

/-- What one grid point writes. -/
def tile : FVec Ideal S1x512x1024 .f32 :=
  second m0 m1 g2 s2 U V W (fed m0 m1 a w0 b w1 c w2 x g1 s1)
    (acc10 U V W (fed m0 m1 a w0 b w1 c w2 x g1 s1) (acc2 m0 m1 a w0 b w1 c w2 x g1 s1 U V W))
    (first m0 m1 a w0 b w1 c w2 x g1 s1)

variable (wi : Fin 1024 → Fin 5632 → EReal) (wo : Fin 2816 → Row)
  (hU : ∀ n k j (h : 256 * n.val + j.val < 5632), U n (ix2 k j) = wi k ⟨256 * n.val + j.val, h⟩)
  (hV : ∀ n k j (h : 2816 + 256 * n.val + j.val < 5632), V n (ix2 k j) = wi k ⟨2816 + 256 * n.val + j.val, h⟩)
  (hW : ∀ n j d (h : 256 * n.val + j.val < 2816), W n (ix2 j d) = wo ⟨256 * n.val + j.val, h⟩ d)

include hU hV hW in
theorem chunk_add (y : Row) (n : Fin 11) (k : ℕ) (hk : k = 256 * n.val) (d : Fin 1024) :
    partialFfn wi wo y k d + chunk y (U n) (V n) (W n) d = partialFfn wi wo y (k + 256) d := by
  subst hk
  rw [← partialFfn_add]
  exact congrArg _ (block_eq wi wo y _ (by omega) _ _ _ (fun k j => hU n k j _) (fun k j => hV n k j _)
    (fun j d => hW n j d _) d)

include hU hV hW in
theorem acc10_apply (r : Fin 512) (y : Row) (hz : rowOf z r = y) (d : Fin 1024) (ha : acc (ix2 r d) = partialFfn wi wo y 512 d) :
    acc10 U V W z acc (ix2 r d) = partialFfn wi wo y 2560 d := by
  unfold acc10
  rw [pay21_apply, pay19_apply, pay17_apply, ha, hz]
  rw [chunk_add U V W wi wo hU hV hW y 2 512 rfl, chunk_add U V W wi wo hU hV hW y 3 768 rfl, chunk_add U V W wi wo hU hV hW y 4 1024 rfl,
    chunk_add U V W wi wo hU hV hW y 5 1280 rfl, chunk_add U V W wi wo hU hV hW y 6 1536 rfl, chunk_add U V W wi wo hU hV hW y 7 1792 rfl,
    chunk_add U V W wi wo hU hV hW y 8 2048 rfl, chunk_add U V W wi wo hU hV hW y 9 2304 rfl]

include hU hV hW in
/-- A row of the block. -/
theorem tile_apply (md : Fin 512 → Fin 6 → Row) (hmd : ∀ r i, half (k0_pay2 m0) (k0_pay3 m1) r i = md r i) (r : Fin 512) (y : Row)
    (hy : rowOf (k0_pay4 a w0 b w1 c w2) r = y) (d : Fin 1024) :
    tile m0 m1 a w0 b w1 c w2 x g1 s1 g2 s2 U V W (ix3 0 r d)
      = post (md r) (vec g1) (vec s1) (vec g2) (vec s2) wi wo (fun d => x (ix3 0 r d)) y d := by
  have h1 : rowOf (first m0 m1 a w0 b w1 c w2 x g1 s1) r = _ := norm1_row m0 m1 a w0 b w1 c w2 x g1 s1 r
  have h2 : rowOf (fed m0 m1 a w0 b w1 c w2 x g1 s1) r = _ := modulate_row _ _ _ _ _ _ _ _ _ r
  have h1' := h1
  unfold first at h1'
  rw [h1'] at h2
  simp only [hmd, hy] at h1 h2
  have h0 : ∀ d, acc2 m0 m1 a w0 b w1 c w2 x g1 s1 U V W (ix2 r d) = partialFfn wi wo (rowOf (fed m0 m1 a w0 b w1 c w2 x g1 s1) r) 512 d := by
    intro d
    refine (pay15_apply _ _ _ _ _ _ r d _ _ _ _ _).trans ?_
    rw [← chunk_add U V W wi wo hU hV hW _ 1 256 rfl, ← zero_add 256, ← chunk_add U V W wi wo hU hV hW _ 0 0 rfl]
    rw [show partialFfn wi wo _ 0 d = 0 from Fin.sum_univ_zero _, zero_add]
    rfl
  unfold tile second
  rw [out_apply]
  have e : (fun d => acc10 U V W (fed m0 m1 a w0 b w1 c w2 x g1 s1) (acc2 m0 m1 a w0 b w1 c w2 x g1 s1 U V W) (ix2 r d)
      + chunk (rowOf (fed m0 m1 a w0 b w1 c w2 x g1 s1) r) (U 10) (V 10) (W 10) d)
      = ffn wi wo (rowOf (fed m0 m1 a w0 b w1 c w2 x g1 s1) r) := by
    funext d
    rw [acc10_apply U V W _ _ wi wo hU hV hW r _ rfl d (h0 d), chunk_add U V W wi wo hU hV hW _ 10 2560 rfl, ffn_eq]
  rw [e, h1, h2, hmd]
  rfl

include hU hV hW in
/-- A row of the block, from what the pieces loaded hold. -/
theorem tile_post (r : Fin 512) (md0 md1 : Fin 6 → Row) (w : Fin 1024 → Row) (fa : Fin 256 → EReal) (fb : Fin 512 → EReal)
    (fc : Fin 256 → EReal) (fx h1 k1 h2 k2 : Row) (e0 : ∀ i d, m0 (ix4 0 0 i d) = md0 i d) (e1 : ∀ i d, m1 (ix4 0 0 i d) = md1 i d)
    (ea : ∀ i, a (ix3 0 r i) = fa i) (eb : ∀ i, b (ix3 0 r i) = fb i) (ec : ∀ i, c (ix3 0 r i) = fc i)
    (ew0 : ∀ (i : Fin 256) d, w0 (ix2 i d) = w ⟨i, by omega⟩ d) (ew1 : ∀ (i : Fin 512) d, w1 (ix2 i d) = w ⟨256 + i, by omega⟩ d)
    (ew2 : ∀ (i : Fin 256) d, w2 (ix2 i d) = w ⟨768 + i, by omega⟩ d) (ex : ∀ d, x (ix3 0 r d) = fx d)
    (eh1 : vec g1 = h1) (ek1 : vec s1 = k1) (eh2 : vec g2 = h2) (ek2 : vec s2 = k2) (d : Fin 1024) :
    tile m0 m1 a w0 b w1 c w2 x g1 s1 g2 s2 U V W (ix3 0 r d)
      = post (fun i => if (r : ℕ) < 256 then md0 i else md1 i) h1 k1 h2 k2 wi wo fx (proj w fa fb fc) d := by
  refine (tile_apply m0 m1 a w0 b w1 c w2 x g1 s1 g2 s2 U V W wi wo hU hV hW (fun r => half (k0_pay2 m0) (k0_pay3 m1) r) (fun _ _ => rfl) r
    (proj w fa fb fc) ?_ d).trans ?_
  · funext d
    refine (project_apply _ _ _ _ _ _ r d).trans ?_
    exact congrArg₂ _ (congrArg₂ _ (Finset.sum_congr rfl fun i _ => congrArg₂ _ (ea i) (ew0 i d))
      (Finset.sum_congr rfl fun i _ => congrArg₂ _ (eb i) (ew1 i d))) (Finset.sum_congr rfl fun i _ => congrArg₂ _ (ec i) (ew2 i d))
  · rw [eh1, ek1, eh2, ek2, funext ex]
    refine congrArg (fun md => post md h1 k1 h2 k2 wi wo fx (proj w fa fb fc) d) (funext fun i => ?_)
    funext d
    unfold half
    pointwise [k0_pay2, k0_pay3]
    rw [apply_ite (fun f : Row => f d)]
    exact if_congr Iff.rfl (e0 i d) (e1 i d)

end Tile

end Cert.Kernel2Ideal.Hand

end
-- ==== Proof.PostBlock.lean ====
/-
What one grid point of the block kernel leaves in its output's block.
-/
module

public import proofs.«01_k».proof.Proof.PostTile
public import Idealize.ShloMosaic.Lib.WholeRead
import all proofs.«01_k».proof.Proof.Gen.Kernel2Ideal.Frame.RunA

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen Cert.Post

section Loads
variable {e : EltTy}

/-- A load of a rectangle of a matrix held whole. -/
theorem load_rect {n m : ℕ} (a : Memref sig .tc .vmem ⟨2, ![n, m]⟩ e) (h : a.IsWhole) (X : Vec Ideal ⟨2, ![n, m]⟩ e) (n' m' o p : ℕ)
    (inb : ∀ x, ![o, p] x + (⟨2, ![n', m']⟩ : Shape).size x ≤ (⟨2, ![n, m]⟩ : Shape).size x) (j : Fin n') (d : Fin m')
    (hj : o + j < n) (hd : p + d < m) :
    View.readAt (Elt Ideal) a.view (Rect.unit (s := ⟨2, ![n, m]⟩) ![o, p] (⟨2, ![n', m']⟩ : Shape).size inb).toLoadRect (h.unread X) (ix2 j d)
      = X (ix2 ⟨o + j, hj⟩ ⟨p + d, hd⟩) := by
  rw [h.readAt_unread]
  refine congrArg X (funext fun x => ?_)
  fin_cases x <;> refine Fin.ext ?_ <;> simp [LoadRect.idx, Rect.toLoadRect, Rect.unit]

/-- A load of the whole of a three-dimensional block. -/
theorem load_whole {k n m : ℕ} (a : Memref sig .tc .vmem ⟨3, ![k, n, m]⟩ e) (h : a.IsWhole) (X : Vec Ideal ⟨3, ![k, n, m]⟩ e)
    (inb : ∀ x, ![0, 0, 0] x + (⟨3, ![k, n, m]⟩ : Shape).size x ≤ (⟨3, ![k, n, m]⟩ : Shape).size x) (i : Fin k) (j : Fin n) (d : Fin m) :
    View.readAt (Elt Ideal) a.view (Rect.unit (s := ⟨3, ![k, n, m]⟩) ![0, 0, 0] (⟨3, ![k, n, m]⟩ : Shape).size inb).toLoadRect (h.unread X) (ix3 i j d)
      = X (ix3 i j d) := by
  rw [h.readAt_unread]
  refine congrArg X (funext fun x => ?_)
  fin_cases x <;> refine Fin.ext ?_ <;> simp [LoadRect.idx, Rect.toLoadRect, Rect.unit]

/-- A load of the whole of a four-dimensional block. -/
theorem load_whole4 {k n m l : ℕ} (a : Memref sig .tc .vmem ⟨4, ![k, n, m, l]⟩ e) (h : a.IsWhole) (X : Vec Ideal ⟨4, ![k, n, m, l]⟩ e)
    (inb : ∀ x, ![0, 0, 0, 0] x + (⟨4, ![k, n, m, l]⟩ : Shape).size x ≤ (⟨4, ![k, n, m, l]⟩ : Shape).size x)
    (i : Fin k) (j : Fin n) (p : Fin m) (d : Fin l) :
    View.readAt (Elt Ideal) a.view (Rect.unit (s := ⟨4, ![k, n, m, l]⟩) ![0, 0, 0, 0] (⟨4, ![k, n, m, l]⟩ : Shape).size inb).toLoadRect (h.unread X) (ix4 i j p d)
      = X (ix4 i j p d) := by
  rw [h.readAt_unread]
  refine congrArg X (funext fun x => ?_)
  fin_cases x <;> refine Fin.ext ?_ <;> simp [LoadRect.idx, Rect.toLoadRect, Rect.unit]

/-- Columns `o` to `o + 256` of the first feed-forward weights lie inside. -/
theorem inb_cols (o : ℕ) (h : o + 256 ≤ 5632) : ∀ x, ![0, o] x + S1024x256.size x ≤ S1024x5632.size x := by
  intro x; fin_cases x
  · exact (show 0 + 1024 ≤ 1024 by omega)
  · exact h

/-- Rows `o` to `o + 256` of the second feed-forward weights lie inside. -/
theorem inb_rows (o : ℕ) (h : o + 256 ≤ 2816) : ∀ x, ![o, 0] x + S256x1024.size x ≤ S2816x1024.size x := by
  intro x; fin_cases x
  · exact h
  · exact (show 0 + 1024 ≤ 1024 by omega)

end Loads

variable (c : Dev nD) (i : grid0.Coords) (arg2 : Memref sig .tc .vmem S1x512x256 .bf16) (harg2 : arg2.IsWhole)
  (arg3 : Memref sig .tc .vmem S1x512x512 .bf16) (harg3 : arg3.IsWhole) (arg4 : Memref sig .tc .vmem S1x512x256 .bf16) (harg4 : arg4.IsWhole)
  (arg5 : Memref sig .tc .vmem S1x512x1024 .f32) (harg5 : arg5.IsWhole) (arg6 : Memref sig .tc .vmem S1x1x6x1024 .f32) (harg6 : arg6.IsWhole)
  (arg7 : Memref sig .tc .vmem S1x1x6x1024 .f32) (harg7 : arg7.IsWhole) (arg8 : Memref sig .tc .vmem S1024x1024 .bf16) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S1024x5632 .bf16) (harg11 : arg11.IsWhole) (arg12 : Memref sig .tc .vmem S2816x1024 .bf16) (harg12 : arg12.IsWhole)
  (arg13 : Memref sig .tc .vmem S1x1024 .f32) (harg13 : arg13.IsWhole) (arg14 : Memref sig .tc .vmem S1x1024 .f32) (harg14 : arg14.IsWhole)
  (arg15 : Memref sig .tc .vmem S1x512x1024 .f32) (harg15 : arg15.IsWhole)
  (x0 : Vec Ideal S1x512x256 .bf16) (x1 : Vec Ideal S1x512x512 .bf16) (x2 : Vec Ideal S1x512x256 .bf16) (x3 : Vec Ideal S1x512x1024 .f32)
  (x4 : Vec Ideal S1x1x6x1024 .f32) (x5 : Vec Ideal S1x1x6x1024 .f32) (x6 : Vec Ideal S1024x1024 .bf16) (x7 : Vec Ideal S1x1024 .f32)
  (x8 : Vec Ideal S1x1024 .f32) (x9 : Vec Ideal S1024x5632 .bf16) (x10 : Vec Ideal S2816x1024 .bf16) (x11 : Vec Ideal S1x1024 .f32)
  (x12 : Vec Ideal S1x1024 .f32)

/-- Block `n` of the gate's columns. -/
def gateCols (n : Fin 11) : Vec Ideal S1024x256 .bf16 :=
  View.readAt (Elt Ideal) arg11.view (Rect.unit (s := S1024x5632) ![0, 256 * n.val] S1024x256.size (inb_cols _ (by omega))).toLoadRect (harg11.unread x9)
/-- Block `n` of the up projection's columns. -/
def upCols (n : Fin 11) : Vec Ideal S1024x256 .bf16 :=
  View.readAt (Elt Ideal) arg11.view (Rect.unit (s := S1024x5632) ![0, 2816 + 256 * n.val] S1024x256.size (inb_cols _ (by omega))).toLoadRect (harg11.unread x9)
/-- Block `n` of the down projection's rows. -/
def downRows (n : Fin 11) : Vec Ideal S256x1024 .bf16 :=
  View.readAt (Elt Ideal) arg12.view (Rect.unit (s := S2816x1024) ![256 * n.val, 0] S256x1024.size (inb_rows _ (by omega))).toLoadRect (harg12.unread x10)

/-- The block one grid point writes, from what it loads. -/
def written : FVec Ideal S1x512x1024 .f32 :=
  tile (View.readAt (Elt Ideal) arg6.view (Rect.unit (s := S1x1x6x1024) ![0, 0, 0, 0] S1x1x6x1024.size inb_S1x1x6x1024_S1x1x6x1024_0_0_0_0).toLoadRect (harg6.unread x4))
    (View.readAt (Elt Ideal) arg7.view (Rect.unit (s := S1x1x6x1024) ![0, 0, 0, 0] S1x1x6x1024.size inb_S1x1x6x1024_S1x1x6x1024_0_0_0_0).toLoadRect (harg7.unread x5))
    (View.readAt (Elt Ideal) arg2.view (Rect.unit (s := S1x512x256) ![0, 0, 0] S1x512x256.size inb_S1x512x256_S1x512x256_0_0_0).toLoadRect (harg2.unread x0))
    (View.readAt (Elt Ideal) arg8.view (Rect.unit (s := S1024x1024) ![0, 0] S256x1024.size inb_S1024x1024_S256x1024_0_0).toLoadRect (harg8.unread x6))
    (View.readAt (Elt Ideal) arg3.view (Rect.unit (s := S1x512x512) ![0, 0, 0] S1x512x512.size inb_S1x512x512_S1x512x512_0_0_0).toLoadRect (harg3.unread x1))
    (View.readAt (Elt Ideal) arg8.view (Rect.unit (s := S1024x1024) ![256, 0] S512x1024.size inb_S1024x1024_S512x1024_256_0).toLoadRect (harg8.unread x6))
    (View.readAt (Elt Ideal) arg4.view (Rect.unit (s := S1x512x256) ![0, 0, 0] S1x512x256.size inb_S1x512x256_S1x512x256_0_0_0).toLoadRect (harg4.unread x2))
    (View.readAt (Elt Ideal) arg8.view (Rect.unit (s := S1024x1024) ![768, 0] S256x1024.size inb_S1024x1024_S256x1024_768_0).toLoadRect (harg8.unread x6))
    (View.readAt (Elt Ideal) arg5.view (Rect.unit (s := S1x512x1024) ![0, 0, 0] S1x512x1024.size inb_S1x512x1024_S1x512x1024_0_0_0).toLoadRect (harg5.unread x3))
    (View.readAt (Elt Ideal) arg9.view (Rect.unit (s := S1x1024) ![0, 0] S1x1024.size inb_S1x1024_S1x1024_0_0).toLoadRect (harg9.unread x7))
    (View.readAt (Elt Ideal) arg10.view (Rect.unit (s := S1x1024) ![0, 0] S1x1024.size inb_S1x1024_S1x1024_0_0).toLoadRect (harg10.unread x8))
    (View.readAt (Elt Ideal) arg13.view (Rect.unit (s := S1x1024) ![0, 0] S1x1024.size inb_S1x1024_S1x1024_0_0).toLoadRect (harg13.unread x11))
    (View.readAt (Elt Ideal) arg14.view (Rect.unit (s := S1x1024) ![0, 0] S1x1024.size inb_S1x1024_S1x1024_0_0).toLoadRect (harg14.unread x12))
    (gateCols arg11 harg11 x9) (upCols arg11 harg11 x9) (downRows arg12 harg12 x10)

/-- One grid point writes one piece, its whole block. -/
theorem run_pieces :
    (kernelRun0_A c i arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 x10 x11 x12).1
      = [⟨Rect.unit (s := S1x512x1024) ![0, 0, 0] S1x512x1024.size inb_S1x512x1024_S1x512x1024_0_0_0,
          written arg2 harg2 arg3 harg3 arg4 harg4 arg5 harg5 arg6 harg6 arg7 harg7 arg8 harg8 arg9 harg9 arg10 harg10 arg11 harg11
            arg12 harg12 arg13 harg13 arg14 harg14 x0 x1 x2 x3 x4 x5 x6 x7 x8 x9 x10 x11 x12⟩] := by
  unfold kernelRun0_A
  rfl

/-- The row a block's row `r` reads its modulation from. -/
def mods (x4 x5 : Vec Ideal S1x1x6x1024 .f32) (r : Fin 512) (i : Fin 6) : Row := fun d =>
  if (r : ℕ) < 256 then x4 (ix4 0 0 i d) else x5 (ix4 0 0 i d)

/-- What one grid point leaves in the output's block. -/
theorem out_block (r : Fin 512) (d : Fin 1024) :
    out0_A_13 c i arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 x10 x11 x12 (ix3 0 r d)
      = post (mods x4 x5 r) (vec x7) (vec x8) (vec x11) (vec x12) (fun k j => x9 (ix2 k j)) (fun j d => x10 (ix2 j d))
          (fun d => x3 (ix3 0 r d))
          (fun d => (∑ i, x0 (ix3 0 r i) * x6 (ix2 ⟨i, by omega⟩ d)) + (∑ i, x1 (ix3 0 r i) * x6 (ix2 ⟨256 + i, by omega⟩ d))
            + ∑ i, x2 (ix3 0 r i) * x6 (ix2 ⟨768 + i, by omega⟩ d)) d := by
  refine View.read_writes_apply_of_pieces _ _ (fun y : S1x512x1024.Idx =>
    post (mods x4 x5 (y 1)) (vec x7) (vec x8) (vec x11) (vec x12) (fun k j => x9 (ix2 k j)) (fun j d => x10 (ix2 j d))
          (fun d => x3 (ix3 0 (y 1) d))
          (fun d => (∑ i, x0 (ix3 0 (y 1) i) * x6 (ix2 ⟨i, by omega⟩ d)) + (∑ i, x1 (ix3 0 (y 1) i) * x6 (ix2 ⟨256 + i, by omega⟩ d))
            + ∑ i, x2 (ix3 0 (y 1) i) * x6 (ix2 ⟨768 + i, by omega⟩ d)) (y 2)) _ ?_ (ix3 0 r d)
    (cover0_A_13 c i arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 x10 x11 x12 _)
  rw [run_pieces]
  intro p hp
  obtain rfl := List.mem_singleton.mp hp
  intro x
  change S1x512x1024.Idx at x
  obtain ⟨r, l, rfl⟩ : ∃ (r : Fin 512) (l : Fin 1024), x = ix3 0 r l := ⟨x 1, x 2, by idx_ext⟩
  have e : (Rect.unit (s := S1x512x1024) ![0, 0, 0] S1x512x1024.size inb_S1x512x1024_S1x512x1024_0_0_0).emb (ix3 0 r l) = ix3 0 r l := by
    refine funext fun x => ?_
    fin_cases x <;> refine Fin.ext ?_ <;> simp [Rect.unit, Rect.emb]
  rw [e]
  have v : ∀ (a : Memref sig .tc .vmem S1x1024 .f32) (h : a.IsWhole) (X : Vec Ideal S1x1024 .f32),
      vec (View.readAt (Elt Ideal) a.view (Rect.unit (s := S1x1024) ![0, 0] S1x1024.size inb_S1x1024_S1x1024_0_0).toLoadRect (h.unread X)) = vec X := by
    intro a h X
    funext d
    exact (load_rect a h X 1 1024 0 0 _ 0 d (by simp) (by omega)).trans (congrArg X (by idx_ext))
  refine (tile_apply _ _ _ _ _ _ _ _ _ _ _ _ _ _ _ _ (fun k j => x9 (ix2 k j)) (fun j d => x10 (ix2 j d)) ?_ ?_ ?_ (mods x4 x5) ?_ r
    (fun d => (∑ i, x0 (ix3 0 r i) * x6 (ix2 ⟨i, by omega⟩ d)) + (∑ i, x1 (ix3 0 r i) * x6 (ix2 ⟨256 + i, by omega⟩ d))
            + ∑ i, x2 (ix3 0 r i) * x6 (ix2 ⟨768 + i, by omega⟩ d)) ?_ l).trans ?_
  · intro n k j _
    exact (load_rect arg11 harg11 x9 1024 256 0 _ _ k j (by omega) (by omega)).trans (congrArg₂ (fun a b => x9 (ix2 a b)) (Fin.ext (by simp)) (Fin.ext (by simp)))
  · intro n k j _
    exact (load_rect arg11 harg11 x9 1024 256 0 _ _ k j (by omega) (by omega)).trans (congrArg₂ (fun a b => x9 (ix2 a b)) (Fin.ext (by simp)) (Fin.ext (by simp)))
  · intro n j d _
    exact (load_rect arg12 harg12 x10 256 1024 _ 0 _ j d (by omega) (by omega)).trans (congrArg₂ (fun a b => x10 (ix2 a b)) (Fin.ext (by simp)) (Fin.ext (by simp)))
  · intro r i
    funext d
    unfold half mods
    pointwise [k0_pay2, k0_pay3]
    refine if_congr Iff.rfl ?_ ?_
    · exact load_whole4 arg6 harg6 x4 _ 0 0 i d
    · exact load_whole4 arg7 harg7 x5 _ 0 0 i d
  · funext d
    refine (project_apply _ _ _ _ _ _ r d).trans ?_
    refine congrArg₂ _ (congrArg₂ _ (Finset.sum_congr rfl fun i _ => congrArg₂ _ ?_ ?_) (Finset.sum_congr rfl fun i _ => congrArg₂ _ ?_ ?_))
      (Finset.sum_congr rfl fun i _ => congrArg₂ _ ?_ ?_)
    · exact load_whole arg2 harg2 x0 _ 0 r i
    · exact (load_rect arg8 harg8 x6 256 1024 0 0 _ i d (by omega) (by omega)).trans (congrArg x6 (by idx_ext))
    · exact load_whole arg3 harg3 x1 _ 0 r i
    · exact (load_rect arg8 harg8 x6 512 1024 256 0 _ i d (by omega) (by omega)).trans (congrArg x6 (by idx_ext))
    · exact load_whole arg4 harg4 x2 _ 0 r i
    · exact (load_rect arg8 harg8 x6 256 1024 768 0 _ i d (by omega) (by omega)).trans (congrArg x6 (by idx_ext))
  · rw [v, v, v, v]
    refine congrArg (fun f => post _ _ _ _ _ _ _ f _ l) (funext fun d => ?_)
    exact load_whole arg5 harg5 x3 _ 0 r d

end Cert.Kernel2Ideal.Hand

end
-- ==== Proof.PostArray.lean ====
/-
The block kernel's result array: every latent token of every batch.
-/
module

public import proofs.«01_k».proof.Proof.PostBlock
public import Idealize.ShloMosaic.Lib.Pipeline.ValueKit.Geometry
public import Idealize.ShloMosaic.Lib.Claim

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen Cert.Post

theorem i0 : ∀ t : Fin cfg0.N, win0_0.index t = ![(grid0.coords t 0).val, (grid0.coords t 1).val, 0] := by decide +kernel
theorem i1 : ∀ t : Fin cfg0.N, win0_1.index t = ![(grid0.coords t 0).val, (grid0.coords t 1).val, 0] := by decide +kernel
theorem i2 : ∀ t : Fin cfg0.N, win0_2.index t = ![(grid0.coords t 0).val, (grid0.coords t 1).val, 0] := by decide +kernel
theorem i3 : ∀ t : Fin cfg0.N, win0_3.index t = ![(grid0.coords t 0).val, (grid0.coords t 1).val, 0] := by decide +kernel
theorem i4 : ∀ t : Fin cfg0.N, win0_4.index t = ![(grid0.coords t 0).val, 0, 0, 0] := by decide +kernel
theorem i5 : ∀ t : Fin cfg0.N, win0_5.index t = ![(grid0.coords t 0).val, 0, 0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![0, 0] := by decide +kernel
theorem i9 : ∀ t : Fin cfg0.N, win0_9.index t = ![0, 0] := by decide +kernel
theorem i10 : ∀ t : Fin cfg0.N, win0_10.index t = ![0, 0] := by decide +kernel
theorem i11 : ∀ t : Fin cfg0.N, win0_11.index t = ![0, 0] := by decide +kernel
theorem i12 : ∀ t : Fin cfg0.N, win0_12.index t = ![0, 0] := by decide +kernel
theorem i13 : ∀ t : Fin cfg0.N, win0_13.index t = ![(grid0.coords t 0).val, (grid0.coords t 1).val, 0] := by decide +kernel

/-- The host's exchange of the heads of a pair, and its rounding. -/
def prepC (x : FVec Ideal S8x4352x256 .f32) : FVec Ideal S8x4352x256 .bf16 :=
  truncf .bf16 (shapeCast S8x4352x256 (transpose S8x4352x2x2x64 [0, 1, 3, 2, 4]
    (shapeCast S8x4352x2x2x64 x shapeCasts_S8x4352x256_S8x4352x2x2x64)
    transposes_S8x4352x2x2x64_S8x4352x2x2x64_0_1_3_2_4) shapeCasts_S8x4352x2x2x64_S8x4352x256) bitsLt_bf16_f32
/-- The host's two sets of modulation vectors of a batch: the latents' and the context's. -/
def prepMod (x : FVec Ideal S8x6144 .f32) (y : FVec Ideal S6144 .f32) : FVec Ideal S8x2x6x1024 .f32 :=
  concatenate S8x2x6x1024 1
      [⟨S8x1x6x1024, shapeCast S8x1x6x1024 x shapeCasts_S8x6144_S8x1x6x1024⟩,
        ⟨S8x1x6x1024, broadcastInDim S8x1x6x1024 ![0, 1, 2, 3] bcast_S1x1x6x1024_S8x1x6x1024_0_1_2_3
          (shapeCast S1x1x6x1024 y shapeCasts_S6144_S1x1x6x1024)⟩]
      concatenates_S8x1x6x1024_S8x1x6x1024_S8x2x6x1024_d1
/-- The host's output projection: the rows of the last 256 lanes with their heads exchanged too. -/
def prepW (x : FVec Ideal S1024x1024 .f32) : FVec Ideal S1024x1024 .bf16 :=
  truncf .bf16 (concatenate S1024x1024 0
        [⟨S768x1024, extractStridedSlice S768x1024 ![0, 0] x slices_S1024x1024_S768x1024_0_0⟩,
          ⟨S256x1024, shapeCast S256x1024 (transpose S2x2x64x1024 [1, 0, 2, 3]
            (shapeCast S2x2x64x1024 (extractStridedSlice S256x1024 ![768, 0] x slices_S1024x1024_S256x1024_768_0)
              shapeCasts_S256x1024_S2x2x64x1024)
            transposes_S2x2x64x1024_S2x2x64x1024_1_0_2_3) shapeCasts_S2x2x64x1024_S256x1024⟩]
        concatenates_S768x1024_S256x1024_S1024x1024_d0) bitsLt_bf16_f32

theorem prepC_apply (x : FVec Ideal S8x4352x256 .f32) (b : Fin 8) (s : Fin 4352) (d : Fin 256) :
    prepC x (ix3 b s d) = x (ix3 b s (swap d)) := by
  pointwise [prepC]
  rfl
theorem prepMod_apply (x : FVec Ideal S8x6144 .f32) (y : FVec Ideal S6144 .f32) (b : Fin 8) (i : Fin 6) (d : Fin 1024) :
    prepMod x y (ix4 b 0 i d) = x (ix2 b ⟨i.val * 1024 + d.val, by omega⟩) := by
  pointwise [prepMod]
theorem prepW_apply (x : FVec Ideal S1024x1024 .f32) (i d : Fin 1024) : prepW x (ix2 i d)
    = if h : (i : ℕ) < 768 then x (ix2 i d) else x (ix2 ⟨768 + swap ⟨(i : ℕ) - 768, by omega⟩, by omega⟩ d) := by
  pointwise [prepW]
  rfl

variable (m : (ℓ : Loc nD τ sig) → Buf (Elt Ideal) ℓ) (c : Dev nD) (t : Fin cfg0.N)

/-- The batch of grid point `t`. -/
def bat : Fin 8 := grid0.coords t 0
/-- The tile of grid point `t`. -/
def til : Fin 8 := grid0.coords t 1
/-- Row `r` of grid point `t`'s tile among all the tokens. -/
def tok (r : Fin 512) : Fin 4352 := ⟨512 * til t + r, by omega⟩

theorem emb13 (r : Fin 512) (d : Fin 1024) :
    (win0_13.blk t).view.emb (ix3 0 r d) = ix3 (bat t) ⟨512 * til t + r, by omega⟩ d := by
  blk_ext [i13, bat, til]

theorem blk0 (r : Fin 512) (d : Fin 256) : X0_0 m c t (ix3 0 r d) = m ((c : Thread nD τ).loc main_arg0) (ix3 (bat t) (tok t r) d) := by
  unfold X0_0 Pipeline.Window.fill
  rw [dif_pos (moved0_0 t _)]
  blk_simp [iblk]
  entry_read
  refine congrArg (m ((c : Thread nD τ).loc main_arg0)) (?_ : _ = ix3 (bat t) (tok t r) d)
  blk_ext [i0, bat, til, tok]
theorem blk1 (r : Fin 512) (d : Fin 512) : X0_1 m c t (ix3 0 r d) = m ((c : Thread nD τ).loc main_arg1) (ix3 (bat t) (tok t r) d) := by
  unfold X0_1 Pipeline.Window.fill
  rw [dif_pos (moved0_1 t _)]
  blk_simp [iblk]
  entry_read
  refine congrArg (m ((c : Thread nD τ).loc main_arg1)) (?_ : _ = ix3 (bat t) (tok t r) d)
  blk_ext [i1, bat, til, tok]
theorem blk2 (r : Fin 512) (d : Fin 256) : X0_2 m c t (ix3 0 r d) = m ((c : Thread nD τ).loc main_arg2) (ix3 (bat t) (tok t r) (swap d)) := by
  unfold X0_2 Pipeline.Window.fill
  rw [dif_pos (moved0_2 t _)]
  blk_simp [iblk]
  entry_read
  refine (congrArg (prepC (m ((c : Thread nD τ).loc main_arg2))) (?_ : _ = ix3 (bat t) (tok t r) d)).trans (prepC_apply _ _ _ _)
  blk_ext [i2, bat, til, tok]
theorem blk3 (r : Fin 512) (d : Fin 1024) : X0_3 m c t (ix3 0 r d) = m ((c : Thread nD τ).loc main_arg3) (ix3 (bat t) (tok t r) d) := by
  unfold X0_3 Pipeline.Window.fill
  rw [dif_pos (moved0_3 t _)]
  blk_simp [iblk]
  rw [V_main_arg3]
  refine congrArg (m ((c : Thread nD τ).loc main_arg3)) (?_ : _ = ix3 (bat t) (tok t r) d)
  blk_ext [i3, bat, til, tok]

theorem blk4 (i : Fin 6) (d : Fin 1024) :
    iblk m c 4 t (ix4 0 0 i d) = m ((c : Thread nD τ).loc main_arg4) (ix2 (bat t) ⟨i.val * 1024 + d.val, by omega⟩) := by
  blk_simp [iblk]
  entry_read
  refine (congrArg (prepMod (m ((c : Thread nD τ).loc main_arg4)) (m ((c : Thread nD τ).loc main_arg5)))
    (?_ : _ = ix4 (bat t) 0 i d)).trans (prepMod_apply _ _ _ _ _)
  blk_ext [i4, bat]
theorem blk5 (i : Fin 6) (d : Fin 1024) :
    iblk m c 5 t (ix4 0 0 i d) = m ((c : Thread nD τ).loc main_arg4) (ix2 (bat t) ⟨i.val * 1024 + d.val, by omega⟩) := by
  blk_simp [iblk]
  entry_read
  refine (congrArg (prepMod (m ((c : Thread nD τ).loc main_arg4)) (m ((c : Thread nD τ).loc main_arg5)))
    (?_ : _ = ix4 (bat t) 0 i d)).trans (prepMod_apply _ _ _ _ _)
  blk_ext [i5, bat]
/-- The kernel's output projection: the last 256 rows' heads exchanged. -/
theorem blk6 (i d : Fin 1024) : iblk m c 6 t (ix2 i d)
    = if h : (i : ℕ) < 768 then m ((c : Thread nD τ).loc main_arg6) (ix2 i d)
      else m ((c : Thread nD τ).loc main_arg6) (ix2 ⟨768 + swap ⟨(i : ℕ) - 768, by omega⟩, by omega⟩ d) := by
  blk_simp [iblk]
  entry_read
  refine (congrArg (prepW (m ((c : Thread nD τ).loc main_arg6))) (?_ : _ = ix2 i d)).trans (prepW_apply _ _ _)
  blk_ext [i6]
theorem blk7 (d : Fin 1024) : iblk m c 7 t (ix2 0 d) = m ((c : Thread nD τ).loc main_arg7) (ix1 d) := by
  blk_simp [iblk]
  entry_read
  refine (congrArg (shapeCast S1x1024 (m ((c : Thread nD τ).loc main_arg7)) shapeCasts_S1024_S1x1024) (?_ : _ = ix2 0 d)).trans ?_
  · blk_ext [i7]
  · pointwise
theorem blk8 (d : Fin 1024) : iblk m c 8 t (ix2 0 d) = m ((c : Thread nD τ).loc main_arg8) (ix1 d) := by
  blk_simp [iblk]
  entry_read
  refine (congrArg (shapeCast S1x1024 (m ((c : Thread nD τ).loc main_arg8)) shapeCasts_S1024_S1x1024) (?_ : _ = ix2 0 d)).trans ?_
  · blk_ext [i8]
  · pointwise
theorem blk9 (i : Fin 1024) (j : Fin 5632) : iblk m c 9 t (ix2 i j) = m ((c : Thread nD τ).loc main_arg9) (ix2 i j) := by
  blk_simp [iblk]
  entry_read
  refine congrArg (m ((c : Thread nD τ).loc main_arg9)) (?_ : _ = ix2 i j)
  blk_ext [i9]
theorem blk10 (i : Fin 2816) (j : Fin 1024) : iblk m c 10 t (ix2 i j) = m ((c : Thread nD τ).loc main_arg10) (ix2 i j) := by
  blk_simp [iblk]
  entry_read
  refine congrArg (m ((c : Thread nD τ).loc main_arg10)) (?_ : _ = ix2 i j)
  blk_ext [i10]
theorem blk11 (d : Fin 1024) : iblk m c 11 t (ix2 0 d) = m ((c : Thread nD τ).loc main_arg11) (ix1 d) := by
  blk_simp [iblk]
  entry_read
  refine (congrArg (shapeCast S1x1024 (m ((c : Thread nD τ).loc main_arg11)) shapeCasts_S1024_S1x1024) (?_ : _ = ix2 0 d)).trans ?_
  · blk_ext [i11]
  · pointwise
theorem blk12 (d : Fin 1024) : iblk m c 12 t (ix2 0 d) = m ((c : Thread nD τ).loc main_arg12) (ix1 d) := by
  blk_simp [iblk]
  entry_read
  refine (congrArg (shapeCast S1x1024 (m ((c : Thread nD τ).loc main_arg12)) shapeCasts_S1024_S1x1024) (?_ : _ = ix2 0 d)).trans ?_
  · blk_ext [i12]
  · pointwise

/-- Token `s` of batch `b` after the block. -/
def latent (b : Fin 8) (s : Fin 4352) : Row :=
  post (fun (i : Fin 6) (d : Fin 1024) => m ((c : Thread nD τ).loc main_arg4) (ix2 b ⟨i.val * 1024 + d.val, by omega⟩))
    (fun d => m ((c : Thread nD τ).loc main_arg7) (ix1 d)) (fun d => m ((c : Thread nD τ).loc main_arg8) (ix1 d))
    (fun d => m ((c : Thread nD τ).loc main_arg11) (ix1 d)) (fun d => m ((c : Thread nD τ).loc main_arg12) (ix1 d))
    (fun k j => m ((c : Thread nD τ).loc main_arg9) (ix2 k j)) (fun j d => m ((c : Thread nD τ).loc main_arg10) (ix2 j d))
    (fun d => m ((c : Thread nD τ).loc main_arg3) (ix3 b s d))
    (proj (fun i d => m ((c : Thread nD τ).loc main_arg6) (ix2 i d)) (fun i => m ((c : Thread nD τ).loc main_arg0) (ix3 b s i))
      (fun i => m ((c : Thread nD τ).loc main_arg1) (ix3 b s i)) (fun i => m ((c : Thread nD τ).loc main_arg2) (ix3 b s i)))

/-- The result as one function of the index. -/
def latentG (y : S8x4096x1024.Idx) : EReal :=
  latent m c (y 0) ⟨(y 1).val, by have := (y 1).isLt; change (y 1).val < 4096 at this; omega⟩ (y 2)

set_option maxHeartbeats 2000000 in
theorem array_eq : (dats m 0 c).arrAt 13 cfg0.N = latentG m c := by
  refine (dats m 0 c).arrAt_eq_of_covers 13 _ (by decide +kernel) fun t hf y => ?_
  blk_simp
  rw [after0_13]
  change S1x512x1024.Idx at y
  obtain ⟨r, l, rfl⟩ : ∃ (r : Fin 512) (l : Fin 1024), y = ix3 0 r l := ⟨y 1, y 2, by idx_ext⟩
  refine Eq.trans (out_block c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t)
    (X0_0 m c t) (X0_1 m c t) (X0_2 m c t) (X0_3 m c t) (iblk m c 4 t) (iblk m c 5 t) (iblk m c 6 t) (iblk m c 7 t) (iblk m c 8 t)
    (iblk m c 9 t) (iblk m c 10 t) (iblk m c 11 t) (iblk m c 12 t) r l) ?_
  refine Eq.trans ?_ (congrArg (latentG m c) (emb13 t r l)).symm
  refine Eq.trans ?_ (show latent m c (bat t) (tok t r) l = _ from rfl)
  unfold latent
  have e1 : mods (iblk m c 4 t) (iblk m c 5 t) r
      = fun (i : Fin 6) (d : Fin 1024) => m ((c : Thread nD τ).loc main_arg4) (ix2 (bat t) ⟨i.val * 1024 + d.val, by omega⟩) := by
    funext i d
    unfold mods
    split
    · exact blk4 m c t i d
    · exact blk5 m c t i d
  have e2 := proj_swapped (fun i d => m ((c : Thread nD τ).loc main_arg6) (ix2 i d)) (fun i d => iblk m c 6 t (ix2 i d))
    (fun i => m ((c : Thread nD τ).loc main_arg0) (ix3 (bat t) (tok t r) i)) (fun i => X0_0 m c t (ix3 0 r i))
    (fun i => m ((c : Thread nD τ).loc main_arg1) (ix3 (bat t) (tok t r) i)) (fun i => X0_1 m c t (ix3 0 r i))
    (fun i => m ((c : Thread nD τ).loc main_arg2) (ix3 (bat t) (tok t r) i)) (fun i => X0_2 m c t (ix3 0 r i))
    (blk0 m c t r) (blk1 m c t r) (blk2 m c t r) (fun i d h => (blk6 m c t i d).trans (dif_pos h))
    (fun i d => (blk6 m c t _ d).trans ((dif_neg (show ¬ 768 + (i : ℕ) < 768 by omega)).trans
      (congrArg (fun j : Fin 256 => m ((c : Thread nD τ).loc main_arg6) (ix2 ⟨768 + j, by omega⟩ d))
        (congrArg swap (Fin.ext (show 768 + (i : ℕ) - 768 = i by omega))))))
  have v7 : vec (iblk m c 7 t) = fun d => m ((c : Thread nD τ).loc main_arg7) (ix1 d) := funext (blk7 m c t)
  have v8 : vec (iblk m c 8 t) = fun d => m ((c : Thread nD τ).loc main_arg8) (ix1 d) := funext (blk8 m c t)
  have v11 : vec (iblk m c 11 t) = fun d => m ((c : Thread nD τ).loc main_arg11) (ix1 d) := funext (blk11 m c t)
  have v12 : vec (iblk m c 12 t) = fun d => m ((c : Thread nD τ).loc main_arg12) (ix1 d) := funext (blk12 m c t)
  have v9 : (fun (k : Fin 1024) (j : Fin 5632) => iblk m c 9 t (ix2 k j)) = fun k j => m ((c : Thread nD τ).loc main_arg9) (ix2 k j) :=
    funext fun k => funext fun j => blk9 m c t k j
  have v10 : (fun (k : Fin 2816) (j : Fin 1024) => iblk m c 10 t (ix2 k j)) = fun k j => m ((c : Thread nD τ).loc main_arg10) (ix2 k j) :=
    funext fun k => funext fun j => blk10 m c t k j
  have v3 : (fun d : Fin 1024 => X0_3 m c t (ix3 0 r d)) = fun d => m ((c : Thread nD τ).loc main_arg3) (ix3 (bat t) (tok t r) d) :=
    funext (blk3 m c t r)
  exact congrFun (congr (congr (congr (congr (congr (congr (congr (congr (congrArg Cert.Post.post e1) v7) v8) v11) v12) v9) v10) v3) e2) l

end Cert.Kernel2Ideal.Hand

end
-- ==== Proof.PostRef.lean ====
/-
The block's reference, read at one element, one stage after another.
-/
module

public import proofs.«01_k».proof.Proof.Gen.Reference2Ideal.Run
public import proofs.«01_k».proof.Proof.Gen.Reference2Ideal
public import proofs.«01_k».proof.Proof.PostRow
public import Idealize.ShloMosaic.Lib.Pipeline.ValueKit.Geometry

@[expose] public section

set_option maxRecDepth 16384

noncomputable section

namespace Cert.Reference2Ideal.Hand

open Idealize.ShloMosaic Idealize.ShloMosaic.TcCoe Idealize.SL.Sem
open Cert.Reference2Ideal Cert.Reference2Ideal.Gen Cert.Reference2Ideal.Value Cert.Post

variable (V : Valuation τ sig (Elt Ideal)) (b : Fin 8) (s : Fin 4096)

/-- The six modulation vectors of batch `b`. -/
def md (b : Fin 8) : Fin 6 → Row := fun i d => V (Proc.devRef .tc main_arg4) (ix2 b ⟨i.val * 1024 + d.val, by omega⟩)
def lng1 : Row := fun d => V (Proc.devRef .tc main_arg7) (ix1 d)
def lnb1 : Row := fun d => V (Proc.devRef .tc main_arg8) (ix1 d)
def lng2 : Row := fun d => V (Proc.devRef .tc main_arg11) (ix1 d)
def lnb2 : Row := fun d => V (Proc.devRef .tc main_arg12) (ix1 d)
def wi : Fin 1024 → Fin 5632 → EReal := fun k j => V (Proc.devRef .tc main_arg9) (ix2 k j)
def wo : Fin 2816 → Row := fun j d => V (Proc.devRef .tc main_arg10) (ix2 j d)
/-- Token `s` of the sequence among all the tokens. -/
def at' (s : Fin 4096) : Fin 4352 := ⟨s, by omega⟩
def x0 : Row := fun d => V (Proc.devRef .tc main_arg3) (ix3 b (at' s) d)
def y0 : Row := proj (fun i d => V (Proc.devRef .tc main_arg6) (ix2 i d)) (fun i => V (Proc.devRef .tc main_arg0) (ix3 b (at' s) i))
  (fun i => V (Proc.devRef .tc main_arg1) (ix3 b (at' s) i)) (fun i => V (Proc.devRef .tc main_arg2) (ix3 b (at' s) i))

/-- The first residual sum. -/
def z1 : Row := resid (x0 V b s) (md V b 2) (y0 V b s)

theorem v17_apply (d : Fin 1024) : res_main_v17 V (ix3 b s d) = z1 V b s d := by
  unfold res_main_v17 res_main_v5
  pointwise
  refine congrArg₂ _ rfl (congrArg₂ _ rfl ?_)
  refine (projection_split (fun x : Fin 1024 => (if h : (x : ℕ) < 256 then V (Proc.devRef .tc main_arg0) (ix3 b (at' s) ⟨x, h⟩)
      else if h' : (x : ℕ) - 256 < 512 then V (Proc.devRef .tc main_arg1) (ix3 b (at' s) ⟨(x : ℕ) - 256, h'⟩)
      else V (Proc.devRef .tc main_arg2) (ix3 b (at' s) ⟨(x : ℕ) - 256 - 512, by omega⟩) : EReal)
    * V (Proc.devRef .tc main_arg6) (ix2 x d)) _ _ _ ?_ ?_ ?_).symm
  · intro i
    rw [dif_pos (show ((⟨i, by omega⟩ : Fin 1024) : ℕ) < 256 from i.isLt)]
  · intro i
    have h1 : ¬ 256 + (i : ℕ) < 256 := by omega
    have h2 : 256 + (i : ℕ) - 256 < 512 := by omega
    rw [dif_neg h1, dif_pos h2]
    refine congrArg₂ _ (congrArg (fun j => V (Proc.devRef .tc main_arg1) (ix3 b (at' s) j)) (Fin.ext ?_)) rfl
    show (i : ℕ) = 256 + i - 256
    omega
  · intro i
    have h1 : ¬ 768 + (i : ℕ) < 256 := by omega
    have h2 : ¬ 768 + (i : ℕ) - 256 < 512 := by omega
    rw [dif_neg h1, dif_neg h2]
    refine congrArg₂ _ (congrArg (fun j => V (Proc.devRef .tc main_arg2) (ix3 b (at' s) j)) (Fin.ext ?_)) rfl
    show (i : ℕ) = 768 + i - 256 - 512
    omega

theorem v21_apply : res_main_v21 V (ix3 b s 0) = mean (z1 V b s) := by
  unfold res_main_v21
  pointwise
  exact congrArg₂ _ (Finset.sum_congr rfl fun d _ => v17_apply V b s d) rfl

theorem v23_apply (d : Fin 1024) : res_main_v23 V (ix3 b s d) = centred (z1 V b s) d := by
  unfold res_main_v23
  pointwise
  exact congrArg₂ _ (v17_apply V b s d) (v21_apply V b s)

/-- The first layer norm's row. -/
def x1 : Row := layerNorm (lng1 V) (lnb1 V) (z1 V b s)

theorem v41_apply (d : Fin 1024) : res_main_v41 V (ix3 b s d) = x1 V b s d := by
  unfold res_main_v41
  pointwise
  exact congrArg₂ _ (congrArg₂ _ (congrArg₂ _ (congrArg₂ _ (v17_apply V b s d) (v21_apply V b s)) (congrArg _ (congrArg₂ _ (congrArg₂ _
    (Finset.sum_congr rfl fun x _ => congrArg₂ _ (v23_apply V b s x) (v23_apply V b s x)) rfl) rfl))) rfl) rfl

/-- The first projection's row. -/
def h1 (j : Fin 5632) : EReal := ∑ k, modulate (x1 V b s) (md V b 3) (md V b 4) k * wi V k j

theorem v50_apply (j : Fin 5632) : res_main_v50 V (ix3 b s j) = h1 V b s j := by
  unfold res_main_v50 res_main_v5
  pointwise
  refine (?_ : (_ : EReal) = _)
  exact Finset.sum_congr rfl fun k _ => congrArg₂ _ (congrArg₂ _ (congrArg₂ _ (v41_apply V b s k) rfl) rfl) rfl

/-- The second residual sum. -/
def z2 : Row := resid (x1 V b s) (md V b 5) (ffn (wi V) (wo V) (modulate (x1 V b s) (md V b 3) (md V b 4)))

theorem v58_apply (d : Fin 1024) : res_main_v58 V (ix3 b s d) = z2 V b s d := by
  unfold res_main_v58 res_main_v51 res_main_v5
  pointwise
  refine congrArg₂ _ (congrArg₂ _ rfl (v41_apply V b s d)) (congrArg₂ _ rfl (Finset.sum_congr rfl fun j _ => ?_))
  exact congrArg₂ _ (congrArg₂ _ (congrArg₂ _ (v50_apply V b s _) (congrArg _ (congrArg _ (congrArg _ (congrArg _ (v50_apply V b s _)))))) (v50_apply V b s _)) rfl

theorem v62_apply : res_main_v62 V (ix3 b s 0) = mean (z2 V b s) := by
  unfold res_main_v62
  pointwise
  exact congrArg₂ _ (Finset.sum_congr rfl fun d _ => v58_apply V b s d) rfl

theorem v64_apply (d : Fin 1024) : res_main_v64 V (ix3 b s d) = centred (z2 V b s) d := by
  unfold res_main_v64
  pointwise
  exact congrArg₂ _ (v58_apply V b s d) (v62_apply V b s)

/-- The result: the second layer norm. -/
def result : FVec Ideal S8x4096x1024 .f32 :=
  addf (mulf (mulf (subf (res_main_v58 V) (broadcastInDim S8x4096x1024 ![0, 1, 2] bcast_S8x4096x1_S8x4096x1024_0_1_2 (res_main_v62
    V))) (broadcastInDim S8x4096x1024 ![0, 1, 2] bcast_S8x4096x1_S8x4096x1024_0_1_2 (Host.rsqrt (addf (Host.divf (broadcastInDim
    S8x4096x1 ![0, 1] bcast_S8x4096_S8x4096x1_0_1 (Host.reduceAdd (mulf (res_main_v64 V) (res_main_v64 V)) (constant S_ .f32
    0x00000000#32) reducesTo_S8x4096x1024_S8x4096_d2 h_S_)) (broadcastInDim S8x4096x1 ![] bcast_S_S8x4096x1 (constant S_ .f32
    0x44800000#32))) (broadcastInDim S8x4096x1 ![] bcast_S_S8x4096x1 (constant S_ .f32 0x3727C5AC#32)))))) (broadcastInDim
    S8x4096x1024 ![0, 1, 2] bcast_S1x1x1024_S8x4096x1024_0_1_2 (broadcastInDim S1x1x1024 ![2] bcast_S1024_S1x1x1024_2 (V (Proc.devRef
    .tc main_arg11))))) (broadcastInDim S8x4096x1024 ![0, 1, 2] bcast_S1x1x1024_S8x4096x1024_0_1_2 (broadcastInDim S1x1x1024 ![2]
    bcast_S1024_S1x1x1024_2 (V (Proc.devRef .tc main_arg12))))

theorem result_apply (d : Fin 1024) : result V (ix3 b s d)
    = Cert.Post.post (md V b) (lng1 V) (lnb1 V) (lng2 V) (lnb2 V) (wi V) (wo V) (x0 V b s) (y0 V b s) d := by
  unfold result
  pointwise
  exact congrArg₂ _ (congrArg₂ _ (congrArg₂ _ (congrArg₂ _ (v58_apply V b s d) (v62_apply V b s)) (congrArg _ (congrArg₂ _ (congrArg₂ _
    (Finset.sum_congr rfl fun x _ => congrArg₂ _ (v64_apply V b s x) (v64_apply V b s x)) rfl) rfl))) rfl) rfl

end Cert.Reference2Ideal.Hand

end
-- ==== Proof.PostFlat.lean ====
/-
What one grid point of the block kernel over the flat sequence leaves in its output's block: the same tile.
-/
module

public import proofs.«01_k».proof.Proof.Gen.Kernel3Ideal.Frame
public import proofs.«01_k».proof.Proof.PostTile

@[expose] public section

set_option maxRecDepth 16384

noncomputable section

namespace Cert.Kernel3Ideal.Hand

open Idealize.ShloMosaic Idealize.ShloMosaic.TcCoe Idealize.SL.Sem
open Cert.Kernel3Ideal Cert.Kernel3Ideal.Gen Cert.Post
open Cert.Kernel2Ideal.Hand (vec tile first fed acc2 acc10 second tile_post)

section Loads
variable {e : EltTy}

/-- A load of a rectangle of a matrix. -/
theorem ld_rect {n m : ℕ} (X : Vec Ideal ⟨2, ![n, m]⟩ e) (n' m' o p : ℕ)
    (inb : ∀ x, ![o, p] x + (⟨2, ![n', m']⟩ : Shape).size x ≤ (⟨2, ![n, m]⟩ : Shape).size x) (j : Fin n') (d : Fin m')
    (hj : o + j < n) (hd : p + d < m) :
    View.ld X (Rect.unit (s := ⟨2, ![n, m]⟩) ![o, p] (⟨2, ![n', m']⟩ : Shape).size inb) (ix2 j d) = X (ix2 ⟨o + j, hj⟩ ⟨p + d, hd⟩) := by
  refine congrArg X (funext fun x => ?_)
  fin_cases x <;> refine Fin.ext ?_ <;> simp [LoadRect.idx, Rect.toLoadRect, Rect.unit]

/-- A load of the whole of a three-dimensional block. -/
theorem ld_whole {k n m : ℕ} (X : Vec Ideal ⟨3, ![k, n, m]⟩ e)
    (inb : ∀ x, ![0, 0, 0] x + (⟨3, ![k, n, m]⟩ : Shape).size x ≤ (⟨3, ![k, n, m]⟩ : Shape).size x) (i : Fin k) (j : Fin n) (d : Fin m) :
    View.ld X (Rect.unit (s := ⟨3, ![k, n, m]⟩) ![0, 0, 0] (⟨3, ![k, n, m]⟩ : Shape).size inb) (ix3 i j d) = X (ix3 i j d) := by
  refine congrArg X (funext fun x => ?_)
  fin_cases x <;> refine Fin.ext ?_ <;> simp [LoadRect.idx, Rect.toLoadRect, Rect.unit]

/-- A load of the whole of a four-dimensional block. -/
theorem ld_whole4 {k n m l : ℕ} (X : Vec Ideal ⟨4, ![k, n, m, l]⟩ e)
    (inb : ∀ x, ![0, 0, 0, 0] x + (⟨4, ![k, n, m, l]⟩ : Shape).size x ≤ (⟨4, ![k, n, m, l]⟩ : Shape).size x)
    (i : Fin k) (j : Fin n) (p : Fin m) (d : Fin l) :
    View.ld X (Rect.unit (s := ⟨4, ![k, n, m, l]⟩) ![0, 0, 0, 0] (⟨4, ![k, n, m, l]⟩ : Shape).size inb) (ix4 i j p d) = X (ix4 i j p d) := by
  refine congrArg X (funext fun x => ?_)
  fin_cases x <;> refine Fin.ext ?_ <;> simp [LoadRect.idx, Rect.toLoadRect, Rect.unit]

/-- Columns `o` to `o + 256` of the first feed-forward weights lie inside. -/
theorem inb_cols (o : ℕ) (h : o + 256 ≤ 5632) : ∀ x, ![0, o] x + S1024x256.size x ≤ S1024x5632.size x := by
  intro x; fin_cases x
  · exact (show 0 + 1024 ≤ 1024 by omega)
  · exact h

/-- Rows `o` to `o + 256` of the second feed-forward weights lie inside. -/
theorem inb_rows (o : ℕ) (h : o + 256 ≤ 2816) : ∀ x, ![o, 0] x + S256x1024.size x ≤ S2816x1024.size x := by
  intro x; fin_cases x
  · exact h
  · exact (show 0 + 1024 ≤ 1024 by omega)

end Loads

variable (x0 : Vec Ideal S1x512x256 .bf16) (x1 : Vec Ideal S1x512x512 .bf16) (x2 : Vec Ideal S1x512x256 .bf16) (x3 : Vec Ideal S1x512x1024 .f32)
  (x4 : Vec Ideal S1x1x6x1024 .f32) (x5 : Vec Ideal S1x1x6x1024 .f32) (x6 : Vec Ideal S1024x1024 .bf16) (x7 : Vec Ideal S1x1024 .f32)
  (x8 : Vec Ideal S1x1024 .f32) (x9 : Vec Ideal S1024x5632 .bf16) (x10 : Vec Ideal S2816x1024 .bf16) (x11 : Vec Ideal S1x1024 .f32)
  (x12 : Vec Ideal S1x1024 .f32)

/-- Block `n` of the gate's columns. -/
def gateCols (n : Fin 11) : Vec Ideal S1024x256 .bf16 :=
  View.ld x9 (Rect.unit (s := S1024x5632) ![0, 256 * n.val] S1024x256.size (inb_cols _ (by omega)))
/-- Block `n` of the up projection's columns. -/
def upCols (n : Fin 11) : Vec Ideal S1024x256 .bf16 :=
  View.ld x9 (Rect.unit (s := S1024x5632) ![0, 2816 + 256 * n.val] S1024x256.size (inb_cols _ (by omega)))
/-- Block `n` of the down projection's rows. -/
def downRows (n : Fin 11) : Vec Ideal S256x1024 .bf16 :=
  View.ld x10 (Rect.unit (s := S2816x1024) ![256 * n.val, 0] S256x1024.size (inb_rows _ (by omega)))

theorem first_eq : k0_pay33 x0 x1 x2 x3 x4 x5 x6 x7 x8 x9 x10 x11 x12
    = first (View.ld x4 r0_0) (View.ld x5 r0_0) (View.ld x0 r0_1) (View.ld x6 r0_2) (View.ld x1 r0_3) (View.ld x6 r0_4) (View.ld x2 r0_1)
        (View.ld x6 r0_5) (View.ld x3 r0_6) (View.ld x7 r0_7) (View.ld x8 r0_7) := rfl

theorem fed_eq : k0_pay37 x0 x1 x2 x3 x4 x5 x6 x7 x8 x9 x10 x11 x12
    = fed (View.ld x4 r0_0) (View.ld x5 r0_0) (View.ld x0 r0_1) (View.ld x6 r0_2) (View.ld x1 r0_3) (View.ld x6 r0_4) (View.ld x2 r0_1)
        (View.ld x6 r0_5) (View.ld x3 r0_6) (View.ld x7 r0_7) (View.ld x8 r0_7) := rfl

theorem acc2_eq : k0_pay14 (k0_pay27 x0 x1 x2 x3 x4 x5 x6 x7 x8 x9 x10 x11 x12) (k0_pay34 x0 x1 x2 x3 x4 x5 x6 x7 x8 x9 x10 x11 x12)
      (k0_pay35 x0 x1 x2 x3 x4 x5 x6 x7 x8 x9 x10 x11 x12) (k0_pay36 x0 x1 x2 x3 x4 x5 x6 x7 x8 x9 x10 x11 x12)
      (gateCols x9 0) (upCols x9 0) (downRows x10 0) (gateCols x9 1) (upCols x9 1) (downRows x10 1)
    = acc2 (View.ld x4 r0_0) (View.ld x5 r0_0) (View.ld x0 r0_1) (View.ld x6 r0_2) (View.ld x1 r0_3) (View.ld x6 r0_4) (View.ld x2 r0_1)
        (View.ld x6 r0_5) (View.ld x3 r0_6) (View.ld x7 r0_7) (View.ld x8 r0_7) (gateCols x9) (upCols x9) (downRows x10) := rfl

theorem acc10_eq (z : FVec Ideal S512x1024 .bf16) (acc : FVec Ideal S512x1024 .f32) (U V : Fin 11 → Vec Ideal S1024x256 .bf16)
    (W : Fin 11 → Vec Ideal S256x1024 .bf16) :
    k0_pay21 z (k0_pay18 z (k0_pay16 z acc (k0_pay15 (U 2)) (constant S512x256 .f32 0x00000000#32) (V 2) (W 2) (U 3) (V 3) (W 3))
        (k0_pay17 z (U 4) (V 4)) (W 4) (U 5) (V 5) (W 5) (U 6) (V 6) (W 6))
      (k0_pay19 z (U 7)) (k0_pay20 (V 7)) (W 7) (U 8) (V 8) (W 8) (U 9) (V 9) (W 9)
    = acc10 U V W z acc := rfl

theorem second_eq (m0 m1 : Vec Ideal S1x1x6x1024 .f32) (g s : Vec Ideal S1x1024 .f32) (z : FVec Ideal S512x1024 .bf16)
    (acc y : FVec Ideal S512x1024 .f32) (U V : Fin 11 → Vec Ideal S1024x256 .bf16) (W : Fin 11 → Vec Ideal S256x1024 .bf16) :
    k0_pay1 (k0_pay22 g) (k0_pay23 s) (k0_pay24 (k0_pay2 m0) (k0_pay3 m1) y z acc (U 10) (V 10) (W 10))
        (k0_pay25 (k0_pay2 m0) (k0_pay3 m1) y z acc (U 10) (V 10) (W 10))
      = second m0 m1 g s U V W z acc y := rfl

/-- The block one grid point writes, from its operands' blocks. -/
def written : FVec Ideal S1x512x1024 .f32 :=
  tile (View.ld x4 r0_0) (View.ld x5 r0_0) (View.ld x0 r0_1) (View.ld x6 r0_2) (View.ld x1 r0_3) (View.ld x6 r0_4) (View.ld x2 r0_1)
    (View.ld x6 r0_5) (View.ld x3 r0_6) (View.ld x7 r0_7) (View.ld x8 r0_7) (View.ld x11 r0_7) (View.ld x12 r0_7)
    (gateCols x9) (upCols x9) (downRows x10)

/-- One grid point writes one piece, its whole block. -/
theorem out_eq : out0_13 x0 x1 x2 x3 x4 x5 x6 x7 x8 x9 x10 x11 x12
    = View.canon [⟨r0_6, written x0 x1 x2 x3 x4 x5 x6 x7 x8 x9 x10 x11 x12⟩] := by
  unfold out0_13 k0_pay38
  rw [first_eq, fed_eq]
  rfl

/-- What one grid point leaves in the output's block, from what its operands' blocks hold. -/
theorem out_block (r : Fin 512) (md0 md1 : Fin 6 → Row) (w : Fin 1024 → Row) (fa : Fin 256 → EReal) (fb : Fin 512 → EReal)
    (fc : Fin 256 → EReal) (fx h1 k1 h2 k2 : Row) (wi : Fin 1024 → Fin 5632 → EReal) (wo : Fin 2816 → Row)
    (e0 : ∀ i, x0 (ix3 0 r i) = fa i) (e1 : ∀ i, x1 (ix3 0 r i) = fb i) (e2 : ∀ i, x2 (ix3 0 r i) = fc i) (e3 : ∀ d, x3 (ix3 0 r d) = fx d)
    (e4 : ∀ i d, x4 (ix4 0 0 i d) = md0 i d) (e5 : ∀ i d, x5 (ix4 0 0 i d) = md1 i d) (e6 : ∀ i d, x6 (ix2 i d) = w i d)
    (e7 : ∀ d, x7 (ix2 0 d) = h1 d) (e8 : ∀ d, x8 (ix2 0 d) = k1 d) (e9 : ∀ i j, x9 (ix2 i j) = wi i j) (e10 : ∀ i j, x10 (ix2 i j) = wo i j)
    (e11 : ∀ d, x11 (ix2 0 d) = h2 d) (e12 : ∀ d, x12 (ix2 0 d) = k2 d) (d : Fin 1024) :
    out0_13 x0 x1 x2 x3 x4 x5 x6 x7 x8 x9 x10 x11 x12 (ix3 0 r d)
      = post (fun i => if (r : ℕ) < 256 then md0 i else md1 i) h1 k1 h2 k2 wi wo fx (proj w fa fb fc) d := by
  rw [out_eq]
  refine (congrFun (View.canon_unit_zero (S := S1x512x1024) (by decide) inb_S1x512x1024_S1x512x1024_0_0_0 _) (ix3 0 r d)).trans ?_
  have v : ∀ (X : Vec Ideal S1x1024 .f32) (h : Row), (∀ d, X (ix2 0 d) = h d) → vec (View.ld X r0_7) = h := by
    intro X h hX
    funext d
    exact ((ld_rect X 1 1024 0 0 _ 0 d (by simp) (by omega)).trans (congrArg X (by idx_ext))).trans (hX d)
  unfold written
  refine tile_post _ _ _ _ _ _ _ _ _ _ _ _ _ _ _ _ wi wo ?_ ?_ ?_ r md0 md1 w fa fb fc fx h1 k1 h2 k2 ?_ ?_ ?_ ?_ ?_ ?_ ?_ ?_ ?_
    (v _ _ e7) (v _ _ e8) (v _ _ e11) (v _ _ e12) d
  · intro n k j _
    exact ((ld_rect x9 1024 256 0 _ _ k j (by omega) (by omega)).trans (congrArg₂ (fun a b => x9 (ix2 a b)) (Fin.ext (by simp)) (Fin.ext (by simp)))).trans (e9 _ _)
  · intro n k j _
    exact ((ld_rect x9 1024 256 0 _ _ k j (by omega) (by omega)).trans (congrArg₂ (fun a b => x9 (ix2 a b)) (Fin.ext (by simp)) (Fin.ext (by simp)))).trans (e9 _ _)
  · intro n j d _
    exact ((ld_rect x10 256 1024 _ 0 _ j d (by omega) (by omega)).trans (congrArg₂ (fun a b => x10 (ix2 a b)) (Fin.ext (by simp)) (Fin.ext (by simp)))).trans (e10 _ _)
  · exact fun i d => (ld_whole4 x4 _ 0 0 i d).trans (e4 i d)
  · exact fun i d => (ld_whole4 x5 _ 0 0 i d).trans (e5 i d)
  · exact fun i => (ld_whole x0 _ 0 r i).trans (e0 i)
  · exact fun i => (ld_whole x1 _ 0 r i).trans (e1 i)
  · exact fun i => (ld_whole x2 _ 0 r i).trans (e2 i)
  · exact fun i d => ((ld_rect x6 256 1024 0 0 _ i d (by omega) (by omega)).trans (congrArg x6 (by idx_ext))).trans (e6 _ d)
  · exact fun i d => ((ld_rect x6 512 1024 256 0 _ i d (by omega) (by omega)).trans (congrArg x6 (by idx_ext))).trans (e6 _ d)
  · exact fun i d => ((ld_rect x6 256 1024 768 0 _ i d (by omega) (by omega)).trans (congrArg x6 (by idx_ext))).trans (e6 _ d)
  · exact fun d => (ld_whole x3 _ 0 r d).trans (e3 d)

end Cert.Kernel3Ideal.Hand

end
-- ==== Proof.FlatArray.lean ====
/-
The result array of the block kernel over the flat sequence: every token of every batch, one after another.
-/
module

public import proofs.«01_k».proof.Proof.PostFlat
public import Idealize.ShloMosaic.Lib.Pipeline.ValueKit.Geometry
public import Idealize.ShloMosaic.Lib.Claim

@[expose] public section

set_option maxRecDepth 16384

noncomputable section

namespace Cert.Kernel3Ideal.Hand

open Idealize.ShloMosaic Idealize.ShloMosaic.TcCoe Idealize.SL.Sem
open Cert.Kernel3Ideal Cert.Kernel3Ideal.Gen Cert.Post

/-- The batch of a half of a tile: 17 halves a batch. -/
def batN (n : ℕ) : ℕ := n / 17
/-- Whether a half of a tile holds the context's tokens, the last half of its batch. -/
def sideN (n : ℕ) : ℕ := min (n % 17 / 16) 1

theorem i0 : ∀ t : Fin cfg0.N, win0_0.index t = ![0, t.val, 0] := by decide +kernel
theorem i1 : ∀ t : Fin cfg0.N, win0_1.index t = ![0, t.val, 0] := by decide +kernel
theorem i2 : ∀ t : Fin cfg0.N, win0_2.index t = ![0, t.val, 0] := by decide +kernel
theorem i3 : ∀ t : Fin cfg0.N, win0_3.index t = ![0, t.val, 0] := by decide +kernel
theorem i4 : ∀ t : Fin cfg0.N, win0_4.index t = ![batN (2 * t.val), sideN (2 * t.val), 0, 0] := by decide +kernel
theorem i5 : ∀ t : Fin cfg0.N, win0_5.index t = ![batN (2 * t.val + 1), sideN (2 * t.val + 1), 0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![0, 0] := by decide +kernel
theorem i9 : ∀ t : Fin cfg0.N, win0_9.index t = ![0, 0] := by decide +kernel
theorem i10 : ∀ t : Fin cfg0.N, win0_10.index t = ![0, 0] := by decide +kernel
theorem i11 : ∀ t : Fin cfg0.N, win0_11.index t = ![0, 0] := by decide +kernel
theorem i12 : ∀ t : Fin cfg0.N, win0_12.index t = ![0, 0] := by decide +kernel
theorem i13 : ∀ t : Fin cfg0.N, win0_13.index t = ![0, t.val, 0] := by decide +kernel

/-- The host's exchange of the heads of a pair, and its rounding. -/
def prepC (x : FVec Ideal S8x4352x256 .f32) : FVec Ideal S1x34816x256 .bf16 :=
  shapeCast S1x34816x256 (truncf .bf16 (shapeCast S8x4352x256 (transpose S8x4352x2x2x64 [0, 1, 3, 2, 4]
    (shapeCast S8x4352x2x2x64 x shapeCasts_S8x4352x256_S8x4352x2x2x64)
    transposes_S8x4352x2x2x64_S8x4352x2x2x64_0_1_3_2_4) shapeCasts_S8x4352x2x2x64_S8x4352x256) bitsLt_bf16_f32) shapeCasts_S8x4352x256_S1x34816x256
def prepA (x : FVec Ideal S8x4352x256 .f32) : FVec Ideal S1x34816x256 .bf16 :=
  shapeCast S1x34816x256 (truncf .bf16 x bitsLt_bf16_f32) shapeCasts_S8x4352x256_S1x34816x256
def prepB (x : FVec Ideal S8x4352x512 .f32) : FVec Ideal S1x34816x512 .bf16 :=
  shapeCast S1x34816x512 (truncf .bf16 x bitsLt_bf16_f32) shapeCasts_S8x4352x512_S1x34816x512
def prepX (x : FVec Ideal S8x4352x1024 .f32) : FVec Ideal S1x34816x1024 .f32 :=
  shapeCast S1x34816x1024 x shapeCasts_S8x4352x1024_S1x34816x1024
/-- The host's two sets of modulation vectors of a batch: the latents' and the context's. -/
def prepMod (x : FVec Ideal S8x6144 .f32) (y : FVec Ideal S6144 .f32) : FVec Ideal S8x2x6x1024 .f32 :=
  concatenate S8x2x6x1024 1
      [⟨S8x1x6x1024, shapeCast S8x1x6x1024 x shapeCasts_S8x6144_S8x1x6x1024⟩,
        ⟨S8x1x6x1024, broadcastInDim S8x1x6x1024 ![0, 1, 2, 3] bcast_S1x1x6x1024_S8x1x6x1024_0_1_2_3
          (shapeCast S1x1x6x1024 y shapeCasts_S6144_S1x1x6x1024)⟩]
      concatenates_S8x1x6x1024_S8x1x6x1024_S8x2x6x1024_d1
/-- The host's output projection: the rows of the last 256 lanes with their heads exchanged too. -/
def prepW (x : FVec Ideal S1024x1024 .f32) : FVec Ideal S1024x1024 .bf16 :=
  truncf .bf16 (concatenate S1024x1024 0
        [⟨S768x1024, extractStridedSlice S768x1024 ![0, 0] x slices_S1024x1024_S768x1024_0_0⟩,
          ⟨S256x1024, shapeCast S256x1024 (transpose S2x2x64x1024 [1, 0, 2, 3]
            (shapeCast S2x2x64x1024 (extractStridedSlice S256x1024 ![768, 0] x slices_S1024x1024_S256x1024_768_0)
              shapeCasts_S256x1024_S2x2x64x1024)
            transposes_S2x2x64x1024_S2x2x64x1024_1_0_2_3) shapeCasts_S2x2x64x1024_S256x1024⟩]
        concatenates_S768x1024_S256x1024_S1024x1024_d0) bitsLt_bf16_f32

/-- The batch of token `g` of the flat sequence. -/
def batch (g : Fin 34816) : Fin 8 := ⟨g / 4352, by omega⟩
/-- The place of token `g` of the flat sequence in its batch. -/
def place (g : Fin 34816) : Fin 4352 := ⟨g % 4352, by omega⟩

theorem prepA_apply (x : FVec Ideal S8x4352x256 .f32) (g : Fin 34816) (d : Fin 256) : prepA x (ix3 0 g d) = x (ix3 (batch g) (place g) d) := by
  pointwise [prepA]
  rfl
theorem prepB_apply (x : FVec Ideal S8x4352x512 .f32) (g : Fin 34816) (d : Fin 512) : prepB x (ix3 0 g d) = x (ix3 (batch g) (place g) d) := by
  pointwise [prepB]
  rfl
theorem prepX_apply (x : FVec Ideal S8x4352x1024 .f32) (g : Fin 34816) (d : Fin 1024) : prepX x (ix3 0 g d) = x (ix3 (batch g) (place g) d) := by
  pointwise [prepX]
  rfl
theorem prepC_apply (x : FVec Ideal S8x4352x256 .f32) (g : Fin 34816) (d : Fin 256) :
    prepC x (ix3 0 g d) = x (ix3 (batch g) (place g) (swap d)) := by
  pointwise [prepC]
  rfl
theorem prepMod_apply (x : FVec Ideal S8x6144 .f32) (y : FVec Ideal S6144 .f32) (b : Fin 8) (h : Fin 2) (i : Fin 6) (d : Fin 1024) :
    prepMod x y (ix4 b h i d) = if h = 0 then x (ix2 b ⟨i.val * 1024 + d.val, by omega⟩) else y (ix1 ⟨i.val * 1024 + d.val, by omega⟩) := by
  fin_cases h <;> pointwise [prepMod] <;> rfl
theorem prepW_apply (x : FVec Ideal S1024x1024 .f32) (i d : Fin 1024) : prepW x (ix2 i d)
    = if h : (i : ℕ) < 768 then x (ix2 i d) else x (ix2 ⟨768 + swap ⟨(i : ℕ) - 768, by omega⟩, by omega⟩ d) := by
  pointwise [prepW]
  rfl

variable (m : (ℓ : Loc nD τ sig) → Buf (Elt Ideal) ℓ) (c : Dev nD) (t : Fin cfg0.N)

/-- Row `r` of grid point `t`'s tile among all the tokens. -/
def row (r : Fin 512) : Fin 34816 := ⟨512 * t.val + r.val, by have := t.isLt; change t.val < 68 at this; omega⟩

/-- Which set of modulation vectors token `g` takes. -/
def side (g : Fin 34816) : Fin 2 := ⟨if (g : ℕ) % 4352 < 4096 then 0 else 1, by split <;> omega⟩

theorem side_ite (g : Fin 34816) (x y : EReal) : (if side g = 0 then x else y) = if (place g : ℕ) < 4096 then x else y := by
  refine if_congr ⟨fun h => ?_, fun h => ?_⟩ rfl rfl
  · by_contra h'
    have := congrArg Fin.val h
    unfold side at this
    have e : (if (g : ℕ) % 4352 < 4096 then 0 else 1) = 1 := if_neg h'
    rw [Fin.val_mk, e] at this
    exact absurd this (by decide)
  · exact Fin.ext (if_pos h)

/-- The modulation of token `g`: its batch's for a latent, the context's for the others. -/
def mdAt (g : Fin 34816) (j : Fin 6144) : EReal :=
  if (place g : ℕ) < 4096 then m ((c : Thread nD τ).loc main_arg4) (ix2 (batch g) j) else m ((c : Thread nD τ).loc main_arg5) (ix1 j)

theorem emb13 (r : Fin 512) (d : Fin 1024) : (win0_13.blk t).view.emb (ix3 0 r d) = ix3 0 (row t r) d := by
  blk_ext [i13, row]

theorem blk0 (r : Fin 512) (d : Fin 256) :
    iblk m c 0 t (ix3 0 r d) = m ((c : Thread nD τ).loc main_arg0) (ix3 (batch (row t r)) (place (row t r)) d) := by
  blk_simp [iblk]
  entry_read
  refine (congrArg (prepA (m ((c : Thread nD τ).loc main_arg0))) (?_ : _ = ix3 0 (row t r) d)).trans (prepA_apply _ _ _)
  blk_ext [i0, row]
theorem blk1 (r : Fin 512) (d : Fin 512) :
    iblk m c 1 t (ix3 0 r d) = m ((c : Thread nD τ).loc main_arg1) (ix3 (batch (row t r)) (place (row t r)) d) := by
  blk_simp [iblk]
  entry_read
  refine (congrArg (prepB (m ((c : Thread nD τ).loc main_arg1))) (?_ : _ = ix3 0 (row t r) d)).trans (prepB_apply _ _ _)
  blk_ext [i1, row]
theorem blk2 (r : Fin 512) (d : Fin 256) :
    iblk m c 2 t (ix3 0 r d) = m ((c : Thread nD τ).loc main_arg2) (ix3 (batch (row t r)) (place (row t r)) (swap d)) := by
  blk_simp [iblk]
  entry_read
  refine (congrArg (prepC (m ((c : Thread nD τ).loc main_arg2))) (?_ : _ = ix3 0 (row t r) d)).trans (prepC_apply _ _ _)
  blk_ext [i2, row]
theorem blk3 (r : Fin 512) (d : Fin 1024) :
    iblk m c 3 t (ix3 0 r d) = m ((c : Thread nD τ).loc main_arg3) (ix3 (batch (row t r)) (place (row t r)) d) := by
  blk_simp [iblk]
  entry_read
  refine (congrArg (prepX (m ((c : Thread nD τ).loc main_arg3))) (?_ : _ = ix3 0 (row t r) d)).trans (prepX_apply _ _ _)
  blk_ext [i3, row]
theorem blk4 (r : Fin 512) (hr : (r : ℕ) < 256) (i : Fin 6) (d : Fin 1024) :
    iblk m c 4 t (ix4 0 0 i d) = mdAt m c (row t r) ⟨i.val * 1024 + d.val, by omega⟩ := by
  blk_simp [iblk]
  entry_read
  refine (congrArg (prepMod (m ((c : Thread nD τ).loc main_arg4)) (m ((c : Thread nD τ).loc main_arg5)))
    (?_ : _ = ix4 (batch (row t r)) (side (row t r)) i d)).trans ((prepMod_apply _ _ _ _ _ _).trans ?_)
  · have := t.isLt
    change t.val < 68 at this
    blk_ext [i4]
    · show batN (2 * t.val) + 0 = (512 * t.val + r.val) / 4352
      unfold batN
      omega
    · show sideN (2 * t.val) + 0 = if (512 * t.val + r.val) % 4352 < 4096 then 0 else 1
      unfold sideN
      split <;> omega
  · exact side_ite _ _ _
theorem blk5 (r : Fin 512) (hr : ¬ (r : ℕ) < 256) (i : Fin 6) (d : Fin 1024) :
    iblk m c 5 t (ix4 0 0 i d) = mdAt m c (row t r) ⟨i.val * 1024 + d.val, by omega⟩ := by
  blk_simp [iblk]
  entry_read
  refine (congrArg (prepMod (m ((c : Thread nD τ).loc main_arg4)) (m ((c : Thread nD τ).loc main_arg5)))
    (?_ : _ = ix4 (batch (row t r)) (side (row t r)) i d)).trans ((prepMod_apply _ _ _ _ _ _).trans ?_)
  · have := t.isLt
    change t.val < 68 at this
    blk_ext [i5]
    · show batN (2 * t.val + 1) + 0 = (512 * t.val + r.val) / 4352
      unfold batN
      omega
    · show sideN (2 * t.val + 1) + 0 = if (512 * t.val + r.val) % 4352 < 4096 then 0 else 1
      unfold sideN
      split <;> omega
  · exact side_ite _ _ _
/-- The kernel's output projection: the last 256 rows' heads exchanged. -/
theorem blk6 (i d : Fin 1024) : iblk m c 6 t (ix2 i d)
    = if h : (i : ℕ) < 768 then m ((c : Thread nD τ).loc main_arg6) (ix2 i d)
      else m ((c : Thread nD τ).loc main_arg6) (ix2 ⟨768 + swap ⟨(i : ℕ) - 768, by omega⟩, by omega⟩ d) := by
  blk_simp [iblk]
  entry_read
  refine (congrArg (prepW (m ((c : Thread nD τ).loc main_arg6))) (?_ : _ = ix2 i d)).trans (prepW_apply _ _ _)
  blk_ext [i6]
theorem blk7 (d : Fin 1024) : iblk m c 7 t (ix2 0 d) = m ((c : Thread nD τ).loc main_arg7) (ix1 d) := by
  blk_simp [iblk]
  entry_read
  refine (congrArg (shapeCast S1x1024 (m ((c : Thread nD τ).loc main_arg7)) shapeCasts_S1024_S1x1024) (?_ : _ = ix2 0 d)).trans ?_
  · blk_ext [i7]
  · pointwise
theorem blk8 (d : Fin 1024) : iblk m c 8 t (ix2 0 d) = m ((c : Thread nD τ).loc main_arg8) (ix1 d) := by
  blk_simp [iblk]
  entry_read
  refine (congrArg (shapeCast S1x1024 (m ((c : Thread nD τ).loc main_arg8)) shapeCasts_S1024_S1x1024) (?_ : _ = ix2 0 d)).trans ?_
  · blk_ext [i8]
  · pointwise
theorem blk9 (i : Fin 1024) (j : Fin 5632) : iblk m c 9 t (ix2 i j) = m ((c : Thread nD τ).loc main_arg9) (ix2 i j) := by
  blk_simp [iblk]
  entry_read
  refine congrArg (m ((c : Thread nD τ).loc main_arg9)) (?_ : _ = ix2 i j)
  blk_ext [i9]
theorem blk10 (i : Fin 2816) (j : Fin 1024) : iblk m c 10 t (ix2 i j) = m ((c : Thread nD τ).loc main_arg10) (ix2 i j) := by
  blk_simp [iblk]
  entry_read
  refine congrArg (m ((c : Thread nD τ).loc main_arg10)) (?_ : _ = ix2 i j)
  blk_ext [i10]
theorem blk11 (d : Fin 1024) : iblk m c 11 t (ix2 0 d) = m ((c : Thread nD τ).loc main_arg11) (ix1 d) := by
  blk_simp [iblk]
  entry_read
  refine (congrArg (shapeCast S1x1024 (m ((c : Thread nD τ).loc main_arg11)) shapeCasts_S1024_S1x1024) (?_ : _ = ix2 0 d)).trans ?_
  · blk_ext [i11]
  · pointwise
theorem blk12 (d : Fin 1024) : iblk m c 12 t (ix2 0 d) = m ((c : Thread nD τ).loc main_arg12) (ix1 d) := by
  blk_simp [iblk]
  entry_read
  refine (congrArg (shapeCast S1x1024 (m ((c : Thread nD τ).loc main_arg12)) shapeCasts_S1024_S1x1024) (?_ : _ = ix2 0 d)).trans ?_
  · blk_ext [i12]
  · pointwise

/-- Token `g` of the flat sequence after the block. -/
def flat (g : Fin 34816) : Row :=
  post (fun (i : Fin 6) (d : Fin 1024) => mdAt m c g ⟨i.val * 1024 + d.val, by omega⟩)
    (fun d => m ((c : Thread nD τ).loc main_arg7) (ix1 d)) (fun d => m ((c : Thread nD τ).loc main_arg8) (ix1 d))
    (fun d => m ((c : Thread nD τ).loc main_arg11) (ix1 d)) (fun d => m ((c : Thread nD τ).loc main_arg12) (ix1 d))
    (fun k j => m ((c : Thread nD τ).loc main_arg9) (ix2 k j)) (fun j d => m ((c : Thread nD τ).loc main_arg10) (ix2 j d))
    (fun d => m ((c : Thread nD τ).loc main_arg3) (ix3 (batch g) (place g) d))
    (proj (fun i d => m ((c : Thread nD τ).loc main_arg6) (ix2 i d)) (fun i => m ((c : Thread nD τ).loc main_arg0) (ix3 (batch g) (place g) i))
      (fun i => m ((c : Thread nD τ).loc main_arg1) (ix3 (batch g) (place g) i)) (fun i => m ((c : Thread nD τ).loc main_arg2) (ix3 (batch g) (place g) i)))

/-- The result as one function of the index. -/
def flatG (y : S1x34816x1024.Idx) : EReal := flat m c (y 1) (y 2)

set_option maxHeartbeats 2000000 in
theorem array_eq : (dats m 0 c).arrAt 13 cfg0.N = flatG m c := by
  refine (dats m 0 c).arrAt_eq_of_covers 13 _ (by decide +kernel) fun t hf y => ?_
  blk_simp
  rw [after0_13]
  change S1x512x1024.Idx at y
  obtain ⟨r, l, rfl⟩ : ∃ (r : Fin 512) (l : Fin 1024), y = ix3 0 r l := ⟨y 1, y 2, by idx_ext⟩
  refine Eq.trans (out_block (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) r
    (fun i d => iblk m c 4 t (ix4 0 0 i d)) (fun i d => iblk m c 5 t (ix4 0 0 i d)) (fun i d => iblk m c 6 t (ix2 i d))
    _ _ _ _ _ _ _ _ _ _ (fun _ => rfl) (fun _ => rfl) (fun _ => rfl) (blk3 m c t r) (fun _ _ => rfl) (fun _ _ => rfl) (fun _ _ => rfl)
    (blk7 m c t) (blk8 m c t) (blk9 m c t) (blk10 m c t) (blk11 m c t) (blk12 m c t) l) ?_
  refine Eq.trans ?_ (congrArg (flatG m c) (emb13 t r l)).symm
  refine Eq.trans ?_ (show flat m c (row t r) l = _ from rfl)
  unfold flat
  have e1 : (fun (i : Fin 6) => if (r : ℕ) < 256 then fun d => iblk m c 4 t (ix4 0 0 i d) else fun d => iblk m c 5 t (ix4 0 0 i d))
      = fun (i : Fin 6) (d : Fin 1024) => mdAt m c (row t r) ⟨i.val * 1024 + d.val, by omega⟩ := by
    funext i
    split
    · exact funext fun d => blk4 m c t r ‹_› i d
    · exact funext fun d => blk5 m c t r ‹_› i d
  have e2 := proj_swapped (fun i d => m ((c : Thread nD τ).loc main_arg6) (ix2 i d)) (fun i d => iblk m c 6 t (ix2 i d))
    (fun i => m ((c : Thread nD τ).loc main_arg0) (ix3 (batch (row t r)) (place (row t r)) i)) (fun i => iblk m c 0 t (ix3 0 r i))
    (fun i => m ((c : Thread nD τ).loc main_arg1) (ix3 (batch (row t r)) (place (row t r)) i)) (fun i => iblk m c 1 t (ix3 0 r i))
    (fun i => m ((c : Thread nD τ).loc main_arg2) (ix3 (batch (row t r)) (place (row t r)) i)) (fun i => iblk m c 2 t (ix3 0 r i))
    (blk0 m c t r) (blk1 m c t r) (blk2 m c t r) (fun i d h => (blk6 m c t i d).trans (dif_pos h))
    (fun i d => (blk6 m c t _ d).trans ((dif_neg (show ¬ 768 + (i : ℕ) < 768 by omega)).trans
      (congrArg (fun j : Fin 256 => m ((c : Thread nD τ).loc main_arg6) (ix2 ⟨768 + j, by omega⟩ d))
        (congrArg swap (Fin.ext (show 768 + (i : ℕ) - 768 = i by omega))))))
  exact congrArg₂ (fun md y => post md _ _ _ _ _ _ _ y l) e1 e2

/-- The kernel's run: its result's array, its arguments unchanged. -/
theorem run_flat (ρ : Dev nD → PrngReg) : θ_run defs (onTc (τ := τ) (main (F := Ideal))) ⟨m, fun _ => 0, ρ⟩ fun r => ∀ c : Dev nD,
      r.2.mem ((c : Thread nD τ).loc main_v27) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) := by
  refine (θ_run defs _ _).mono (fun r h c => ⟨(h c).1 13,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩) (run_main m ρ)

end Cert.Kernel3Ideal.Hand

end
-- ==== Proof.FlatRef.lean ====
/-
The flat block's reference, read at one element, one stage after another.
-/
module

public import proofs.«01_k».proof.Proof.Gen.Reference3Ideal.Run
public import proofs.«01_k».proof.Proof.Gen.Reference3Ideal
public import proofs.«01_k».proof.Proof.PostRow
public import Idealize.ShloMosaic.Lib.Pipeline.ValueKit.Geometry

@[expose] public section

set_option maxRecDepth 16384

noncomputable section

namespace Cert.Reference3Ideal.Hand

open Idealize.ShloMosaic Idealize.ShloMosaic.TcCoe Idealize.SL.Sem
open Cert.Reference3Ideal Cert.Reference3Ideal.Gen Cert.Reference3Ideal.Value Cert.Post

variable (V : Valuation τ sig (Elt Ideal)) (b : Fin 8) (s : Fin 4352)

/-- The modulation of token `s` of batch `b`: the batch's own for a latent, the context's for the others. -/
def mdAt (j : Fin 6144) : EReal := if (s : ℕ) < 4096 then V (Proc.devRef .tc main_arg4) (ix2 b j) else V (Proc.devRef .tc main_arg5) (ix1 j)
/-- The six modulation vectors of token `s` of batch `b`. -/
def md : Fin 6 → Row := fun i d => mdAt V b s ⟨i.val * 1024 + d.val, by omega⟩
def lng1 : Row := fun d => V (Proc.devRef .tc main_arg7) (ix1 d)
def lnb1 : Row := fun d => V (Proc.devRef .tc main_arg8) (ix1 d)
def lng2 : Row := fun d => V (Proc.devRef .tc main_arg11) (ix1 d)
def lnb2 : Row := fun d => V (Proc.devRef .tc main_arg12) (ix1 d)
def wi : Fin 1024 → Fin 5632 → EReal := fun k j => V (Proc.devRef .tc main_arg9) (ix2 k j)
def wo : Fin 2816 → Row := fun j d => V (Proc.devRef .tc main_arg10) (ix2 j d)
def x0 : Row := fun d => V (Proc.devRef .tc main_arg3) (ix3 b s d)
def y0 : Row := proj (fun i d => V (Proc.devRef .tc main_arg6) (ix2 i d)) (fun i => V (Proc.devRef .tc main_arg0) (ix3 b s i))
  (fun i => V (Proc.devRef .tc main_arg1) (ix3 b s i)) (fun i => V (Proc.devRef .tc main_arg2) (ix3 b s i))

/-- The first residual sum. -/
def z1 : Row := resid (x0 V b s) (md V b s 2) (y0 V b s)

theorem v4_apply (j : Fin 6144) : res_main_v4 V (ix3 b s j) = mdAt V b s j := by
  unfold res_main_v4 mdAt
  pointwise
  rfl

theorem v15_apply (d : Fin 1024) : res_main_v15 V (ix3 b s d) = z1 V b s d := by
  unfold res_main_v15
  pointwise
  refine congrArg₂ _ rfl (congrArg₂ _ (v4_apply V b s _) ?_)
  refine (projection_split (fun x : Fin 1024 => (if h : (x : ℕ) < 256 then V (Proc.devRef .tc main_arg0) (ix3 b s ⟨x, h⟩)
      else if h' : (x : ℕ) - 256 < 512 then V (Proc.devRef .tc main_arg1) (ix3 b s ⟨(x : ℕ) - 256, h'⟩)
      else V (Proc.devRef .tc main_arg2) (ix3 b s ⟨(x : ℕ) - 256 - 512, by omega⟩) : EReal)
    * V (Proc.devRef .tc main_arg6) (ix2 x d)) _ _ _ ?_ ?_ ?_).symm
  · intro i
    rw [dif_pos (show ((⟨i, by omega⟩ : Fin 1024) : ℕ) < 256 from i.isLt)]
  · intro i
    have h1 : ¬ 256 + (i : ℕ) < 256 := by omega
    have h2 : 256 + (i : ℕ) - 256 < 512 := by omega
    rw [dif_neg h1, dif_pos h2]
    refine congrArg₂ _ (congrArg (fun j => V (Proc.devRef .tc main_arg1) (ix3 b s j)) (Fin.ext ?_)) rfl
    show (i : ℕ) = 256 + i - 256
    omega
  · intro i
    have h1 : ¬ 768 + (i : ℕ) < 256 := by omega
    have h2 : ¬ 768 + (i : ℕ) - 256 < 512 := by omega
    rw [dif_neg h1, dif_neg h2]
    refine congrArg₂ _ (congrArg (fun j => V (Proc.devRef .tc main_arg2) (ix3 b s j)) (Fin.ext ?_)) rfl
    show (i : ℕ) = 768 + i - 256 - 512
    omega

theorem v19_apply : res_main_v19 V (ix3 b s 0) = mean (z1 V b s) := by
  unfold res_main_v19
  pointwise
  exact congrArg₂ _ (Finset.sum_congr rfl fun d _ => v15_apply V b s d) rfl

theorem v21_apply (d : Fin 1024) : res_main_v21 V (ix3 b s d) = centred (z1 V b s) d := by
  unfold res_main_v21
  pointwise
  exact congrArg₂ _ (v15_apply V b s d) (v19_apply V b s)

/-- The first layer norm's row. -/
def x1 : Row := layerNorm (lng1 V) (lnb1 V) (z1 V b s)

theorem v39_apply (d : Fin 1024) : res_main_v39 V (ix3 b s d) = x1 V b s d := by
  unfold res_main_v39
  pointwise
  exact congrArg₂ _ (congrArg₂ _ (congrArg₂ _ (congrArg₂ _ (v15_apply V b s d) (v19_apply V b s)) (congrArg _ (congrArg₂ _ (congrArg₂ _
    (Finset.sum_congr rfl fun x _ => congrArg₂ _ (v21_apply V b s x) (v21_apply V b s x)) rfl) rfl))) rfl) rfl

/-- The first projection's row. -/
def h1 (j : Fin 5632) : EReal := ∑ k, modulate (x1 V b s) (md V b s 3) (md V b s 4) k * wi V k j

theorem v46_apply (j : Fin 5632) : res_main_v46 V (ix3 b s j) = h1 V b s j := by
  unfold res_main_v46
  pointwise
  refine (?_ : (_ : EReal) = _)
  exact Finset.sum_congr rfl fun k _ => congrArg₂ _ (congrArg₂ _ (congrArg₂ _ (v39_apply V b s k) (congrArg₂ _ rfl (v4_apply V b s _))) (v4_apply V b s _)) rfl

/-- The second residual sum. -/
def z2 : Row := resid (x1 V b s) (md V b s 5) (ffn (wi V) (wo V) (modulate (x1 V b s) (md V b s 3) (md V b s 4)))

theorem v53_apply (d : Fin 1024) : res_main_v53 V (ix3 b s d) = z2 V b s d := by
  unfold res_main_v53 res_main_v47
  pointwise
  refine congrArg₂ _ (congrArg₂ _ rfl (v39_apply V b s d)) (congrArg₂ _ (v4_apply V b s _) (Finset.sum_congr rfl fun j _ => ?_))
  exact congrArg₂ _ (congrArg₂ _ (congrArg₂ _ (v46_apply V b s _) (congrArg _ (congrArg _ (congrArg _ (congrArg _ (v46_apply V b s _)))))) (v46_apply V b s _)) rfl

theorem v57_apply : res_main_v57 V (ix3 b s 0) = mean (z2 V b s) := by
  unfold res_main_v57
  pointwise
  exact congrArg₂ _ (Finset.sum_congr rfl fun d _ => v53_apply V b s d) rfl

theorem v59_apply (d : Fin 1024) : res_main_v59 V (ix3 b s d) = centred (z2 V b s) d := by
  unfold res_main_v59
  pointwise
  exact congrArg₂ _ (v53_apply V b s d) (v57_apply V b s)

/-- The result: the second layer norm, its tokens one after another. -/
def result : FVec Ideal S1x34816x1024 .f32 :=
  shapeCast _ (addf (mulf (mulf (subf (res_main_v53 V) (broadcastInDim S8x4352x1024 ![0, 1, 2] bcast_S8x4352x1_S8x4352x1024_0_1_2 (res_main_v57
    V))) (broadcastInDim S8x4352x1024 ![0, 1, 2] bcast_S8x4352x1_S8x4352x1024_0_1_2 (Host.rsqrt (addf (Host.divf (broadcastInDim
    S8x4352x1 ![0, 1] bcast_S8x4352_S8x4352x1_0_1 (Host.reduceAdd (mulf (res_main_v59 V) (res_main_v59 V)) (constant S_ .f32
    0x00000000#32) reducesTo_S8x4352x1024_S8x4352_d2 h_S_)) (broadcastInDim S8x4352x1 ![] bcast_S_S8x4352x1 (constant S_ .f32
    0x44800000#32))) (broadcastInDim S8x4352x1 ![] bcast_S_S8x4352x1 (constant S_ .f32 0x3727C5AC#32)))))) (broadcastInDim
    S8x4352x1024 ![0, 1, 2] bcast_S1x1x1024_S8x4352x1024_0_1_2 (broadcastInDim S1x1x1024 ![2] bcast_S1024_S1x1x1024_2 (V (Proc.devRef
    .tc main_arg11))))) (broadcastInDim S8x4352x1024 ![0, 1, 2] bcast_S1x1x1024_S8x4352x1024_0_1_2 (broadcastInDim S1x1x1024 ![2]
    bcast_S1024_S1x1x1024_2 (V (Proc.devRef .tc main_arg12))))) shapeCasts_S8x4352x1024_S1x34816x1024

theorem result_apply (g : Fin 34816) (d : Fin 1024) (b : Fin 8) (s : Fin 4352) (hb : (⟨g / 4352, by omega⟩ : Fin 8) = b)
    (hs : (⟨g % 4352, by omega⟩ : Fin 4352) = s) : result V (ix3 0 g d)
    = Cert.Post.post (md V b s) (lng1 V) (lnb1 V) (lng2 V) (lnb2 V) (wi V) (wo V) (x0 V b s) (y0 V b s) d := by
  subst hb hs
  unfold result
  pointwise
  exact congrArg₂ _ (congrArg₂ _ (congrArg₂ _ (congrArg₂ _ (v53_apply V _ _ d) (v57_apply V _ _)) (congrArg _ (congrArg₂ _ (congrArg₂ _
    (Finset.sum_congr rfl fun x _ => congrArg₂ _ (v59_apply V _ _ x) (v59_apply V _ _ x)) rfl) rfl))) rfl) rfl

end Cert.Reference3Ideal.Hand

end
-- ==== Proof.GqaRow.lean ====
/-
The mathematics of one row of grouped attention: the softmax average of values that may be infinite, under real scores.
-/
module

public import proofs.«01_k».proof.Proof.Rows

@[expose] public section

set_option maxRecDepth 16384

noncomputable section

namespace Cert.Online

open Idealize.ShloMosaic

/-- A finite sum times a real number that is not negative. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s h ih =>
    rw [Finset.sum_insert h, Finset.sum_insert h,
      EReal.right_distrib_of_nonneg_of_ne_top (EReal.coe_nonneg.mpr hc) (EReal.coe_ne_top c), ih]

/-- The softmax average of one lane of the values, under the scores of half `e`. -/
def gav {n : ℕ} (e : Fin 2) (q : Fin 128 → ℝ) (K : Fin n → Fin 128 → ℝ) (w : Fin n → EReal) : EReal :=
  ∑ j, ((wgt e q (K j) / ∑ x, wgt e q (K x) : ℝ) : EReal) * w j

/-- A row of a pair of heads: lanes before lane 64 are the first head's, the others the second's. -/
def pairRow {n : ℕ} (q : Fin 128 → ℝ) (K : Fin n → Fin 128 → ℝ) (w : Fin n → Fin 128 → EReal) (l : Fin 128) : EReal :=
  gav ⟨(l : ℕ) / 64, by omega⟩ q K fun j => w j l

/-- One block of powers of two against the values, over its sum: the softmax average. -/
theorem block_gav {n : ℕ} [NeZero n] (e : Fin 2) (Q : Fin 128 → ℝ) (K : Fin n → Fin 128 → ℝ) (s w one : Fin n → EReal)
    (hs : ∀ j, s j = ((∑ d, masked e Q d * K j d : ℝ) : EReal)) (h1 : ∀ j, one j = 1) :
    (∑ j, Ideal.exp2 (s j - Finset.univ.fold max (Ideal.ofBits .f32 0xFF800000#32) s) * w j)
      * Ideal.div 1 (∑ j, Ideal.exp2 (s j - Finset.univ.fold max (Ideal.ofBits .f32 0xFF800000#32) s) * one j)
      = gav e Q K w := by
  obtain ⟨μ, hμ⟩ := fold_max n fun j => ∑ d, masked e Q d * K j d
  have h : Finset.univ.fold max (Ideal.ofBits .f32 0xFF800000#32) s = (μ : EReal) := by
    rw [← hμ]; exact congrArg (fun f => Finset.fold max _ f _) (funext hs)
  have hx : ∀ j, Ideal.exp2 (s j - (μ : EReal)) = ((p2 (-μ) * wgt e Q (K j) : ℝ) : EReal) := fun j => by
    rw [hs, exp2_sub, p2_sub_mul, p2_masked]
  have hp := p2_pos (-μ)
  have hS : 0 < ∑ j, wgt e Q (K j) := Finset.sum_pos (fun _ _ => wgt_pos _ _ _) ⟨0, Finset.mem_univ _⟩
  rw [h]
  simp only [hx, h1, mul_one]
  rw [coe_sum, ← Finset.mul_sum, Ideal.div_coe (mul_pos hp hS).ne', one_mul, sum_mul_real _ _ _ (one_div_nonneg.mpr (mul_pos hp hS).le), gav]
  refine Finset.sum_congr rfl fun j _ => ?_
  rw [mul_right_comm, ← EReal.coe_mul]
  refine congrArg (fun x : ℝ => (x : EReal) * w j) ?_
  field_simp

/-- Row `t` of a pair of heads: a row before row 4096 sees every key, a later row the keys from 4096 on. -/
def groupRow (Q K : Fin 4352 → Fin 128 → ℝ) (w : Fin 4352 → Fin 128 → EReal) (t : Fin 4352) (l : Fin 128) : EReal :=
  if (t : ℕ) < 4096 then pairRow (Q t) K w l
  else pairRow (Q t) (fun j : Fin 256 => K ⟨4096 + j, by omega⟩) (fun j : Fin 256 => w ⟨4096 + j, by omega⟩) l

end Cert.Online

end
-- ==== Proof.GqaTile.lean ====
/-
What one grid point of the grouped attention's kernel writes: `tile` for a tile of 256 query rows against all the keys,
`ctxTile` for the tile of the 256 last rows against the 256 last keys, and their values at an index.
-/
module

public import proofs.«01_k».proof.Proof.GqaRow
public import proofs.«01_k».proof.Proof.TileValue
public import proofs.«01_k».proof.Proof.Gen.Kernel4Ideal.Frame
import all proofs.«01_k».proof.Proof.Gen.Kernel4Ideal.Loops
import all proofs.«01_k».proof.Proof.Gen.Kernel4Ideal.Frame.RunA

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen Cert.Online

/-- A tile of 256 query rows `q` against all the keys `k`, with the values beside the column of ones: `w0` before lane 128, `w1` from it. -/
def tile (q : Vec Ideal S1x256x128 .f32) (k w0 w1 : Vec Ideal S1x4352x128 .bf16) : FVec Ideal S1x256x128 .bf16 :=
  k0_pay9 (k0_pay5 k0_pay8 q k w0) (k0_pay6 k0_pay8 q k w1) (k0_pay7 k0_pay8 q k w0) (FloatOps.ofBits (F := Ideal) .f32 0x3F800000#32)

/-- The tile of the 256 last rows against the 256 last keys. -/
def ctxTile (q : Vec Ideal S1x256x128 .f32) (k w0 w1 : Vec Ideal S1x256x128 .bf16) : FVec Ideal S1x256x128 .bf16 :=
  k0_pay1 k0_pay8 (k0_pay13 q k w0) (k0_pay14 q k) w1

section Pieces
variable (c : Dev nD) (i : grid0.Coords) (arg2 : Memref sig .tc .vmem S1x4352x128 .f32) (harg2 : arg2.IsWhole)
  (arg3 : Memref sig .tc .vmem S1x4352x128 .bf16) (harg3 : arg3.IsWhole) (arg4 : Memref sig .tc .vmem S1x4352x256 .bf16)
  (harg4 : arg4.IsWhole) (arg5 : Memref sig .tc .vmem S1x4352x128 .bf16) (harg5 : arg5.IsWhole)

/-- Trip `k` of the loop writes one piece. -/
theorem trip_pieces (𝒱 : Variants) (bd : Option 𝒱.V) (X2 : BufTy.Contents (Elt Ideal) arg2.view.ty)
    (X3 : BufTy.Contents (Elt Ideal) arg3.view.ty) (X4 : BufTy.Contents (Elt Ideal) arg4.view.ty) (k : Fin k0_t1_loop.trips) :
    tripL_k0_t1 (F := Ideal) 𝒱 c bd i arg2 harg2 arg3 harg3 arg4 harg4 arg5 harg5 X2 X3 X4 k
      = [⟨Rect.unit (s := S1x4352x128) (k0_off1 k) S1x256x128.size (k0_off1_inb k),
          tile
            (View.readAt (Elt Ideal) arg2.view (Rect.unit (s := S1x4352x128) (k0_off1 k) S1x256x128.size (k0_off1_inb k)).toLoadRect X2)
            (View.readAt (Elt Ideal) arg3.view (Rect.unit (s := S1x4352x128) ![0, 0, 0] S1x4352x128.size inb_S1x4352x128_S1x4352x128_0_0_0).toLoadRect X3)
            (View.readAt (Elt Ideal) arg4.view (Rect.unit (s := S1x4352x256) ![0, 0, 0] S1x4352x128.size inb_S1x4352x256_S1x4352x128_0_0_0).toLoadRect X4)
            (View.readAt (Elt Ideal) arg4.view (Rect.unit (s := S1x4352x256) ![0, 0, 128] S1x4352x128.size inb_S1x4352x256_S1x4352x128_0_0_128).toLoadRect X4)⟩] := by
  unfold tripL_k0_t1 trip_k0_t1
  rfl

/-- One grid point writes the last tile's piece over the loop's. -/
theorem run_pieces (x0 : Vec Ideal S1x4352x128 .f32) (x1 : Vec Ideal S1x4352x128 .bf16) (x2 : Vec Ideal S1x4352x256 .bf16) :
    (kernelRun0_A c i arg2 harg2 arg3 harg3 arg4 harg4 arg5 harg5 x0 x1 x2).1
      = ⟨Rect.unit (s := S1x4352x128) ![0, 4096, 0] S1x256x128.size inb_S1x4352x128_S1x256x128_0_4096_0,
          ctxTile
            (View.readAt (Elt Ideal) arg2.view (Rect.unit (s := S1x4352x128) ![0, 4096, 0] S1x256x128.size inb_S1x4352x128_S1x256x128_0_4096_0).toLoadRect (harg2.unread x0))
            (View.readAt (Elt Ideal) arg3.view (Rect.unit (s := S1x4352x128) ![0, 4096, 0] S1x256x128.size inb_S1x4352x128_S1x256x128_0_4096_0).toLoadRect (harg3.unread x1))
            (View.readAt (Elt Ideal) arg4.view (Rect.unit (s := S1x4352x256) ![0, 4096, 0] S1x256x128.size inb_S1x4352x256_S1x256x128_0_4096_0).toLoadRect (harg4.unread x2))
            (View.readAt (Elt Ideal) arg4.view (Rect.unit (s := S1x4352x256) ![0, 4096, 128] S1x256x128.size inb_S1x4352x256_S1x256x128_0_4096_128).toLoadRect (harg4.unread x2))⟩ ::
        pb_k0_t1 (F := Ideal) Variants.none c none i arg2 harg2 arg3 harg3 arg4 harg4 arg5 harg5
          (harg2.unread x0) (harg3.unread x1) (harg4.unread x2) 16 := by
  unfold kernelRun0_A
  rfl

end Pieces

/-- The scale's named constant. -/
theorem qscale_eq : (Named.named κ "qscale" (0x3E38AA3B#32 : BitVec FTy.f32.bits) : Ideal .f32) = (((8 * Real.log 2)⁻¹ : ℝ) : EReal) :=
  IdealRules.named_const.ideal_named_scalar _ _ _ _ rfl

/-- A product of a query's lane with a key's under half `e`'s mask. -/
def lprod (e : Fin 2) (q : Vec Ideal S1x256x128 .f32) (r : Fin 256) (d : Fin 128) (k : EReal) : EReal :=
  match e with
  | 0 => Scalar.select (IntOp.cmpi CmpIPredicate.slt (BitVec.ofNat 32 (d : ℕ)) 64#32)
      (q (ix3 0 r d) * (Named.named κ "qscale" (0x3E38AA3B#32 : BitVec FTy.f32.bits) : Ideal .f32) * k) 0
  | 1 => Scalar.select (IntOp.cmpi CmpIPredicate.slt (BitVec.ofNat 32 (d : ℕ)) 64#32) 0
      (q (ix3 0 r d) * (Named.named κ "qscale" (0x3E38AA3B#32 : BitVec FTy.f32.bits) : Ideal .f32) * k)

theorem lprod_eq (e : Fin 2) (q : Vec Ideal S1x256x128 .f32) (r : Fin 256) (Q : Fin 128 → ℝ) (hq : ∀ d, q (ix3 0 r d) = (Q d : EReal))
    (d : Fin 128) (k : ℝ) : lprod e q r d k = ((masked e Q d * k : ℝ) : EReal) := by
  have hd : (d : ℕ) / 64 = 0 ∨ (d : ℕ) / 64 = 1 := by omega
  fin_cases e <;> simp only [lprod, Fin.zero_eta, Fin.mk_one] <;> rw [Cert.KernelIdeal.Hand.lane_lt, qscale_eq, hq] <;>
    rcases hd with h | h <;> simp [masked, h, Scalar.select]

theorem lane_lo (l : Fin 128) (h : (l : ℕ) / 64 = 0) (a b : EReal) :
    Scalar.select (IntOp.cmpi CmpIPredicate.slt (BitVec.ofNat 32 (l : ℕ)) 64#32) a b = a := by
  rw [Cert.KernelIdeal.Hand.lane_lt, if_pos h]
  rfl

theorem lane_hi (l : Fin 128) (h : (l : ℕ) / 64 = 1) (a b : EReal) :
    Scalar.select (IntOp.cmpi CmpIPredicate.slt (BitVec.ofNat 32 (l : ℕ)) 64#32) a b = b := by
  rw [Cert.KernelIdeal.Hand.lane_lt, if_neg (by omega)]
  rfl

section Value
variable (q : Vec Ideal S1x256x128 .f32) (r : Fin 256) (Q : Fin 128 → ℝ) (hq : ∀ d, q (ix3 0 r d) = (Q d : EReal))

include hq in
theorem half_gav {n : ℕ} [NeZero n] (e : Fin 2) (k : Fin n → Fin 128 → EReal) (K : Fin n → Fin 128 → ℝ) (hk : ∀ j d, k j d = (K j d : EReal))
    (w one : Fin n → EReal) (h1 : ∀ j, one j = 1) :
    (∑ j, Ideal.exp2 (∑ d, lprod e q r d (k j d) - Finset.univ.fold max (Ideal.ofBits .f32 0xFF800000#32) (fun j => ∑ d, lprod e q r d (k j d))) * w j)
      * Ideal.div 1 (∑ j, Ideal.exp2 (∑ d, lprod e q r d (k j d) - Finset.univ.fold max (Ideal.ofBits .f32 0xFF800000#32) (fun j => ∑ d, lprod e q r d (k j d))) * one j)
      = gav e Q K w :=
  block_gav e Q K (fun j => ∑ d, lprod e q r d (k j d)) w one
    (fun j => (Finset.sum_congr rfl fun d _ => by rw [hk, lprod_eq e q r Q hq]).trans (coe_sum _ _)) h1

include hq in
/-- The tile at an index. -/
theorem tile_apply (k w0 w1 : Vec Ideal S1x4352x128 .bf16) (K : Fin 4352 → Fin 128 → ℝ) (w : Fin 4352 → Fin 128 → EReal)
    (hk : ∀ j d, k (ix3 0 j d) = (K j d : EReal))
    (h0 : ∀ (j : Fin 4352) (l : Fin 128), (l : ℕ) < 64 → w0 (ix3 0 j l) = w j l) (h01 : ∀ j : Fin 4352, w0 (ix3 0 j 64) = 1)
    (h1 : ∀ (j : Fin 4352) (l : Fin 128), 64 ≤ (l : ℕ) → w1 (ix3 0 j l) = w j l) (h11 : ∀ j : Fin 4352, w1 (ix3 0 j 0) = 1) (l : Fin 128) :
    tile q k w0 w1 (ix3 0 r l) = pairRow Q K w l := by
  have g0 := half_gav q r Q hq 0 (fun j d => k (ix3 0 j d)) K hk (fun j => w0 (ix3 0 j l)) (fun j => w0 (ix3 0 j 64)) h01
  have g1 := half_gav q r Q hq 1 (fun j d => k (ix3 0 j d)) K hk (fun j => w1 (ix3 0 j l)) (fun j => w1 (ix3 0 j 0)) h11
  have hl : (l : ℕ) / 64 = 0 ∨ (l : ℕ) / 64 = 1 := by omega
  rw [pairRow]
  pointwise [tile, k0_pay9, k0_pay8, k0_pay7, k0_pay6, k0_pay5, k0_pay4, k0_pay3, k0_pay2]
  rcases hl with h | h
  · refine (lane_lo l h _ _).trans ?_
    rw [show (⟨(l : ℕ) / 64, by omega⟩ : Fin 2) = 0 from Fin.ext h,
      show (fun j => w j l) = fun j => w0 (ix3 0 j l) from funext fun j => (h0 j l (by omega)).symm]
    exact g0
  · refine (lane_hi l h _ _).trans ?_
    rw [show (⟨(l : ℕ) / 64, by omega⟩ : Fin 2) = 1 from Fin.ext h,
      show (fun j => w j l) = fun j => w1 (ix3 0 j l) from funext fun j => (h1 j l (by omega)).symm]
    exact g1

include hq in
/-- The last tile at an index. -/
theorem ctxTile_apply (k w0 w1 : Vec Ideal S1x256x128 .bf16) (K : Fin 256 → Fin 128 → ℝ) (w : Fin 256 → Fin 128 → EReal)
    (hk : ∀ j d, k (ix3 0 j d) = (K j d : EReal))
    (h0 : ∀ (j : Fin 256) (l : Fin 128), (l : ℕ) < 64 → w0 (ix3 0 j l) = w j l) (h01 : ∀ j : Fin 256, w0 (ix3 0 j 64) = 1)
    (h1 : ∀ (j : Fin 256) (l : Fin 128), 64 ≤ (l : ℕ) → w1 (ix3 0 j l) = w j l) (h11 : ∀ j : Fin 256, w1 (ix3 0 j 0) = 1) (l : Fin 128) :
    ctxTile q k w0 w1 (ix3 0 r l) = pairRow Q K w l := by
  have g0 := half_gav q r Q hq 0 (fun j d => k (ix3 0 j d)) K hk (fun j => w0 (ix3 0 j l)) (fun j => w0 (ix3 0 j 64)) h01
  have g1 := half_gav q r Q hq 1 (fun j d => k (ix3 0 j d)) K hk (fun j => w1 (ix3 0 j l)) (fun j => w1 (ix3 0 j 0)) h11
  have hl : (l : ℕ) / 64 = 0 ∨ (l : ℕ) / 64 = 1 := by omega
  rw [pairRow]
  pointwise [ctxTile, k0_pay1, k0_pay8, k0_pay14, k0_pay13, k0_pay12, k0_pay11, k0_pay10]
  rcases hl with h | h
  · refine (lane_lo l h _ _).trans ?_
    rw [show (⟨(l : ℕ) / 64, by omega⟩ : Fin 2) = 0 from Fin.ext h,
      show (fun j => w j l) = fun j => w0 (ix3 0 j l) from funext fun j => (h0 j l (by omega)).symm]
    exact g0
  · refine (lane_hi l h _ _).trans ?_
    rw [show (⟨(l : ℕ) / 64, by omega⟩ : Fin 2) = 1 from Fin.ext h,
      show (fun j => w j l) = fun j => w1 (ix3 0 j l) from funext fun j => (h1 j l (by omega)).symm]
    exact g1

end Value

end Cert.Kernel4Ideal.Hand

end
-- ==== Proof.GqaBlock.lean ====
/-
What one grid point of the grouped attention's kernel leaves in the output's block: every row of one pair of heads.
-/
module

public import proofs.«01_k».proof.Proof.GqaTile
public import Idealize.ShloMosaic.Lib.WholeRead

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen Cert.Online

theorem off1_eq : ∀ k : Fin k0_t1_loop.trips, k0_off1 k = ![0, 256 * k.val, 0] := by decide +kernel

/-- A load of `n` rows from row `o` on, of 128 lanes from lane `u` on. -/
theorem load_part {e : EltTy} (g : ℕ) (a : Memref sig .tc .vmem ⟨3, ![1, 4352, g]⟩ e) (h : a.IsWhole) (X : Vec Ideal ⟨3, ![1, 4352, g]⟩ e) (n o u : ℕ)
    (inb : ∀ x, ![0, o, u] x + (⟨3, ![1, n, 128]⟩ : Shape).size x ≤ (⟨3, ![1, 4352, g]⟩ : Shape).size x) (j : Fin n) (d : Fin 128)
    (hj : o + j < 4352) (hd : u + d < g) :
    View.readAt (Elt Ideal) a.view (Rect.unit (s := ⟨3, ![1, 4352, g]⟩) ![0, o, u] (⟨3, ![1, n, 128]⟩ : Shape).size inb).toLoadRect (h.unread X) (ix3 0 j d)
      = X (ix3 0 ⟨o + j, hj⟩ ⟨u + d, hd⟩) := by
  rw [h.readAt_unread]
  refine congrArg X (funext fun x => ?_)
  fin_cases x <;> refine Fin.ext ?_ <;> simp [LoadRect.idx, Rect.toLoadRect, Rect.unit]

/-- Where a piece of `n` rows from row `o` on lies. -/
theorem emb_rows (n o : ℕ) (inb : ∀ x, ![0, o, 0] x + (⟨3, ![1, n, 128]⟩ : Shape).size x ≤ S1x4352x128.size x) (j : Fin n)
    (d : Fin 128) (hj : o + j < 4352) :
    (Rect.unit (s := S1x4352x128) ![0, o, 0] (⟨3, ![1, n, 128]⟩ : Shape).size inb).emb (ix3 0 j d) = ix3 0 ⟨o + j, hj⟩ d := by
  refine funext fun x => ?_
  fin_cases x <;> refine Fin.ext ?_ <;> simp [Rect.unit, Rect.emb]

/-- The first head's lane `l` of the padded values. -/
def loLane (l : Fin 128) : Fin 256 := ⟨l, by omega⟩
/-- The second head's lane `l` of the padded values. -/
def hiLane (l : Fin 128) : Fin 256 := ⟨128 + l, by omega⟩

variable (c : Dev nD) (i : grid0.Coords) (arg2 : Memref sig .tc .vmem S1x4352x128 .f32) (harg2 : arg2.IsWhole)
  (arg3 : Memref sig .tc .vmem S1x4352x128 .bf16) (harg3 : arg3.IsWhole) (arg4 : Memref sig .tc .vmem S1x4352x256 .bf16)
  (harg4 : arg4.IsWhole) (arg5 : Memref sig .tc .vmem S1x4352x128 .bf16) (harg5 : arg5.IsWhole)
  (x0 : Vec Ideal S1x4352x128 .f32) (x1 : Vec Ideal S1x4352x128 .bf16) (x2 : Vec Ideal S1x4352x256 .bf16)
  (Q K : Fin 4352 → Fin 128 → ℝ) (w : Fin 4352 → Fin 128 → EReal)
  (hq : ∀ t d, x0 (ix3 0 t d) = (Q t d : EReal)) (hk : ∀ t d, x1 (ix3 0 t d) = (K t d : EReal))
  (h0 : ∀ (t : Fin 4352) (l : Fin 128), (l : ℕ) < 64 → x2 (ix3 0 t (loLane l)) = w t l) (h01 : ∀ t : Fin 4352, x2 (ix3 0 t 64) = 1)
  (h1 : ∀ (t : Fin 4352) (l : Fin 128), 64 ≤ (l : ℕ) → x2 (ix3 0 t (hiLane l)) = w t l) (h11 : ∀ t : Fin 4352, x2 (ix3 0 t 128) = 1)

/-- The block's rows as one function of the index. -/
def blockG (y : S1x4352x128.Idx) : EReal := groupRow Q K w (y 1) (y 2)

/-- The values' lanes before lane 128. -/
theorem load_lo (n o : ℕ) (inb : ∀ x, ![0, o, 0] x + (⟨3, ![1, n, 128]⟩ : Shape).size x ≤ S1x4352x256.size x) (j : Fin n) (d : Fin 128)
    (hj : o + j < 4352) :
    View.readAt (Elt Ideal) arg4.view (Rect.unit (s := S1x4352x256) ![0, o, 0] (⟨3, ![1, n, 128]⟩ : Shape).size inb).toLoadRect (harg4.unread x2) (ix3 0 j d)
      = x2 (ix3 0 ⟨o + j, hj⟩ ⟨d, by omega⟩) :=
  (load_part 256 arg4 harg4 x2 n o 0 inb j d hj (by omega)).trans (congrArg (fun l => x2 (ix3 0 _ l)) (Fin.ext (Nat.zero_add _)))

/-- A load of whole rows. -/
theorem load_rows {e : EltTy} (a : Memref sig .tc .vmem S1x4352x128 e) (h : a.IsWhole) (X : Vec Ideal S1x4352x128 e) (n o : ℕ)
    (inb : ∀ x, ![0, o, 0] x + (⟨3, ![1, n, 128]⟩ : Shape).size x ≤ S1x4352x128.size x) (j : Fin n) (d : Fin 128) (hj : o + j < 4352) :
    View.readAt (Elt Ideal) a.view (Rect.unit (s := S1x4352x128) ![0, o, 0] (⟨3, ![1, n, 128]⟩ : Shape).size inb).toLoadRect (h.unread X) (ix3 0 j d)
      = X (ix3 0 ⟨o + j, hj⟩ d) :=
  (load_part 128 a h X n o 0 inb j d hj (by omega)).trans (congrArg (fun l => X (ix3 0 _ l)) (Fin.ext (Nat.zero_add _)))

theorem zero_row (j : Fin 4352) (hj : 0 + (j : ℕ) < 4352) : (⟨0 + j, hj⟩ : Fin 4352) = j := Fin.ext (Nat.zero_add _)

include hq hk h0 h01 h1 h11 in
/-- Trip `k`'s piece agrees with the block's rows. -/
theorem trip_agrees (k : Fin k0_t1_loop.trips) :
    ∀ p ∈ tripL_k0_t1 (F := Ideal) Variants.none c none i arg2 harg2 arg3 harg3 arg4 harg4 arg5 harg5
        (harg2.unread x0) (harg3.unread x1) (harg4.unread x2) k,
      ∀ x : p.1.shape.Idx, p.2 x = blockG Q K w (p.1.emb x) := by
  rw [trip_pieces]
  intro p hp
  rw [List.mem_singleton] at hp
  subst hp
  intro x
  have hk8 : k.val < 16 := k.isLt
  have hrow : ∀ r : Fin 256, 256 * k.val + r.val < 4352 := fun r => by omega
  have hoff := off1_eq k
  revert x
  generalize_proofs pf1 pf2 pf3 pf4
  revert pf1
  rw [hoff]
  intro pf1 x
  change (⟨3, ![1, 256, 128]⟩ : Shape).Idx at x
  obtain ⟨r, l, rfl⟩ : ∃ (r : Fin 256) (l : Fin 128), x = ix3 0 r l := ⟨x 1, x 2, by idx_ext⟩
  refine Eq.trans (tile_apply _ r (Q ⟨256 * k.val + r, hrow r⟩)
    (fun d => (load_rows arg2 harg2 x0 256 (256 * k.val) _ r d (hrow r)).trans (hq _ _)) _ _ _ K w
    (fun j d => (load_rows arg3 harg3 x1 4352 0 _ j d (by omega)).trans ((hk _ _).trans (by rw [zero_row])))
    (fun j l h => (load_lo arg4 harg4 x2 4352 0 _ j l (by omega)).trans ((h0 _ l h).trans (by rw [zero_row])))
    (fun j => (load_lo arg4 harg4 x2 4352 0 _ j 64 (by omega)).trans (h01 _))
    (fun j l h => (load_part 256 arg4 harg4 x2 4352 0 128 _ j l (by omega) (by omega)).trans ((h1 _ l h).trans (by rw [zero_row])))
    (fun j => (load_part 256 arg4 harg4 x2 4352 0 128 _ j 0 (by omega) (by norm_num)).trans (h11 _)) l) ?_
  refine Eq.symm ((congrArg (blockG Q K w) (emb_rows 256 (256 * k.val) pf1 r l (hrow r))).trans ?_)
  exact if_pos (show 256 * k.val + r.val < 4096 by omega)

include hq hk h0 h01 h1 h11 in
/-- Every piece of the loop agrees with the block's rows. -/
theorem loop_agrees (n : ℕ) (hn : n ≤ 16) :
    ∀ p ∈ pb_k0_t1 (F := Ideal) Variants.none c none i arg2 harg2 arg3 harg3 arg4 harg4 arg5 harg5
        (harg2.unread x0) (harg3.unread x1) (harg4.unread x2) n,
      ∀ x : p.1.shape.Idx, p.2 x = blockG Q K w (p.1.emb x) := by
  induction n with
  | zero => intro p hp; exact absurd hp List.not_mem_nil
  | succ n ih =>
    intro p hp
    have e := pb_k0_t1_succ (F := Ideal) Variants.none c none i arg2 harg2 arg3 harg3 arg4 harg4 arg5 harg5
      (harg2.unread x0) (harg3.unread x1) (harg4.unread x2) ⟨n, hn⟩
    rw [show n + 1 = (⟨n, hn⟩ : Fin k0_t1_loop.trips).val + 1 from rfl, e, List.mem_append] at hp
    rcases hp with hp | hp
    · exact trip_agrees c i arg2 harg2 arg3 harg3 arg4 harg4 arg5 harg5 x0 x1 x2 Q K w hq hk h0 h01 h1 h11 _ p hp
    · exact ih (by omega) p hp

include hq hk h0 h01 h1 h11 in
/-- What one grid point leaves in the output's block. -/
theorem out_block (t : Fin 4352) (l : Fin 128) :
    out0_A_3 c i arg2 harg2 arg3 harg3 arg4 harg4 arg5 harg5 x0 x1 x2 (ix3 0 t l) = groupRow Q K w t l := by
  refine View.read_writes_apply_of_pieces _ _ (blockG Q K w) _ ?_ (ix3 0 t l)
    (cover0_A_3 c i arg2 harg2 arg3 harg3 arg4 harg4 arg5 harg5 x0 x1 x2 _)
  rw [run_pieces]
  intro p hp
  rw [List.mem_cons] at hp
  rcases hp with hp | hp
  · subst hp
    intro x
    change (⟨3, ![1, 256, 128]⟩ : Shape).Idx at x
    obtain ⟨r, l, rfl⟩ : ∃ (r : Fin 256) (l : Fin 128), x = ix3 0 r l := ⟨x 1, x 2, by idx_ext⟩
    refine Eq.trans (ctxTile_apply _ r (Q ⟨4096 + r, by omega⟩)
      (fun d => (load_rows arg2 harg2 x0 256 4096 _ r d (by omega)).trans (hq _ _)) _ _ _ _ (fun j : Fin 256 => w ⟨4096 + j, by omega⟩)
      (fun j d => (load_rows arg3 harg3 x1 256 4096 _ j d (by omega)).trans (hk _ _))
      (fun j l h => (load_lo arg4 harg4 x2 256 4096 _ j l (by omega)).trans (h0 _ l h))
      (fun j => (load_lo arg4 harg4 x2 256 4096 _ j 64 (by omega)).trans (h01 _))
      (fun j l h => (load_part 256 arg4 harg4 x2 256 4096 128 _ j l (by omega) (by omega)).trans (h1 _ l h))
      (fun j => (load_part 256 arg4 harg4 x2 256 4096 128 _ j 0 (by omega) (by norm_num)).trans (h11 _)) l) ?_
    refine Eq.symm ((congrArg (blockG Q K w) (emb_rows 256 4096 inb_S1x4352x128_S1x256x128_0_4096_0 r l (by omega))).trans ?_)
    exact if_neg (show ¬ 4096 + r.val < 4096 by omega)
  · exact loop_agrees c i arg2 harg2 arg3 harg3 arg4 harg4 arg5 harg5 x0 x1 x2 Q K w hq hk h0 h01 h1 h11 16 le_rfl p hp

end Cert.Kernel4Ideal.Hand

end
-- ==== Proof.GqaArray.lean ====
/-
The grouped attention's result array: every row of every pair of heads of every batch.
-/
module

public import proofs.«01_k».proof.Proof.GqaBlock
public import Idealize.ShloMosaic.Lib.Pipeline.ValueKit.Geometry
public import Idealize.ShloMosaic.Lib.Claim

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen Cert.Online

theorem i0 : ∀ t : Fin cfg0.N, win0_0.index t = ![(grid0.coords t 0).val, 0, (grid0.coords t 1).val] := by decide +kernel
theorem i1 : ∀ t : Fin cfg0.N, win0_1.index t = ![(grid0.coords t 0).val, 0, 0] := by decide +kernel
theorem i2 : ∀ t : Fin cfg0.N, win0_2.index t = ![(grid0.coords t 0).val, 0, 0] := by decide +kernel
theorem i3 : ∀ t : Fin cfg0.N, win0_3.index t = ![(grid0.coords t 0).val, 0, (grid0.coords t 1).val] := by decide +kernel

/-- The queries' lanes, a pair of heads one of each key head. -/
def prepQ (x : FVec Ideal S8x4352x256 .f32) : FVec Ideal S8x4352x256 .f32 :=
  shapeCast S8x4352x256 (transpose S8x4352x2x2x64 [0, 1, 3, 2, 4] (shapeCast S8x4352x2x2x64 x shapeCasts_S8x4352x256_S8x4352x2x2x64)
    transposes_S8x4352x2x2x64_S8x4352x2x2x64_0_1_3_2_4) shapeCasts_S8x4352x2x2x64_S8x4352x256

theorem prepQ_apply (x : FVec Ideal S8x4352x256 .f32) (b : Fin 8) (t : Fin 4352) (l : Fin 256) :
    prepQ x (ix3 b t l) = x (ix3 b t ⟨(l : ℕ) / 64 % 2 * 128 + (l : ℕ) / 128 * 64 + (l : ℕ) % 64, by omega⟩) := by
  pointwise [prepQ]

/-- The values between columns of ones. -/
def prepV (x : FVec Ideal S8x4352x128 .f32) : FVec Ideal S8x4352x256 .bf16 :=
  truncf .bf16 (addf
    (concatenate S8x4352x256 2
      [⟨S8x4352x64, extractStridedSlice S8x4352x64 ![0, 0, 0] x slices_S8x4352x128_S8x4352x64_0_0_0⟩,
       ⟨S8x4352x128, broadcastInDim S8x4352x128 ![] bcast_S_S8x4352x128 (constant S_ .f32 0x00000000#32)⟩,
       ⟨S8x4352x64, extractStridedSlice S8x4352x64 ![0, 0, 64] x slices_S8x4352x128_S8x4352x64_0_0_64⟩]
      concatenates_S8x4352x64_S8x4352x128_S8x4352x64_S8x4352x256_d2)
    (broadcastInDim S8x4352x256 ![0, 1, 2] bcast_S1x1x256_S8x4352x256_0_1_2
      (broadcastInDim S1x1x256 ![1, 2] bcast_S1x256_S1x1x256_1_2
        (uitofp .f32 (ori (cmpi .eq (iotaInDim S1x256 32 1) (broadcastInDim S1x256 ![] bcast_S_S1x256 (constantI S_ 32 64#32)))
          (cmpi .eq (iotaInDim S1x256 32 1) (broadcastInDim S1x256 ![] bcast_S_S1x256 (constantI S_ 32 128#32))))))))
    bitsLt_bf16_f32

/-- The lanes a one is added to. -/
theorem ones_mask : ∀ l : Fin 256, IntOp.ori (IntOp.cmpi CmpIPredicate.eq (BitVec.ofNat 32 ↑l) 64#32)
      (IntOp.cmpi CmpIPredicate.eq (BitVec.ofNat 32 ↑l) 128#32)
    = if (l : ℕ) = 64 ∨ (l : ℕ) = 128 then 1#1 else 0#1 := by decide +kernel

theorem prepV_lane (x : FVec Ideal S8x4352x128 .f32) (b : Fin 8) (t : Fin 4352) (l : Fin 256) :
    prepV x (ix3 b t l) = (if h : (l : ℕ) < 64 then x (ix3 b t ⟨l, by omega⟩)
      else if h : (l : ℕ) - 64 < 128 then 0 else x (ix3 b t ⟨64 + ((l : ℕ) - 64 - 128), by omega⟩))
      + (if (l : ℕ) = 64 ∨ (l : ℕ) = 128 then 1 else 0 : EReal) := by
  have e : (FloatOps.uitofp (F := Ideal) FTy.f32 (IntOp.ori (IntOp.cmpi CmpIPredicate.eq (BitVec.ofNat 32 ↑l) 64#32)
      (IntOp.cmpi CmpIPredicate.eq (BitVec.ofNat 32 ↑l) 128#32)) )
      = (if (l : ℕ) = 64 ∨ (l : ℕ) = 128 then 1 else 0 : EReal) := by
    rw [ones_mask l]
    split
    · show (((1 : ℕ) : ℝ) : EReal) = 1; simp
    · show (((0 : ℕ) : ℝ) : EReal) = 0; simp
  pointwise [prepV]
  rw [e]

variable (m : (ℓ : Loc nD τ sig) → Buf (Elt Ideal) ℓ) (c : Dev nD)

set_option maxHeartbeats 4000000 in
theorem V18 : V m c main_v18 = prepV (m ((c : Thread nD τ).loc main_arg2)) := rfl

/-- The two heads of pair `p` in batch `b`. -/
def pairOf (X : Fin 8 → Fin 4352 → Fin 256 → ℝ) (b : Fin 8) (p : Fin 2) (t : Fin 4352) (d : Fin 128) : ℝ :=
  X b t ⟨(d : ℕ) / 64 * 128 + (p : ℕ) * 64 + (d : ℕ) % 64, by omega⟩

/-- The result as one function of the index. -/
def resultG (X : Fin 8 → Fin 4352 → Fin 256 → ℝ) (Y : Fin 8 → Fin 4352 → Fin 128 → ℝ)
    (w : Fin 8 → Fin 4352 → Fin 128 → EReal) (y : S8x4352x256.Idx) : EReal :=
  groupRow (pairOf X (y 0) ⟨(y 2).val / 128, by have := (y 2).isLt; change (y 2).val < 256 at this; omega⟩)
    (Y (y 0)) (w (y 0)) (y 1) ⟨(y 2).val % 128, Nat.mod_lt _ (by norm_num)⟩

variable (X : Fin 8 → Fin 4352 → Fin 256 → ℝ) (Y : Fin 8 → Fin 4352 → Fin 128 → ℝ)
  (hX : ∀ b t d, m ((c : Thread nD τ).loc main_arg0) (ix3 b t d) = (X b t d : EReal))
  (hY : ∀ b t d, m ((c : Thread nD τ).loc main_arg1) (ix3 b t d) = (Y b t d : EReal))

/-- The values, by batch, row and lane. -/
def vals (b : Fin 8) (t : Fin 4352) (l : Fin 128) : EReal := m ((c : Thread nD τ).loc main_arg2) (ix3 b t l)

section
variable (t : Fin cfg0.N)

/-- The batch of grid point `t`. -/
def bat : Fin 8 := grid0.coords t 0
/-- The pair of heads of grid point `t`. -/
def hd : Fin 2 := grid0.coords t 1

theorem emb0 (r : Fin 4352) (d : Fin 128) : (win0_0.blk t).view.emb (ix3 0 r d) = ix3 (bat t) r ⟨hd t * 128 + d, by omega⟩ := by
  blk_ext [i0, bat, hd]
theorem emb1 (r : Fin 4352) (d : Fin 128) : (win0_1.blk t).view.emb (ix3 0 r d) = ix3 (bat t) r d := by
  blk_ext [i1, bat]
theorem emb2 (r : Fin 4352) (d : Fin 256) : (win0_2.blk t).view.emb (ix3 0 r d) = ix3 (bat t) r d := by
  blk_ext [i2, bat]
theorem emb3 (r : Fin 4352) (d : Fin 128) : (win0_3.blk t).view.emb (ix3 0 r d) = ix3 (bat t) r ⟨hd t * 128 + d, by omega⟩ := by
  blk_ext [i3, bat, hd]

include hX in
theorem blk0 (r : Fin 4352) (d : Fin 128) : iblk m c 0 t (ix3 0 r d) = (pairOf X (bat t) (hd t) r d : EReal) := by
  blk_simp [iblk]
  entry_read
  refine (congrArg (prepQ (m ((c : Thread nD τ).loc main_arg0))) (emb0 t r d)).trans ((prepQ_apply _ _ _ _).trans ((hX _ _ _).trans ?_))
  exact congrArg (fun l => (X (bat t) r l : EReal)) (Fin.ext (by
    show ((hd t : ℕ) * 128 + d) / 64 % 2 * 128 + ((hd t : ℕ) * 128 + d) / 128 * 64 + ((hd t : ℕ) * 128 + d) % 64
      = (d : ℕ) / 64 * 128 + (hd t : ℕ) * 64 + (d : ℕ) % 64
    omega))
include hY in
theorem blk1 (r : Fin 4352) (d : Fin 128) : iblk m c 1 t (ix3 0 r d) = (Y (bat t) r d : EReal) := by
  blk_simp [iblk]
  entry_read
  exact (congrArg (truncf (F := Ideal) .bf16 (m ((c : Thread nD τ).loc main_arg1)) bitsLt_bf16_f32) (emb1 t r d)).trans (hY _ _ _)
theorem blk2 (r : Fin 4352) (d : Fin 256) : iblk m c 2 t (ix3 0 r d)
    = (if h : (d : ℕ) < 64 then vals m c (bat t) r ⟨d, by omega⟩
      else if h : (d : ℕ) - 64 < 128 then 0 else vals m c (bat t) r ⟨64 + ((d : ℕ) - 64 - 128), by omega⟩)
      + (if (d : ℕ) = 64 ∨ (d : ℕ) = 128 then 1 else 0 : EReal) := by
  blk_simp [iblk]
  rw [V18]
  exact (congrArg (prepV (m ((c : Thread nD τ).loc main_arg2))) (emb2 t r d)).trans (prepV_lane _ _ _ _)
theorem blk2_lo (r : Fin 4352) (l : Fin 128) (h : (l : ℕ) < 64) :
    iblk m c 2 t (ix3 0 r (loLane l)) = vals m c (bat t) r l := by
  rw [blk2, dif_pos (show ((loLane l : Fin 256) : ℕ) < 64 from h), if_neg (by show ¬((l : ℕ) = 64 ∨ (l : ℕ) = 128); omega)]
  exact add_zero (vals m c (bat t) r l)
theorem blk2_64 (r : Fin 4352) : iblk m c 2 t (ix3 0 r 64) = (1 : EReal) := by
  rw [blk2, dif_neg (by decide), dif_pos (by decide), if_pos (by decide)]
  exact zero_add (1 : EReal)
theorem blk2_hi (r : Fin 4352) (l : Fin 128) (h : 64 ≤ (l : ℕ)) :
    iblk m c 2 t (ix3 0 r (hiLane l)) = vals m c (bat t) r l := by
  rw [blk2, dif_neg (by show ¬(128 + (l : ℕ) < 64); omega), dif_neg (by show ¬(128 + (l : ℕ) - 64 < 128); omega),
    if_neg (by show ¬(128 + (l : ℕ) = 64 ∨ 128 + (l : ℕ) = 128); omega)]
  refine (add_zero (_ : EReal)).trans (congrArg (vals m c (bat t) r) (Fin.ext ?_))
  show 64 + (128 + (l : ℕ) - 64 - 128) = l
  omega
theorem blk2_128 (r : Fin 4352) : iblk m c 2 t (ix3 0 r 128) = (1 : EReal) := by
  rw [blk2, dif_neg (by decide), dif_pos (by decide), if_pos (by decide)]
  exact zero_add (1 : EReal)
end

include hX hY in
set_option maxHeartbeats 2000000 in
theorem array_eq : (dats m 0 c).arrAt 3 cfg0.N = resultG X Y (vals m c) := by
  refine (dats m 0 c).arrAt_eq_of_covers 3 _ (by decide +kernel) fun t hf y => ?_
  blk_simp
  rw [after0_3]
  change S1x4352x128.Idx at y
  obtain ⟨r, l, rfl⟩ : ∃ (r : Fin 4352) (l : Fin 128), y = ix3 0 r l := ⟨y 1, y 2, by idx_ext⟩
  refine Eq.trans (out_block c (grid0.coords t) (ms0_0 t) (hs0_0 t) (ms0_1 t) (hs0_1 t) (ms0_2 t) (hs0_2 t) (ms0_3 t) (hs0_3 t)
    (iblk m c 0 t) (iblk m c 1 t) (iblk m c 2 t) (pairOf X (bat t) (hd t)) (Y (bat t)) (vals m c (bat t))
    (blk0 m c X hX t) (blk1 m c Y hY t) (blk2_lo m c t) (blk2_64 m c t) (blk2_hi m c t) (blk2_128 m c t) r l) ?_
  refine Eq.trans ?_ (congrArg (resultG X Y (vals m c)) (emb3 t r l)).symm
  have e1 : ((hd t : ℕ) * 128 + l) / 128 = hd t := by omega
  have e2 : ((hd t : ℕ) * 128 + l) % 128 = l := by omega
  have e3 : (⟨((hd t : ℕ) * 128 + l) / 128, by omega⟩ : Fin 2) = hd t := Fin.ext e1
  have e4 : (⟨((hd t : ℕ) * 128 + l) % 128, by omega⟩ : Fin 128) = l := Fin.ext e2
  refine Eq.trans ?_ (show groupRow (pairOf X (bat t) ⟨((hd t : ℕ) * 128 + l) / 128, by omega⟩) (Y (bat t)) (vals m c (bat t))
    r ⟨((hd t : ℕ) * 128 + l) % 128, by omega⟩ = _ from rfl)
  rw [e3, e4]

end Cert.Kernel4Ideal.Hand

end
-- ==== Proof.GqaRef.lean ====
/-
The grouped attention's reference, by its stages, at an index: the rows the kernel computes.
-/
module

public import proofs.«01_k».proof.Proof.Gen.Reference4Ideal.Run
public import proofs.«01_k».proof.Proof.RefArray
public import proofs.«01_k».proof.Proof.GqaArray

@[expose] public section

set_option maxRecDepth 16384

noncomputable section

namespace Cert.Reference4Ideal.Hand

open Idealize.ShloMosaic Idealize.ShloMosaic.TcCoe Idealize.SL.Sem
open Cert.Reference4Ideal Cert.Reference4Ideal.Gen Cert.Online
open Cert.ReferenceIdeal.Hand (score scoreC soft softC score_apply scoreC_apply soft_apply softC_apply dot_real)
open Cert.Kernel4Ideal.Hand (pairOf)

/-- The queries, heads first. -/
def headsQ (x : FVec Ideal S8x4352x256 .f32) : FVec Ideal S8x4x4352x64 .f32 :=
  transpose S8x4x4352x64 [0, 2, 1, 3] (shapeCast S8x4352x4x64 x shapeCasts_S8x4352x256_S8x4352x4x64)
    transposes_S8x4352x4x64_S8x4x4352x64_0_2_1_3

/-- The keys or the values, heads first, every head twice. -/
def headsKV (x : FVec Ideal S8x4352x128 .f32) : FVec Ideal S8x4x4352x64 .f32 :=
  shapeCast S8x4x4352x64 (broadcastInDim S8x2x2x4352x64 ![0, 1, 3, 4] bcast_S8x2x4352x64_S8x2x2x4352x64_0_1_3_4
    (transpose S8x2x4352x64 [0, 2, 1, 3] (shapeCast S8x4352x2x64 x shapeCasts_S8x4352x128_S8x4352x2x64)
      transposes_S8x4352x2x64_S8x2x4352x64_0_2_1_3)) shapeCasts_S8x2x2x4352x64_S8x4x4352x64

/-- The latent rows' attention. -/
def attn (q k v : FVec Ideal S8x4x4352x64 .f32) : FVec Ideal S8x4x4096x64 .f32 :=
  Host.dotGeneral dot_S8x4x4096x4352_S8x4x4352x64_S8x4x4096x64_3_2_2_3_01_01 none (soft (score q k)) v

/-- The context rows' attention. -/
def attnC (q k v : FVec Ideal S8x4x4352x64 .f32) : FVec Ideal S8x4x256x64 .f32 :=
  Host.dotGeneral dot_S8x4x256x256_S8x4x256x64_S8x4x256x64_3_2_2_3_01_01 none (softC (scoreC q k))
    (extractStridedSlice S8x4x256x64 ![0, 0, 4096, 0] v slices_S8x4x4352x64_S8x4x256x64_0_0_4096_0)

/-- The heads side by side. -/
def joined (a : FVec Ideal S8x4x4096x64 .f32) (b : FVec Ideal S8x4x256x64 .f32) : FVec Ideal S8x4352x256 .bf16 :=
  truncf .bf16 (shapeCast S8x4352x256 (transpose S8x4352x2x2x64 [0, 3, 2, 1, 4] (shapeCast S8x2x2x4352x64
    (concatenate S8x4x4352x64 2 [⟨S8x4x4096x64, a⟩, ⟨S8x4x256x64, b⟩] concatenates_S8x4x4096x64_S8x4x256x64_S8x4x4352x64_d2)
    shapeCasts_S8x4x4352x64_S8x2x2x4352x64) transposes_S8x2x2x4352x64_S8x4352x2x2x64_0_3_2_1_4) shapeCasts_S8x4352x2x2x64_S8x4352x256)
    bitsLt_bf16_f32

/-- The reference's result. -/
def result (x : FVec Ideal S8x4352x256 .f32) (y z : FVec Ideal S8x4352x128 .f32) : FVec Ideal S8x4352x256 .bf16 :=
  joined (attn (headsQ x) (headsKV y) (headsKV z)) (attnC (headsQ x) (headsKV y) (headsKV z))

theorem res_eq (m : (ℓ : Loc nD τ sig) → Buf (Elt Ideal) ℓ) (c : Dev nD) :
    Value.res_main_v48 m c = result (m ((c : Thread nD τ).loc main_arg0)) (m ((c : Thread nD τ).loc main_arg1))
      (m ((c : Thread nD τ).loc main_arg2)) := rfl

theorem headsQ_apply (x : FVec Ideal S8x4352x256 .f32) (b : Fin 8) (h : Fin 4) (t : Fin 4352) (d : Fin 64) :
    headsQ x (ix4 b h t d) = x (ix3 b t ⟨h * 64 + d, by omega⟩) := by
  pointwise [headsQ]

theorem kv_apply (x : FVec Ideal S8x4352x128 .f32) (b : Fin 8) (g : Fin 2) (t : Fin 4352) (d : Fin 64) :
    transpose S8x2x4352x64 [0, 2, 1, 3] (shapeCast S8x4352x2x64 x shapeCasts_S8x4352x128_S8x4352x2x64)
      transposes_S8x4352x2x64_S8x2x4352x64_0_2_1_3 (ix4 b g t d) = x (ix3 b t ⟨(g : ℕ) * 64 + d, by omega⟩) := by
  pointwise

theorem twice_apply (x : FVec Ideal S8x2x4352x64 .f32) (b : Fin 8) (h : Fin 4) (t : Fin 4352) (d : Fin 64) :
    shapeCast S8x4x4352x64 (broadcastInDim S8x2x2x4352x64 ![0, 1, 3, 4] bcast_S8x2x4352x64_S8x2x2x4352x64_0_1_3_4 x)
      shapeCasts_S8x2x2x4352x64_S8x4x4352x64 (ix4 b h t d) = x (ix4 b ⟨(h : ℕ) / 2, by omega⟩ t d) := by
  pointwise

theorem headsKV_apply (x : FVec Ideal S8x4352x128 .f32) (b : Fin 8) (h : Fin 4) (t : Fin 4352) (d : Fin 64) :
    headsKV x (ix4 b h t d) = x (ix3 b t ⟨(h : ℕ) / 2 * 64 + d, by omega⟩) := by
  rw [headsKV, twice_apply, kv_apply]

theorem attn_apply (q k v : FVec Ideal S8x4x4352x64 .f32) (b : Fin 8) (h : Fin 4) (t : Fin 4096) (d : Fin 64) :
    attn q k v (ix4 b h t d) = ∑ x, soft (score q k) (ix4 b h t x) * v (ix4 b h x d) := by
  pointwise [attn]

theorem attnC_apply (q k v : FVec Ideal S8x4x4352x64 .f32) (b : Fin 8) (h : Fin 4) (t : Fin 256) (d : Fin 64) :
    attnC q k v (ix4 b h t d) = ∑ x, softC (scoreC q k) (ix4 b h t x) * v (ix4 b h ⟨4096 + x, by omega⟩ d) := by
  pointwise [attnC]

/-- The head of a lane of the result. -/
def headAt (l : Fin 256) : Fin 4 := ⟨(l : ℕ) / 64 % 2 * 2 + (l : ℕ) / 128, by omega⟩

theorem lanes_apply (o : FVec Ideal S8x4x4352x64 .f32) (b : Fin 8) (t : Fin 4352) (l : Fin 256) :
    truncf .bf16 (shapeCast S8x4352x256 (transpose S8x4352x2x2x64 [0, 3, 2, 1, 4] (shapeCast S8x2x2x4352x64 o
      shapeCasts_S8x4x4352x64_S8x2x2x4352x64) transposes_S8x2x2x4352x64_S8x4352x2x2x64_0_3_2_1_4)
      shapeCasts_S8x4352x2x2x64_S8x4352x256) bitsLt_bf16_f32 (ix3 b t l)
      = o (ix4 b (headAt l) t ⟨(l : ℕ) % 64, Nat.mod_lt _ (by norm_num)⟩) := by
  pointwise [headAt]

theorem rows_apply (a : FVec Ideal S8x4x4096x64 .f32) (c : FVec Ideal S8x4x256x64 .f32) (b : Fin 8) (h : Fin 4) (t : Fin 4352) (d : Fin 64) :
    concatenate S8x4x4352x64 2 [⟨S8x4x4096x64, a⟩, ⟨S8x4x256x64, c⟩] concatenates_S8x4x4096x64_S8x4x256x64_S8x4x4352x64_d2 (ix4 b h t d)
      = if u : (t : ℕ) < 4096 then a (ix4 b h ⟨t, u⟩ d) else c (ix4 b h ⟨t - 4096, by omega⟩ d) := by
  pointwise

theorem joined_apply (a : FVec Ideal S8x4x4096x64 .f32) (c : FVec Ideal S8x4x256x64 .f32) (b : Fin 8) (t : Fin 4352) (l : Fin 256) :
    joined a c (ix3 b t l) = if h : (t : ℕ) < 4096 then a (ix4 b (headAt l) ⟨t, h⟩ ⟨(l : ℕ) % 64, Nat.mod_lt _ (by norm_num)⟩)
      else c (ix4 b (headAt l) ⟨t - 4096, by omega⟩ ⟨(l : ℕ) % 64, Nat.mod_lt _ (by norm_num)⟩) := by
  rw [joined, lanes_apply, rows_apply]

variable (x : FVec Ideal S8x4352x256 .f32) (y z : FVec Ideal S8x4352x128 .f32)
  (X : Fin 8 → Fin 4352 → Fin 256 → ℝ) (Y : Fin 8 → Fin 4352 → Fin 128 → ℝ)
  (hX : ∀ b t d, x (ix3 b t d) = (X b t d : EReal)) (hY : ∀ b t d, y (ix3 b t d) = (Y b t d : EReal))

include hX in
theorem q_real (b : Fin 8) (l : Fin 256) (t : Fin 4352) (d : Fin 64) :
    headsQ x (ix4 b (headAt l) t d)
      = (pairOf X b ⟨(l : ℕ) / 128, by omega⟩ t (half ⟨(l : ℕ) / 64 % 2, by omega⟩ d) : EReal) := by
  rw [headsQ_apply, hX, pairOf]
  refine congrArg (fun i => (X b t i : EReal)) (Fin.ext ?_)
  simp only [half, headAt]
  omega

include hY in
theorem k_real (b : Fin 8) (l : Fin 256) (t : Fin 4352) (d : Fin 64) :
    headsKV y (ix4 b (headAt l) t d) = (Y b t (half ⟨(l : ℕ) / 64 % 2, by omega⟩ d) : EReal) := by
  rw [headsKV_apply, hY]
  refine congrArg (fun i => (Y b t i : EReal)) (Fin.ext ?_)
  simp only [half, headAt]
  omega

theorem v_lane (b : Fin 8) (l : Fin 256) (t : Fin 4352) :
    headsKV z (ix4 b (headAt l) t ⟨(l : ℕ) % 64, Nat.mod_lt _ (by norm_num)⟩)
      = z (ix3 b t ⟨(l : ℕ) % 128, Nat.mod_lt _ (by norm_num)⟩) := by
  rw [headsKV_apply]
  refine congrArg (fun i => z (ix3 b t i)) (Fin.ext ?_)
  simp only [headAt]
  omega

include hX hY in
theorem attn_real (b : Fin 8) (l : Fin 256) (t : Fin 4096) :
    attn (headsQ x) (headsKV y) (headsKV z) (ix4 b (headAt l) t ⟨(l : ℕ) % 64, Nat.mod_lt _ (by norm_num)⟩)
      = gav ⟨(l : ℕ) / 64 % 2, by omega⟩ (pairOf X b ⟨(l : ℕ) / 128, by omega⟩ ⟨t, by omega⟩) (Y b)
          fun j => z (ix3 b j ⟨(l : ℕ) % 128, Nat.mod_lt _ (by norm_num)⟩) := by
  have h0 : ∀ j, score (headsQ x) (headsKV y) (ix4 b (headAt l) t j)
      = ((dotH ⟨(l : ℕ) / 64 % 2, by omega⟩ (pairOf X b ⟨(l : ℕ) / 128, by omega⟩ ⟨t, by omega⟩) (Y b j) * (1 / 8) : ℝ) : EReal) := fun j => by
    simp only [score_apply, q_real x X hX, k_real y Y hY, dot_real]
  rw [attn_apply, gav]
  refine Finset.sum_congr rfl fun j _ => ?_
  rw [soft_apply _ b (headAt l) t _ h0, v_lane]
  rfl

include hX hY in
theorem attnC_real (b : Fin 8) (l : Fin 256) (t : Fin 256) :
    attnC (headsQ x) (headsKV y) (headsKV z) (ix4 b (headAt l) t ⟨(l : ℕ) % 64, Nat.mod_lt _ (by norm_num)⟩)
      = gav ⟨(l : ℕ) / 64 % 2, by omega⟩ (pairOf X b ⟨(l : ℕ) / 128, by omega⟩ ⟨4096 + t, by omega⟩)
          (fun j : Fin 256 => Y b ⟨4096 + j, by omega⟩)
          fun j : Fin 256 => z (ix3 b ⟨4096 + j, by omega⟩ ⟨(l : ℕ) % 128, Nat.mod_lt _ (by norm_num)⟩) := by
  have h0 : ∀ j : Fin 256, scoreC (headsQ x) (headsKV y) (ix4 b (headAt l) t j)
      = ((dotH ⟨(l : ℕ) / 64 % 2, by omega⟩ (pairOf X b ⟨(l : ℕ) / 128, by omega⟩ ⟨4096 + t, by omega⟩) (Y b ⟨4096 + j, by omega⟩)
          * (1 / 8) : ℝ) : EReal) := fun j => by
    simp only [scoreC_apply, q_real x X hX, k_real y Y hY, dot_real]
  rw [attnC_apply, gav]
  refine Finset.sum_congr rfl fun j _ => ?_
  rw [softC_apply _ b (headAt l) t _ h0, v_lane]
  rfl

include hX hY in
/-- The reference at an index. -/
theorem result_real (b : Fin 8) (t : Fin 4352) (l : Fin 256) :
    result x y z (ix3 b t l)
      = groupRow (pairOf X b ⟨(l : ℕ) / 128, by omega⟩) (Y b) (fun j d => z (ix3 b j d)) t ⟨(l : ℕ) % 128, Nat.mod_lt _ (by norm_num)⟩ := by
  have e : (⟨(l : ℕ) % 128 / 64, by omega⟩ : Fin 2) = ⟨(l : ℕ) / 64 % 2, by omega⟩ := Fin.ext (by simp only; omega)
  rw [result, joined_apply, groupRow]
  by_cases h : (t : ℕ) < 4096
  · rw [dif_pos h, if_pos h, pairRow, attn_real x y z X Y hX hY b l ⟨t, h⟩]
    simp only [e]
  · rw [dif_neg h, if_neg h, pairRow, attnC_real x y z X Y hX hY b l ⟨t - 4096, by omega⟩]
    have e' : (⟨4096 + (t - 4096), by omega⟩ : Fin 4352) = t := Fin.ext (by simp only; omega)
    simp only [e, e']

end Cert.Reference4Ideal.Hand

end
-- ==== Proof.InFrame.lean ====
/-
The launch and the run of the input projection: its grid points, the body's triple, and what every array holds in the end.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The body's accesses -/

abbrev r0_0 : Rect S1x1x6x1024 := Rect.unit (s := S1x1x6x1024) ![0, 0, 0, 0] S1x1x6x1024.size inb_S1x1x6x1024_S1x1x6x1024_0_0_0_0
abbrev r0_1 : Rect S1x512x1024 := Rect.unit (s := S1x512x1024) ![0, 0, 0] S1x512x1024.size inb_S1x512x1024_S1x512x1024_0_0_0
abbrev r0_2 : Rect S256x128 := Rect.unit (s := S256x128) ![0, 0] S256x128.size inb_S256x128_S256x128_0_0
abbrev r0_3 : Rect S1024x3328 := Rect.unit (s := S1024x3328) ![0, 0] S1024x512.size inb_S1024x3328_S1024x512_0_0
abbrev r0_4 : Rect S1x512x512 := Rect.unit (s := S1x512x512) ![0, 0, 0] S1x512x512.size inb_S1x512x512_S1x512x512_0_0_0
abbrev r0_5 : Rect S1024x3328 := Rect.unit (s := S1024x3328) ![0, 512] S1024x256.size inb_S1024x3328_S1024x256_0_512
abbrev r0_6 : Rect S1x512x256 := Rect.unit (s := S1x512x256) ![0, 0, 0] S1x512x256.size inb_S1x512x256_S1x512x256_0_0_0
abbrev r0_7 : Rect S1024x3328 := Rect.unit (s := S1024x3328) ![0, 768] S1024x256.size inb_S1024x3328_S1024x256_0_768
abbrev r0_8 : Rect S1024x3328 := Rect.unit (s := S1024x3328) ![0, 3200] S1024x128.size inb_S1024x3328_S1024x128_0_3200
abbrev r0_9 : Rect S1x512x128 := Rect.unit (s := S1x512x128) ![0, 0, 0] S1x512x128.size inb_S1x512x128_S1x512x128_0_0_0
abbrev r0_10 : Rect S1024x3328 := Rect.unit (s := S1024x3328) ![0, 1024] S1024x512.size inb_S1024x3328_S1024x512_0_1024
abbrev r0_11 : Rect S1x512x512 := Rect.unit (s := S1x512x512) ![0, 0, 0] S1x512x128.size inb_S1x512x512_S1x512x128_0_0_0
abbrev r0_12 : Rect S1x512x512 := Rect.unit (s := S1x512x512) ![0, 0, 128] S1x512x128.size inb_S1x512x512_S1x512x128_0_0_128
abbrev r0_13 : Rect S1x512x512 := Rect.unit (s := S1x512x512) ![0, 0, 256] S1x512x128.size inb_S1x512x512_S1x512x128_0_0_256
abbrev r0_14 : Rect S1x512x512 := Rect.unit (s := S1x512x512) ![0, 0, 384] S1x512x128.size inb_S1x512x512_S1x512x128_0_0_384
abbrev r0_15 : Rect S1024x3328 := Rect.unit (s := S1024x3328) ![0, 1536] S1024x512.size inb_S1024x3328_S1024x512_0_1536
abbrev r0_16 : Rect S1024x3328 := Rect.unit (s := S1024x3328) ![0, 2048] S1024x512.size inb_S1024x3328_S1024x512_0_2048
abbrev r0_17 : Rect S1024x3328 := Rect.unit (s := S1024x3328) ![0, 2560] S1024x256.size inb_S1024x3328_S1024x256_0_2560
abbrev r0_18 : Rect S1x128 := Rect.unit (s := S1x128) ![0, 0] S1x128.size inb_S1x128_S1x128_0_0
abbrev r0_19 : Rect S1x512x256 := Rect.unit (s := S1x512x256) ![0, 0, 0] S1x512x128.size inb_S1x512x256_S1x512x128_0_0_0
abbrev r0_20 : Rect S1x512x256 := Rect.unit (s := S1x512x256) ![0, 0, 128] S1x512x128.size inb_S1x512x256_S1x512x128_0_0_128
abbrev r0_21 : Rect S1024x3328 := Rect.unit (s := S1024x3328) ![0, 2816] S1024x128.size inb_S1024x3328_S1024x128_0_2816
abbrev r0_22 : Rect S1024x3328 := Rect.unit (s := S1024x3328) ![0, 2944] S1024x256.size inb_S1024x3328_S1024x256_0_2944

/-! ## What the body leaves in each output window's buffer -/

/-! ### Values of the body that the stores' payloads, spelt out, would write more than once

    Each is a vector the body binds (often a part call's result), stated over the input windows' blocks and
    numbered on from the skeleton's payload functions (`k0_pay37` …, after `k0_pay36`), so that
    `out0_W` and the values after it name it instead of spelling it out (`unfold_out out0_W` opens a canon
    with them, `unfold_payloads` opens them with the payloads); the comment after each is the printed function's
    name for the value (a count appended where that name is bound again). -/

def k0_pay37 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S512x1024 .bf16 :=
  k0_pay3 (View.ld x1 r0_0) (View.ld x2 r0_0) (View.ld x0 r0_1) -- `v25`
def k0_pay38 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S512x128 .f32 :=
  k0_pay4 (View.ld x4 r0_2) (View.ld x5 r0_2) -- `v30`
def k0_pay39 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S512x128 .f32 :=
  k0_pay5 (View.ld x6 r0_2) (View.ld x7 r0_2) -- `v35`
def k0_pay40 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S512x128 .f32 :=
  k0_pay6 (View.ld x8 r0_2) (View.ld x9 r0_2) -- `v40`
def k0_pay41 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S512x512 .f32 :=
  k0_pay18 (k0_pay37 x0 x1 x2 x3 x4 x5 x6 x7 x8 x9 x10 x11) (View.ld x3 r0_15) -- `v121`
def k0_pay42 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : IVec S128x128 1 :=
  k0_pay27 (iota .tc S128x128 32 [0] iota_S128x128_d0_w32) 64#32 k0_pay25 k0_pay26 -- `v227`
def k0_pay43 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : FVec F S128x128 .f32 :=
  k0_pay28 (F := F) -- `v228`

/-- Window 12's staging buffer after the body, from the input windows' blocks: its 1 store as pieces, LAST
    FIRST (Lib/Pipeline/FrameBody.lean `View.canon`; the payloads are the skeleton's and the values stated above). -/
def out0_12 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x512 .bf16 :=
  View.canon [⟨r0_4, k0_pay7 (k0_pay37 x0 x1 x2 x3 x4 x5 x6 x7 x8 x9 x10 x11) (View.ld x3 r0_3)⟩]

/-- Its stores tile the buffer (checked by evaluation), so they cover it. -/
theorem cover0_12 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 13's staging buffer after the body, from the input windows' blocks: its 1 store as pieces, LAST
    FIRST (Lib/Pipeline/FrameBody.lean `View.canon`; the payloads are the skeleton's and the values stated above). -/
def out0_13 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x256 .bf16 :=
  View.canon [⟨r0_6, k0_pay8 (k0_pay37 x0 x1 x2 x3 x4 x5 x6 x7 x8 x9 x10 x11) (View.ld x3 r0_5)⟩]

/-- Its stores tile the buffer (checked by evaluation), so they cover it. -/
theorem cover0_13 (p0 : Vec F S1x512x256 .bf16) (y : S1x512x256.Idx) :
    ∃ pc ∈ ([⟨r0_6, p0⟩] : List (View.Piece (Elt F) S1x512x256 .bf16)), y ∈ pc.1.set :=
  View.cover_of_tiled [⟨r0_6, p0⟩] S1x512x256.size (by rfl) y

/-- Window 14's staging buffer after the body, from the input windows' blocks: its 1 store as pieces, LAST
    FIRST (Lib/Pipeline/FrameBody.lean `View.canon`; the payloads are the skeleton's and the values stated above). -/
def out0_14 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x256 .bf16 :=
  View.canon [⟨r0_6, k0_pay9 (k0_pay37 x0 x1 x2 x3 x4 x5 x6 x7 x8 x9 x10 x11) (View.ld x3 r0_7)⟩]

/-- Its stores tile the buffer (checked by evaluation), so they cover it. -/
theorem cover0_14 (p0 : Vec F S1x512x256 .bf16) (y : S1x512x256.Idx) :
    ∃ pc ∈ ([⟨r0_6, p0⟩] : List (View.Piece (Elt F) S1x512x256 .bf16)), y ∈ pc.1.set :=
  View.cover_of_tiled [⟨r0_6, p0⟩] S1x512x256.size (by rfl) y

/-- Window 15's staging buffer after the body, from the input windows' blocks: its 1 store as pieces, LAST
    FIRST (Lib/Pipeline/FrameBody.lean `View.canon`; the payloads are the skeleton's and the values stated above). -/
def out0_15 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x128 .f32 :=
  View.canon [⟨r0_9, k0_pay11 (k0_pay10 (k0_pay37 x0 x1 x2 x3 x4 x5 x6 x7 x8 x9 x10 x11) (View.ld x3 r0_8))⟩]

/-- Its stores tile the buffer (checked by evaluation), so they cover it. -/
theorem cover0_15 (p0 : Vec F S1x512x128 .f32) (y : S1x512x128.Idx) :
    ∃ pc ∈ ([⟨r0_9, p0⟩] : List (View.Piece (Elt F) S1x512x128 .f32)), y ∈ pc.1.set :=
  View.cover_of_tiled [⟨r0_9, p0⟩] S1x512x128.size (by rfl) y

/-- Window 16's staging buffer after the body, from the input windows' blocks: its 4 stores as pieces, LAST
    FIRST (Lib/Pipeline/FrameBody.lean `View.canon`; the payloads are the skeleton's and the values stated above). -/
def out0_16 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x512 .bf16 :=
  View.canon [⟨r0_14, k0_pay17 (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay12 (k0_pay37 x0 x1 x2 x3 x4 x5 x6 x7 x8 x9 x10 x11) (View.ld x3 r0_10))⟩,
    ⟨r0_13, k0_pay16 (k0_pay15 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (View.ld x3 r0_10))⟩,
    ⟨r0_12, k0_pay14 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (View.ld x3 r0_10)⟩,
    ⟨r0_11, k0_pay13 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (View.ld x3 r0_10)⟩]

/-- Its stores tile the buffer (checked by evaluation), so they cover it. -/
theorem cover0_16 (p0 : Vec F S1x512x128 .bf16) (p1 : Vec F S1x512x128 .bf16) (p2 : Vec F S1x512x128 .bf16) (p3 : Vec F S1x512x128 .bf16) (y : S1x512x512.Idx) :
    ∃ pc ∈ ([⟨r0_14, p0⟩, ⟨r0_13, p1⟩, ⟨r0_12, p2⟩, ⟨r0_11, p3⟩] : List (View.Piece (Elt F) S1x512x512 .bf16)), y ∈ pc.1.set :=
  View.cover_of_tiled [⟨r0_14, p0⟩, ⟨r0_13, p1⟩, ⟨r0_12, p2⟩, ⟨r0_11, p3⟩] S1x512x128.size (by rfl) y

/-- Window 17's staging buffer after the body, from the input windows' blocks: its 4 stores as pieces, LAST
    FIRST (Lib/Pipeline/FrameBody.lean `View.canon`; the payloads are the skeleton's and the values stated above). -/
def out0_17 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x512 .bf16 :=
  View.canon [⟨r0_14, k0_pay23 (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay41 x0 x1 x2 x3 x4 x5 x6 x7 x8 x9 x10 x11)⟩,
    ⟨r0_13, k0_pay22 (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay41 x0 x1 x2 x3 x4 x5 x6 x7 x8 x9 x10 x11)⟩,
    ⟨r0_12, k0_pay21 (k0_pay20 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (View.ld x3 r0_15))⟩,
    ⟨r0_11, k0_pay19 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (View.ld x3 r0_15)⟩]

/-- Its stores tile the buffer (checked by evaluation), so they cover it. -/
theorem cover0_17 (p0 : Vec F S1x512x128 .bf16) (p1 : Vec F S1x512x128 .bf16) (p2 : Vec F S1x512x128 .bf16) (p3 : Vec F S1x512x128 .bf16) (y : S1x512x512.Idx) :
    ∃ pc ∈ ([⟨r0_14, p0⟩, ⟨r0_13, p1⟩, ⟨r0_12, p2⟩, ⟨r0_11, p3⟩] : List (View.Piece (Elt F) S1x512x512 .bf16)), y ∈ pc.1.set :=
  View.cover_of_tiled [⟨r0_14, p0⟩, ⟨r0_13, p1⟩, ⟨r0_12, p2⟩, ⟨r0_11, p3⟩] S1x512x128.size (by rfl) y

/-- Window 18's staging buffer after the body, from the input windows' blocks: its 1 store as pieces, LAST
    FIRST (Lib/Pipeline/FrameBody.lean `View.canon`; the payloads are the skeleton's and the values stated above). -/
def out0_18 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x512 .bf16 :=
  View.canon [⟨r0_4, k0_pay24 (k0_pay37 x0 x1 x2 x3 x4 x5 x6 x7 x8 x9 x10 x11) (View.ld x3 r0_16)⟩]

/-- Its stores tile the buffer (checked by evaluation), so they cover it. -/
theorem cover0_18 (p0 : Vec F S1x512x512 .bf16) (y : S1x512x512.Idx) :
    ∃ pc ∈ ([⟨r0_4, p0⟩] : List (View.Piece (Elt F) S1x512x512 .bf16)), y ∈ pc.1.set :=
  View.cover_of_tiled [⟨r0_4, p0⟩] S1x512x512.size (by rfl) y

/-- Window 19's staging buffer after the body, from the input windows' blocks: its 2 stores as pieces, LAST
    FIRST (Lib/Pipeline/FrameBody.lean `View.canon`; the payloads are the skeleton's and the values stated above). -/
def out0_19 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x256 .bf16 :=
  View.canon [⟨r0_20, k0_pay35 (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay31 (View.ld x10 r0_18)) (k0_pay33 (k0_pay37 x0 x1 x2 x3 x4 x5 x6 x7 x8 x9 x10 x11) (View.ld x3 r0_17)) (k0_pay34 (k0_pay37 x0 x1 x2 x3 x4 x5 x6 x7 x8 x9 x10 x11) (k0_pay42 x0 x1 x2 x3 x4 x5 x6 x7 x8 x9 x10 x11) (Scalar.ofBits .f32 0x00000000#32) (k0_pay43 x0 x1 x2 x3 x4 x5 x6 x7 x8 x9 x10 x11) (View.ld x3 r0_17)) (Scalar.ofBits .f32 0x3727C5AC#32)⟩,
    ⟨r0_19, k0_pay32 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay42 x0 x1 x2 x3 x4 x5 x6 x7 x8 x9 x10 x11) (Scalar.ofBits .f32 0x00000000#32) (k0_pay43 x0 x1 x2 x3 x4 x5 x6 x7 x8 x9 x10 x11) (View.ld x3 r0_17) (View.ld x10 r0_18)⟩]

/-- Its stores tile the buffer (checked by evaluation), so they cover it. -/
theorem cover0_19 (p0 : Vec F S1x512x128 .bf16) (p1 : Vec F S1x512x128 .bf16) (y : S1x512x256.Idx) :
    ∃ pc ∈ ([⟨r0_20, p0⟩, ⟨r0_19, p1⟩] : List (View.Piece (Elt F) S1x512x256 .bf16)), y ∈ pc.1.set :=
  View.cover_of_tiled [⟨r0_20, p0⟩, ⟨r0_19, p1⟩] S1x512x128.size (by rfl) y

/-- Window 20's staging buffer after the body, from the input windows' blocks: its 1 store as pieces, LAST
    FIRST (Lib/Pipeline/FrameBody.lean `View.canon`; the payloads are the skeleton's and the values stated above). -/
def out0_20 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x128 .bf16 :=
  View.canon [⟨r0_9, k0_pay1 (k0_pay36 (k0_pay37 x0 x1 x2 x3 x4 x5 x6 x7 x8 x9 x10 x11) (k0_pay38 x0 x1 x2 x3 x4 x5 x6 x7 x8 x9 x10 x11) (k0_pay39 x0 x1 x2 x3 x4 x5 x6 x7 x8 x9 x10 x11) (k0_pay40 x0 x1 x2 x3 x4 x5 x6 x7 x8 x9 x10 x11) (k0_pay29 (k0_pay42 x0 x1 x2 x3 x4 x5 x6 x7 x8 x9 x10 x11) (Scalar.ofBits .f32 0x00000000#32) (k0_pay43 x0 x1 x2 x3 x4 x5 x6 x7 x8 x9 x10 x11)) (View.ld x3 r0_21) (View.ld x11 r0_18))⟩]

/-- Its stores tile the buffer (checked by evaluation), so they cover it. -/
theorem cover0_20 (p0 : Vec F S1x512x128 .bf16) (y : S1x512x128.Idx) :
    ∃ pc ∈ ([⟨r0_9, p0⟩] : List (View.Piece (Elt F) S1x512x128 .bf16)), y ∈ pc.1.set :=
  View.cover_of_tiled [⟨r0_9, p0⟩] S1x512x128.size (by rfl) y

/-- Window 21's staging buffer after the body, from the input windows' blocks: its 1 store as pieces, LAST
    FIRST (Lib/Pipeline/FrameBody.lean `View.canon`; the payloads are the skeleton's and the values stated above). -/
def out0_21 (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) : Vec F S1x512x256 .bf16 :=
  View.canon [⟨r0_6, k0_pay2 (k0_pay37 x0 x1 x2 x3 x4 x5 x6 x7 x8 x9 x10 x11) (View.ld x3 r0_22)⟩]

/-- Its stores tile the buffer (checked by evaluation), so they cover it. -/
theorem cover0_21 (p0 : Vec F S1x512x256 .bf16) (y : S1x512x256.Idx) :
    ∃ pc ∈ ([⟨r0_6, p0⟩] : List (View.Piece (Elt F) S1x512x256 .bf16)), y ∈ pc.1.set :=
  View.cover_of_tiled [⟨r0_6, p0⟩] S1x512x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x512x1024 .f32) (harg1 : arg1.IsWhole) (arg2 : Memref sig .tc .vmem S1x1x6x1024 .f32) (harg2 : arg2.IsWhole) (arg3 : Memref sig .tc .vmem S1x1x6x1024 .f32) (harg3 : arg3.IsWhole) (arg4 : Memref sig .tc .vmem S1024x3328 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x512 .bf16) (harg13 : arg13.IsWhole) (arg14 : Memref sig .tc .vmem S1x512x256 .bf16) (harg14 : arg14.IsWhole) (arg15 : Memref sig .tc .vmem S1x512x256 .bf16) (harg15 : arg15.IsWhole) (arg16 : Memref sig .tc .vmem S1x512x128 .f32) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x512x256 .bf16) (harg20 : arg20.IsWhole) (arg21 : Memref sig .tc .vmem S1x512x128 .bf16) (harg21 : arg21.IsWhole) (arg22 : Memref sig .tc .vmem S1x512x256 .bf16) (harg22 : arg22.IsWhole)
    (x0 : Vec F S1x512x1024 .f32) (x1 : Vec F S1x1x6x1024 .f32) (x2 : Vec F S1x1x6x1024 .f32) (x3 : Vec F S1024x3328 .bf16) (x4 : Vec F S256x128 .f32) (x5 : Vec F S256x128 .f32) (x6 : Vec F S256x128 .f32) (x7 : Vec F S256x128 .f32) (x8 : Vec F S256x128 .f32) (x9 : Vec F S256x128 .f32) (x10 : Vec F S1x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11) ∗ owns (c : Thread nD τ) arg17 fullShare (out0_16 x0 x1 x2 x3 x4 x5 x6 x7 x8 x9 x10 x11) ∗ owns (c : Thread nD τ) arg18 fullShare (out0_17 x0 x1 x2 x3 x4 x5 x6 x7 x8 x9 x10 x11) ∗ owns (c : Thread nD τ) arg19 fullShare (out0_18 x0 x1 x2 x3 x4 x5 x6 x7 x8 x9 x10 x11) ∗ owns (c : Thread nD τ) arg20 fullShare (out0_19 x0 x1 x2 x3 x4 x5 x6 x7 x8 x9 x10 x11) ∗ owns (c : Thread nD τ) arg21 fullShare (out0_20 x0 x1 x2 x3 x4 x5 x6 x7 x8 x9 x10 x11) ∗ owns (c : Thread nD τ) arg22 fullShare (out0_21 x0 x1 x2 x3 x4 x5 x6 x7 x8 x9 x10 x11)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 22, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel5Ideal.Hand

end
-- ==== Proof.InBits.lean ====
/-
The input projection's frame over the bits, from its one run: the two programs have the same text, so their body tables
and their host codes are the same over any float values.
-/
module

public import proofs.«01_k».proof.Defs
public import proofs.«01_k».proof.Proof.Gen.Kernel5
public import proofs.«01_k».proof.Proof.InFrame

@[expose] public section

set_option maxRecDepth 1000000
set_option maxHeartbeats 20000000

noncomputable section

namespace Cert.Proof

open Idealize.ShloMosaic Idealize.SL.Sem TcCoe

variable {F : FTy → Type} [FloatOps F]

/-- The kernels' bodies are the same. -/
theorem bodies_eq : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | 0, (t, s) => rfl

/-- The body tables are the same. -/
theorem defs_eq : Cert.Kernel5.defs (F := F) = Cert.Kernel5Ideal.defs (F := F) := by
  unfold Cert.Kernel5.defs Cert.Kernel5Ideal.defs
  exact congrArg (Pipeline.defs (Cert.Kernel5Ideal.pcfgs (F := F))) bodies_eq

/-- The host codes are the same. -/
theorem main_eq : Cert.Kernel5.main (F := F) = Cert.Kernel5Ideal.main (F := F) := rfl

/-- What holds of a run holds of the run of an equal program. -/
theorem run_of_eq {d} (e : d = Cert.Kernel5Ideal.defs (F := F)) {p} (e' : p = Cert.Kernel5Ideal.main (F := F)) {s P}
    (h : θ_run Cert.Kernel5Ideal.defs (onTc (τ := Cert.Kernel5Ideal.τ) Cert.Kernel5Ideal.main) s P) :
    θ_run d (onTc (τ := Cert.Kernel5Ideal.τ) p) s P := by
  subst e e'
  exact h

/-- The input projection leaves its arguments. -/
theorem frame_kernel5 : Cert.quiescent_Kernel5 := fun m ρ _ => run_of_eq defs_eq main_eq (Cert.Kernel5Ideal.Hand.frame (F := Bits) m ρ)

end Cert.Proof

end
-- ==== Proof.InRow.lean ====
/-
The input projection's row of one token: the modulated row, the rotation of a head by its place, and the division of a
head by its root mean square; and the same over a pair of heads side by side, as the kernel computes it.
-/
module

public import proofs.«01_k».proof.Proof.Online

@[expose] public section

noncomputable section

namespace Cert.In

open Idealize.ShloMosaic Cert.Online

/-- Column `j` of the product of a modulated row with the weights. -/
def project {n : ℕ} (x shift scale : Fin 1024 → EReal) (w : Fin 1024 → Fin n → EReal) (j : Fin n) : EReal :=
  ∑ k, (x k * (1 + scale k) + shift k) * w k j

theorem project_real {n : ℕ} (x shift scale : Fin 1024 → ℝ) (w : Fin 1024 → Fin n → EReal) (j : Fin n) (v : Fin 1024 → ℝ)
    (hv : ∀ k, w k j = (v k : EReal)) : project (fun k => (x k : EReal)) (fun k => (shift k : EReal)) (fun k => (scale k : EReal)) w j
    = ((∑ k, (x k * (1 + scale k) + shift k) * v k : ℝ) : EReal) := by
  unfold project
  rw [← coe_sum]
  refine Finset.sum_congr rfl fun k _ => ?_
  rw [hv]
  push_cast
  rfl

/-- A head with the halves of each half exchanged, the first of them negated. -/
def turned (x : Fin 64 → EReal) (d : Fin 64) : EReal :=
  if h : (d : ℕ) % 32 < 16 then -(x ⟨(d : ℕ) + 16, by omega⟩) else x ⟨(d : ℕ) - 16, by omega⟩

/-- A head rotated by its angles. -/
def rotated (co si x : Fin 64 → EReal) (d : Fin 64) : EReal := x d * co d + turned x d * si d

/-- A head divided by its root mean square, each lane times its gain. -/
def normed (g x : Fin 64 → EReal) (d : Fin 64) : EReal :=
  x d * Ideal.rsqrt (Ideal.div (∑ e, x e * x e) (Ideal.ofBits .f32 0x42800000#32) + Ideal.ofBits .f32 0x3727C5AC#32) * g d

/-- The rotation over a pair of heads: each lane, and the lanes sixteen after and before it around the pair. -/
def lanesTurned (co sa sb a : Fin 128 → EReal) (l : Fin 128) : EReal :=
  a l * co l + a ⟨((l : ℕ) + 16) % 128, by omega⟩ * sa l + a ⟨((l : ℕ) + 112) % 128, by omega⟩ * sb l

/-- The division over a pair of heads, the mean squares by two products with the averaging matrix. -/
def lanesNormed (M : Fin 128 → Fin 128 → EReal) (g a : Fin 128 → EReal) (l : Fin 128) : EReal :=
  a l * Ideal.rsqrt ((∑ k, a k * a k * M k l) + (∑ k, (a k * a k - a k * a k) * M k l) + Ideal.ofBits .f32 0x3727C5AC#32) * g l

/-- Head `h` of a pair. -/
def headOf (a : Fin 128 → EReal) (h : Fin 2) (d : Fin 64) : EReal := a ⟨(h : ℕ) * 64 + d, by omega⟩

/-- A latent's tables: the angles' cosines, and their sines where the lane takes part. -/
theorem lanesTurned_latent (co sa sb a : Fin 128 → EReal) (c s : Fin 64 → EReal) (h : Fin 2) (d : Fin 64)
    (hc : co ⟨(h : ℕ) * 64 + d, by omega⟩ = c d)
    (ha : sa ⟨(h : ℕ) * 64 + d, by omega⟩ = if (d : ℕ) % 32 < 16 then -(s d) else 0)
    (hb : sb ⟨(h : ℕ) * 64 + d, by omega⟩ = if (d : ℕ) % 32 < 16 then 0 else s d) :
    lanesTurned co sa sb a ⟨(h : ℕ) * 64 + d, by omega⟩ = rotated c s (headOf a h) d := by
  unfold lanesTurned rotated turned headOf
  rw [hc, ha, hb]
  by_cases hd : (d : ℕ) % 32 < 16
  · rw [if_pos hd, if_pos hd, dif_pos hd, mul_zero, add_zero, mul_neg, neg_mul]
    refine congrArg₂ _ rfl (congrArg (fun z => -(a z * s d)) (Fin.ext ?_))
    show ((h : ℕ) * 64 + d + 16) % 128 = (h : ℕ) * 64 + (d + 16)
    omega
  · rw [if_neg hd, if_neg hd, dif_neg hd, mul_zero, add_zero]
    refine congrArg₂ _ rfl (congrArg (fun z => a z * s d) (Fin.ext ?_))
    show ((h : ℕ) * 64 + d + 112) % 128 = (h : ℕ) * 64 + (d - 16)
    omega

/-- The context's tables leave the lanes as they are. -/
theorem lanesTurned_context (co sa sb a : Fin 128 → EReal) (l : Fin 128) (hc : co l = 1) (ha : sa l = 0) (hb : sb l = 0) :
    lanesTurned co sa sb a l = a l := by
  unfold lanesTurned
  rw [hc, ha, hb, mul_one, mul_zero, mul_zero, add_zero, add_zero]

theorem ofBits_64th : Ideal.ofBits .f32 0x3C800000#32 = ((1 / 64 : ℝ) : EReal) := by
  simp [Ideal.ofBits, Ideal.ieee, Ideal.sign]
  rw [← EReal.coe_mul]
  norm_num

theorem ofBits_64 : Ideal.ofBits .f32 0x42800000#32 = ((64 : ℝ) : EReal) := by
  simp [Ideal.ofBits, Ideal.ieee, Ideal.sign]
  rw [← EReal.coe_mul]
  norm_num

/-- A sum over a pair of heads of what lies in one of them. -/
theorem sum_head (f : Fin 128 → ℝ) (h : Fin 2) :
    ∑ k : Fin 128, f k * (if (k : ℕ) / 64 = h then 1 / 64 else 0) = (∑ d : Fin 64, f ⟨(h : ℕ) * 64 + d, by omega⟩) / 64 := by
  have e : ∀ F : Fin 128 → ℝ, ∑ k, F k = ∑ i : Fin 2, ∑ d : Fin 64, F ⟨(i : ℕ) * 64 + d, by omega⟩ := fun F => by
    rw [← Fintype.sum_prod_type', ← (finProdFinEquiv (m := 2) (n := 64)).sum_comp F]
    exact Finset.sum_congr rfl fun p _ => congrArg F (Fin.ext (by simp [finProdFinEquiv]; ring))
  rw [e, Finset.sum_eq_single h, Finset.sum_div]
  · refine Finset.sum_congr rfl fun d _ => ?_
    rw [if_pos (show ((h : ℕ) * 64 + d) / 64 = (h : ℕ) by omega)]
    ring
  · intro i _ hi
    refine Finset.sum_eq_zero fun d _ => ?_
    rw [if_neg (show ¬ ((i : ℕ) * 64 + d) / 64 = (h : ℕ) from fun hn => hi (Fin.ext (by omega))), mul_zero]
  · exact fun hn => absurd (Finset.mem_univ h) hn

/-- Real lanes: the two products are the head's mean square. -/
theorem lanesNormed_real (M : Fin 128 → Fin 128 → EReal)
    (hM : ∀ k l, M k l = if (k : ℕ) / 64 = (l : ℕ) / 64 then Ideal.ofBits .f32 0x3C800000#32 else 0)
    (g a : Fin 128 → EReal) (x : Fin 128 → ℝ) (hx : ∀ l, a l = (x l : EReal)) (g' : Fin 64 → EReal) (h : Fin 2) (d : Fin 64)
    (hg : g ⟨(h : ℕ) * 64 + d, by omega⟩ = g' d) :
    lanesNormed M g a ⟨(h : ℕ) * 64 + d, by omega⟩ = normed g' (headOf a h) d := by
  unfold lanesNormed normed
  rw [hg]
  refine congrArg (fun z => a ⟨(h : ℕ) * 64 + d, by omega⟩ * Ideal.rsqrt (z + Ideal.ofBits .f32 0x3727C5AC#32) * g' d) ?_
  have z : ∑ k, (a k * a k - a k * a k) * M k ⟨(h : ℕ) * 64 + d, by omega⟩ = 0 := Finset.sum_eq_zero fun k _ => by
    rw [hx, ← EReal.coe_mul, ← EReal.coe_sub, sub_self, EReal.coe_zero, zero_mul]
  have u : ∀ k, a k * a k * M k ⟨(h : ℕ) * 64 + d, by omega⟩
      = ((x k * x k * (if (k : ℕ) / 64 = h then 1 / 64 else 0) : ℝ) : EReal) := fun k => by
    rw [hM, hx, show ((⟨(h : ℕ) * 64 + d, by omega⟩ : Fin 128) : ℕ) / 64 = h from (by show ((h : ℕ) * 64 + d) / 64 = h; omega), ofBits_64th]
    split <;> push_cast <;> simp
  have v : ∑ e, headOf a h e * headOf a h e = ((∑ e : Fin 64, x ⟨(h : ℕ) * 64 + e, by omega⟩ * x ⟨(h : ℕ) * 64 + e, by omega⟩ : ℝ) : EReal) := by
    rw [← coe_sum]
    exact Finset.sum_congr rfl fun e _ => by unfold headOf; rw [hx, EReal.coe_mul]
  rw [z, add_zero, Finset.sum_congr rfl fun k _ => u k, coe_sum, sum_head (fun k => x k * x k), v, ofBits_64]
  show _ = Ideal.div _ _
  unfold Ideal.div
  norm_cast

end Cert.In

end
-- ==== Proof.InTile.lean ====
/-
What one grid point of the input projection writes, from its blocks, element by element.
-/
module

public import proofs.«01_k».proof.Proof.InFrame
public import proofs.«01_k».proof.Proof.InRow
public import proofs.«01_k».proof.Proof.PostFlat
public import Idealize.ShloMosaic.Lib.Pipeline.ValueKit.Geometry
public import Idealize.ShloMosaic.Lib.Claim

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen Cert.In
open Cert.Kernel3Ideal.Hand (ld_rect ld_whole ld_whole4)

theorem pay3_apply (m0 m1 : Vec Ideal S1x1x6x1024 .f32) (x : Vec Ideal S1x512x1024 .f32) (r : Fin 512) (k : Fin 1024) :
    k0_pay3 m0 m1 x (ix2 r k) = x (ix3 0 r k) * (1 + (if (r : ℕ) < 256 then m0 (ix4 0 0 1 k) else m1 (ix4 0 0 1 k)))
      + (if (r : ℕ) < 256 then m0 (ix4 0 0 0 k) else m1 (ix4 0 0 0 k)) := by
  pointwise [k0_pay3]
  by_cases h : (r : ℕ) < 256
  · rw [dif_pos h, if_pos h, if_pos h]
  · rw [dif_neg h, if_neg h, if_neg h]
    exact congrArg (fun z => x (ix3 0 z k) * (1 + m1 (ix4 0 0 1 k)) + m1 (ix4 0 0 0 k))
      (Fin.ext (show 256 + ((r : ℕ) - 256) = r by omega))

theorem pay4_apply (a b : Vec Ideal S256x128 .f32) (r : Fin 512) (l : Fin 128) :
    k0_pay4 a b (ix2 r l) = if h : (r : ℕ) < 256 then a (ix2 ⟨r, h⟩ l) else b (ix2 ⟨(r : ℕ) - 256, by omega⟩ l) := by
  pointwise [k0_pay4]

theorem pay12_apply (u : FVec Ideal S512x1024 .bf16) (w : Vec Ideal S1024x512 .bf16) (r : Fin 512) (j : Fin 512) :
    k0_pay12 u w (ix2 r j) = ∑ k, u (ix2 r k) * w (ix2 k j) := by
  pointwise [k0_pay12]
theorem pay30_apply (u : FVec Ideal S512x1024 .bf16) (w : Vec Ideal S1024x256 .bf16) (r : Fin 512) (j : Fin 256) :
    k0_pay30 u w (ix2 r j) = ∑ k, u (ix2 r k) * w (ix2 k j) := by
  pointwise [k0_pay30]
theorem pay10_apply (u : FVec Ideal S512x1024 .bf16) (w : Vec Ideal S1024x128 .bf16) (r : Fin 512) (j : Fin 128) :
    k0_pay10 u w (ix2 r j) = ∑ k, u (ix2 r k) * w (ix2 k j) := by
  pointwise [k0_pay10]
theorem pay7_apply (u : FVec Ideal S512x1024 .bf16) (w : Vec Ideal S1024x512 .bf16) (r : Fin 512) (j : Fin 512) :
    k0_pay7 u w (ix3 0 r j) = k0_pay12 u w (ix2 r j) := by
  pointwise [k0_pay7, k0_pay12]
theorem pay8_apply (u : FVec Ideal S512x1024 .bf16) (w : Vec Ideal S1024x256 .bf16) (r : Fin 512) (j : Fin 256) :
    k0_pay8 u w (ix3 0 r j) = k0_pay30 u w (ix2 r j) := by
  pointwise [k0_pay8, k0_pay30]
theorem pay11_apply (z : FVec Ideal S512x128 .f32) (r : Fin 512) (j : Fin 128) :
    k0_pay11 z (ix3 0 r j) = z (ix2 r j) := by
  pointwise [k0_pay11]
/-- The lanes a one is added to. -/
theorem ones_mask : ∀ l : Fin 256, BitVec.setWidth 32 (IntOp.ori (IntOp.cmpi CmpIPredicate.eq (BitVec.ofNat 32 ↑l) 64#32)
      (IntOp.cmpi CmpIPredicate.eq (BitVec.ofNat 32 ↑l) 128#32))
    = if (l : ℕ) = 64 ∨ (l : ℕ) = 128 then 1#32 else 0#32 := by decide +kernel

theorem pay2_apply (u : FVec Ideal S512x1024 .bf16) (w : Vec Ideal S1024x256 .bf16) (r : Fin 512) (j : Fin 256) :
    k0_pay2 u w (ix3 0 r j) = k0_pay30 u w (ix2 r j) + (if (j : ℕ) = 64 ∨ (j : ℕ) = 128 then 1 else 0 : EReal) := by
  pointwise [k0_pay2, k0_pay30]
  refine congrArg₂ _ rfl ?_
  rw [ones_mask j]
  split
  · show (((1#32).toInt : ℝ) : EReal) = 1; simp
  · show (((0#32).toInt : ℝ) : EReal) = 0; simp

/-- The kernel's rotation of a pair of heads. -/
def turnVec (co sa sb a : FVec Ideal S512x128 .f32) : FVec Ideal S512x128 .bf16 :=
  truncf .bf16 (addf (addf (mulf a co) (mulf (dynamicRotate 1 112#32 none a rotates_S512x128_d1) sa))
    (mulf (dynamicRotate 1 16#32 none a rotates_S512x128_d1) sb)) bitsLt_bf16_f32

theorem turnVec_apply (co sa sb a : FVec Ideal S512x128 .f32) (r : Fin 512) (l : Fin 128) :
    turnVec co sa sb a (ix2 r l)
    = lanesTurned (fun l => co (ix2 r l)) (fun l => sa (ix2 r l)) (fun l => sb (ix2 r l)) (fun l => a (ix2 r l)) l := by
  pointwise [turnVec, lanesTurned]
  refine congrArg₂ _ (congrArg₂ _ rfl (congrArg (fun z => a (ix2 r z) * sa (ix2 r l)) (Fin.ext ?_)))
    (congrArg (fun z => a (ix2 r z) * sb (ix2 r l)) (Fin.ext ?_))
  · show ((l : ℕ) + 128 - 112) % 128 = ((l : ℕ) + 16) % 128
    omega
  · show ((l : ℕ) + 128 - 16) % 128 = ((l : ℕ) + 112) % 128
    omega

/-- The averaging matrix. -/
def avg : FVec Ideal S128x128 .bf16 :=
  k0_pay29 (k0_pay27 (iota .tc S128x128 32 [0] iota_S128x128_d0_w32) 64#32 k0_pay25 k0_pay26) (Scalar.ofBits .f32 0x00000000#32) k0_pay28

/-- The head of a lane, as the kernel divides: rounding down. -/
def headBits (l : Fin 128) : BitVec 32 :=
  Scalar.select
    (IntOp.andi
      (IntOp.cmpi CmpIPredicate.ne
        (IntOp.subi (BitVec.setWidth 32 (IntOp.cmpi CmpIPredicate.sgt (BitVec.ofNat 32 ↑l) 0#32))
          (BitVec.setWidth 32 (IntOp.cmpi CmpIPredicate.slt (BitVec.ofNat 32 ↑l) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 ↑l) 64#32) 0#32))
    (IntOp.subi (IntOp.divsi ArithUnit.vector (BitVec.ofNat 32 ↑l) 64#32) 1#32)
    (IntOp.divsi ArithUnit.vector (BitVec.ofNat 32 ↑l) 64#32)

theorem headBits_eq : ∀ l : Fin 128, headBits l = if (l : ℕ) / 64 = 0 then 0#32 else 1#32 := by decide +kernel

theorem avg_apply (k l : Fin 128) : avg (ix2 k l) = if (k : ℕ) / 64 = (l : ℕ) / 64 then Ideal.ofBits .f32 0x3C800000#32 else 0 := by
  pointwise [avg, k0_pay29, k0_pay27, k0_pay25, k0_pay26, k0_pay28]
  show Scalar.select (IntOp.cmpi CmpIPredicate.eq (headBits k) (headBits l)) (Ideal.ofBits FTy.f32 0x3C800000#32) 0 = _
  rw [headBits_eq, headBits_eq]
  have hk : (k : ℕ) / 64 = 0 ∨ (k : ℕ) / 64 = 1 := by omega
  have hl : (l : ℕ) / 64 = 0 ∨ (l : ℕ) / 64 = 1 := by omega
  rcases hk with hk | hk <;> rcases hl with hl | hl <;> rw [hk, hl] <;> rfl

/-- The kernel's division of a pair of heads by their root mean squares. -/
def normVec (M : FVec Ideal S128x128 .bf16) (g : FVec Ideal S1x128 .f32) (a : FVec Ideal S512x128 .f32) : FVec Ideal S512x128 .f32 :=
  mulf (mulf a (rsqrt (addf (addf
      (matmul dot_S512x128_S128x128_S512x128_1_0_0_1_n_n none (truncf .bf16 (mulf a a) bitsLt_bf16_f32) M (constant S512x128 .f32 0x00000000#32))
      (matmul dot_S512x128_S128x128_S512x128_1_0_0_1_n_n none
        (truncf .bf16 (subf (mulf a a) (extf .f32 (truncf .bf16 (mulf a a) bitsLt_bf16_f32) bitsLt_bf16_f32)) bitsLt_bf16_f32) M
        (constant S512x128 .f32 0x00000000#32)))
      (broadcast S512x128 (Scalar.ofBits .f32 0x3727C5AC#32)))))
    (broadcastTo S512x128 g broadcasts_S1x128_S512x128)

theorem normVec_apply (M : FVec Ideal S128x128 .bf16) (g : FVec Ideal S1x128 .f32) (a : FVec Ideal S512x128 .f32) (r : Fin 512) (l : Fin 128) :
    normVec M g a (ix2 r l)
    = lanesNormed (fun k l => M (ix2 k l)) (fun l => g (ix2 0 l)) (fun l => a (ix2 r l)) l := by
  pointwise [normVec, lanesNormed]

section
variable (x0 : Vec Ideal S1x512x1024 .f32) (x1 x2 : Vec Ideal S1x1x6x1024 .f32) (x3 : Vec Ideal S1024x3328 .bf16)
  (x4 x5 x6 x7 x8 x9 : Vec Ideal S256x128 .f32) (x10 x11 : Vec Ideal S1x128 .f32)

/-- Row `r` of the tile's product with the padded weights. -/
def acc (r : Fin 512) : Fin 3328 → EReal :=
  project (fun k => x0 (ix3 0 r k)) (fun k => if (r : ℕ) < 256 then x1 (ix4 0 0 0 k) else x2 (ix4 0 0 0 k))
    (fun k => if (r : ℕ) < 256 then x1 (ix4 0 0 1 k) else x2 (ix4 0 0 1 k)) (fun k j => x3 (ix2 k j))

/-- Row `r` of a table from its halves. -/
def tab (a b : Vec Ideal S256x128 .f32) (r : Fin 512) (l : Fin 128) : EReal :=
  if h : (r : ℕ) < 256 then a (ix2 ⟨r, h⟩ l) else b (ix2 ⟨(r : ℕ) - 256, by omega⟩ l)

/-- Lanes `p` to `p + 128`. -/
def colsAt {n : ℕ} (A : Fin n → EReal) (p : ℕ) (hp : p + 128 ≤ n) : Fin 128 → EReal := fun l => A ⟨p + l, by omega⟩

theorem pay37_apply (r : Fin 512) (k : Fin 1024) : k0_pay37 x0 x1 x2 x3 x4 x5 x6 x7 x8 x9 x10 x11 (ix2 r k)
    = x0 (ix3 0 r k) * (1 + (if (r : ℕ) < 256 then x1 (ix4 0 0 1 k) else x2 (ix4 0 0 1 k)))
      + (if (r : ℕ) < 256 then x1 (ix4 0 0 0 k) else x2 (ix4 0 0 0 k)) := by
  refine (pay3_apply _ _ _ _ _).trans ?_
  rw [ld_whole, ld_whole4, ld_whole4, ld_whole4, ld_whole4]

theorem ld_tab (a : Vec Ideal S256x128 .f32) (r : Fin 256) (l : Fin 128) : View.ld a r0_2 (ix2 r l) = a (ix2 r l) := by
  refine (ld_rect a 256 128 0 0 _ r l (by omega) (by omega)).trans (congrArg₂ (fun i j => a (ix2 i j)) (Fin.ext ?_) (Fin.ext ?_))
  · exact Nat.zero_add _
  · exact Nat.zero_add _

theorem pay38_apply (r : Fin 512) (l : Fin 128) : k0_pay38 x0 x1 x2 x3 x4 x5 x6 x7 x8 x9 x10 x11 (ix2 r l) = tab x4 x5 r l := by
  refine (pay4_apply _ _ _ _).trans ?_
  unfold tab
  split <;> exact ld_tab _ _ _
theorem pay39_apply (r : Fin 512) (l : Fin 128) : k0_pay39 x0 x1 x2 x3 x4 x5 x6 x7 x8 x9 x10 x11 (ix2 r l) = tab x6 x7 r l :=
  pay38_apply x0 x1 x2 x3 x6 x7 x6 x7 x8 x9 x10 x11 r l
theorem pay40_apply (r : Fin 512) (l : Fin 128) : k0_pay40 x0 x1 x2 x3 x4 x5 x6 x7 x8 x9 x10 x11 (ix2 r l) = tab x8 x9 r l :=
  pay38_apply x0 x1 x2 x3 x8 x9 x6 x7 x8 x9 x10 x11 r l

theorem ld_gain (g : Vec Ideal S1x128 .f32) (l : Fin 128) : k0_pay31 (View.ld g r0_18) (ix2 0 l) = g (ix2 0 l) := by
  have h : k0_pay31 (View.ld g r0_18) (ix2 0 l) = View.ld g r0_18 (ix2 0 l) := by pointwise [k0_pay31]
  refine h.trans ((ld_rect g 1 128 0 0 _ 0 l (by omega) (by omega)).trans (congrArg₂ (fun i j => g (ix2 i j)) (Fin.ext ?_) (Fin.ext ?_)))
  · rfl
  · exact Nat.zero_add _

theorem acc512 (o : ℕ) (inb : ∀ x, ![0, o] x + S1024x512.size x ≤ S1024x3328.size x) (ho : o + 512 ≤ 3328) (r : Fin 512) (j : Fin 512) :
    k0_pay12 (k0_pay37 x0 x1 x2 x3 x4 x5 x6 x7 x8 x9 x10 x11) (View.ld x3 (Rect.unit (s := S1024x3328) ![0, o] S1024x512.size inb)) (ix2 r j)
    = acc x0 x1 x2 x3 r ⟨o + j, by omega⟩ := by
  refine (pay12_apply _ _ _ _).trans ?_
  unfold acc project
  refine Finset.sum_congr rfl fun k _ => ?_
  rw [pay37_apply]
  refine congrArg₂ _ rfl ((ld_rect x3 1024 512 0 o inb k j (by omega) (by omega)).trans (congrArg (fun i => x3 (ix2 i _)) (Fin.ext ?_)))
  exact Nat.zero_add _
theorem acc256 (o : ℕ) (inb : ∀ x, ![0, o] x + S1024x256.size x ≤ S1024x3328.size x) (ho : o + 256 ≤ 3328) (r : Fin 512) (j : Fin 256) :
    k0_pay30 (k0_pay37 x0 x1 x2 x3 x4 x5 x6 x7 x8 x9 x10 x11) (View.ld x3 (Rect.unit (s := S1024x3328) ![0, o] S1024x256.size inb)) (ix2 r j)
    = acc x0 x1 x2 x3 r ⟨o + j, by omega⟩ := by
  refine (pay30_apply _ _ _ _).trans ?_
  unfold acc project
  refine Finset.sum_congr rfl fun k _ => ?_
  rw [pay37_apply]
  refine congrArg₂ _ rfl ((ld_rect x3 1024 256 0 o inb k j (by omega) (by omega)).trans (congrArg (fun i => x3 (ix2 i _)) (Fin.ext ?_)))
  exact Nat.zero_add _
theorem acc128 (o : ℕ) (inb : ∀ x, ![0, o] x + S1024x128.size x ≤ S1024x3328.size x) (ho : o + 128 ≤ 3328) (r : Fin 512) (j : Fin 128) :
    k0_pay10 (k0_pay37 x0 x1 x2 x3 x4 x5 x6 x7 x8 x9 x10 x11) (View.ld x3 (Rect.unit (s := S1024x3328) ![0, o] S1024x128.size inb)) (ix2 r j)
    = acc x0 x1 x2 x3 r ⟨o + j, by omega⟩ := by
  refine (pay10_apply _ _ _ _).trans ?_
  unfold acc project
  refine Finset.sum_congr rfl fun k _ => ?_
  rw [pay37_apply]
  refine congrArg₂ _ rfl ((ld_rect x3 1024 128 0 o inb k j (by omega) (by omega)).trans (congrArg (fun i => x3 (ix2 i _)) (Fin.ext ?_)))
  exact Nat.zero_add _

theorem out12_apply (r : Fin 512) (j : Fin 512) : out0_12 x0 x1 x2 x3 x4 x5 x6 x7 x8 x9 x10 x11 (ix3 0 r j) = acc x0 x1 x2 x3 r ⟨0 + j, by omega⟩ :=
  (congrFun (View.canon_unit_zero (S := S1x512x512) (by decide) inb_S1x512x512_S1x512x512_0_0_0 _) (ix3 0 r j)).trans
    ((pay7_apply _ _ _ _).trans (acc512 _ _ _ _ _ _ _ _ _ _ _ _ 0 _ (by omega) _ _))
theorem out18_apply (r : Fin 512) (j : Fin 512) : out0_18 x0 x1 x2 x3 x4 x5 x6 x7 x8 x9 x10 x11 (ix3 0 r j) = acc x0 x1 x2 x3 r ⟨2048 + j, by omega⟩ :=
  (congrFun (View.canon_unit_zero (S := S1x512x512) (by decide) inb_S1x512x512_S1x512x512_0_0_0 _) (ix3 0 r j)).trans
    ((pay7_apply _ _ _ _).trans (acc512 _ _ _ _ _ _ _ _ _ _ _ _ 2048 _ (by omega) _ _))
theorem out13_apply (r : Fin 512) (j : Fin 256) : out0_13 x0 x1 x2 x3 x4 x5 x6 x7 x8 x9 x10 x11 (ix3 0 r j) = acc x0 x1 x2 x3 r ⟨512 + j, by omega⟩ :=
  (congrFun (View.canon_unit_zero (S := S1x512x256) (by decide) inb_S1x512x256_S1x512x256_0_0_0 _) (ix3 0 r j)).trans
    ((pay8_apply _ _ _ _).trans (acc256 _ _ _ _ _ _ _ _ _ _ _ _ 512 _ (by omega) _ _))
theorem out14_apply (r : Fin 512) (j : Fin 256) : out0_14 x0 x1 x2 x3 x4 x5 x6 x7 x8 x9 x10 x11 (ix3 0 r j) = acc x0 x1 x2 x3 r ⟨768 + j, by omega⟩ :=
  (congrFun (View.canon_unit_zero (S := S1x512x256) (by decide) inb_S1x512x256_S1x512x256_0_0_0 _) (ix3 0 r j)).trans
    ((pay8_apply _ _ _ _).trans (acc256 _ _ _ _ _ _ _ _ _ _ _ _ 768 _ (by omega) _ _))
theorem out15_apply (r : Fin 512) (j : Fin 128) : out0_15 x0 x1 x2 x3 x4 x5 x6 x7 x8 x9 x10 x11 (ix3 0 r j) = acc x0 x1 x2 x3 r ⟨3200 + j, by omega⟩ :=
  (congrFun (View.canon_unit_zero (S := S1x512x128) (by decide) inb_S1x512x128_S1x512x128_0_0_0 _) (ix3 0 r j)).trans
    ((pay11_apply _ _ _).trans (acc128 _ _ _ _ _ _ _ _ _ _ _ _ 3200 _ (by omega) _ _))
theorem out21_apply (r : Fin 512) (j : Fin 256) : out0_21 x0 x1 x2 x3 x4 x5 x6 x7 x8 x9 x10 x11 (ix3 0 r j)
    = acc x0 x1 x2 x3 r ⟨2944 + j, by omega⟩ + (if (j : ℕ) = 64 ∨ (j : ℕ) = 128 then 1 else 0 : EReal) :=
  (congrFun (View.canon_unit_zero (S := S1x512x256) (by decide) inb_S1x512x256_S1x512x256_0_0_0 _) (ix3 0 r j)).trans
    ((pay2_apply _ _ _ _).trans (congrArg₂ _ (acc256 _ _ _ _ _ _ _ _ _ _ _ _ 2944 _ (by omega) _ _) rfl))

/-- The tables' rotation of a pair of heads, in row `r`. -/
def turnRow (r : Fin 512) (a : Fin 128 → EReal) : Fin 128 → EReal := lanesTurned (tab x4 x5 r) (tab x6 x7 r) (tab x8 x9 r) a
/-- The division of a pair of heads, with gains `g`. -/
def normRow (g : Vec Ideal S1x128 .f32) (a : Fin 128 → EReal) : Fin 128 → EReal := lanesNormed (fun k l => avg (ix2 k l)) (fun l => g (ix2 0 l)) a

/-- A pair of heads of a rotated result. -/
theorem turn_piece (A : FVec Ideal S512x128 .f32) (r : Fin 512) (l : Fin 128) (a : Fin 128 → EReal) (hA : ∀ l, A (ix2 r l) = a l) :
    k0_pay1 (turnVec (k0_pay38 x0 x1 x2 x3 x4 x5 x6 x7 x8 x9 x10 x11) (k0_pay39 x0 x1 x2 x3 x4 x5 x6 x7 x8 x9 x10 x11)
      (k0_pay40 x0 x1 x2 x3 x4 x5 x6 x7 x8 x9 x10 x11) A) (ix3 0 r l) = turnRow x4 x5 x6 x7 x8 x9 r a l := by
  have h : ∀ z : FVec Ideal S512x128 .bf16, k0_pay1 z (ix3 0 r l) = z (ix2 r l) := fun z => by pointwise [k0_pay1]
  refine (h _).trans ((turnVec_apply _ _ _ _ _ _).trans ?_)
  unfold turnRow
  congr 1 <;> funext l
  · exact pay38_apply _ _ _ _ _ _ _ _ _ _ _ _ _ _
  · exact pay39_apply _ _ _ _ _ _ _ _ _ _ _ _ _ _
  · exact pay40_apply _ _ _ _ _ _ _ _ _ _ _ _ _ _
  · exact hA l

/-- A pair of heads of a result divided and rotated. -/
theorem norm_piece (g : Vec Ideal S1x128 .f32) (A : FVec Ideal S512x128 .f32) (r : Fin 512) (l : Fin 128) (a : Fin 128 → EReal)
    (hA : ∀ l, A (ix2 r l) = a l) :
    k0_pay1 (turnVec (k0_pay38 x0 x1 x2 x3 x4 x5 x6 x7 x8 x9 x10 x11) (k0_pay39 x0 x1 x2 x3 x4 x5 x6 x7 x8 x9 x10 x11)
      (k0_pay40 x0 x1 x2 x3 x4 x5 x6 x7 x8 x9 x10 x11) (normVec avg (k0_pay31 (View.ld g r0_18)) A)) (ix3 0 r l)
    = turnRow x4 x5 x6 x7 x8 x9 r (normRow g a) l := by
  refine turn_piece _ _ _ _ _ _ _ _ _ _ _ _ _ _ _ _ fun l => (normVec_apply _ _ _ _ _).trans ?_
  unfold normRow
  congr 1 <;> funext l
  · exact ld_gain _ _
  · exact hA l

theorem out20_apply (r : Fin 512) (j : Fin 128) : out0_20 x0 x1 x2 x3 x4 x5 x6 x7 x8 x9 x10 x11 (ix3 0 r j)
    = turnRow x4 x5 x6 x7 x8 x9 r (normRow x11 (colsAt (acc x0 x1 x2 x3 r) 2816 (by omega))) j :=
  (congrFun (View.canon_unit_zero (S := S1x512x128) (by decide) inb_S1x512x128_S1x512x128_0_0_0 _) (ix3 0 r j)).trans
    (norm_piece x0 x1 x2 x3 x4 x5 x6 x7 x8 x9 x10 x11 x11 _ r j _ fun l => acc128 _ _ _ _ _ _ _ _ _ _ _ _ 2816 _ (by omega) _ _)

/-- Where a piece of 128 lanes lies in a block. -/
theorem emb_lanes {n : ℕ} (p : ℕ) (inb : ∀ x, ![0, 0, p] x + S1x512x128.size x ≤ (⟨3, ![1, 512, n]⟩ : Shape).size x) (r : Fin 512) (l : Fin 128)
    (hp : p + 128 ≤ n) : (Rect.unit (s := ⟨3, ![1, 512, n]⟩) ![0, 0, p] S1x512x128.size inb).emb (ix3 0 r l) = ix3 0 r ⟨p + l, by omega⟩ := by
  refine funext fun x => ?_
  fin_cases x <;> refine Fin.ext ?_ <;> simp [Rect.emb, LoadRect.idx, Rect.toLoadRect, Rect.unit]

/-- A result of pairs of heads, each a function of its pair's lanes. -/
def pairsG {n : ℕ} (f : Fin 512 → (Fin 128 → EReal) → Fin 128 → EReal) (A : Fin 512 → Fin 3328 → EReal) (o : ℕ) (ho : o + n ≤ 3328) (hn : 128 ∣ n)
    (y : (⟨3, ![1, 512, n]⟩ : Shape).Idx) : EReal :=
  have hy : (y 2).val < n := (y 2).isLt
  f (y 1) (colsAt (A (y 1)) (o + (y 2).val / 128 * 128) (by obtain ⟨k, rfl⟩ := hn; omega)) ⟨(y 2).val % 128, by omega⟩

theorem pairsG_emb {n : ℕ} (f : Fin 512 → (Fin 128 → EReal) → Fin 128 → EReal) (A : Fin 512 → Fin 3328 → EReal) (o : ℕ) (ho : o + n ≤ 3328) (hn : 128 ∣ n)
    (q : ℕ) (inb : ∀ x, ![0, 0, q * 128] x + S1x512x128.size x ≤ (⟨3, ![1, 512, n]⟩ : Shape).size x) (hq : q * 128 + 128 ≤ n) (r : Fin 512) (l : Fin 128) :
    f r (colsAt (A r) (o + q * 128) (by omega)) l
    = pairsG f A o ho hn ((Rect.unit (s := ⟨3, ![1, 512, n]⟩) ![0, 0, q * 128] S1x512x128.size inb).emb (ix3 0 r l)) := by
  rw [emb_lanes (q * 128) inb r l hq]
  show _ = f r (colsAt (A r) (o + (q * 128 + l) / 128 * 128) _) ⟨(q * 128 + l) % 128, _⟩
  congr 1
  · congr 1; omega
  · refine Fin.ext ?_
    show (l : ℕ) = (q * 128 + l) % 128
    omega

/-- Lanes `p` to `p + 128` of the product. -/
theorem slice512 (A : FVec Ideal S512x512 .f32) (p : ℕ) (h : S512x512.Slices ![0, p] S512x128) (r : Fin 512) (l : Fin 128) (hp : p + 128 ≤ 512) :
    extractStridedSlice S512x128 ![0, p] A h (ix2 r l) = A (ix2 r ⟨p + l, by omega⟩) := by
  pointwise
theorem slice256 (A : FVec Ideal S512x256 .f32) (p : ℕ) (h : S512x256.Slices ![0, p] S512x128) (r : Fin 512) (l : Fin 128) (hp : p + 128 ≤ 256) :
    extractStridedSlice S512x128 ![0, p] A h (ix2 r l) = A (ix2 r ⟨p + l, by omega⟩) := by
  pointwise

theorem turned512 (o q : ℕ) (inb : ∀ x, ![0, o] x + S1024x512.size x ≤ S1024x3328.size x) (ho : o + 512 ≤ 3328)
    (hs : S512x512.Slices ![0, q * 128] S512x128) (inb' : ∀ x, ![0, 0, q * 128] x + S1x512x128.size x ≤ S1x512x512.size x) (hq : q * 128 + 128 ≤ 512)
    (x : S1x512x128.Idx) :
    k0_pay1 (turnVec (k0_pay38 x0 x1 x2 x3 x4 x5 x6 x7 x8 x9 x10 x11) (k0_pay39 x0 x1 x2 x3 x4 x5 x6 x7 x8 x9 x10 x11)
      (k0_pay40 x0 x1 x2 x3 x4 x5 x6 x7 x8 x9 x10 x11) (extractStridedSlice S512x128 ![0, q * 128]
        (k0_pay12 (k0_pay37 x0 x1 x2 x3 x4 x5 x6 x7 x8 x9 x10 x11) (View.ld x3 (Rect.unit (s := S1024x3328) ![0, o] S1024x512.size inb))) hs)) x
    = pairsG (turnRow x4 x5 x6 x7 x8 x9) (acc x0 x1 x2 x3) o ho (by decide) ((Rect.unit (s := S1x512x512) ![0, 0, q * 128] S1x512x128.size inb').emb x) := by
  obtain ⟨r, l, rfl⟩ : ∃ (r : Fin 512) (l : Fin 128), x = ix3 0 r l := ⟨x 1, x 2, by idx_ext⟩
  refine (turn_piece _ _ _ _ _ _ _ _ _ _ _ _ _ r l (colsAt (acc x0 x1 x2 x3 r) (o + q * 128) (by omega)) fun l => ?_).trans
    (pairsG_emb _ _ o ho (by decide) q inb' hq r l)
  refine (slice512 _ _ hs r l hq).trans ((acc512 _ _ _ _ _ _ _ _ _ _ _ _ o inb ho r _).trans (congrArg (acc x0 x1 x2 x3 r) (Fin.ext ?_)))
  show o + (q * 128 + l) = o + q * 128 + l
  omega

theorem normed256 (g : Vec Ideal S1x128 .f32) (o q : ℕ) (inb : ∀ x, ![0, o] x + S1024x256.size x ≤ S1024x3328.size x) (ho : o + 256 ≤ 3328)
    (hs : S512x256.Slices ![0, q * 128] S512x128) (inb' : ∀ x, ![0, 0, q * 128] x + S1x512x128.size x ≤ S1x512x256.size x) (hq : q * 128 + 128 ≤ 256)
    (x : S1x512x128.Idx) :
    k0_pay1 (turnVec (k0_pay38 x0 x1 x2 x3 x4 x5 x6 x7 x8 x9 x10 x11) (k0_pay39 x0 x1 x2 x3 x4 x5 x6 x7 x8 x9 x10 x11)
      (k0_pay40 x0 x1 x2 x3 x4 x5 x6 x7 x8 x9 x10 x11) (normVec avg (k0_pay31 (View.ld g r0_18)) (extractStridedSlice S512x128 ![0, q * 128]
        (k0_pay30 (k0_pay37 x0 x1 x2 x3 x4 x5 x6 x7 x8 x9 x10 x11) (View.ld x3 (Rect.unit (s := S1024x3328) ![0, o] S1024x256.size inb))) hs))) x
    = pairsG (fun r a => turnRow x4 x5 x6 x7 x8 x9 r (normRow g a)) (acc x0 x1 x2 x3) o ho (by decide)
      ((Rect.unit (s := S1x512x256) ![0, 0, q * 128] S1x512x128.size inb').emb x) := by
  obtain ⟨r, l, rfl⟩ : ∃ (r : Fin 512) (l : Fin 128), x = ix3 0 r l := ⟨x 1, x 2, by idx_ext⟩
  refine (norm_piece _ _ _ _ _ _ _ _ _ _ _ _ g _ r l (colsAt (acc x0 x1 x2 x3 r) (o + q * 128) (by omega)) fun l => ?_).trans
    (pairsG_emb (fun r a => turnRow x4 x5 x6 x7 x8 x9 r (normRow g a)) _ o ho (by decide) q inb' hq r l)
  refine (slice256 _ _ hs r l hq).trans ((acc256 _ _ _ _ _ _ _ _ _ _ _ _ o inb ho r _).trans (congrArg (acc x0 x1 x2 x3 r) (Fin.ext ?_)))
  show o + (q * 128 + l) = o + q * 128 + l
  omega

theorem out16_apply (y : S1x512x512.Idx) : out0_16 x0 x1 x2 x3 x4 x5 x6 x7 x8 x9 x10 x11 y
    = pairsG (turnRow x4 x5 x6 x7 x8 x9) (acc x0 x1 x2 x3) 1024 (by decide) (by decide) y := by
  refine View.canon_apply_of_pieces (Val := Elt Ideal) (pairsG (turnRow x4 x5 x6 x7 x8 x9) (acc x0 x1 x2 x3) 1024 (show 1024 + 512 ≤ 3328 by decide) (by decide)) _ ?_ y (cover0_16 _ _ _ _ y)
  intro pc hpc
  rcases List.mem_cons.mp hpc with rfl | hpc
  · exact turned512 x0 x1 x2 x3 x4 x5 x6 x7 x8 x9 x10 x11 1024 3 inb_S1024x3328_S1024x512_0_1024 (by decide) slices_S512x512_o0_384_S512x128 inb_S1x512x512_S1x512x128_0_0_384 (by decide)
  rcases List.mem_cons.mp hpc with rfl | hpc
  · exact turned512 x0 x1 x2 x3 x4 x5 x6 x7 x8 x9 x10 x11 1024 2 inb_S1024x3328_S1024x512_0_1024 (by decide) slices_S512x512_o0_256_S512x128 inb_S1x512x512_S1x512x128_0_0_256 (by decide)
  rcases List.mem_cons.mp hpc with rfl | hpc
  · exact turned512 x0 x1 x2 x3 x4 x5 x6 x7 x8 x9 x10 x11 1024 1 inb_S1024x3328_S1024x512_0_1024 (by decide) slices_S512x512_o0_128_S512x128 inb_S1x512x512_S1x512x128_0_0_128 (by decide)
  obtain rfl := List.mem_singleton.mp hpc
  exact turned512 x0 x1 x2 x3 x4 x5 x6 x7 x8 x9 x10 x11 1024 0 inb_S1024x3328_S1024x512_0_1024 (by decide) slices_S512x512_o0_0_S512x128 inb_S1x512x512_S1x512x128_0_0_0 (by decide)

theorem out17_apply (y : S1x512x512.Idx) : out0_17 x0 x1 x2 x3 x4 x5 x6 x7 x8 x9 x10 x11 y
    = pairsG (turnRow x4 x5 x6 x7 x8 x9) (acc x0 x1 x2 x3) 1536 (by decide) (by decide) y := by
  refine View.canon_apply_of_pieces (Val := Elt Ideal) (pairsG (turnRow x4 x5 x6 x7 x8 x9) (acc x0 x1 x2 x3) 1536 (show 1536 + 512 ≤ 3328 by decide) (by decide)) _ ?_ y (cover0_17 _ _ _ _ y)
  intro pc hpc
  rcases List.mem_cons.mp hpc with rfl | hpc
  · exact turned512 x0 x1 x2 x3 x4 x5 x6 x7 x8 x9 x10 x11 1536 3 inb_S1024x3328_S1024x512_0_1536 (by decide) slices_S512x512_o0_384_S512x128 inb_S1x512x512_S1x512x128_0_0_384 (by decide)
  rcases List.mem_cons.mp hpc with rfl | hpc
  · exact turned512 x0 x1 x2 x3 x4 x5 x6 x7 x8 x9 x10 x11 1536 2 inb_S1024x3328_S1024x512_0_1536 (by decide) slices_S512x512_o0_256_S512x128 inb_S1x512x512_S1x512x128_0_0_256 (by decide)
  rcases List.mem_cons.mp hpc with rfl | hpc
  · exact turned512 x0 x1 x2 x3 x4 x5 x6 x7 x8 x9 x10 x11 1536 1 inb_S1024x3328_S1024x512_0_1536 (by decide) slices_S512x512_o0_128_S512x128 inb_S1x512x512_S1x512x128_0_0_128 (by decide)
  obtain rfl := List.mem_singleton.mp hpc
  exact turned512 x0 x1 x2 x3 x4 x5 x6 x7 x8 x9 x10 x11 1536 0 inb_S1024x3328_S1024x512_0_1536 (by decide) slices_S512x512_o0_0_S512x128 inb_S1x512x512_S1x512x128_0_0_0 (by decide)

theorem out19_apply (y : S1x512x256.Idx) : out0_19 x0 x1 x2 x3 x4 x5 x6 x7 x8 x9 x10 x11 y
    = pairsG (fun r a => turnRow x4 x5 x6 x7 x8 x9 r (normRow x10 a)) (acc x0 x1 x2 x3) 2560 (by decide) (by decide) y := by
  refine View.canon_apply_of_pieces (Val := Elt Ideal) (pairsG (fun r a => turnRow x4 x5 x6 x7 x8 x9 r (normRow x10 a)) (acc x0 x1 x2 x3) 2560 (show 2560 + 256 ≤ 3328 by decide) (by decide))
    _ ?_ y (cover0_19 _ _ y)
  intro pc hpc
  rcases List.mem_cons.mp hpc with rfl | hpc
  · exact normed256 x0 x1 x2 x3 x4 x5 x6 x7 x8 x9 x10 x11 x10 2560 1 inb_S1024x3328_S1024x256_0_2560 (by decide) slices_S512x256_o0_128_S512x128 inb_S1x512x256_S1x512x128_0_0_128 (by decide)
  obtain rfl := List.mem_singleton.mp hpc
  exact normed256 x0 x1 x2 x3 x4 x5 x6 x7 x8 x9 x10 x11 x10 2560 0 inb_S1024x3328_S1024x256_0_2560 (by decide) slices_S512x256_o0_0_S512x128 inb_S1x512x256_S1x512x128_0_0_0 (by decide)

end

end Cert.Kernel5Ideal.Hand

end
-- ==== Proof.InEntry.lean ====
/-
What the input projection's windows hold at one grid point, in terms of the arguments: the host's preparation of the
weights, of the tables of angles and of the modulation vectors, read element by element.
-/
module

public import proofs.«01_k».proof.Proof.InTile
public import proofs.«01_k».proof.Proof.FlatArray

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen Cert.In
open Cert.Kernel3Ideal.Hand (batN sideN batch place side side_ite)

theorem i0 : ∀ t : Fin cfg0.N, win0_0.index t = ![0, t.val, 0] := by decide +kernel
theorem i1 : ∀ t : Fin cfg0.N, win0_1.index t = ![batN (2 * t.val), sideN (2 * t.val), 0, 0] := by decide +kernel
theorem i2 : ∀ t : Fin cfg0.N, win0_2.index t = ![batN (2 * t.val + 1), sideN (2 * t.val + 1), 0, 0] := by decide +kernel
theorem i3 : ∀ t : Fin cfg0.N, win0_3.index t = ![0, 0] := by decide +kernel
theorem i4 : ∀ t : Fin cfg0.N, win0_4.index t = ![2 * t.val % 17, 0] := by decide +kernel
theorem i5 : ∀ t : Fin cfg0.N, win0_5.index t = ![(2 * t.val + 1) % 17, 0] := by decide +kernel
theorem i6 : ∀ t : Fin cfg0.N, win0_6.index t = ![2 * t.val % 17, 0] := by decide +kernel
theorem i7 : ∀ t : Fin cfg0.N, win0_7.index t = ![(2 * t.val + 1) % 17, 0] := by decide +kernel
theorem i8 : ∀ t : Fin cfg0.N, win0_8.index t = ![2 * t.val % 17, 0] := by decide +kernel
theorem i9 : ∀ t : Fin cfg0.N, win0_9.index t = ![(2 * t.val + 1) % 17, 0] := by decide +kernel
theorem i10 : ∀ t : Fin cfg0.N, win0_10.index t = ![0, 0] := by decide +kernel
theorem i11 : ∀ t : Fin cfg0.N, win0_11.index t = ![0, 0] := by decide +kernel

/-- The host's two sets of modulation vectors of a batch: the latents' and the context's. -/
def prepMod (x : FVec Ideal S8x6144 .f32) (y : FVec Ideal S6144 .f32) : FVec Ideal S8x2x6x1024 .f32 :=
  concatenate S8x2x6x1024 1
      [⟨S8x1x6x1024, shapeCast S8x1x6x1024 x shapeCasts_S8x6144_S8x1x6x1024⟩,
        ⟨S8x1x6x1024, broadcastInDim S8x1x6x1024 ![0, 1, 2, 3] bcast_S1x1x6x1024_S8x1x6x1024_0_1_2_3
          (shapeCast S1x1x6x1024 y shapeCasts_S6144_S1x1x6x1024)⟩]
      concatenates_S8x1x6x1024_S8x1x6x1024_S8x2x6x1024_d1

theorem prepMod_apply (x : FVec Ideal S8x6144 .f32) (y : FVec Ideal S6144 .f32) (b : Fin 8) (h : Fin 2) (i : Fin 6) (d : Fin 1024) :
    prepMod x y (ix4 b h i d) = if h = 0 then x (ix2 b ⟨i.val * 1024 + d.val, by omega⟩) else y (ix1 ⟨i.val * 1024 + d.val, by omega⟩) := by
  fin_cases h <;> pointwise [prepMod] <;> rfl

/-- The host's queries' columns, a pair of heads one of each key head. -/
def prepHeads (w : FVec Ideal S1024x3088 .f32) : FVec Ideal S1024x256 .f32 :=
  shapeCast S1024x256 (transpose S1024x2x2x64 [0, 2, 1, 3] (shapeCast S1024x2x2x64
    (extractStridedSlice S1024x256 ![0, 2576] w slices_S1024x3088_S1024x256_0_2576) shapeCasts_S1024x256_S1024x2x2x64)
    transposes_S1024x2x2x64_S1024x2x2x64_0_2_1_3) shapeCasts_S1024x2x2x64_S1024x256

theorem prepHeads_apply (w : FVec Ideal S1024x3088 .f32) (k : Fin 1024) (l : Fin 256) :
    prepHeads w (ix2 k l) = w (ix2 k ⟨2576 + ((l : ℕ) / 64 % 2 * 128 + (l : ℕ) / 128 * 64 + (l : ℕ) % 64), by omega⟩) := by
  pointwise [prepHeads]

/-- The host's padded weights. -/
def prepW (w : FVec Ideal S1024x3088 .f32) : FVec Ideal S1024x3328 .bf16 :=
  truncf .bf16 (concatenate S1024x3328 1
    [⟨S1024x1024, extractStridedSlice S1024x1024 ![0, 0] w slices_S1024x3088_S1024x1024_0_0⟩,
      ⟨S1024x1536, extractStridedSlice S1024x1536 ![0, 1040] w slices_S1024x3088_S1024x1536_0_1040⟩,
      ⟨S1024x256, prepHeads w⟩,
      ⟨S1024x128, extractStridedSlice S1024x128 ![0, 2832] w slices_S1024x3088_S1024x128_0_2832⟩,
      ⟨S1024x64, extractStridedSlice S1024x64 ![0, 0]
        (extractStridedSlice S1024x128 ![0, 2960] w slices_S1024x3088_S1024x128_0_2960) slices_S1024x128_S1024x64_0_0⟩,
      ⟨S1024x128, broadcastInDim S1024x128 ![] bcast_S_S1024x128 (constant S_ .f32 0x00000000#32)⟩,
      ⟨S1024x64, extractStridedSlice S1024x64 ![0, 64]
        (extractStridedSlice S1024x128 ![0, 2960] w slices_S1024x3088_S1024x128_0_2960) slices_S1024x128_S1024x64_0_64⟩,
      ⟨S1024x16, extractStridedSlice S1024x16 ![0, 1024] w slices_S1024x3088_S1024x16_0_1024⟩,
      ⟨S1024x112, broadcastInDim S1024x112 ![] bcast_S_S1024x112 (constant S_ .f32 0x00000000#32)⟩]
    concatenates_S1024x1024_S1024x1536_S1024x256_S1024x128_S1024x64_S1024x128_S1024x64_S1024x16_S1024x112_S1024x3328_d1) bitsLt_bf16_f32

/-- The column of the weights in each column of the padded ones; past the last where there is none. -/
def colN (j : ℕ) : ℕ :=
  if j < 1024 then j else if j < 2560 then j + 16
  else if j < 2816 then 2576 + ((j - 2560) / 64 % 2 * 128 + (j - 2560) / 128 * 64 + (j - 2560) % 64)
  else if j < 3008 then j + 16 else if j < 3136 then 3088 else if j < 3200 then j - 112 else if j < 3216 then j - 2176 else 3088

/-- Column `n`, and zero past the last. -/
def padded (f : Fin 3088 → EReal) (n : ℕ) : EReal := if h : n < 3088 then f ⟨n, h⟩ else 0

theorem padded_of (f : Fin 3088 → EReal) {n : ℕ} (k : Fin 3088) (e : n = k) : padded f n = f k := by
  subst e
  exact dif_pos k.isLt

theorem padded_zero (f : Fin 3088 → EReal) {n : ℕ} (h : ¬ n < 3088) : padded f n = 0 := dif_neg h

theorem prepW_apply (w : FVec Ideal S1024x3088 .f32) (k : Fin 1024) (j : Fin 3328) :
    prepW w (ix2 k j) = padded (fun n => w (ix2 k n)) (colN j) := by
  pointwise [prepW]
  split
  · refine (padded_of (fun n => w (ix2 k n)) _ ?_).symm
    unfold colN
    dsimp only
    split_ifs <;> omega
  split
  · refine (padded_of (fun n => w (ix2 k n)) _ ?_).symm
    unfold colN
    dsimp only
    split_ifs <;> omega
  split
  · refine (prepHeads_apply _ _ _).trans (padded_of (fun n => w (ix2 k n)) _ ?_).symm
    unfold colN
    dsimp only
    split_ifs <;> omega
  split
  · refine (padded_of (fun n => w (ix2 k n)) _ ?_).symm
    unfold colN
    dsimp only
    split_ifs <;> omega
  split
  · refine (padded_of (fun n => w (ix2 k n)) _ ?_).symm
    unfold colN
    dsimp only
    split_ifs <;> omega
  split
  · exact (padded_zero _ (by unfold colN; split_ifs <;> omega)).symm
  split
  · refine (padded_of (fun n => w (ix2 k n)) _ ?_).symm
    unfold colN
    dsimp only
    split_ifs <;> omega
  split
  · refine (padded_of (fun n => w (ix2 k n)) _ ?_).symm
    unfold colN
    dsimp only
    split_ifs <;> omega
  · exact (padded_zero _ (by unfold colN; split_ifs <;> omega)).symm

/-- The cosines over a pair of heads, ones for the context. -/
def prepCos (x : FVec Ideal S4096x64 .f32) : FVec Ideal S4352x128 .f32 :=
  concatenate S4352x128 0
    [⟨S4096x128, concatenate S4096x128 1 [⟨S4096x64, x⟩, ⟨S4096x64, x⟩] concatenates_S4096x64_S4096x64_S4096x128_d1⟩,
      ⟨S256x128, broadcastInDim S256x128 ![] bcast_S_S256x128 (constant S_ .f32 0x3F800000#32)⟩]
    concatenates_S4096x128_S256x128_S4352x128_d0

theorem prepCos_apply (x : FVec Ideal S4096x64 .f32) (s : Fin 4352) (l : Fin 128) :
    prepCos x (ix2 s l) = if h : (s : ℕ) < 4096 then x (ix2 ⟨s, h⟩ ⟨(l : ℕ) % 64, by omega⟩) else 1 := by
  pointwise [prepCos]
  split
  · split
    · exact congrArg x (congrArg (ix2 _) (Fin.ext (show (l : ℕ) = l % 64 by omega)))
    · exact congrArg x (congrArg (ix2 _) (Fin.ext (show (l : ℕ) - 64 = l % 64 by omega)))
  · rfl

/-- The host's remainder by `k` with the divisor's sign. -/
def remOf (i : IVec S128 32) (k : IVec S_ 32) : IVec S128 32 :=
  select (andi
      (cmpi .ne (cmpi .slt (Host.remsi i (broadcastInDim S128 ![] bcast_S_S128 (select (cmpi .eq k (constantI S_ 32 0#32)) (constantI S_ 32 1#32) k)))
          (broadcastInDim S128 ![] bcast_S_S128 (constantI S_ 32 0#32)))
        (broadcastInDim S128 ![] bcast_S_S128
          (cmpi .slt (select (cmpi .eq k (constantI S_ 32 0#32)) (constantI S_ 32 1#32) k) (constantI S_ 32 0#32))))
      (cmpi .ne (Host.remsi i (broadcastInDim S128 ![] bcast_S_S128 (select (cmpi .eq k (constantI S_ 32 0#32)) (constantI S_ 32 1#32) k)))
        (broadcastInDim S128 ![] bcast_S_S128 (constantI S_ 32 0#32))))
    (addi (Host.remsi i (broadcastInDim S128 ![] bcast_S_S128 (select (cmpi .eq k (constantI S_ 32 0#32)) (constantI S_ 32 1#32) k)))
      (broadcastInDim S128 ![] bcast_S_S128 (select (cmpi .eq k (constantI S_ 32 0#32)) (constantI S_ 32 1#32) k)))
    (Host.remsi i (broadcastInDim S128 ![] bcast_S_S128 (select (cmpi .eq k (constantI S_ 32 0#32)) (constantI S_ 32 1#32) k)))

/-- The lanes' places in their quarter of a pair of heads. -/
def prepRem : IVec S128 32 := remOf (iotaInDim S128 32 0) (constantI S_ 32 32#32)

/-- The lanes of the first half of each quarter. -/
def prepLow : IVec S128 1 := cmpi .slt prepRem (broadcastInDim S128 ![] bcast_S_S128 (constantI S_ 32 16#32))
/-- The same lanes in every row. -/
def prepMask : IVec S4096x128 1 := broadcastInDim S4096x128 ![1] bcast_S128_S4096x128_1 prepLow

theorem prepMask_apply (s : Fin 4096) (l : Fin 128) : prepMask (ix2 s l) = if (l : ℕ) % 32 < 16 then 1#1 else 0#1 := by
  pointwise [prepMask, prepLow, prepRem, remOf]
  revert l
  decide +kernel

/-- The sines over a pair of heads. -/
def prepSin (x : FVec Ideal S4096x64 .f32) : FVec Ideal S4096x128 .f32 :=
  concatenate S4096x128 1 [⟨S4096x64, x⟩, ⟨S4096x64, x⟩] concatenates_S4096x64_S4096x64_S4096x128_d1

/-- The sines negated, in the first half of each quarter. -/
def prepSa (x : FVec Ideal S4096x64 .f32) : FVec Ideal S4352x128 .f32 :=
  concatenate S4352x128 0
    [⟨S4096x128, select prepMask (Host.negf (prepSin x)) (broadcastInDim S4096x128 ![] bcast_S_S4096x128 (constant S_ .f32 0x00000000#32))⟩,
      ⟨S256x128, broadcastInDim S256x128 ![] bcast_S_S256x128 (constant S_ .f32 0x00000000#32)⟩]
    concatenates_S4096x128_S256x128_S4352x128_d0

/-- The sines, in the second half of each quarter. -/
def prepSb (x : FVec Ideal S4096x64 .f32) : FVec Ideal S4352x128 .f32 :=
  concatenate S4352x128 0
    [⟨S4096x128, select prepMask (broadcastInDim S4096x128 ![] bcast_S_S4096x128 (constant S_ .f32 0x00000000#32)) (prepSin x)⟩,
      ⟨S256x128, broadcastInDim S256x128 ![] bcast_S_S256x128 (constant S_ .f32 0x00000000#32)⟩]
    concatenates_S4096x128_S256x128_S4352x128_d0

theorem prepSin_apply (x : FVec Ideal S4096x64 .f32) (s : Fin 4096) (l : Fin 128) :
    prepSin x (ix2 s l) = x (ix2 s ⟨(l : ℕ) % 64, by omega⟩) := by
  pointwise [prepSin]
  split
  · exact congrArg x (congrArg (ix2 _) (Fin.ext (show (l : ℕ) = l % 64 by omega)))
  · exact congrArg x (congrArg (ix2 _) (Fin.ext (show (l : ℕ) - 64 = l % 64 by omega)))

theorem prepSa_apply (x : FVec Ideal S4096x64 .f32) (s : Fin 4352) (l : Fin 128) :
    prepSa x (ix2 s l) = if h : (s : ℕ) < 4096 then (if (l : ℕ) % 32 < 16 then -(x (ix2 ⟨s, h⟩ ⟨(l : ℕ) % 64, by omega⟩)) else 0) else 0 := by
  pointwise [prepSa]
  split
  · rw [prepMask_apply, prepSin_apply]
    by_cases h : (l : ℕ) % 32 < 16
    · rw [if_pos h, if_pos h]
      rfl
    · rw [if_neg h, if_neg h]
      rfl
  · rfl

theorem prepSb_apply (x : FVec Ideal S4096x64 .f32) (s : Fin 4352) (l : Fin 128) :
    prepSb x (ix2 s l) = if h : (s : ℕ) < 4096 then (if (l : ℕ) % 32 < 16 then 0 else x (ix2 ⟨s, h⟩ ⟨(l : ℕ) % 64, by omega⟩)) else 0 := by
  pointwise [prepSb]
  split
  · rw [prepMask_apply, prepSin_apply]
    by_cases h : (l : ℕ) % 32 < 16
    · rw [if_pos h, if_pos h]
      rfl
    · rw [if_neg h, if_neg h]
      rfl
  · rfl

/-- The gains over a pair of heads. -/
def prepG (x : FVec Ideal S64 .f32) : FVec Ideal S1x128 .f32 :=
  shapeCast S1x128 (shapeCast S128 (broadcastInDim S2x64 ![0, 1] bcast_S1x64_S2x64_0_1 (shapeCast S1x64 x shapeCasts_S64_S1x64))
    shapeCasts_S2x64_S128) shapeCasts_S128_S1x128

theorem prepG_apply (x : FVec Ideal S64 .f32) (l : Fin 128) : prepG x (ix2 0 l) = x (ix1 ⟨(l : ℕ) % 64, by omega⟩) := by
  pointwise [prepG]

/-- The tokens, one after another. -/
def prepX (x : FVec Ideal S8x4352x1024 .f32) : FVec Ideal S1x34816x1024 .f32 := shapeCast S1x34816x1024 x shapeCasts_S8x4352x1024_S1x34816x1024

theorem prepX_apply (x : FVec Ideal S8x4352x1024 .f32) (g : Fin 34816) (d : Fin 1024) : prepX x (ix3 0 g d) = x (ix3 (batch g) (place g) d) := by
  pointwise [prepX]
  rfl

/-- The contents after each stretch of the host's operations. -/
def st1 (W : Valuation τ sig (Elt Ideal)) : Valuation τ sig (Elt Ideal) := StableHlo.after hostOps0 W
def st2 (W : Valuation τ sig (Elt Ideal)) : Valuation τ sig (Elt Ideal) := StableHlo.after hostOps0_1 W
def st3 (W : Valuation τ sig (Elt Ideal)) : Valuation τ sig (Elt Ideal) := StableHlo.after hostOps0_2 W
def st4 (W : Valuation τ sig (Elt Ideal)) : Valuation τ sig (Elt Ideal) := StableHlo.after hostOps0_3 W
def st5 (W : Valuation τ sig (Elt Ideal)) : Valuation τ sig (Elt Ideal) := StableHlo.after hostOps0_4 W
def st6 (W : Valuation τ sig (Elt Ideal)) : Valuation τ sig (Elt Ideal) := StableHlo.after hostOps0_5 W
def st7 (W : Valuation τ sig (Elt Ideal)) : Valuation τ sig (Elt Ideal) := StableHlo.after hostOps0_6 W

section stages
variable (W : Valuation τ sig (Elt Ideal))

theorem st1_v5 : st1 W (Proc.devRef .tc main_v5) = prepSin (W (Proc.devRef .tc main_arg5)) := rfl
theorem st1_v6 : st1 W (Proc.devRef .tc main_v6) = (iotaInDim S128 32 0 : IVec S128 32) := rfl
theorem st1_c : st1 W (Proc.devRef .tc main_c) = (constantI S_ 32 32#32 : IVec S_ 32) := rfl
theorem st2_v5 : st2 W (Proc.devRef .tc main_v5) = W (Proc.devRef .tc main_v5) := rfl
theorem st2_split : st2 W = StableHlo.after (hostOps0_1.drop 7) (StableHlo.after (hostOps0_1.take 7) W) := by
  rw [← StableHlo.after_append, List.take_append_drop]
  rfl
theorem st2a_v4 : (StableHlo.after (hostOps0_1.take 7) W (Proc.devRef .tc main_call0_v4) : IVec S128 32)
    = Host.remsi (W (Proc.devRef .tc main_v6) : IVec S128 32) (broadcastInDim S128 ![] bcast_S_S128
      (select (cmpi .eq (W (Proc.devRef .tc main_c) : IVec S_ 32) (constantI S_ 32 0#32)) (constantI S_ 32 1#32)
        (W (Proc.devRef .tc main_c) : IVec S_ 32))) := rfl
theorem st2a_v2 : (StableHlo.after (hostOps0_1.take 7) W (Proc.devRef .tc main_call0_v2) : IVec S_ 32)
    = select (cmpi .eq (W (Proc.devRef .tc main_c) : IVec S_ 32) (constantI S_ 32 0#32)) (constantI S_ 32 1#32)
        (W (Proc.devRef .tc main_c) : IVec S_ 32) := rfl
set_option maxHeartbeats 1000000 in
theorem st2b_v7 : (StableHlo.after (hostOps0_1.drop 7) W (Proc.devRef .tc main_v7) : IVec S128 32)
    = select (andi
      (cmpi .ne (cmpi .slt (W (Proc.devRef .tc main_call0_v4) : IVec S128 32) (broadcastInDim S128 ![] bcast_S_S128 (constantI S_ 32 0#32)))
        (broadcastInDim S128 ![] bcast_S_S128 (cmpi .slt (W (Proc.devRef .tc main_call0_v2) : IVec S_ 32) (constantI S_ 32 0#32))))
      (cmpi .ne (W (Proc.devRef .tc main_call0_v4) : IVec S128 32) (broadcastInDim S128 ![] bcast_S_S128 (constantI S_ 32 0#32))))
    (addi (W (Proc.devRef .tc main_call0_v4) : IVec S128 32)
      (broadcastInDim S128 ![] bcast_S_S128 (W (Proc.devRef .tc main_call0_v2) : IVec S_ 32)))
    (W (Proc.devRef .tc main_call0_v4) : IVec S128 32) := rfl
theorem st2_v7 : (st2 W (Proc.devRef .tc main_v7) : IVec S128 32)
    = remOf (W (Proc.devRef .tc main_v6)) (W (Proc.devRef .tc main_c)) := by
  rw [st2_split, st2b_v7, st2a_v4, st2a_v2]
  rfl
theorem st3_v5 : st3 W (Proc.devRef .tc main_v5) = W (Proc.devRef .tc main_v5) := rfl
theorem st3_v9 : (st3 W (Proc.devRef .tc main_v9) : IVec S128 1)
    = cmpi .slt (W (Proc.devRef .tc main_v7) : IVec S128 32) (broadcastInDim S128 ![] bcast_S_S128 (constantI S_ 32 16#32)) := rfl
theorem st3_v10 : (st3 W (Proc.devRef .tc main_v10) : FVec Ideal S4096x128 .f32) = (Host.negf (W (Proc.devRef .tc main_v5) : FVec Ideal S4096x128 .f32) : FVec Ideal S4096x128 .f32) := rfl
theorem st3_cst : (st3 W (Proc.devRef .tc main_cst) : FVec Ideal S_ .f32) = (constant S_ .f32 0x00000000#32 : FVec Ideal S_ .f32) := rfl
theorem st4_v5 : st4 W (Proc.devRef .tc main_v5) = W (Proc.devRef .tc main_v5) := rfl
theorem st4_v9 : st4 W (Proc.devRef .tc main_v9) = W (Proc.devRef .tc main_v9) := rfl
theorem st4_v11 : (st4 W (Proc.devRef .tc main_v11) : FVec Ideal S4096x128 .f32)
    = select (broadcastInDim S4096x128 ![1] bcast_S128_S4096x128_1 (W (Proc.devRef .tc main_v9) : IVec S128 1))
      (W (Proc.devRef .tc main_v10) : FVec Ideal S4096x128 .f32)
      (broadcastInDim S4096x128 ![] bcast_S_S4096x128 (W (Proc.devRef .tc main_cst) : FVec Ideal S_ .f32)) := rfl
theorem st5_v5 : st5 W (Proc.devRef .tc main_v5) = W (Proc.devRef .tc main_v5) := rfl
theorem st5_v9 : st5 W (Proc.devRef .tc main_v9) = W (Proc.devRef .tc main_v9) := rfl
theorem st5_v11 : st5 W (Proc.devRef .tc main_v11) = W (Proc.devRef .tc main_v11) := rfl
theorem st5_cst : (st5 W (Proc.devRef .tc main_cst_1) : FVec Ideal S_ .f32) = (constant S_ .f32 0x00000000#32 : FVec Ideal S_ .f32) := rfl
theorem st6_v11 : st6 W (Proc.devRef .tc main_v11) = W (Proc.devRef .tc main_v11) := rfl
theorem st6_v12 : (st6 W (Proc.devRef .tc main_v12) : FVec Ideal S4096x128 .f32)
    = select (broadcastInDim S4096x128 ![1] bcast_S128_S4096x128_1 (W (Proc.devRef .tc main_v9) : IVec S128 1))
      (broadcastInDim S4096x128 ![] bcast_S_S4096x128 (W (Proc.devRef .tc main_cst_1) : FVec Ideal S_ .f32))
      (W (Proc.devRef .tc main_v5) : FVec Ideal S4096x128 .f32) := rfl
theorem st7_v31 : (st7 W (Proc.devRef .tc main_v31) : FVec Ideal S4352x128 .f32) = (concatenate S4352x128 0
    [⟨S4096x128, (W (Proc.devRef .tc main_v11) : FVec Ideal S4096x128 .f32)⟩,
      ⟨S256x128, broadcastInDim S256x128 ![] bcast_S_S256x128 (constant S_ .f32 0x00000000#32)⟩]
    concatenates_S4096x128_S256x128_S4352x128_d0 : FVec Ideal S4352x128 .f32) := rfl
theorem st7_v33 : (st7 W (Proc.devRef .tc main_v33) : FVec Ideal S4352x128 .f32) = (concatenate S4352x128 0
    [⟨S4096x128, (W (Proc.devRef .tc main_v12) : FVec Ideal S4096x128 .f32)⟩,
      ⟨S256x128, broadcastInDim S256x128 ![] bcast_S_S256x128 (constant S_ .f32 0x00000000#32)⟩]
    concatenates_S4096x128_S256x128_S4352x128_d0 : FVec Ideal S4352x128 .f32) := rfl

theorem stages_v31 : st7 (st6 (st5 (st4 (st3 (st2 (st1 W)))))) (Proc.devRef .tc main_v31) = prepSa (W (Proc.devRef .tc main_arg5)) := by
  rw [st7_v31, st6_v11, st5_v11, st4_v11, st3_v9, st3_v10, st3_cst, st2_v7, st2_v5, st1_v5, st1_v6, st1_c]
  rfl
theorem stages_v33 : st7 (st6 (st5 (st4 (st3 (st2 (st1 W)))))) (Proc.devRef .tc main_v33) = prepSb (W (Proc.devRef .tc main_arg5)) := by
  rw [st7_v33, st6_v12, st5_v9, st5_cst, st5_v5, st4_v9, st4_v5, st3_v9, st3_v5, st2_v7, st2_v5, st1_v5, st1_v6, st1_c]
  rfl
end stages

variable (m : (ℓ : Loc nD τ sig) → Buf (Elt Ideal) ℓ) (c : Dev nD) (t : Fin cfg0.N)

set_option maxHeartbeats 4000000 in
theorem V42 : V m c main_v42 = prepX (m ((c : Thread nD τ).loc main_arg0)) := rfl
set_option maxHeartbeats 4000000 in
theorem V3 : V m c main_v3 = prepMod (m ((c : Thread nD τ).loc main_arg1)) (m ((c : Thread nD τ).loc main_arg2)) := rfl
set_option maxHeartbeats 4000000 in
theorem V27 : V m c main_v27 = prepW (m ((c : Thread nD τ).loc main_arg3)) := rfl
set_option maxHeartbeats 4000000 in
theorem V29 : V m c main_v29 = prepCos (m ((c : Thread nD τ).loc main_arg4)) := rfl
set_option maxHeartbeats 4000000 in
theorem V31 : V m c main_v31 = prepSa (m ((c : Thread nD τ).loc main_arg5)) :=
  stages_v31 (fun b => m (c, b))
set_option maxHeartbeats 4000000 in
theorem V33 : V m c main_v33 = prepSb (m ((c : Thread nD τ).loc main_arg5)) :=
  stages_v33 (fun b => m (c, b))
set_option maxHeartbeats 4000000 in
theorem V37 : V m c main_v37 = prepG (m ((c : Thread nD τ).loc main_arg6)) := rfl
set_option maxHeartbeats 4000000 in
theorem V41 : V m c main_v41 = prepG (m ((c : Thread nD τ).loc main_arg7)) := rfl

end Cert.Kernel5Ideal.Hand

end
-- ==== Proof.InSpec.lean ====
/-
The input projection of one token: its columns, and each result as a function of them.
-/
module

public import proofs.«01_k».proof.Proof.InRow

@[expose] public section

noncomputable section

namespace Cert.In

open Idealize.ShloMosaic

/-- A token's modulation: its batch's for a latent, the context's for the others. -/
def modAt (M : Fin 8 → Fin 6144 → EReal) (C : Fin 6144 → EReal) (b : Fin 8) (s : Fin 4352) (j : Fin 6144) : EReal :=
  if (s : ℕ) < 4096 then M b j else C j

/-- A token's columns of the projection. -/
def column (X : Fin 8 → Fin 4352 → Fin 1024 → EReal) (M : Fin 8 → Fin 6144 → EReal) (C : Fin 6144 → EReal)
    (W : Fin 1024 → Fin 3088 → EReal) (b : Fin 8) (s : Fin 4352) : Fin 3088 → EReal :=
  project (X b s) (fun k => modAt M C b s ⟨k, by omega⟩) (fun k => modAt M C b s ⟨1024 + k, by omega⟩) W

/-- A head, turned if its token is a latent. -/
def turnAt (co si : Fin 4096 → Fin 64 → EReal) (s : Fin 4352) (x : Fin 64 → EReal) (d : Fin 64) : EReal :=
  if h : (s : ℕ) < 4096 then rotated (co ⟨s, h⟩) (si ⟨s, h⟩) x d else x d

/-- The columns from `o` on. -/
def plainOf {n : ℕ} (o : ℕ) (ho : o + n ≤ 3088) (P : Fin 3088 → EReal) (l : Fin n) : EReal := P ⟨o + l, by omega⟩

/-- The gates' columns, padded with zeros. -/
def gateOf (P : Fin 3088 → EReal) (l : Fin 128) : EReal := if h : (l : ℕ) < 16 then P ⟨1024 + l, by omega⟩ else 0

/-- The heads from column `o` on, turned. -/
def turnedOf (co si : Fin 4096 → Fin 64 → EReal) (s : Fin 4352) (o : ℕ) (ho : o + 512 ≤ 3088) (P : Fin 3088 → EReal) (l : Fin 512) : EReal :=
  turnAt co si s (fun d => P ⟨o + ((l : ℕ) / 64 * 64 + d), by omega⟩) ⟨(l : ℕ) % 64, by omega⟩

/-- The grouped queries: normed, turned, a pair of heads one of each key head. -/
def queriesOf (co si : Fin 4096 → Fin 64 → EReal) (g : Fin 64 → EReal) (s : Fin 4352) (P : Fin 3088 → EReal) (l : Fin 256) : EReal :=
  turnAt co si s (normed g fun d => P ⟨2576 + ((l : ℕ) / 64 % 2 * 128 + (l : ℕ) / 128 * 64 + d), by omega⟩) ⟨(l : ℕ) % 64, by omega⟩

/-- The grouped keys: normed and turned. -/
def keysOf (co si : Fin 4096 → Fin 64 → EReal) (g : Fin 64 → EReal) (s : Fin 4352) (P : Fin 3088 → EReal) (l : Fin 128) : EReal :=
  turnAt co si s (normed g fun d => P ⟨2832 + ((l : ℕ) / 64 * 64 + d), by omega⟩) ⟨(l : ℕ) % 64, by omega⟩

/-- The grouped values, each head's beside a column of ones. -/
def valuesOf (P : Fin 3088 → EReal) (l : Fin 256) : EReal :=
  if h : (l : ℕ) < 64 then P ⟨2960 + l, by omega⟩ else if (l : ℕ) < 65 then 1 else if (l : ℕ) < 128 then 0
  else if (l : ℕ) < 129 then 1 else if (l : ℕ) < 192 then 0 else P ⟨3024 + ((l : ℕ) - 192), by omega⟩

/-- A column is real where what it is taken of is. -/
theorem column_real (X : Fin 8 → Fin 4352 → Fin 1024 → EReal) (M : Fin 8 → Fin 6144 → EReal) (C : Fin 6144 → EReal)
    (W : Fin 1024 → Fin 3088 → EReal) (b : Fin 8) (s : Fin 4352) (n : Fin 3088)
    (hX : ∀ k, ∃ x : ℝ, X b s k = x) (hM : ∀ j : Fin 6144, (j : ℕ) < 2048 → ∃ x : ℝ, M b j = x)
    (hC : ∀ j : Fin 6144, (j : ℕ) < 2048 → ∃ x : ℝ, C j = x) (hW : ∀ k, ∃ x : ℝ, W k n = x) : ∃ x : ℝ, column X M C W b s n = x := by
  have hm : ∀ j : Fin 6144, (j : ℕ) < 2048 → ∃ x : ℝ, modAt M C b s j = x := fun j h => by
    unfold modAt
    split
    · exact hM j h
    · exact hC j h
  choose x hx using hX
  choose sh hsh using fun k : Fin 1024 => hm ⟨k, by omega⟩ (show (k : ℕ) < 2048 by omega)
  choose sc hsc using fun k : Fin 1024 => hm ⟨1024 + k, by omega⟩ (show 1024 + (k : ℕ) < 2048 by omega)
  choose v hv using hW
  have e := project_real x sh sc W n v hv
  rw [← funext hx, ← funext hsh, ← funext hsc] at e
  exact ⟨_, e⟩

end Cert.In

end
-- ==== Proof.InBlock.lean ====
/-
What a row of the input projection's tile holds: its token's columns, and its heads turned and normed.
-/
module

public import proofs.«01_k».proof.Proof.InEntry
public import proofs.«01_k».proof.Proof.InSpec

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen Cert.In
open Cert.Kernel3Ideal.Hand (batN sideN batch place side side_ite)

variable (m : (ℓ : Loc nD τ sig) → Buf (Elt Ideal) ℓ) (c : Dev nD) (t : Fin cfg0.N)

/-- Row `r` of grid point `t`'s tile among all the tokens. -/
def row (r : Fin 512) : Fin 34816 := ⟨512 * t.val + r.val, by have := t.isLt; change t.val < 68 at this; omega⟩

/-- The arguments, entry by entry. -/
def argX (b : Fin 8) (s : Fin 4352) (k : Fin 1024) : EReal := m ((c : Thread nD τ).loc main_arg0) (ix3 b s k)
def argM (b : Fin 8) (j : Fin 6144) : EReal := m ((c : Thread nD τ).loc main_arg1) (ix2 b j)
def argC (j : Fin 6144) : EReal := m ((c : Thread nD τ).loc main_arg2) (ix1 j)
def argW (k : Fin 1024) (n : Fin 3088) : EReal := m ((c : Thread nD τ).loc main_arg3) (ix2 k n)
def argCos (p : Fin 4096) (d : Fin 64) : EReal := m ((c : Thread nD τ).loc main_arg4) (ix2 p d)
def argSin (p : Fin 4096) (d : Fin 64) : EReal := m ((c : Thread nD τ).loc main_arg5) (ix2 p d)
def argQ (d : Fin 64) : EReal := m ((c : Thread nD τ).loc main_arg6) (ix1 d)
def argK (d : Fin 64) : EReal := m ((c : Thread nD τ).loc main_arg7) (ix1 d)

/-- The modulation of token `g`: its batch's for a latent, the context's for the others. -/
def mdAt (g : Fin 34816) (j : Fin 6144) : EReal :=
  modAt (argM m c) (argC m c) (batch g) (place g) j

theorem blk0 (r : Fin 512) (d : Fin 1024) :
    iblk m c 0 t (ix3 0 r d) = m ((c : Thread nD τ).loc main_arg0) (ix3 (batch (row t r)) (place (row t r)) d) := by
  blk_simp [iblk]
  rw [V42]
  refine (congrArg (prepX (m ((c : Thread nD τ).loc main_arg0))) (?_ : _ = ix3 0 (row t r) d)).trans (prepX_apply _ _ _)
  blk_ext [i0, row]

theorem blk1 (r : Fin 512) (hr : (r : ℕ) < 256) (i : Fin 6) (d : Fin 1024) :
    iblk m c 1 t (ix4 0 0 i d) = mdAt m c (row t r) ⟨i.val * 1024 + d.val, by omega⟩ := by
  blk_simp [iblk]
  rw [V3]
  refine (congrArg (prepMod (m ((c : Thread nD τ).loc main_arg1)) (m ((c : Thread nD τ).loc main_arg2)))
    (?_ : _ = ix4 (batch (row t r)) (side (row t r)) i d)).trans ((prepMod_apply _ _ _ _ _ _).trans ?_)
  · have := t.isLt
    change t.val < 68 at this
    blk_ext [i1]
    · show batN (2 * t.val) + 0 = (512 * t.val + r.val) / 4352
      unfold batN
      omega
    · show sideN (2 * t.val) + 0 = if (512 * t.val + r.val) % 4352 < 4096 then 0 else 1
      unfold sideN
      split <;> omega
  · exact side_ite _ _ _

theorem blk2 (r : Fin 512) (hr : ¬ (r : ℕ) < 256) (i : Fin 6) (d : Fin 1024) :
    iblk m c 2 t (ix4 0 0 i d) = mdAt m c (row t r) ⟨i.val * 1024 + d.val, by omega⟩ := by
  blk_simp [iblk]
  rw [V3]
  refine (congrArg (prepMod (m ((c : Thread nD τ).loc main_arg1)) (m ((c : Thread nD τ).loc main_arg2)))
    (?_ : _ = ix4 (batch (row t r)) (side (row t r)) i d)).trans ((prepMod_apply _ _ _ _ _ _).trans ?_)
  · have := t.isLt
    change t.val < 68 at this
    blk_ext [i2]
    · show batN (2 * t.val + 1) + 0 = (512 * t.val + r.val) / 4352
      unfold batN
      omega
    · show sideN (2 * t.val + 1) + 0 = if (512 * t.val + r.val) % 4352 < 4096 then 0 else 1
      unfold sideN
      split <;> omega
  · exact side_ite _ _ _

theorem blk3 (k : Fin 1024) (j : Fin 3328) :
    iblk m c 3 t (ix2 k j) = padded (fun n => argW m c k n) (colN j) := by
  blk_simp [iblk]
  rw [V27]
  refine (congrArg (prepW (m ((c : Thread nD τ).loc main_arg3))) (?_ : _ = ix2 k j)).trans (prepW_apply _ _ _)
  blk_ext [i3]

theorem blk10 (l : Fin 128) : iblk m c 10 t (ix2 0 l) = m ((c : Thread nD τ).loc main_arg6) (ix1 ⟨(l : ℕ) % 64, by omega⟩) := by
  blk_simp [iblk]
  rw [V37]
  refine (congrArg (prepG (m ((c : Thread nD τ).loc main_arg6))) (?_ : _ = ix2 0 l)).trans (prepG_apply _ _)
  blk_ext [i10]

theorem blk11 (l : Fin 128) : iblk m c 11 t (ix2 0 l) = m ((c : Thread nD τ).loc main_arg7) (ix1 ⟨(l : ℕ) % 64, by omega⟩) := by
  blk_simp [iblk]
  rw [V41]
  refine (congrArg (prepG (m ((c : Thread nD τ).loc main_arg7))) (?_ : _ = ix2 0 l)).trans (prepG_apply _ _)
  blk_ext [i11]

theorem tab45 (r : Fin 512) (l : Fin 128) :
    tab (iblk m c 4 t) (iblk m c 5 t) r l = prepCos (m ((c : Thread nD τ).loc main_arg4)) (ix2 (place (row t r)) l) := by
  have := t.isLt
  change t.val < 68 at this
  unfold tab
  split
  · blk_simp [iblk]
    rw [V29]
    refine congrArg (prepCos (m ((c : Thread nD τ).loc main_arg4))) (?_ : _ = ix2 (place (row t r)) l)
    blk_ext [i4]
    show 2 * t.val % 17 * 256 + r.val = (512 * t.val + r.val) % 4352
    omega
  · blk_simp [iblk]
    rw [V29]
    refine congrArg (prepCos (m ((c : Thread nD τ).loc main_arg4))) (?_ : _ = ix2 (place (row t r)) l)
    blk_ext [i5]
    show (2 * t.val + 1) % 17 * 256 + (r.val - 256) = (512 * t.val + r.val) % 4352
    omega

theorem tab67 (r : Fin 512) (l : Fin 128) :
    tab (iblk m c 6 t) (iblk m c 7 t) r l = prepSa (m ((c : Thread nD τ).loc main_arg5)) (ix2 (place (row t r)) l) := by
  have := t.isLt
  change t.val < 68 at this
  unfold tab
  split
  · blk_simp [iblk]
    rw [V31]
    refine congrArg (prepSa (m ((c : Thread nD τ).loc main_arg5))) (?_ : _ = ix2 (place (row t r)) l)
    blk_ext [i6]
    show 2 * t.val % 17 * 256 + r.val = (512 * t.val + r.val) % 4352
    omega
  · blk_simp [iblk]
    rw [V31]
    refine congrArg (prepSa (m ((c : Thread nD τ).loc main_arg5))) (?_ : _ = ix2 (place (row t r)) l)
    blk_ext [i7]
    show (2 * t.val + 1) % 17 * 256 + (r.val - 256) = (512 * t.val + r.val) % 4352
    omega

theorem tab89 (r : Fin 512) (l : Fin 128) :
    tab (iblk m c 8 t) (iblk m c 9 t) r l = prepSb (m ((c : Thread nD τ).loc main_arg5)) (ix2 (place (row t r)) l) := by
  have := t.isLt
  change t.val < 68 at this
  unfold tab
  split
  · blk_simp [iblk]
    rw [V33]
    refine congrArg (prepSb (m ((c : Thread nD τ).loc main_arg5))) (?_ : _ = ix2 (place (row t r)) l)
    blk_ext [i8]
    show 2 * t.val % 17 * 256 + r.val = (512 * t.val + r.val) % 4352
    omega
  · blk_simp [iblk]
    rw [V33]
    refine congrArg (prepSb (m ((c : Thread nD τ).loc main_arg5))) (?_ : _ = ix2 (place (row t r)) l)
    blk_ext [i9]
    show (2 * t.val + 1) % 17 * 256 + (r.val - 256) = (512 * t.val + r.val) % 4352
    omega

/-- Token `g`'s columns of the projection. -/
def pcol (g : Fin 34816) (n : Fin 3088) : EReal :=
  column (argX m c) (argM m c) (argC m c) (argW m c) (batch g) (place g) n

theorem acc_eq (r : Fin 512) (j : Fin 3328) :
    acc (iblk m c 0 t) (iblk m c 1 t) (iblk m c 2 t) (iblk m c 3 t) r j = padded (pcol m c (row t r)) (colN j) := by
  have e1 : ∀ k : Fin 1024, (if (r : ℕ) < 256 then iblk m c 1 t (ix4 0 0 0 k) else iblk m c 2 t (ix4 0 0 0 k))
      = mdAt m c (row t r) ⟨k, by omega⟩ := fun k => by
    split
    · exact (blk1 m c t r ‹_› 0 k).trans (congrArg (mdAt m c (row t r)) (Fin.ext (show 0 * 1024 + (k : ℕ) = k by omega)))
    · exact (blk2 m c t r ‹_› 0 k).trans (congrArg (mdAt m c (row t r)) (Fin.ext (show 0 * 1024 + (k : ℕ) = k by omega)))
  have e2 : ∀ k : Fin 1024, (if (r : ℕ) < 256 then iblk m c 1 t (ix4 0 0 1 k) else iblk m c 2 t (ix4 0 0 1 k))
      = mdAt m c (row t r) ⟨1024 + k, by omega⟩ := fun k => by
    split
    · exact (blk1 m c t r ‹_› 1 k).trans (congrArg (mdAt m c (row t r)) (Fin.ext (show 1 * 1024 + (k : ℕ) = 1024 + k by omega)))
    · exact (blk2 m c t r ‹_› 1 k).trans (congrArg (mdAt m c (row t r)) (Fin.ext (show 1 * 1024 + (k : ℕ) = 1024 + k by omega)))
  have e : acc (iblk m c 0 t) (iblk m c 1 t) (iblk m c 2 t) (iblk m c 3 t) r j
      = ∑ k : Fin 1024, (argX m c (batch (row t r)) (place (row t r)) k
          * (1 + mdAt m c (row t r) ⟨1024 + k, by omega⟩) + mdAt m c (row t r) ⟨k, by omega⟩)
        * padded (fun n => argW m c k n) (colN j) := by
    unfold acc project
    refine Finset.sum_congr rfl fun k _ => ?_
    rw [show argX m c _ _ k = iblk m c 0 t (ix3 0 r k) from (blk0 m c t r k).symm, ← e1 k, ← e2 k, ← blk3 m c t k j]
  rw [e]
  by_cases h : colN j < 3088
  · rw [padded_of (pcol m c (row t r)) ⟨colN j, h⟩ rfl]
    exact Finset.sum_congr rfl fun k _ => congrArg _ (padded_of _ ⟨colN j, h⟩ rfl)
  · rw [padded_zero _ h]
    exact Finset.sum_eq_zero fun k _ => by rw [padded_zero _ h, mul_zero]

/-- A head of token `g`, turned if it is a latent. -/
def turnG (g : Fin 34816) (x : Fin 64 → EReal) (d : Fin 64) : EReal :=
  turnAt (argCos m c) (argSin m c) (place g) x d

theorem turn_heads (r : Fin 512) (a : Fin 128 → EReal) (h : Fin 2) (d : Fin 64) :
    turnRow (iblk m c 4 t) (iblk m c 5 t) (iblk m c 6 t) (iblk m c 7 t) (iblk m c 8 t) (iblk m c 9 t) r a ⟨h * 64 + d, by omega⟩
      = turnG m c (row t r) (headOf a h) d := by
  unfold turnRow turnG turnAt
  have e1 : ((h : ℕ) * 64 + d) % 64 = d := by omega
  have e2 : ((h : ℕ) * 64 + d) % 32 = (d : ℕ) % 32 := by omega
  split
  · rename_i hp
    refine lanesTurned_latent _ _ _ _ _ _ h d ?_ ?_ ?_
    · rw [tab45, prepCos_apply, dif_pos hp]
      exact congrArg (argCos m c ⟨place (row t r), hp⟩) (Fin.ext e1)
    · rw [tab67, prepSa_apply, dif_pos hp]
      exact if_congr (by rw [← e2]) (congrArg (fun z => -(argSin m c ⟨place (row t r), hp⟩ z)) (Fin.ext e1)) rfl
    · rw [tab89, prepSb_apply, dif_pos hp]
      exact if_congr (by rw [← e2]) rfl (congrArg (argSin m c ⟨place (row t r), hp⟩) (Fin.ext e1))
  · rename_i hp
    refine lanesTurned_context _ _ _ _ _ ?_ ?_ ?_
    · rw [tab45, prepCos_apply, dif_neg hp]
    · rw [tab67, prepSa_apply, dif_neg hp]
    · rw [tab89, prepSb_apply, dif_neg hp]

end Cert.Kernel5Ideal.Hand

end
-- ==== Proof.InArray.lean ====
/-
The input projection's ten result arrays: every token's columns, turned and normed.
-/
module

public import proofs.«01_k».proof.Proof.InBlock

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen Cert.In
open Cert.Kernel3Ideal.Hand (batch place)

theorem i12 : ∀ t : Fin cfg0.N, win0_12.index t = ![0, t.val, 0] := by decide +kernel
theorem i13 : ∀ t : Fin cfg0.N, win0_13.index t = ![0, t.val, 0] := by decide +kernel
theorem i14 : ∀ t : Fin cfg0.N, win0_14.index t = ![0, t.val, 0] := by decide +kernel
theorem i15 : ∀ t : Fin cfg0.N, win0_15.index t = ![0, t.val, 0] := by decide +kernel
theorem i16 : ∀ t : Fin cfg0.N, win0_16.index t = ![0, t.val, 0] := by decide +kernel
theorem i17 : ∀ t : Fin cfg0.N, win0_17.index t = ![0, t.val, 0] := by decide +kernel
theorem i18 : ∀ t : Fin cfg0.N, win0_18.index t = ![0, t.val, 0] := by decide +kernel
theorem i19 : ∀ t : Fin cfg0.N, win0_19.index t = ![0, t.val, 0] := by decide +kernel
theorem i20 : ∀ t : Fin cfg0.N, win0_20.index t = ![0, t.val, 0] := by decide +kernel
theorem i21 : ∀ t : Fin cfg0.N, win0_21.index t = ![0, t.val, 0] := by decide +kernel

variable (m : (ℓ : Loc nD τ sig) → Buf (Elt Ideal) ℓ) (c : Dev nD) (t : Fin cfg0.N)

theorem emb12 (r : Fin 512) (d : Fin 512) : (win0_12.blk t).view.emb (ix3 0 r d) = ix3 0 (row t r) d := by blk_ext [i12, row]
theorem emb13 (r : Fin 512) (d : Fin 256) : (win0_13.blk t).view.emb (ix3 0 r d) = ix3 0 (row t r) d := by blk_ext [i13, row]
theorem emb14 (r : Fin 512) (d : Fin 256) : (win0_14.blk t).view.emb (ix3 0 r d) = ix3 0 (row t r) d := by blk_ext [i14, row]
theorem emb15 (r : Fin 512) (d : Fin 128) : (win0_15.blk t).view.emb (ix3 0 r d) = ix3 0 (row t r) d := by blk_ext [i15, row]
theorem emb16 (r : Fin 512) (d : Fin 512) : (win0_16.blk t).view.emb (ix3 0 r d) = ix3 0 (row t r) d := by blk_ext [i16, row]
theorem emb17 (r : Fin 512) (d : Fin 512) : (win0_17.blk t).view.emb (ix3 0 r d) = ix3 0 (row t r) d := by blk_ext [i17, row]
theorem emb18 (r : Fin 512) (d : Fin 512) : (win0_18.blk t).view.emb (ix3 0 r d) = ix3 0 (row t r) d := by blk_ext [i18, row]
theorem emb19 (r : Fin 512) (d : Fin 256) : (win0_19.blk t).view.emb (ix3 0 r d) = ix3 0 (row t r) d := by blk_ext [i19, row]
theorem emb20 (r : Fin 512) (d : Fin 128) : (win0_20.blk t).view.emb (ix3 0 r d) = ix3 0 (row t r) d := by blk_ext [i20, row]
theorem emb21 (r : Fin 512) (d : Fin 256) : (win0_21.blk t).view.emb (ix3 0 r d) = ix3 0 (row t r) d := by blk_ext [i21, row]

/-- A head of a pair among the columns. -/
theorem heads_eq (r : Fin 512) (p : ℕ) (hp : p + 128 ≤ 3328) (h : Fin 2) (q : ℕ) (hq : q + 64 ≤ 3088)
    (hc : ∀ d : ℕ, d < 64 → colN (p + ((h : ℕ) * 64 + d)) = q + d) :
    headOf (colsAt (acc (iblk m c 0 t) (iblk m c 1 t) (iblk m c 2 t) (iblk m c 3 t) r) p hp) h
      = fun d : Fin 64 => pcol m c (row t r) ⟨q + (d : ℕ), by omega⟩ :=
  funext fun d => (acc_eq m c t r _).trans (padded_of _ ⟨q + d, by omega⟩ (hc d d.isLt))

/-- A lane of a pair of heads, by its head. -/
theorem lane_split (f : Fin 128 → EReal) (l : ℕ) :
    f ⟨l % 128, by omega⟩ = f ⟨((⟨l % 128 / 64, by omega⟩ : Fin 2) : ℕ) * 64 + ((⟨l % 64, by omega⟩ : Fin 64) : ℕ), by dsimp only; omega⟩ :=
  congrArg f (Fin.ext (show l % 128 = l % 128 / 64 * 64 + l % 64 by omega))

/-- A turned lane of a pair of heads. -/
theorem turned_lane (r : Fin 512) (p : ℕ) (hp : p + 128 ≤ 3328) (l q : ℕ) (hq : q + 64 ≤ 3088)
    (hc : ∀ d : ℕ, d < 64 → colN (p + (l % 128 / 64 * 64 + d)) = q + d) :
    turnRow (iblk m c 4 t) (iblk m c 5 t) (iblk m c 6 t) (iblk m c 7 t) (iblk m c 8 t) (iblk m c 9 t) r
        (colsAt (acc (iblk m c 0 t) (iblk m c 1 t) (iblk m c 2 t) (iblk m c 3 t) r) p hp) ⟨l % 128, by omega⟩
      = turnG m c (row t r) (fun d : Fin 64 => pcol m c (row t r) ⟨q + (d : ℕ), by omega⟩) ⟨l % 64, by omega⟩ := by
  refine (lane_split _ l).trans ((turn_heads m c t r _ ⟨l % 128 / 64, by omega⟩ ⟨l % 64, by omega⟩).trans ?_)
  exact congrArg (fun z => turnG m c (row t r) z _) (heads_eq m c t r p hp ⟨l % 128 / 64, by omega⟩ q hq hc)

/-- A normed and turned lane of a pair of heads. -/
theorem normed_lane (G : Vec Ideal S1x128 .f32) (g : Fin 64 → EReal) (hG : ∀ l : Fin 128, G (ix2 0 l) = g ⟨(l : ℕ) % 64, by omega⟩)
    (r : Fin 512) (p : ℕ) (hp : p + 128 ≤ 3328) (l q : ℕ) (hq : q + 64 ≤ 3088)
    (hc : ∀ d : ℕ, d < 64 → colN (p + (l % 128 / 64 * 64 + d)) = q + d)
    (hr : ∀ k : Fin 128, ∃ x : ℝ, colsAt (acc (iblk m c 0 t) (iblk m c 1 t) (iblk m c 2 t) (iblk m c 3 t) r) p hp k = x) :
    turnRow (iblk m c 4 t) (iblk m c 5 t) (iblk m c 6 t) (iblk m c 7 t) (iblk m c 8 t) (iblk m c 9 t) r
        (normRow G (colsAt (acc (iblk m c 0 t) (iblk m c 1 t) (iblk m c 2 t) (iblk m c 3 t) r) p hp)) ⟨l % 128, by omega⟩
      = turnG m c (row t r) (normed g fun d : Fin 64 => pcol m c (row t r) ⟨q + (d : ℕ), by omega⟩) ⟨l % 64, by omega⟩ := by
  refine (lane_split _ l).trans ((turn_heads m c t r _ ⟨l % 128 / 64, by omega⟩ ⟨l % 64, by omega⟩).trans ?_)
  refine congrArg (fun z => turnG m c (row t r) z _) (funext fun d => ?_)
  choose x hx using hr
  unfold normRow
  rw [headOf]
  refine (lanesNormed_real _ (fun k l => avg_apply k l) _ _ x hx g ⟨l % 128 / 64, by omega⟩ d ?_).trans ?_
  · exact (hG _).trans (congrArg g (Fin.ext (show (l % 128 / 64 * 64 + (d : ℕ)) % 64 = d by omega)))
  · exact congrArg (fun z => normed g z d) (heads_eq m c t r p hp ⟨l % 128 / 64, by omega⟩ q hq hc)

/-- The grouped heads' columns are real. -/
def RealHeads : Prop := ∀ (g : Fin 34816) (n : Fin 3088), 2576 ≤ (n : ℕ) → (n : ℕ) < 2960 → ∃ x : ℝ, pcol m c g n = x

theorem real_lanes (hP : RealHeads m c) (r : Fin 512) (p : ℕ) (hp : p + 128 ≤ 3328) (h1 : 2560 ≤ p) (h2 : p + 128 ≤ 2944) (k : Fin 128) :
    ∃ x : ℝ, colsAt (acc (iblk m c 0 t) (iblk m c 1 t) (iblk m c 2 t) (iblk m c 3 t) r) p hp k = x := by
  have e : 2576 ≤ colN (p + k) ∧ colN (p + k) < 2960 := by
    unfold colN
    split_ifs <;> omega
  obtain ⟨x, hx⟩ := hP (row t r) ⟨colN (p + k), by omega⟩ e.1 e.2
  exact ⟨x, (acc_eq m c t r _).trans ((padded_of _ ⟨colN (p + k), by omega⟩ rfl).trans hx)⟩

def G12 (y : S1x34816x512.Idx) : EReal := plainOf 0 (by decide) (pcol m c (y 1)) (y 2)
def G13 (y : S1x34816x256.Idx) : EReal := plainOf 512 (by decide) (pcol m c (y 1)) (y 2)
def G14 (y : S1x34816x256.Idx) : EReal := plainOf 768 (by decide) (pcol m c (y 1)) (y 2)
def G15 (y : S1x34816x128.Idx) : EReal := gateOf (pcol m c (y 1)) (y 2)
def G16 (y : S1x34816x512.Idx) : EReal := turnedOf (argCos m c) (argSin m c) (place (y 1)) 1040 (by decide) (pcol m c (y 1)) (y 2)
def G17 (y : S1x34816x512.Idx) : EReal := turnedOf (argCos m c) (argSin m c) (place (y 1)) 1552 (by decide) (pcol m c (y 1)) (y 2)
def G18 (y : S1x34816x512.Idx) : EReal := plainOf 2064 (by decide) (pcol m c (y 1)) (y 2)
def G19 (y : S1x34816x256.Idx) : EReal := queriesOf (argCos m c) (argSin m c) (argQ m c) (place (y 1)) (pcol m c (y 1)) (y 2)
def G20 (y : S1x34816x128.Idx) : EReal := keysOf (argCos m c) (argSin m c) (argK m c) (place (y 1)) (pcol m c (y 1)) (y 2)
def G21 (y : S1x34816x256.Idx) : EReal := valuesOf (pcol m c (y 1)) (y 2)

/-- A column of a plain result. -/
theorem plain_lane {n : ℕ} (r : Fin 512) (l : Fin n) (o q : ℕ) (ho : o + n ≤ 3328) (hq : q + n ≤ 3088) (hc : colN (o + l) = q + l) :
    acc (iblk m c 0 t) (iblk m c 1 t) (iblk m c 2 t) (iblk m c 3 t) r ⟨o + l, by omega⟩ = plainOf q hq (pcol m c (row t r)) l :=
  (acc_eq m c t r _).trans (padded_of _ ⟨q + l, by omega⟩ hc)

theorem array12 : (dats m 0 c).arrAt 12 cfg0.N = G12 m c := by
  refine (dats m 0 c).arrAt_eq_of_covers 12 _ (by decide +kernel) fun t hf y => ?_
  blk_simp
  rw [after0_12]
  change S1x512x512.Idx at y
  obtain ⟨r, l, rfl⟩ : ∃ (r : Fin 512) (l : Fin 512), y = ix3 0 r l := ⟨y 1, y 2, by idx_ext⟩
  refine Eq.trans ((out12_apply _ _ _ _ _ _ _ _ _ _ _ _ r l).trans ?_) (congrArg (G12 m c) (emb12 t r l)).symm
  exact plain_lane m c t r l 0 0 (by decide) (by decide) (by unfold colN; split_ifs <;> omega)
theorem array13 : (dats m 0 c).arrAt 13 cfg0.N = G13 m c := by
  refine (dats m 0 c).arrAt_eq_of_covers 13 _ (by decide +kernel) fun t hf y => ?_
  blk_simp
  rw [after0_13]
  change S1x512x256.Idx at y
  obtain ⟨r, l, rfl⟩ : ∃ (r : Fin 512) (l : Fin 256), y = ix3 0 r l := ⟨y 1, y 2, by idx_ext⟩
  refine Eq.trans ((out13_apply _ _ _ _ _ _ _ _ _ _ _ _ r l).trans ?_) (congrArg (G13 m c) (emb13 t r l)).symm
  exact plain_lane m c t r l 512 512 (by decide) (by decide) (by unfold colN; split_ifs <;> omega)
theorem array14 : (dats m 0 c).arrAt 14 cfg0.N = G14 m c := by
  refine (dats m 0 c).arrAt_eq_of_covers 14 _ (by decide +kernel) fun t hf y => ?_
  blk_simp
  rw [after0_14]
  change S1x512x256.Idx at y
  obtain ⟨r, l, rfl⟩ : ∃ (r : Fin 512) (l : Fin 256), y = ix3 0 r l := ⟨y 1, y 2, by idx_ext⟩
  refine Eq.trans ((out14_apply _ _ _ _ _ _ _ _ _ _ _ _ r l).trans ?_) (congrArg (G14 m c) (emb14 t r l)).symm
  exact plain_lane m c t r l 768 768 (by decide) (by decide) (by unfold colN; split_ifs <;> omega)
theorem array15 : (dats m 0 c).arrAt 15 cfg0.N = G15 m c := by
  refine (dats m 0 c).arrAt_eq_of_covers 15 _ (by decide +kernel) fun t hf y => ?_
  blk_simp
  rw [after0_15]
  change S1x512x128.Idx at y
  obtain ⟨r, l, rfl⟩ : ∃ (r : Fin 512) (l : Fin 128), y = ix3 0 r l := ⟨y 1, y 2, by idx_ext⟩
  refine Eq.trans ((out15_apply _ _ _ _ _ _ _ _ _ _ _ _ r l).trans ?_) (congrArg (G15 m c) (emb15 t r l)).symm
  refine Eq.trans ?_ (show gateOf (pcol m c (row t r)) l = _ from rfl)
  unfold gateOf
  split
  · exact (acc_eq m c t r _).trans (padded_of _ ⟨1024 + l, by omega⟩ (by unfold colN; dsimp only; split_ifs <;> omega))
  · exact (acc_eq m c t r _).trans (padded_zero _ (by unfold colN; dsimp only; split_ifs <;> omega))
theorem array16 : (dats m 0 c).arrAt 16 cfg0.N = G16 m c := by
  refine (dats m 0 c).arrAt_eq_of_covers 16 _ (by decide +kernel) fun t hf y => ?_
  blk_simp
  rw [after0_16]
  change S1x512x512.Idx at y
  obtain ⟨r, l, rfl⟩ : ∃ (r : Fin 512) (l : Fin 512), y = ix3 0 r l := ⟨y 1, y 2, by idx_ext⟩
  refine Eq.trans ((out16_apply _ _ _ _ _ _ _ _ _ _ _ _ (ix3 0 r l)).trans ?_) (congrArg (G16 m c) (emb16 t r l)).symm
  exact (turned_lane m c t r (1024 + (l : ℕ) / 128 * 128) (by omega) l (1040 + (l : ℕ) / 64 * 64) (by omega)
    (fun d hd => by unfold colN; split_ifs <;> omega)).trans
    (congrArg (fun z => turnG m c (row t r) z _) (funext fun d => congrArg (pcol m c (row t r)) (Fin.ext (Nat.add_assoc _ _ _))))
theorem array17 : (dats m 0 c).arrAt 17 cfg0.N = G17 m c := by
  refine (dats m 0 c).arrAt_eq_of_covers 17 _ (by decide +kernel) fun t hf y => ?_
  blk_simp
  rw [after0_17]
  change S1x512x512.Idx at y
  obtain ⟨r, l, rfl⟩ : ∃ (r : Fin 512) (l : Fin 512), y = ix3 0 r l := ⟨y 1, y 2, by idx_ext⟩
  refine Eq.trans ((out17_apply _ _ _ _ _ _ _ _ _ _ _ _ (ix3 0 r l)).trans ?_) (congrArg (G17 m c) (emb17 t r l)).symm
  exact (turned_lane m c t r (1536 + (l : ℕ) / 128 * 128) (by omega) l (1552 + (l : ℕ) / 64 * 64) (by omega)
    (fun d hd => by unfold colN; split_ifs <;> omega)).trans
    (congrArg (fun z => turnG m c (row t r) z _) (funext fun d => congrArg (pcol m c (row t r)) (Fin.ext (Nat.add_assoc _ _ _))))
theorem array18 : (dats m 0 c).arrAt 18 cfg0.N = G18 m c := by
  refine (dats m 0 c).arrAt_eq_of_covers 18 _ (by decide +kernel) fun t hf y => ?_
  blk_simp
  rw [after0_18]
  change S1x512x512.Idx at y
  obtain ⟨r, l, rfl⟩ : ∃ (r : Fin 512) (l : Fin 512), y = ix3 0 r l := ⟨y 1, y 2, by idx_ext⟩
  refine Eq.trans ((out18_apply _ _ _ _ _ _ _ _ _ _ _ _ r l).trans ?_) (congrArg (G18 m c) (emb18 t r l)).symm
  exact plain_lane m c t r l 2048 2064 (by decide) (by decide) (by unfold colN; split_ifs <;> omega)
theorem array19 (hP : RealHeads m c) : (dats m 0 c).arrAt 19 cfg0.N = G19 m c := by
  refine (dats m 0 c).arrAt_eq_of_covers 19 _ (by decide +kernel) fun t hf y => ?_
  blk_simp
  rw [after0_19]
  change S1x512x256.Idx at y
  obtain ⟨r, l, rfl⟩ : ∃ (r : Fin 512) (l : Fin 256), y = ix3 0 r l := ⟨y 1, y 2, by idx_ext⟩
  refine Eq.trans ((out19_apply _ _ _ _ _ _ _ _ _ _ _ _ (ix3 0 r l)).trans ?_) (congrArg (G19 m c) (emb19 t r l)).symm
  exact (normed_lane m c t (iblk m c 10 t) (argQ m c) (blk10 m c t) r (2560 + (l : ℕ) / 128 * 128) (by omega) l
    (2576 + ((l : ℕ) / 64 % 2 * 128 + (l : ℕ) / 128 * 64)) (by omega) (fun d hd => by unfold colN; split_ifs <;> omega)
    (real_lanes m c t hP r _ _ (by omega) (by omega))).trans
    (congrArg (fun z => turnG m c (row t r) (normed (argQ m c) z) _)
      (funext fun d => congrArg (pcol m c (row t r)) (Fin.ext (Nat.add_assoc _ _ _))))
theorem array20 (hP : RealHeads m c) : (dats m 0 c).arrAt 20 cfg0.N = G20 m c := by
  refine (dats m 0 c).arrAt_eq_of_covers 20 _ (by decide +kernel) fun t hf y => ?_
  blk_simp
  rw [after0_20]
  change S1x512x128.Idx at y
  obtain ⟨r, l, rfl⟩ : ∃ (r : Fin 512) (l : Fin 128), y = ix3 0 r l := ⟨y 1, y 2, by idx_ext⟩
  refine Eq.trans ((out20_apply _ _ _ _ _ _ _ _ _ _ _ _ r l).trans ?_) (congrArg (G20 m c) (emb20 t r l)).symm
  refine Eq.trans (congrArg _ (Fin.ext (Nat.mod_eq_of_lt l.isLt).symm)) ((normed_lane m c t (iblk m c 11 t) (argK m c) (blk11 m c t) r 2816 (by omega) l
    (2832 + (l : ℕ) / 64 * 64) (by omega) (fun d hd => by unfold colN; split_ifs <;> omega)
    (real_lanes m c t hP r _ _ (by omega) (by omega))).trans
    (congrArg (fun z => turnG m c (row t r) (normed (argK m c) z) _)
      (funext fun d => congrArg (pcol m c (row t r)) (Fin.ext (Nat.add_assoc _ _ _)))))
theorem array21 : (dats m 0 c).arrAt 21 cfg0.N = G21 m c := by
  refine (dats m 0 c).arrAt_eq_of_covers 21 _ (by decide +kernel) fun t hf y => ?_
  blk_simp
  rw [after0_21]
  change S1x512x256.Idx at y
  obtain ⟨r, l, rfl⟩ : ∃ (r : Fin 512) (l : Fin 256), y = ix3 0 r l := ⟨y 1, y 2, by idx_ext⟩
  refine Eq.trans ((out21_apply _ _ _ _ _ _ _ _ _ _ _ _ r l).trans ?_) (congrArg (G21 m c) (emb21 t r l)).symm
  refine Eq.trans ?_ (show valuesOf (pcol m c (row t r)) l = _ from rfl)
  have hz : 64 ≤ (l : ℕ) → (l : ℕ) < 192 → acc (iblk m c 0 t) (iblk m c 1 t) (iblk m c 2 t) (iblk m c 3 t) r ⟨2944 + l, by omega⟩ = 0 :=
    fun h1 h2 => (acc_eq m c t r _).trans (padded_zero _ (by unfold colN; dsimp only; split_ifs <;> omega))
  unfold valuesOf
  by_cases h1 : (l : ℕ) < 64
  · rw [dif_pos h1, if_neg (show ¬((l : ℕ) = 64 ∨ (l : ℕ) = 128) by omega), add_zero]
    exact (acc_eq m c t r _).trans (padded_of _ ⟨2960 + l, by omega⟩ (by unfold colN; dsimp only; split_ifs <;> omega))
  rw [dif_neg h1]
  by_cases h2 : (l : ℕ) < 65
  · rw [if_pos h2, if_pos (show (l : ℕ) = 64 ∨ (l : ℕ) = 128 by omega), hz (by omega) (by omega), zero_add]
  rw [if_neg h2]
  by_cases h3 : (l : ℕ) < 128
  · rw [if_pos h3, if_neg (show ¬((l : ℕ) = 64 ∨ (l : ℕ) = 128) by omega), hz (by omega) (by omega), zero_add]
  rw [if_neg h3]
  by_cases h4 : (l : ℕ) < 129
  · rw [if_pos h4, if_pos (show (l : ℕ) = 64 ∨ (l : ℕ) = 128 by omega), hz (by omega) (by omega), zero_add]
  rw [if_neg h4]
  by_cases h5 : (l : ℕ) < 192
  · rw [if_pos h5, if_neg (show ¬((l : ℕ) = 64 ∨ (l : ℕ) = 128) by omega), hz (by omega) (by omega), zero_add]
  rw [if_neg h5, if_neg (show ¬((l : ℕ) = 64 ∨ (l : ℕ) = 128) by omega), add_zero]
  exact (acc_eq m c t r _).trans (padded_of _ ⟨3024 + ((l : ℕ) - 192), by omega⟩ (by unfold colN; dsimp only; split_ifs <;> omega))

set_option maxHeartbeats 4000000 in
/-- The kernel's run: its results' arrays, its arguments unchanged. -/
theorem run_in (ρ : Dev nD → PrngReg) : θ_run defs (onTc (τ := τ) (main (F := Ideal))) ⟨m, fun _ => 0, ρ⟩ fun r => ∀ c : Dev nD,
      r.2.mem ((c : Thread nD τ).loc main_v43_0) = (dats m 0 c).arrAt 12 cfg0.N
      ∧ r.2.mem ((c : Thread nD τ).loc main_v43_1) = (dats m 0 c).arrAt 13 cfg0.N
      ∧ r.2.mem ((c : Thread nD τ).loc main_v43_2) = (dats m 0 c).arrAt 14 cfg0.N
      ∧ r.2.mem ((c : Thread nD τ).loc main_v43_3) = (dats m 0 c).arrAt 15 cfg0.N
      ∧ r.2.mem ((c : Thread nD τ).loc main_v43_4) = (dats m 0 c).arrAt 16 cfg0.N
      ∧ r.2.mem ((c : Thread nD τ).loc main_v43_5) = (dats m 0 c).arrAt 17 cfg0.N
      ∧ r.2.mem ((c : Thread nD τ).loc main_v43_6) = (dats m 0 c).arrAt 18 cfg0.N
      ∧ r.2.mem ((c : Thread nD τ).loc main_v43_7) = (dats m 0 c).arrAt 19 cfg0.N
      ∧ r.2.mem ((c : Thread nD τ).loc main_v43_8) = (dats m 0 c).arrAt 20 cfg0.N
      ∧ r.2.mem ((c : Thread nD τ).loc main_v43_9) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨(h c).1 12, (h c).1 13, (h c).1 14, (h c).1 15, (h c).1 16, (h c).1 17, (h c).1 18, (h c).1 19, (h c).1 20, (h c).1 21,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩) (run_main m ρ)

end Cert.Kernel5Ideal.Hand

end
-- ==== Proof.InTurn.lean ====
/-
The rotation of the input projection's reference, read at one element.
-/
module

public import proofs.«01_k».proof.Proof.Gen.Reference5Ideal.Run
public import proofs.«01_k».proof.Proof.Gen.Reference5Ideal
public import proofs.«01_k».proof.Proof.InSpec
public import proofs.«01_k».proof.Proof.FlatArray
public import Idealize.ShloMosaic.Lib.Pipeline.ValueKit.Geometry

@[expose] public section

set_option maxRecDepth 16384

noncomputable section

namespace Cert.Reference5Ideal.Hand

open Idealize.ShloMosaic Idealize.ShloMosaic.TcCoe Idealize.SL.Sem
open Cert.Reference5Ideal Cert.Reference5Ideal.Gen Cert.Reference5Ideal.Value Cert.In
open Cert.Kernel3Ideal.Hand (batch place)

variable (b : Fin 8) (s : Fin 4352)

/-- Equal places give equal entries. -/
theorem at4 {n0 n1 n2 n3 : ℕ} (z : (⟨4, ![n0, n1, n2, n3]⟩ : Shape).Idx → EReal) {i i' : Fin n0} {j j' : Fin n1} {k k' : Fin n2} {l l' : Fin n3}
    (hi : (i : ℕ) = i') (hj : (j : ℕ) = j') (hk : (k : ℕ) = k') (hl : (l : ℕ) = l') : z (ix4 i j k l) = z (ix4 i' j' k' l') := by
  rw [Fin.ext hi, Fin.ext hj, Fin.ext hk, Fin.ext hl]

/-- The exchange in the quarters of a head, half by half. -/
theorem turned_of (x : Fin 64 → EReal) (d : Fin 64) :
    (if h : (d : ℕ) < 32 then (if h' : (d : ℕ) < 16 then -(x ⟨16 + (d : ℕ), by omega⟩) else x ⟨(d : ℕ) - 16, by omega⟩)
      else (if h' : (d : ℕ) - 32 < 16 then -(x ⟨32 + (16 + ((d : ℕ) - 32)), by omega⟩) else x ⟨32 + ((d : ℕ) - 32 - 16), by omega⟩))
    = turned x d := by
  unfold turned
  split_ifs <;> first | omega | exact congrArg x (Fin.ext (by first | omega | rfl | (dsimp only; omega))) | exact congrArg (fun e => -(x e)) (Fin.ext (by first | omega | rfl | (dsimp only; omega)))

/-- The halves of 8 latent heads, exchanged in each quarter. -/
def turn8 (x : FVec Ideal S8x4096x8x64 .f32) : FVec Ideal S8x4096x8x64 .f32 :=
  concatenate S8x4096x8x64 3 [⟨S8x4096x8x32, (concatenate S8x4096x8x32 3
      [⟨S8x4096x8x16, (Host.negf (extractStridedSlice S8x4096x8x16 ![0, 0, 0, 16] (extractStridedSlice S8x4096x8x32 ![0, 0, 0, 0] x slices_S8x4096x8x64_S8x4096x8x32_0_0_0_0) slices_S8x4096x8x32_S8x4096x8x16_0_0_0_16))⟩,
        ⟨S8x4096x8x16, (extractStridedSlice S8x4096x8x16 ![0, 0, 0, 0] (extractStridedSlice S8x4096x8x32 ![0, 0, 0, 0] x slices_S8x4096x8x64_S8x4096x8x32_0_0_0_0) slices_S8x4096x8x32_S8x4096x8x16_0_0_0_0)⟩] concatenates_S8x4096x8x16_S8x4096x8x16_S8x4096x8x32_d3)⟩,
    ⟨S8x4096x8x32, (concatenate S8x4096x8x32 3
      [⟨S8x4096x8x16, (Host.negf (extractStridedSlice S8x4096x8x16 ![0, 0, 0, 16] (extractStridedSlice S8x4096x8x32 ![0, 0, 0, 32] x slices_S8x4096x8x64_S8x4096x8x32_0_0_0_32) slices_S8x4096x8x32_S8x4096x8x16_0_0_0_16))⟩,
        ⟨S8x4096x8x16, (extractStridedSlice S8x4096x8x16 ![0, 0, 0, 0] (extractStridedSlice S8x4096x8x32 ![0, 0, 0, 32] x slices_S8x4096x8x64_S8x4096x8x32_0_0_0_32) slices_S8x4096x8x32_S8x4096x8x16_0_0_0_0)⟩] concatenates_S8x4096x8x16_S8x4096x8x16_S8x4096x8x32_d3)⟩]
    concatenates_S8x4096x8x32_S8x4096x8x32_S8x4096x8x64_d3

theorem turn8_apply (x : FVec Ideal S8x4096x8x64 .f32) (p : Fin 4096) (h : Fin 8) (d : Fin 64) :
    turn8 x (ix4 b p h d) = turned (fun e => x (ix4 b p h e)) d := by
  pointwise [turn8]
  refine Eq.trans ?_ (turned_of (fun e => x (ix4 b p h e)) d)
  rfl

/-- The heads of every token, the latents' turned. -/
def rot8 (z : FVec Ideal S8x4352x8x64 .f32) (co si : FVec Ideal S4096x64 .f32) : FVec Ideal S8x4352x8x64 .f32 :=
  concatenate S8x4352x8x64 1 [⟨S8x4096x8x64, (addf (mulf (extractStridedSlice S8x4096x8x64 ![0, 0, 0, 0] z slices_S8x4352x8x64_S8x4096x8x64_0_0_0_0)
        (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 co))))
      (mulf (turn8 (extractStridedSlice S8x4096x8x64 ![0, 0, 0, 0] z slices_S8x4352x8x64_S8x4096x8x64_0_0_0_0))
        (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 si)))))⟩,
    ⟨S8x256x8x64, (extractStridedSlice S8x256x8x64 ![0, 4096, 0, 0] z slices_S8x4352x8x64_S8x256x8x64_0_4096_0_0)⟩] concatenates_S8x4096x8x64_S8x256x8x64_S8x4352x8x64_d1

theorem rot8_apply (z : FVec Ideal S8x4352x8x64 .f32) (co si : FVec Ideal S4096x64 .f32) (h : Fin 8) (d : Fin 64) :
    rot8 z co si (ix4 b s h d) = turnAt (fun p e => co (ix2 p e)) (fun p e => si (ix2 p e)) s (fun e => z (ix4 b s h e)) d := by
  pointwise [rot8]
  unfold turnAt
  split
  · rw [turn8_apply]
    unfold rotated
    refine congrArg₂ _ (congrArg₂ _ ?_ rfl) (congrArg₂ _ (congrArg (fun w => turned w d) (funext fun e => ?_)) rfl)
    · exact at4 z (by omega) (by omega) (by omega) (by omega)
    · pointwise
      try exact at4 z (by omega) (by omega) (by omega) (by omega)
  · exact at4 z (by omega) (by dsimp only; omega) (by omega) (by omega)

/-- The halves of 4 latent heads, exchanged in each quarter. -/
def turn4 (x : FVec Ideal S8x4096x4x64 .f32) : FVec Ideal S8x4096x4x64 .f32 :=
  concatenate S8x4096x4x64 3 [⟨S8x4096x4x32, (concatenate S8x4096x4x32 3
      [⟨S8x4096x4x16, (Host.negf (extractStridedSlice S8x4096x4x16 ![0, 0, 0, 16] (extractStridedSlice S8x4096x4x32 ![0, 0, 0, 0] x slices_S8x4096x4x64_S8x4096x4x32_0_0_0_0) slices_S8x4096x4x32_S8x4096x4x16_0_0_0_16))⟩,
        ⟨S8x4096x4x16, (extractStridedSlice S8x4096x4x16 ![0, 0, 0, 0] (extractStridedSlice S8x4096x4x32 ![0, 0, 0, 0] x slices_S8x4096x4x64_S8x4096x4x32_0_0_0_0) slices_S8x4096x4x32_S8x4096x4x16_0_0_0_0)⟩] concatenates_S8x4096x4x16_S8x4096x4x16_S8x4096x4x32_d3)⟩,
    ⟨S8x4096x4x32, (concatenate S8x4096x4x32 3
      [⟨S8x4096x4x16, (Host.negf (extractStridedSlice S8x4096x4x16 ![0, 0, 0, 16] (extractStridedSlice S8x4096x4x32 ![0, 0, 0, 32] x slices_S8x4096x4x64_S8x4096x4x32_0_0_0_32) slices_S8x4096x4x32_S8x4096x4x16_0_0_0_16))⟩,
        ⟨S8x4096x4x16, (extractStridedSlice S8x4096x4x16 ![0, 0, 0, 0] (extractStridedSlice S8x4096x4x32 ![0, 0, 0, 32] x slices_S8x4096x4x64_S8x4096x4x32_0_0_0_32) slices_S8x4096x4x32_S8x4096x4x16_0_0_0_0)⟩] concatenates_S8x4096x4x16_S8x4096x4x16_S8x4096x4x32_d3)⟩]
    concatenates_S8x4096x4x32_S8x4096x4x32_S8x4096x4x64_d3

theorem turn4_apply (x : FVec Ideal S8x4096x4x64 .f32) (p : Fin 4096) (h : Fin 4) (d : Fin 64) :
    turn4 x (ix4 b p h d) = turned (fun e => x (ix4 b p h e)) d := by
  pointwise [turn4]
  refine Eq.trans ?_ (turned_of (fun e => x (ix4 b p h e)) d)
  rfl

/-- The heads of every token, the latents' turned. -/
def rot4 (z : FVec Ideal S8x4352x4x64 .f32) (co si : FVec Ideal S4096x64 .f32) : FVec Ideal S8x4352x4x64 .f32 :=
  concatenate S8x4352x4x64 1 [⟨S8x4096x4x64, (addf (mulf (extractStridedSlice S8x4096x4x64 ![0, 0, 0, 0] z slices_S8x4352x4x64_S8x4096x4x64_0_0_0_0)
        (broadcastInDim S8x4096x4x64 ![0, 1, 2, 3] bcast_S1x4096x1x64_S8x4096x4x64_0_1_2_3 (broadcastInDim S1x4096x1x64 ![1, 2, 3] bcast_S4096x1x64_S1x4096x1x64_1_2_3 (broadcastInDim S4096x1x64 ![0, 2] bcast_S4096x64_S4096x1x64_0_2 co))))
      (mulf (turn4 (extractStridedSlice S8x4096x4x64 ![0, 0, 0, 0] z slices_S8x4352x4x64_S8x4096x4x64_0_0_0_0))
        (broadcastInDim S8x4096x4x64 ![0, 1, 2, 3] bcast_S1x4096x1x64_S8x4096x4x64_0_1_2_3 (broadcastInDim S1x4096x1x64 ![1, 2, 3] bcast_S4096x1x64_S1x4096x1x64_1_2_3 (broadcastInDim S4096x1x64 ![0, 2] bcast_S4096x64_S4096x1x64_0_2 si)))))⟩,
    ⟨S8x256x4x64, (extractStridedSlice S8x256x4x64 ![0, 4096, 0, 0] z slices_S8x4352x4x64_S8x256x4x64_0_4096_0_0)⟩] concatenates_S8x4096x4x64_S8x256x4x64_S8x4352x4x64_d1

theorem rot4_apply (z : FVec Ideal S8x4352x4x64 .f32) (co si : FVec Ideal S4096x64 .f32) (h : Fin 4) (d : Fin 64) :
    rot4 z co si (ix4 b s h d) = turnAt (fun p e => co (ix2 p e)) (fun p e => si (ix2 p e)) s (fun e => z (ix4 b s h e)) d := by
  pointwise [rot4]
  unfold turnAt
  split
  · rw [turn4_apply]
    unfold rotated
    refine congrArg₂ _ (congrArg₂ _ ?_ rfl) (congrArg₂ _ (congrArg (fun w => turned w d) (funext fun e => ?_)) rfl)
    · exact at4 z (by omega) (by omega) (by omega) (by omega)
    · pointwise
      try exact at4 z (by omega) (by omega) (by omega) (by omega)
  · exact at4 z (by omega) (by dsimp only; omega) (by omega) (by omega)

/-- The halves of 2 latent heads, exchanged in each quarter. -/
def turn2 (x : FVec Ideal S8x4096x2x64 .f32) : FVec Ideal S8x4096x2x64 .f32 :=
  concatenate S8x4096x2x64 3 [⟨S8x4096x2x32, (concatenate S8x4096x2x32 3
      [⟨S8x4096x2x16, (Host.negf (extractStridedSlice S8x4096x2x16 ![0, 0, 0, 16] (extractStridedSlice S8x4096x2x32 ![0, 0, 0, 0] x slices_S8x4096x2x64_S8x4096x2x32_0_0_0_0) slices_S8x4096x2x32_S8x4096x2x16_0_0_0_16))⟩,
        ⟨S8x4096x2x16, (extractStridedSlice S8x4096x2x16 ![0, 0, 0, 0] (extractStridedSlice S8x4096x2x32 ![0, 0, 0, 0] x slices_S8x4096x2x64_S8x4096x2x32_0_0_0_0) slices_S8x4096x2x32_S8x4096x2x16_0_0_0_0)⟩] concatenates_S8x4096x2x16_S8x4096x2x16_S8x4096x2x32_d3)⟩,
    ⟨S8x4096x2x32, (concatenate S8x4096x2x32 3
      [⟨S8x4096x2x16, (Host.negf (extractStridedSlice S8x4096x2x16 ![0, 0, 0, 16] (extractStridedSlice S8x4096x2x32 ![0, 0, 0, 32] x slices_S8x4096x2x64_S8x4096x2x32_0_0_0_32) slices_S8x4096x2x32_S8x4096x2x16_0_0_0_16))⟩,
        ⟨S8x4096x2x16, (extractStridedSlice S8x4096x2x16 ![0, 0, 0, 0] (extractStridedSlice S8x4096x2x32 ![0, 0, 0, 32] x slices_S8x4096x2x64_S8x4096x2x32_0_0_0_32) slices_S8x4096x2x32_S8x4096x2x16_0_0_0_0)⟩] concatenates_S8x4096x2x16_S8x4096x2x16_S8x4096x2x32_d3)⟩]
    concatenates_S8x4096x2x32_S8x4096x2x32_S8x4096x2x64_d3

theorem turn2_apply (x : FVec Ideal S8x4096x2x64 .f32) (p : Fin 4096) (h : Fin 2) (d : Fin 64) :
    turn2 x (ix4 b p h d) = turned (fun e => x (ix4 b p h e)) d := by
  pointwise [turn2]
  refine Eq.trans ?_ (turned_of (fun e => x (ix4 b p h e)) d)
  rfl

/-- The heads of every token, the latents' turned. -/
def rot2 (z : FVec Ideal S8x4352x2x64 .f32) (co si : FVec Ideal S4096x64 .f32) : FVec Ideal S8x4352x2x64 .f32 :=
  concatenate S8x4352x2x64 1 [⟨S8x4096x2x64, (addf (mulf (extractStridedSlice S8x4096x2x64 ![0, 0, 0, 0] z slices_S8x4352x2x64_S8x4096x2x64_0_0_0_0)
        (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 co))))
      (mulf (turn2 (extractStridedSlice S8x4096x2x64 ![0, 0, 0, 0] z slices_S8x4352x2x64_S8x4096x2x64_0_0_0_0))
        (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 si)))))⟩,
    ⟨S8x256x2x64, (extractStridedSlice S8x256x2x64 ![0, 4096, 0, 0] z slices_S8x4352x2x64_S8x256x2x64_0_4096_0_0)⟩] concatenates_S8x4096x2x64_S8x256x2x64_S8x4352x2x64_d1

theorem rot2_apply (z : FVec Ideal S8x4352x2x64 .f32) (co si : FVec Ideal S4096x64 .f32) (h : Fin 2) (d : Fin 64) :
    rot2 z co si (ix4 b s h d) = turnAt (fun p e => co (ix2 p e)) (fun p e => si (ix2 p e)) s (fun e => z (ix4 b s h e)) d := by
  pointwise [rot2]
  unfold turnAt
  split
  · rw [turn2_apply]
    unfold rotated
    refine congrArg₂ _ (congrArg₂ _ ?_ rfl) (congrArg₂ _ (congrArg (fun w => turned w d) (funext fun e => ?_)) rfl)
    · exact at4 z (by omega) (by omega) (by omega) (by omega)
    · pointwise
      try exact at4 z (by omega) (by omega) (by omega) (by omega)
  · exact at4 z (by omega) (by dsimp only; omega) (by omega) (by omega)

end Cert.Reference5Ideal.Hand

end
-- ==== Proof.InRef.lean ====
/-
The input projection's reference, read at one element, one stage after another.
-/
module

public import proofs.«01_k».proof.Proof.Gen.Reference5Ideal.Run
public import proofs.«01_k».proof.Proof.Gen.Reference5Ideal
public import proofs.«01_k».proof.Proof.InTurn
public import proofs.«01_k».proof.Proof.FlatArray
public import Idealize.ShloMosaic.Lib.Pipeline.ValueKit.Geometry

@[expose] public section

set_option maxRecDepth 16384

noncomputable section

namespace Cert.Reference5Ideal.Hand

open Idealize.ShloMosaic Idealize.ShloMosaic.TcCoe Idealize.SL.Sem
open Cert.Reference5Ideal Cert.Reference5Ideal.Gen Cert.Reference5Ideal.Value Cert.In
open Cert.Kernel3Ideal.Hand (batch place)

variable (V : Valuation τ sig (Elt Ideal)) (b : Fin 8) (s : Fin 4352)

/-- The arguments, entry by entry. -/
def argX (b : Fin 8) (s : Fin 4352) (k : Fin 1024) : EReal := V (Proc.devRef .tc main_arg0) (ix3 b s k)
def argM (b : Fin 8) (j : Fin 6144) : EReal := V (Proc.devRef .tc main_arg1) (ix2 b j)
def argC (j : Fin 6144) : EReal := V (Proc.devRef .tc main_arg2) (ix1 j)
def argW (k : Fin 1024) (n : Fin 3088) : EReal := V (Proc.devRef .tc main_arg3) (ix2 k n)
def argCos (p : Fin 4096) (d : Fin 64) : EReal := V (Proc.devRef .tc main_arg4) (ix2 p d)
def argSin (p : Fin 4096) (d : Fin 64) : EReal := V (Proc.devRef .tc main_arg5) (ix2 p d)
def argQ (d : Fin 64) : EReal := V (Proc.devRef .tc main_arg6) (ix1 d)
def argK (d : Fin 64) : EReal := V (Proc.devRef .tc main_arg7) (ix1 d)
/-- A token's columns. -/
def col : Fin 3088 → EReal := column (argX V) (argM V) (argC V) (argW V) b s

theorem v3_apply (j : Fin 6144) : res_main_v3 V (ix3 b s j) = modAt (argM V) (argC V) b s j := by
  unfold res_main_v3 modAt
  pointwise
  rfl

theorem v14_apply (n : Fin 3088) : res_main_v14 V (ix3 b s n) = col V b s n := by
  unfold res_main_v14
  pointwise
  simp only [v3_apply]
  rfl

theorem v114_apply (h : Fin 8) (d : Fin 64) : res_main_v114 V (ix4 b s h d) = col V b s ⟨1040 + ((h : ℕ) * 64 + d), by omega⟩ := by
  unfold res_main_v114
  pointwise
  exact v14_apply V b s _
theorem v140_apply (h : Fin 8) (d : Fin 64) : res_main_v140 V (ix4 b s h d) = col V b s ⟨1552 + ((h : ℕ) * 64 + d), by omega⟩ := by
  unfold res_main_v140
  pointwise
  exact v14_apply V b s _
theorem v25_apply (h : Fin 4) (d : Fin 64) : res_main_v25 V (ix4 b s h d) = col V b s ⟨2576 + ((h : ℕ) * 64 + d), by omega⟩ := by
  unfold res_main_v25
  pointwise
  exact v14_apply V b s _
theorem v64_apply (h : Fin 2) (d : Fin 64) : res_main_v64 V (ix4 b s h d) = col V b s ⟨2832 + ((h : ℕ) * 64 + d), by omega⟩ := by
  unfold res_main_v64
  pointwise
  exact v14_apply V b s _
theorem v38_apply (h : Fin 4) (d : Fin 64) :
    res_main_v38 V (ix4 b s h d) = normed (argQ V) (fun e => col V b s ⟨2576 + ((h : ℕ) * 64 + e), by omega⟩) d := by
  unfold res_main_v38
  pointwise
  simp only [v25_apply]
  rfl
theorem v77_apply (h : Fin 2) (d : Fin 64) :
    res_main_v77 V (ix4 b s h d) = normed (argK V) (fun e => col V b s ⟨2832 + ((h : ℕ) * 64 + e), by omega⟩) d := by
  unfold res_main_v77
  pointwise
  simp only [v64_apply]
  rfl

def out0 : FVec Ideal S1x34816x512 .bf16 := truncf .bf16 (shapeCast _ (extractStridedSlice S8x4352x512 ![0, 0, 0] (res_main_v14 V) slices_S8x4352x3088_S8x4352x512_0_0_0) shapeCasts_S8x4352x512_S1x34816x512) bitsLt_bf16_f32
def out1 : FVec Ideal S1x34816x256 .bf16 := truncf .bf16 (shapeCast _ (extractStridedSlice S8x4352x256 ![0, 0, 512] (res_main_v14 V) slices_S8x4352x3088_S8x4352x256_0_0_512) shapeCasts_S8x4352x256_S1x34816x256) bitsLt_bf16_f32
def out2 : FVec Ideal S1x34816x256 .bf16 := truncf .bf16 (shapeCast _ (extractStridedSlice S8x4352x256 ![0, 0, 768] (res_main_v14 V) slices_S8x4352x3088_S8x4352x256_0_0_768) shapeCasts_S8x4352x256_S1x34816x256) bitsLt_bf16_f32
def gates : FVec Ideal S8x4352x128 .f32 := pad S8x4352x128 ![0, 0, 0] ![0, 0, 112] ![0, 0, 0] (extractStridedSlice S8x4352x16 ![0, 0, 1024] (res_main_v14 V) slices_S8x4352x3088_S8x4352x16_0_0_1024) (sitofp .f32 (constantI S_ 32 0#32)) pads_S8x4352x16_S8x4352x128_000_000_01120 h_S_
def out3 : FVec Ideal S1x34816x128 .f32 := shapeCast _ (gates V) shapeCasts_S8x4352x128_S1x34816x128
def out4 : FVec Ideal S1x34816x512 .bf16 := truncf .bf16 (shapeCast _ (rot8 (res_main_v114 V) (V (Proc.devRef .tc main_arg4)) (V (Proc.devRef .tc main_arg5))) shapeCasts_S8x4352x8x64_S1x34816x512) bitsLt_bf16_f32
def out5 : FVec Ideal S1x34816x512 .bf16 := truncf .bf16 (shapeCast _ (rot8 (res_main_v140 V) (V (Proc.devRef .tc main_arg4)) (V (Proc.devRef .tc main_arg5))) shapeCasts_S8x4352x8x64_S1x34816x512) bitsLt_bf16_f32
def out6 : FVec Ideal S1x34816x512 .bf16 := truncf .bf16 (shapeCast _ (extractStridedSlice S8x4352x512 ![0, 0, 2064] (res_main_v14 V) slices_S8x4352x3088_S8x4352x512_0_0_2064) shapeCasts_S8x4352x512_S1x34816x512) bitsLt_bf16_f32
def out7 : FVec Ideal S1x34816x256 .bf16 := truncf .bf16 (shapeCast _ (transpose S8x4352x2x2x64 [0, 1, 3, 2, 4] (shapeCast _ (rot4 (res_main_v38 V) (V (Proc.devRef .tc main_arg4)) (V (Proc.devRef .tc main_arg5))) shapeCasts_S8x4352x4x64_S8x4352x2x2x64) transposes_S8x4352x2x2x64_S8x4352x2x2x64_0_1_3_2_4) shapeCasts_S8x4352x2x2x64_S1x34816x256) bitsLt_bf16_f32
def out8 : FVec Ideal S1x34816x128 .bf16 := truncf .bf16 (shapeCast _ (rot2 (res_main_v77 V) (V (Proc.devRef .tc main_arg4)) (V (Proc.devRef .tc main_arg5))) shapeCasts_S8x4352x2x64_S1x34816x128) bitsLt_bf16_f32
def values : FVec Ideal S8x4352x256 .f32 := concatenate S8x4352x256 2 [⟨S8x4352x64, extractStridedSlice S8x4352x64 ![0, 0, 0] (res_main_v24 V) slices_S8x4352x128_S8x4352x64_0_0_0⟩, ⟨S8x4352x1, res_main_v102 V⟩, ⟨S8x4352x63, res_main_v103 V⟩, ⟨S8x4352x1, res_main_v102 V⟩, ⟨S8x4352x63, res_main_v103 V⟩,
  ⟨S8x4352x64, extractStridedSlice S8x4352x64 ![0, 0, 64] (res_main_v24 V) slices_S8x4352x128_S8x4352x64_0_0_64⟩] concatenates_S8x4352x64_S8x4352x1_S8x4352x63_S8x4352x1_S8x4352x63_S8x4352x64_S8x4352x256_d2
def out9 : FVec Ideal S1x34816x256 .bf16 := truncf .bf16 (shapeCast _ (values V) shapeCasts_S8x4352x256_S1x34816x256) bitsLt_bf16_f32

theorem out0_apply (g : Fin 34816) (l : Fin 512) : out0 V (ix3 0 g l) = plainOf 0 (by decide) (col V (batch g) (place g)) l := by
  pointwise [out0]
  exact (v14_apply V (batch g) (place g) _).trans (congrArg (col V (batch g) (place g)) (Fin.ext (Nat.zero_add _).symm))
theorem out1_apply (g : Fin 34816) (l : Fin 256) : out1 V (ix3 0 g l) = plainOf 512 (by decide) (col V (batch g) (place g)) l := by
  pointwise [out1]
  exact v14_apply V (batch g) (place g) _
theorem out2_apply (g : Fin 34816) (l : Fin 256) : out2 V (ix3 0 g l) = plainOf 768 (by decide) (col V (batch g) (place g)) l := by
  pointwise [out2]
  exact v14_apply V (batch g) (place g) _
theorem gates_apply (l : Fin 128) : gates V (ix3 b s l) = gateOf (col V b s) l := by
  pointwise [gates]
  unfold gateOf
  split
  · exact v14_apply V b s _
  · show (((0#32 : BitVec 32).toInt : ℝ) : EReal) = 0
    simp
theorem out3_apply (g : Fin 34816) (l : Fin 128) : out3 V (ix3 0 g l) = gateOf (col V (batch g) (place g)) l := by
  pointwise [out3]
  exact gates_apply V (batch g) (place g) l
theorem out4_apply (g : Fin 34816) (l : Fin 512) :
    out4 V (ix3 0 g l) = turnedOf (argCos V) (argSin V) (place g) 1040 (by decide) (col V (batch g) (place g)) l := by
  pointwise [out4]
  refine (rot8_apply (batch g) (place g) _ _ _ _ _).trans ?_
  exact congrArg (fun z => turnAt (argCos V) (argSin V) (place g) z _) (funext fun d => v114_apply V (batch g) (place g) _ d)
theorem out5_apply (g : Fin 34816) (l : Fin 512) :
    out5 V (ix3 0 g l) = turnedOf (argCos V) (argSin V) (place g) 1552 (by decide) (col V (batch g) (place g)) l := by
  pointwise [out5]
  refine (rot8_apply (batch g) (place g) _ _ _ _ _).trans ?_
  exact congrArg (fun z => turnAt (argCos V) (argSin V) (place g) z _) (funext fun d => v140_apply V (batch g) (place g) _ d)
theorem out6_apply (g : Fin 34816) (l : Fin 512) : out6 V (ix3 0 g l) = plainOf 2064 (by decide) (col V (batch g) (place g)) l := by
  pointwise [out6]
  exact v14_apply V (batch g) (place g) _
theorem out7_apply (g : Fin 34816) (l : Fin 256) :
    out7 V (ix3 0 g l) = queriesOf (argCos V) (argSin V) (argQ V) (place g) (col V (batch g) (place g)) l := by
  pointwise [out7]
  refine (rot4_apply (batch g) (place g) _ _ _ _ _).trans ?_
  refine congrArg (fun z => turnAt (argCos V) (argSin V) (place g) z _) (funext fun d => (v38_apply V (batch g) (place g) _ d).trans ?_)
  exact congrArg (fun z => normed (argQ V) z d) (funext fun e => congrArg (col V (batch g) (place g)) (Fin.ext
    (show 2576 + (((l : ℕ) / 64 % 2 * 2 + (l : ℕ) / 128) * 64 + (e : ℕ)) = 2576 + ((l : ℕ) / 64 % 2 * 128 + (l : ℕ) / 128 * 64 + e) by omega)))
theorem out8_apply (g : Fin 34816) (l : Fin 128) :
    out8 V (ix3 0 g l) = keysOf (argCos V) (argSin V) (argK V) (place g) (col V (batch g) (place g)) l := by
  pointwise [out8]
  refine (rot2_apply (batch g) (place g) _ _ _ _ _).trans ?_
  exact congrArg (fun z => turnAt (argCos V) (argSin V) (place g) z _) (funext fun d => v77_apply V (batch g) (place g) _ d)
theorem v24_apply (d : Fin 128) : res_main_v24 V (ix3 b s d) = col V b s ⟨2960 + d, by omega⟩ := by
  unfold res_main_v24
  pointwise
  exact v14_apply V b s _
theorem v102_apply : res_main_v102 V (ix3 b s 0) = (1 : EReal) := by
  unfold res_main_v102
  pointwise
theorem v103_apply (d : Fin 63) : res_main_v103 V (ix3 b s d) = (0 : EReal) := by
  unfold res_main_v103
  pointwise
theorem values_apply (l : Fin 256) : values V (ix3 b s l) = valuesOf (col V b s) l := by
  pointwise [values]
  unfold valuesOf
  by_cases h1 : (l : ℕ) < 64
  · rw [dif_pos h1, dif_pos h1]
    exact v24_apply V b s _
  rw [dif_neg h1, dif_neg h1]
  by_cases h2 : (l : ℕ) < 65
  · rw [if_pos h2, dif_pos (show (l : ℕ) - 64 < 1 by omega)]
    exact (congrArg (fun i => res_main_v102 V (ix3 b s i)) (Subsingleton.elim _ (0 : Fin 1))).trans (v102_apply V b s)
  rw [if_neg h2, dif_neg (show ¬(l : ℕ) - 64 < 1 by omega)]
  by_cases h3 : (l : ℕ) < 128
  · rw [if_pos h3, dif_pos (show (l : ℕ) - 64 - 1 < 63 by omega)]
    exact v103_apply V b s _
  rw [if_neg h3, dif_neg (show ¬(l : ℕ) - 64 - 1 < 63 by omega)]
  by_cases h4 : (l : ℕ) < 129
  · rw [if_pos h4, dif_pos (show (l : ℕ) - 64 - 1 - 63 < 1 by omega)]
    exact (congrArg (fun i => res_main_v102 V (ix3 b s i)) (Subsingleton.elim _ (0 : Fin 1))).trans (v102_apply V b s)
  rw [if_neg h4, dif_neg (show ¬(l : ℕ) - 64 - 1 - 63 < 1 by omega)]
  by_cases h5 : (l : ℕ) < 192
  · rw [if_pos h5, dif_pos (show (l : ℕ) - 64 - 1 - 63 - 1 < 63 by omega)]
    exact v103_apply V b s _
  rw [if_neg h5, dif_neg (show ¬(l : ℕ) - 64 - 1 - 63 - 1 < 63 by omega)]
  exact (v24_apply V b s _).trans (congrArg (col V b s) (Fin.ext
    (show 2960 + (64 + ((l : ℕ) - 64 - 1 - 63 - 1 - 63)) = 3024 + ((l : ℕ) - 192) by omega)))
theorem out9_apply (g : Fin 34816) (l : Fin 256) : out9 V (ix3 0 g l) = valuesOf (col V (batch g) (place g)) l := by
  pointwise [out9]
  exact values_apply V (batch g) (place g) l

end Cert.Reference5Ideal.Hand

end
-- ==== Proof.InAgree.lean ====
/-
The input projection's kernel and reference: the same ten arrays, where the arguments agree.
-/
module

public import proofs.«01_k».proof.Defs
public import proofs.«01_k».proof.Proof.Gen.Pre_finite5
public import proofs.«01_k».proof.Proof.Pre
public import proofs.«01_k».proof.Proof.InArray
public import proofs.«01_k».proof.Proof.InRef

@[expose] public section

set_option maxRecDepth 16384

noncomputable section

namespace Cert.Reference5Ideal.Hand

open Idealize.ShloMosaic Idealize.ShloMosaic.TcCoe Idealize.SL.Sem
open Cert.Reference5Ideal Cert.Reference5Ideal.Gen

/-- The reference's run: its ten results, its arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v108) = out0 (StableHlo.launchContents m c)
      ∧ r.2.mem ((c : Thread nD τ).loc main_v110) = out1 (StableHlo.launchContents m c)
      ∧ r.2.mem ((c : Thread nD τ).loc main_v112) = out2 (StableHlo.launchContents m c)
      ∧ r.2.mem ((c : Thread nD τ).loc main_v113) = out3 (StableHlo.launchContents m c)
      ∧ r.2.mem ((c : Thread nD τ).loc main_v139) = out4 (StableHlo.launchContents m c)
      ∧ r.2.mem ((c : Thread nD τ).loc main_v165) = out5 (StableHlo.launchContents m c)
      ∧ r.2.mem ((c : Thread nD τ).loc main_v167) = out6 (StableHlo.launchContents m c)
      ∧ r.2.mem ((c : Thread nD τ).loc main_v169) = out7 (StableHlo.launchContents m c)
      ∧ r.2.mem ((c : Thread nD τ).loc main_v171) = out8 (StableHlo.launchContents m c)
      ∧ r.2.mem ((c : Thread nD τ).loc main_v173) = out9 (StableHlo.launchContents m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h => h) (Cert.Reference5Ideal.Value.run m ρ)

end Cert.Reference5Ideal.Hand

namespace Cert.Kernel5Ideal.Hand

open Idealize.ShloMosaic Idealize.ShloMosaic.TcCoe Idealize.SL.Sem
open Cert.Kernel5Ideal Cert.Kernel5Ideal.Gen Cert.In Cert.Pre_finite.Hand
open Cert.Kernel3Ideal.Hand (batch place)

theorem head2 (A : FVec Ideal Cert.Pre_finite5.S8x6144 .f32) (h : Cert.Pre_finite5.S8x6144.Slices ![0, 0] Cert.Pre_finite5.S8x2048) (b : Fin 8)
    (j : Fin 6144) (hj : (j : ℕ) < 2048) : extractStridedSlice Cert.Pre_finite5.S8x2048 ![0, 0] A h (ix2 b ⟨j, hj⟩) = A (ix2 b j) :=
  congrArg A (by idx_ext)

theorem head1 (A : FVec Ideal Cert.Pre_finite5.S6144 .f32) (h : Cert.Pre_finite5.S6144.Slices ![0] Cert.Pre_finite5.S2048)
    (j : Fin 6144) (hj : (j : ℕ) < 2048) : extractStridedSlice Cert.Pre_finite5.S2048 ![0] A h (ix1 ⟨j, hj⟩) = A (ix1 j) :=
  congrArg A (by idx_ext)

theorem mid2 (A : FVec Ideal Cert.Pre_finite5.S1024x3088 .f32) (h : Cert.Pre_finite5.S1024x3088.Slices ![0, 2576] Cert.Pre_finite5.S1024x384) (k : Fin 1024)
    (n : Fin 3088) (h1 : 2576 ≤ (n : ℕ)) (h2 : (n : ℕ) < 2960) :
    extractStridedSlice Cert.Pre_finite5.S1024x384 ![0, 2576] A h (ix2 k ⟨(n : ℕ) - 2576, by omega⟩) = A (ix2 k n) :=
  congrArg A (by idx_ext)

variable (m : (ℓ : Loc nD τ sig) → Buf (Elt Ideal) ℓ)
  (m' : (ℓ : Loc Cert.Reference5Ideal.nD Cert.Reference5Ideal.τ Cert.Reference5Ideal.sig) → Buf (Elt Ideal) ℓ) (c : Dev nD)

/-- Where the arguments are real, the columns of the queries and keys are. -/
theorem real_heads (hp : Cert.Pre_Kernel5Ideal_finite5 m) : RealHeads m c := by
  obtain ⟨h0, h1, h2, h3⟩ := hp c
  intro g n hn hn'
  refine column_real _ _ _ _ _ _ n (fun k => ⟨_, real_of_lt _ (congrFun h0 (ix3 (batch g) (place g) k))⟩) (fun j hj => ?_) (fun j hj => ?_) fun k => ?_
  · exact ⟨_, (head2 _ Cert.Pre_finite5.Facts.slices_S8x6144_S8x2048_0_0 (batch g) j hj).symm.trans (real_of_lt _ (congrFun h1 (ix2 (batch g) ⟨j, hj⟩)))⟩
  · exact ⟨_, (head1 _ Cert.Pre_finite5.Facts.slices_S6144_S2048_0 j hj).symm.trans (real_of_lt _ (congrFun h2 (ix1 ⟨j, hj⟩)))⟩
  · exact ⟨_, (mid2 _ Cert.Pre_finite5.Facts.slices_S1024x3088_S1024x384_0_2576 k n hn hn').symm.trans (real_of_lt _ (congrFun h3 (ix2 k ⟨(n : ℕ) - 2576, by omega⟩)))⟩

/-- The arguments agree. -/
def Same : Prop :=
  m' ((c.tc : Thread Cert.Reference5Ideal.nD Cert.Reference5Ideal.τ).loc Cert.Reference5Ideal.main_arg0) = m ((c.tc : Thread nD τ).loc main_arg0)
  ∧ m' ((c.tc : Thread Cert.Reference5Ideal.nD Cert.Reference5Ideal.τ).loc Cert.Reference5Ideal.main_arg1) = m ((c.tc : Thread nD τ).loc main_arg1)
  ∧ m' ((c.tc : Thread Cert.Reference5Ideal.nD Cert.Reference5Ideal.τ).loc Cert.Reference5Ideal.main_arg2) = m ((c.tc : Thread nD τ).loc main_arg2)
  ∧ m' ((c.tc : Thread Cert.Reference5Ideal.nD Cert.Reference5Ideal.τ).loc Cert.Reference5Ideal.main_arg3) = m ((c.tc : Thread nD τ).loc main_arg3)
  ∧ m' ((c.tc : Thread Cert.Reference5Ideal.nD Cert.Reference5Ideal.τ).loc Cert.Reference5Ideal.main_arg4) = m ((c.tc : Thread nD τ).loc main_arg4)
  ∧ m' ((c.tc : Thread Cert.Reference5Ideal.nD Cert.Reference5Ideal.τ).loc Cert.Reference5Ideal.main_arg5) = m ((c.tc : Thread nD τ).loc main_arg5)
  ∧ m' ((c.tc : Thread Cert.Reference5Ideal.nD Cert.Reference5Ideal.τ).loc Cert.Reference5Ideal.main_arg6) = m ((c.tc : Thread nD τ).loc main_arg6)
  ∧ m' ((c.tc : Thread Cert.Reference5Ideal.nD Cert.Reference5Ideal.τ).loc Cert.Reference5Ideal.main_arg7) = m ((c.tc : Thread nD τ).loc main_arg7)

variable {m m' c}

theorem same_columns (h : Same m m' c) (g : Fin 34816) :
    Cert.Reference5Ideal.Hand.col (StableHlo.launchContents m' c) (batch g) (place g) = pcol m c g := by
  obtain ⟨a0, a1, a2, a3, -⟩ := h
  have h0 : Cert.Reference5Ideal.Hand.argX (StableHlo.launchContents m' c) = argX m c := funext fun b => funext fun s => funext fun k => congrFun a0 (ix3 b s k)
  have h1 : Cert.Reference5Ideal.Hand.argM (StableHlo.launchContents m' c) = argM m c := funext fun b => funext fun j => congrFun a1 (ix2 b j)
  have h2 : Cert.Reference5Ideal.Hand.argC (StableHlo.launchContents m' c) = argC m c := funext fun j => congrFun a2 (ix1 j)
  have h3 : Cert.Reference5Ideal.Hand.argW (StableHlo.launchContents m' c) = argW m c := funext fun k => funext fun n => congrFun a3 (ix2 k n)
  unfold Cert.Reference5Ideal.Hand.col
  rw [h0, h1, h2, h3]
  rfl

theorem same_cos (h : Same m m' c) : Cert.Reference5Ideal.Hand.argCos (StableHlo.launchContents m' c) = argCos m c :=
  funext fun p => funext fun d => congrFun h.2.2.2.2.1 (ix2 p d)
theorem same_sin (h : Same m m' c) : Cert.Reference5Ideal.Hand.argSin (StableHlo.launchContents m' c) = argSin m c :=
  funext fun p => funext fun d => congrFun h.2.2.2.2.2.1 (ix2 p d)
theorem same_q (h : Same m m' c) : Cert.Reference5Ideal.Hand.argQ (StableHlo.launchContents m' c) = argQ m c :=
  funext fun d => congrFun h.2.2.2.2.2.2.1 (ix1 d)
theorem same_k (h : Same m m' c) : Cert.Reference5Ideal.Hand.argK (StableHlo.launchContents m' c) = argK m c :=
  funext fun d => congrFun h.2.2.2.2.2.2.2 (ix1 d)

/-- An array of one leading entry, by its rows and lanes. -/
theorem by_rows {n : ℕ} (A B : (⟨3, ![1, 34816, n]⟩ : Shape).Idx → EReal) (h : ∀ g l, A (ix3 0 g l) = B (ix3 0 g l)) : A = B := by
  funext y
  have hy : y = ix3 0 (y 1) (y 2) := by idx_ext
  rw [hy]
  exact h _ _

theorem agree0 (h : Same m m' c) : Cert.Reference5Ideal.Hand.out0 (StableHlo.launchContents m' c) = (dats m 0 c).arrAt 12 cfg0.N := by
  rw [array12 m c]
  refine by_rows _ _ fun g l => (Cert.Reference5Ideal.Hand.out0_apply _ g l).trans ?_
  rw [same_columns h]
  rfl
theorem agree1 (h : Same m m' c) : Cert.Reference5Ideal.Hand.out1 (StableHlo.launchContents m' c) = (dats m 0 c).arrAt 13 cfg0.N := by
  rw [array13 m c]
  refine by_rows _ _ fun g l => (Cert.Reference5Ideal.Hand.out1_apply _ g l).trans ?_
  rw [same_columns h]
  rfl
theorem agree2 (h : Same m m' c) : Cert.Reference5Ideal.Hand.out2 (StableHlo.launchContents m' c) = (dats m 0 c).arrAt 14 cfg0.N := by
  rw [array14 m c]
  refine by_rows _ _ fun g l => (Cert.Reference5Ideal.Hand.out2_apply _ g l).trans ?_
  rw [same_columns h]
  rfl
theorem agree3 (h : Same m m' c) : Cert.Reference5Ideal.Hand.out3 (StableHlo.launchContents m' c) = (dats m 0 c).arrAt 15 cfg0.N := by
  rw [array15 m c]
  refine by_rows _ _ fun g l => (Cert.Reference5Ideal.Hand.out3_apply _ g l).trans ?_
  rw [same_columns h]
  rfl
theorem agree4 (h : Same m m' c) : Cert.Reference5Ideal.Hand.out4 (StableHlo.launchContents m' c) = (dats m 0 c).arrAt 16 cfg0.N := by
  rw [array16 m c]
  refine by_rows _ _ fun g l => (Cert.Reference5Ideal.Hand.out4_apply _ g l).trans ?_
  rw [same_cos h, same_sin h, same_columns h]
  rfl
theorem agree5 (h : Same m m' c) : Cert.Reference5Ideal.Hand.out5 (StableHlo.launchContents m' c) = (dats m 0 c).arrAt 17 cfg0.N := by
  rw [array17 m c]
  refine by_rows _ _ fun g l => (Cert.Reference5Ideal.Hand.out5_apply _ g l).trans ?_
  rw [same_cos h, same_sin h, same_columns h]
  rfl
theorem agree6 (h : Same m m' c) : Cert.Reference5Ideal.Hand.out6 (StableHlo.launchContents m' c) = (dats m 0 c).arrAt 18 cfg0.N := by
  rw [array18 m c]
  refine by_rows _ _ fun g l => (Cert.Reference5Ideal.Hand.out6_apply _ g l).trans ?_
  rw [same_columns h]
  rfl
theorem agree7 (h : Same m m' c) (hp : RealHeads m c) : Cert.Reference5Ideal.Hand.out7 (StableHlo.launchContents m' c) = (dats m 0 c).arrAt 19 cfg0.N := by
  rw [array19 m c hp]
  refine by_rows _ _ fun g l => (Cert.Reference5Ideal.Hand.out7_apply _ g l).trans ?_
  rw [same_cos h, same_sin h, same_q h, same_columns h]
  rfl
theorem agree8 (h : Same m m' c) (hp : RealHeads m c) : Cert.Reference5Ideal.Hand.out8 (StableHlo.launchContents m' c) = (dats m 0 c).arrAt 20 cfg0.N := by
  rw [array20 m c hp]
  refine by_rows _ _ fun g l => (Cert.Reference5Ideal.Hand.out8_apply _ g l).trans ?_
  rw [same_cos h, same_sin h, same_k h, same_columns h]
  rfl
theorem agree9 (h : Same m m' c) : Cert.Reference5Ideal.Hand.out9 (StableHlo.launchContents m' c) = (dats m 0 c).arrAt 21 cfg0.N := by
  rw [array21 m c]
  refine by_rows _ _ fun g l => (Cert.Reference5Ideal.Hand.out9_apply _ g l).trans ?_
  rw [same_columns h]
  rfl

end Cert.Kernel5Ideal.Hand

end
-- ==== Proof.InClaims.lean ====
/-
The input projection's claims of values: its reference's frame, and its agreement with its reference over the reals.
-/
module

public import proofs.«01_k».proof.Defs
public import proofs.«01_k».proof.Proof.InAgree
public import Idealize.ShloMosaic.Adequacy
public import Idealize.ShloMosaic.Init

@[expose] public section

set_option maxRecDepth 16384

noncomputable section

namespace Cert.Proof

open Idealize.ShloMosaic Idealize.SL.Sem TcCoe

/-- The input projection's reference leaves its arguments; it declares no semaphore. -/
theorem frame_reference5 : Cert.quiescent_Reference5Ideal := fun m ρ _ =>
  (θ_run Cert.Reference5Ideal.defs _ _).mono (fun r h => ⟨fun c => (h c).2.2.2.2.2.2.2.2.2.2, sem_eq_zero_of_no_sems (by decide) r.2⟩)
    (Cert.Reference5Ideal.Hand.run_ref m ρ)

set_option maxHeartbeats 4000000 in
/-- The input projection's ten arrays are its reference's, where the arguments agree and are real. -/
theorem algebraic5 : Cert.algebraic_Kernel5Ideal_Reference5Ideal_pre_finite5 := by
  intro m ρ m' ρ' hp hm
  refine ⟨fun c => (Cert.Kernel5Ideal.Hand.dats m 0 c).arrAt 12 Cert.Kernel5Ideal.cfg0.N, fun c => (Cert.Kernel5Ideal.Hand.dats m 0 c).arrAt 13 Cert.Kernel5Ideal.cfg0.N, fun c => (Cert.Kernel5Ideal.Hand.dats m 0 c).arrAt 14 Cert.Kernel5Ideal.cfg0.N, fun c => (Cert.Kernel5Ideal.Hand.dats m 0 c).arrAt 15 Cert.Kernel5Ideal.cfg0.N, fun c => (Cert.Kernel5Ideal.Hand.dats m 0 c).arrAt 16 Cert.Kernel5Ideal.cfg0.N, fun c => (Cert.Kernel5Ideal.Hand.dats m 0 c).arrAt 17 Cert.Kernel5Ideal.cfg0.N, fun c => (Cert.Kernel5Ideal.Hand.dats m 0 c).arrAt 18 Cert.Kernel5Ideal.cfg0.N, fun c => (Cert.Kernel5Ideal.Hand.dats m 0 c).arrAt 19 Cert.Kernel5Ideal.cfg0.N, fun c => (Cert.Kernel5Ideal.Hand.dats m 0 c).arrAt 20 Cert.Kernel5Ideal.cfg0.N, fun c => (Cert.Kernel5Ideal.Hand.dats m 0 c).arrAt 21 Cert.Kernel5Ideal.cfg0.N, ?_, ?_⟩
  · exact (θ_run Cert.Kernel5Ideal.defs _ _).mono (fun _ h => h) (Cert.Kernel5Ideal.Hand.run_in m ρ)
  · refine (θ_run Cert.Reference5Ideal.defs _ _).mono (fun r h c => ?_) (Cert.Reference5Ideal.Hand.run_ref m' ρ')
    obtain ⟨e0, e1, e2, e3, e4, e5, e6, e7, e8, e9, args⟩ := h c
    have s : Cert.Kernel5Ideal.Hand.Same m m' c := hm c
    have hr := Cert.Kernel5Ideal.Hand.real_heads m c hp
    exact ⟨e0.trans (Cert.Kernel5Ideal.Hand.agree0 s), e1.trans (Cert.Kernel5Ideal.Hand.agree1 s), e2.trans (Cert.Kernel5Ideal.Hand.agree2 s), e3.trans (Cert.Kernel5Ideal.Hand.agree3 s), e4.trans (Cert.Kernel5Ideal.Hand.agree4 s), e5.trans (Cert.Kernel5Ideal.Hand.agree5 s), e6.trans (Cert.Kernel5Ideal.Hand.agree6 s), e7.trans (Cert.Kernel5Ideal.Hand.agree7 s hr), e8.trans (Cert.Kernel5Ideal.Hand.agree8 s hr), e9.trans (Cert.Kernel5Ideal.Hand.agree9 s), args⟩

end Cert.Proof

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Pre_finite5
public import proofs.«01_k».proof.Proof.RefArray
public import proofs.«01_k».proof.Proof.Pre
public import proofs.«01_k».proof.Proof.PostArray
public import proofs.«01_k».proof.Proof.PostRef
public import proofs.«01_k».proof.Proof.FlatArray
public import proofs.«01_k».proof.Proof.FlatRef
public import proofs.«01_k».proof.Proof.GqaArray
public import proofs.«01_k».proof.Proof.GqaRef
public import Idealize.ShloMosaic.Adequacy
public import Idealize.ShloMosaic.Init
public import proofs.«01_k».proof.Proof.InBits
public import proofs.«01_k».proof.Proof.InClaims

@[expose] public section

noncomputable section

namespace Cert.Proof

open Idealize.ShloMosaic Idealize.SL.Sem Cert.Kernel

open Cert.Pre_finite.Hand Cert.KernelIdeal.Hand TcCoe

/-- The kernel's array is the reference's, where the arguments agree and are real. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite m) (c : Dev Cert.KernelIdeal.nD)
    (e0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (e1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (e2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (e4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) :
    (Cert.KernelIdeal.Gen.dats m 0 c).arrAt 5 Cert.KernelIdeal.cfg0.N = Cert.ReferenceIdeal.Value.res_main_v136 m' c := by
  obtain ⟨h0, h1, h2, h3⟩ := hp c
  have hX := fun b t d => real3 _ h0 (ix3 b t d)
  have hY := fun b t d => real3 _ h1 (ix3 b t d)
  have hW := fun b t d => real3 _ h2 (ix3 b t d)
  have hL := fun a d => real2 _ h3 (ix2 a d)
  rw [array_eq m c _ _ _ _ hX hY hW hL, Cert.ReferenceIdeal.Hand.res_eq, e0, e1, e2, e3, e4]
  funext y
  have hy : y = ix3 (y 0) (y 1) (y 2) := by idx_ext
  rw [hy]
  exact (Cert.ReferenceIdeal.Hand.result_real _ _ _ _ (m ((c : Thread Cert.KernelIdeal.nD Cert.KernelIdeal.τ).loc Cert.KernelIdeal.main_arg4))
    _ _ _ _ hX hY hW hL (y 0) (y 1) (y 2)).symm

/-- The reference leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The block kernel's array is its reference's, where the arguments agree. -/
theorem block_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0))
    (e1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1))
    (e2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2))
    (e3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3))
    (e4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4))
    (e5 : m' ((c : Thread Cert.Reference2Ideal.nD Cert.Reference2Ideal.τ).loc Cert.Reference2Ideal.main_arg5) = m ((c : Thread Cert.Kernel2Ideal.nD Cert.Kernel2Ideal.τ).loc Cert.Kernel2Ideal.main_arg5))
    (e6 : m' ((c : Thread Cert.Reference2Ideal.nD Cert.Reference2Ideal.τ).loc Cert.Reference2Ideal.main_arg6) = m ((c : Thread Cert.Kernel2Ideal.nD Cert.Kernel2Ideal.τ).loc Cert.Kernel2Ideal.main_arg6))
    (e7 : m' ((c : Thread Cert.Reference2Ideal.nD Cert.Reference2Ideal.τ).loc Cert.Reference2Ideal.main_arg7) = m ((c : Thread Cert.Kernel2Ideal.nD Cert.Kernel2Ideal.τ).loc Cert.Kernel2Ideal.main_arg7))
    (e8 : m' ((c : Thread Cert.Reference2Ideal.nD Cert.Reference2Ideal.τ).loc Cert.Reference2Ideal.main_arg8) = m ((c : Thread Cert.Kernel2Ideal.nD Cert.Kernel2Ideal.τ).loc Cert.Kernel2Ideal.main_arg8))
    (e9 : m' ((c : Thread Cert.Reference2Ideal.nD Cert.Reference2Ideal.τ).loc Cert.Reference2Ideal.main_arg9) = m ((c : Thread Cert.Kernel2Ideal.nD Cert.Kernel2Ideal.τ).loc Cert.Kernel2Ideal.main_arg9))
    (e10 : m' ((c : Thread Cert.Reference2Ideal.nD Cert.Reference2Ideal.τ).loc Cert.Reference2Ideal.main_arg10) = m ((c : Thread Cert.Kernel2Ideal.nD Cert.Kernel2Ideal.τ).loc Cert.Kernel2Ideal.main_arg10))
    (e11 : m' ((c : Thread Cert.Reference2Ideal.nD Cert.Reference2Ideal.τ).loc Cert.Reference2Ideal.main_arg11) = m ((c : Thread Cert.Kernel2Ideal.nD Cert.Kernel2Ideal.τ).loc Cert.Kernel2Ideal.main_arg11))
    (e12 : m' ((c : Thread Cert.Reference2Ideal.nD Cert.Reference2Ideal.τ).loc Cert.Reference2Ideal.main_arg12) = m ((c : Thread Cert.Kernel2Ideal.nD Cert.Kernel2Ideal.τ).loc Cert.Kernel2Ideal.main_arg12)) :
    (Cert.Kernel2Ideal.Gen.dats m 0 c).arrAt 13 Cert.Kernel2Ideal.cfg0.N = Cert.Reference2Ideal.Hand.result (StableHlo.launchContents m' c) := by
  rw [Cert.Kernel2Ideal.Hand.array_eq]
  funext y
  have hy : y = ix3 (y 0) (y 1) (y 2) := by idx_ext
  refine Eq.trans ?_ ((congrArg _ hy).trans (Cert.Reference2Ideal.Hand.result_apply _ (y 0) (y 1) (y 2))).symm
  unfold Cert.Kernel2Ideal.Hand.latentG Cert.Kernel2Ideal.Hand.latent
  rw [← e0, ← e1, ← e2, ← e3, ← e4, ← e6, ← e7, ← e8, ← e9, ← e10, ← e11, ← e12]
  rfl

/-- The block's reference leaves its arguments; it declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The flat block kernel's array is its reference's, where the arguments agree. -/
theorem flat_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c : Thread Cert.Reference3Ideal.nD Cert.Reference3Ideal.τ).loc Cert.Reference3Ideal.main_arg0) = m ((c : Thread Cert.Kernel3Ideal.nD Cert.Kernel3Ideal.τ).loc Cert.Kernel3Ideal.main_arg0))
    (e1 : m' ((c : Thread Cert.Reference3Ideal.nD Cert.Reference3Ideal.τ).loc Cert.Reference3Ideal.main_arg1) = m ((c : Thread Cert.Kernel3Ideal.nD Cert.Kernel3Ideal.τ).loc Cert.Kernel3Ideal.main_arg1))
    (e2 : m' ((c : Thread Cert.Reference3Ideal.nD Cert.Reference3Ideal.τ).loc Cert.Reference3Ideal.main_arg2) = m ((c : Thread Cert.Kernel3Ideal.nD Cert.Kernel3Ideal.τ).loc Cert.Kernel3Ideal.main_arg2))
    (e3 : m' ((c : Thread Cert.Reference3Ideal.nD Cert.Reference3Ideal.τ).loc Cert.Reference3Ideal.main_arg3) = m ((c : Thread Cert.Kernel3Ideal.nD Cert.Kernel3Ideal.τ).loc Cert.Kernel3Ideal.main_arg3))
    (e4 : m' ((c : Thread Cert.Reference3Ideal.nD Cert.Reference3Ideal.τ).loc Cert.Reference3Ideal.main_arg4) = m ((c : Thread Cert.Kernel3Ideal.nD Cert.Kernel3Ideal.τ).loc Cert.Kernel3Ideal.main_arg4))
    (e5 : m' ((c : Thread Cert.Reference3Ideal.nD Cert.Reference3Ideal.τ).loc Cert.Reference3Ideal.main_arg5) = m ((c : Thread Cert.Kernel3Ideal.nD Cert.Kernel3Ideal.τ).loc Cert.Kernel3Ideal.main_arg5))
    (e6 : m' ((c : Thread Cert.Reference3Ideal.nD Cert.Reference3Ideal.τ).loc Cert.Reference3Ideal.main_arg6) = m ((c : Thread Cert.Kernel3Ideal.nD Cert.Kernel3Ideal.τ).loc Cert.Kernel3Ideal.main_arg6))
    (e7 : m' ((c : Thread Cert.Reference3Ideal.nD Cert.Reference3Ideal.τ).loc Cert.Reference3Ideal.main_arg7) = m ((c : Thread Cert.Kernel3Ideal.nD Cert.Kernel3Ideal.τ).loc Cert.Kernel3Ideal.main_arg7))
    (e8 : m' ((c : Thread Cert.Reference3Ideal.nD Cert.Reference3Ideal.τ).loc Cert.Reference3Ideal.main_arg8) = m ((c : Thread Cert.Kernel3Ideal.nD Cert.Kernel3Ideal.τ).loc Cert.Kernel3Ideal.main_arg8))
    (e9 : m' ((c : Thread Cert.Reference3Ideal.nD Cert.Reference3Ideal.τ).loc Cert.Reference3Ideal.main_arg9) = m ((c : Thread Cert.Kernel3Ideal.nD Cert.Kernel3Ideal.τ).loc Cert.Kernel3Ideal.main_arg9))
    (e10 : m' ((c : Thread Cert.Reference3Ideal.nD Cert.Reference3Ideal.τ).loc Cert.Reference3Ideal.main_arg10) = m ((c : Thread Cert.Kernel3Ideal.nD Cert.Kernel3Ideal.τ).loc Cert.Kernel3Ideal.main_arg10))
    (e11 : m' ((c : Thread Cert.Reference3Ideal.nD Cert.Reference3Ideal.τ).loc Cert.Reference3Ideal.main_arg11) = m ((c : Thread Cert.Kernel3Ideal.nD Cert.Kernel3Ideal.τ).loc Cert.Kernel3Ideal.main_arg11))
    (e12 : m' ((c : Thread Cert.Reference3Ideal.nD Cert.Reference3Ideal.τ).loc Cert.Reference3Ideal.main_arg12) = m ((c : Thread Cert.Kernel3Ideal.nD Cert.Kernel3Ideal.τ).loc Cert.Kernel3Ideal.main_arg12)) :
    (Cert.Kernel3Ideal.Gen.dats m 0 c).arrAt 13 Cert.Kernel3Ideal.cfg0.N = Cert.Reference3Ideal.Hand.result (StableHlo.launchContents m' c) := by
  rw [Cert.Kernel3Ideal.Hand.array_eq]
  funext y
  have hy : y = ix3 0 (y 1) (y 2) := by idx_ext
  refine Eq.trans ?_ ((congrArg _ hy).trans (Cert.Reference3Ideal.Hand.result_apply _ (y 1) (y 2) (Cert.Kernel3Ideal.Hand.batch (y 1)) (Cert.Kernel3Ideal.Hand.place (y 1)) rfl rfl)).symm
  unfold Cert.Kernel3Ideal.Hand.flatG Cert.Kernel3Ideal.Hand.flat Cert.Kernel3Ideal.Hand.mdAt
  rw [← e0, ← e1, ← e2, ← e3, ← e4, ← e5, ← e6, ← e7, ← e8, ← e9, ← e10, ← e11, ← e12]
  rfl

/-- The flat block's reference leaves its arguments; it declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The grouped attention's array is its reference's, where the arguments agree and the queries and keys are real. -/
theorem group_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (hp : Pre_Kernel4Ideal_finite4 m) (c : Dev Cert.Kernel4Ideal.nD)
    (e0 : m' ((c : Thread Cert.Reference4Ideal.nD Cert.Reference4Ideal.τ).loc Cert.Reference4Ideal.main_arg0) = m ((c : Thread Cert.Kernel4Ideal.nD Cert.Kernel4Ideal.τ).loc Cert.Kernel4Ideal.main_arg0))
    (e1 : m' ((c : Thread Cert.Reference4Ideal.nD Cert.Reference4Ideal.τ).loc Cert.Reference4Ideal.main_arg1) = m ((c : Thread Cert.Kernel4Ideal.nD Cert.Kernel4Ideal.τ).loc Cert.Kernel4Ideal.main_arg1))
    (e2 : m' ((c : Thread Cert.Reference4Ideal.nD Cert.Reference4Ideal.τ).loc Cert.Reference4Ideal.main_arg2) = m ((c : Thread Cert.Kernel4Ideal.nD Cert.Kernel4Ideal.τ).loc Cert.Kernel4Ideal.main_arg2)) :
    (Cert.Kernel4Ideal.Gen.dats m 0 c).arrAt 3 Cert.Kernel4Ideal.cfg0.N = Cert.Reference4Ideal.Value.res_main_v48 m' c := by
  obtain ⟨h0, h1⟩ := hp c
  have hX : ∀ (b : Fin 8) (t : Fin 4352) (d : Fin 256), m ((c : Thread Cert.Kernel4Ideal.nD Cert.Kernel4Ideal.τ).loc Cert.Kernel4Ideal.main_arg0) (ix3 b t d)
      = (EReal.toReal (m ((c : Thread Cert.Kernel4Ideal.nD Cert.Kernel4Ideal.τ).loc Cert.Kernel4Ideal.main_arg0) (ix3 b t d)) : EReal) :=
    fun b t d => real_of_lt _ (congrFun h0 (ix3 b t d))
  have hY : ∀ (b : Fin 8) (t : Fin 4352) (d : Fin 128), m ((c : Thread Cert.Kernel4Ideal.nD Cert.Kernel4Ideal.τ).loc Cert.Kernel4Ideal.main_arg1) (ix3 b t d)
      = (EReal.toReal (m ((c : Thread Cert.Kernel4Ideal.nD Cert.Kernel4Ideal.τ).loc Cert.Kernel4Ideal.main_arg1) (ix3 b t d)) : EReal) :=
    fun b t d => real_of_lt _ (congrFun h1 (ix3 b t d))
  rw [Cert.Kernel4Ideal.Hand.array_eq m c _ _ hX hY, Cert.Reference4Ideal.Hand.res_eq, e0, e1, e2]
  funext y
  have hy : y = ix3 (y 0) (y 1) (y 2) := by idx_ext
  rw [hy]
  exact (Cert.Reference4Ideal.Hand.result_real _ _ (m ((c : Thread Cert.Kernel4Ideal.nD Cert.Kernel4Ideal.τ).loc Cert.Kernel4Ideal.main_arg2)) _ _ hX hY (y 0) (y 1) (y 2)).symm

/-- The grouped attention's reference leaves its arguments; it declares no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite4.Gen.facts, Cert.Pre_finite5.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => frame_reference m ρ trivial
  · exact fun m ρ _ => frame_reference m ρ trivial
  · exact fun m ρ _ => Cert.Kernel2.Gen.frame m ρ
  · exact fun m ρ _ => Cert.Kernel2Ideal.Gen.frame m ρ
  · exact frame_reference2
  · exact fun m ρ _ => Cert.Kernel3.Gen.frame m ρ
  · exact fun m ρ _ => Cert.Kernel3Ideal.Gen.frame m ρ
  · exact frame_reference3
  · exact fun m ρ _ => Cert.Kernel4.Gen.frame m ρ
  · exact fun m ρ _ => Cert.Kernel4Ideal.Gen.frame m ρ
  · exact fun m ρ _ => Cert.Kernel4Ideal.Gen.frame m ρ
  · exact fun m ρ _ => frame_reference4 m ρ trivial
  · exact fun m ρ _ => frame_reference4 m ρ trivial
  · exact frame_kernel5
  · exact fun m ρ _ => Cert.Kernel5Ideal.Hand.frame m ρ
  · exact fun m ρ _ => Cert.Kernel5Ideal.Hand.frame m ρ
  · exact fun m ρ _ => frame_reference5 m ρ trivial
  · exact fun m ρ _ => frame_reference5 m ρ trivial
  · exact IdealRules.named_const.statement Cert.KernelIdeal.κ "qscale" .f32 0x3E38AA3B#32 _ rfl
  · intro m ρ m' ρ' hp hm
    refine ⟨fun c => (Cert.KernelIdeal.Gen.dats m 0 c).arrAt 5 Cert.KernelIdeal.cfg0.N, ?_, ?_⟩
    · exact (θ_run Cert.KernelIdeal.defs _ _).mono (fun _ h => h) (Cert.KernelIdeal.Value.run_blocks m ρ)
    · refine (θ_run Cert.ReferenceIdeal.defs _ _).mono (fun r h c => ?_) (Cert.ReferenceIdeal.Value.run m' ρ')
      obtain ⟨a0, a1, a2, a3, a4⟩ := hm c
      exact ⟨(h c).1.trans (arrays_agree m m' hp c a0 a1 a2 a3 a4).symm, (h c).2⟩
  · trivial
  · intro m ρ m' ρ' _ hm
    refine ⟨fun c => (Cert.Kernel2Ideal.Gen.dats m 0 c).arrAt 13 Cert.Kernel2Ideal.cfg0.N, ?_, ?_⟩
    · exact (θ_run Cert.Kernel2Ideal.defs _ _).mono (fun _ h => h) (Cert.Kernel2Ideal.Value.run_blocks m ρ)
    · refine (θ_run Cert.Reference2Ideal.defs _ _).mono (fun r h c => ?_) (Cert.Reference2Ideal.Value.run m' ρ')
      obtain ⟨a0, a1, a2, a3, a4, a5, a6, a7, a8, a9, a10, a11, a12⟩ := hm c
      exact ⟨(h c).1.trans (block_agree m m' c a0 a1 a2 a3 a4 a5 a6 a7 a8 a9 a10 a11 a12).symm, (h c).2⟩
  · trivial
  · intro m ρ m' ρ' _ hm
    refine ⟨fun c => (Cert.Kernel3Ideal.Gen.dats m 0 c).arrAt 13 Cert.Kernel3Ideal.cfg0.N, ?_, ?_⟩
    · exact (θ_run Cert.Kernel3Ideal.defs _ _).mono (fun _ h => h) (Cert.Kernel3Ideal.Hand.run_flat m ρ)
    · refine (θ_run Cert.Reference3Ideal.defs _ _).mono (fun r h c => ?_) (Cert.Reference3Ideal.Value.run m' ρ')
      obtain ⟨a0, a1, a2, a3, a4, a5, a6, a7, a8, a9, a10, a11, a12⟩ := hm c
      exact ⟨(h c).1.trans (flat_agree m m' c a0 a1 a2 a3 a4 a5 a6 a7 a8 a9 a10 a11 a12).symm, (h c).2⟩
  · exact IdealRules.named_const.statement Cert.Kernel4Ideal.κ "qscale" .f32 0x3E38AA3B#32 _ rfl
  · intro m ρ m' ρ' hp hm
    refine ⟨fun c => (Cert.Kernel4Ideal.Gen.dats m 0 c).arrAt 3 Cert.Kernel4Ideal.cfg0.N, ?_, ?_⟩
    · exact (θ_run Cert.Kernel4Ideal.defs _ _).mono (fun _ h => h) (Cert.Kernel4Ideal.Value.run_blocks m ρ)
    · refine (θ_run Cert.Reference4Ideal.defs _ _).mono (fun r h c => ?_) (Cert.Reference4Ideal.Value.run m' ρ')
      obtain ⟨a0, a1, a2⟩ := hm c
      exact ⟨(h c).1.trans (group_agree m m' hp c a0 a1 a2).symm, (h c).2⟩
  · trivial
  · exact algebraic5⟩

end Cert.Proof

end
